-- ==== Defs.lean ====
def Pre_Kernel (m : (ℓ : Loc Cert.Kernel.nD Cert.Kernel.τ Cert.Kernel.sig) → Buf (Elt Bits) ℓ) : Prop :=
  True

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_none (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Kernel2Ideal_none (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_none [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_none m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_none [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_none m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v12)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v12) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v12)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v12) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v22)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v22) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v0) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite2 : Cert.Pre_finite2.Facts),
    quiescent_Kernel (hKernel := hKernel)
    ∧ quiescent_KernelIdeal (hKernelIdeal := hKernelIdeal) (hPre_finite := hPre_finite)
    ∧ quiescent_KernelIdeal_pre_none (hKernelIdeal := hKernelIdeal)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal) (hPre_finite2 := hPre_finite2)
    ∧ quiescent_Kernel2Ideal_pre_none (hKernel2Ideal := hKernel2Ideal)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x3072 .f32) (main_arg1 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Pre_finite2.lean ====
abbrev S4096x11264 : Shape := ⟨2, ![4096, 11264]⟩
abbrev S5632x2048 : Shape := ⟨2, ![5632, 2048]⟩
abbrev S4096x2048 : Shape := ⟨2, ![4096, 2048]⟩
abbrev S_ : Shape := ⟨0, ![]⟩

class Facts : Prop where
  bcast_S_S4096x11264 : S_.BroadcastsInDim S4096x11264 (![] : Fin 0 → Fin S4096x11264.rank)
  reducesTo_S4096x11264_S_d0_1 : S4096x11264.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S4096x11264 .f32) (main_arg1 : FVec F S5632x2048 .f32) (main_arg2 : FVec F S4096x2048 .f32) : IVec S_ 1 :=
  let main_v0 : FVec F S4096x11264 .f32 := Host.absf main_arg0
  let main_cst : FVec F S_ .f32 := constant S_ .f32 0x7F800000#32
  let main_v1 : FVec F S4096x11264 .f32 := broadcastInDim S4096x11264 ![] bcast_S_S4096x11264 main_cst
  let main_v2 : IVec S4096x11264 1 := cmpf .olt main_v0 main_v1
  let main_c : IVec S_ 1 := constantI S_ 1 1#1
  let main_v3 : IVec S_ 1 := (fun x v => Host.reduce IntOp.andi x v reducesTo_S4096x11264_S_d0_1 h_S_) main_v2 main_c
  let main_v4 : FVec F S5632x2048 .f32 := Host.absf main_arg1
  let main_cst_0 : FVec F S_ .f32 := constant S_ .f32 0x7F800000#32
  let main_v5 : FVec F S5632x2048 .f32 := broadcastInDim S5632x2048 ![] bcast_S_S5632x2048 main_cst_0
  let main_v6 : IVec S5632x2048 1 := cmpf .olt main_v4 main_v5
  let main_c_1 : IVec S_ 1 := constantI S_ 1 1#1
  let main_v7 : IVec S_ 1 := (fun x v => Host.reduce IntOp.andi x v reducesTo_S5632x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096x4096 : Shape := ⟨2, ![4096, 4096]⟩
abbrev S8x4096 : Shape := ⟨2, ![8, 4096]⟩
abbrev S8x4096x1 : Shape := ⟨3, ![8, 4096, 1]⟩
abbrev S256x256 : Shape := ⟨2, ![256, 256]⟩
abbrev S4096x256 : Shape := ⟨2, ![4096, 256]⟩
abbrev S2x256x1 : Shape := ⟨3, ![2, 256, 1]⟩
abbrev S256x128 : Shape := ⟨2, ![256, 128]⟩
abbrev S1x256x1 : Shape := ⟨3, ![1, 256, 1]⟩
abbrev S256x1 : Shape := ⟨2, ![256, 1]⟩
abbrev S256 : Shape := ⟨1, ![256]⟩

abbrev nBuf : Space → Nat
  | .hbm => 44
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x8x128, .f32⟩
  | .hbm, ⟨5, _⟩ => ⟨S8x4096x128, .f32⟩
  | .hbm, ⟨6, _⟩ => ⟨S4096x8x128, .f32⟩
  | .hbm, ⟨7, _⟩ => ⟨S8x4096x128, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S8x4096x4096, .f32⟩
  | .hbm, ⟨16, _⟩ => ⟨S8x4096x4096, .f32⟩
  | .hbm, ⟨17, _⟩ => ⟨S_, .f32⟩
  | .hbm, ⟨18, _⟩ => ⟨S8x4096x4096, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S8x4096x4096, .i1⟩
  | .hbm, ⟨23, _⟩ => ⟨S8x4096x4096, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S_, .f32⟩
  | .hbm, ⟨34, _⟩ => ⟨S8x4096x4096, .i1⟩
  | .hbm, ⟨35, _⟩ => ⟨S8x4096x4096, .f32⟩
  | .hbm, ⟨36, _⟩ => ⟨S8x4096x4096, .f32⟩
  | .hbm, ⟨37, _⟩ => ⟨S_, .f32⟩
  | .hbm, ⟨38, _⟩ => ⟨S8x4096, .f32⟩
  | .hbm, ⟨39, _⟩ => ⟨S8x4096x1, .f32⟩
  | .hbm, ⟨40, _⟩ => ⟨S4096x3072, .bf16⟩
  | .hbm, ⟨41, _⟩ => ⟨S4096x1024, .f32⟩
  | .hbm, ⟨42, _⟩ => ⟨S4096x1024, .f32⟩
  | .hbm, ⟨43, _⟩ => ⟨S4096x1024, .f32⟩
  | .local _ .vmem, ⟨0, _⟩ => ⟨S256x256, .bf16⟩
  | .local _ .vmem, ⟨1, _⟩ => ⟨S256x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S256x256, .f32⟩
  | .local _ .vmem, ⟨7, _⟩ => ⟨S256x256, .f32⟩
  | .local _ .vmem, ⟨8, _⟩ => ⟨S2x256x1, .f32⟩
  | .local _ .vmem, ⟨9, _⟩ => ⟨S2x256x1, .f32⟩
  | .local _ .vmem, ⟨10, _⟩ => ⟨S256x256, .f32⟩
  | .local _ .vmem, ⟨11, _⟩ => ⟨S256x256, .f32⟩
  | .local _ .vmem, ⟨12, _⟩ => ⟨S4096x256, .f32⟩
  | .local _ .vmem, ⟨13, _⟩ => ⟨S4096x256, .f32⟩
  | .local _ .vmem, ⟨14, _⟩ => ⟨S4096x256, .f32⟩
  | .local _ .vmem, ⟨15, _⟩ => ⟨S4096x256, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v18_2 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 : BitVec 32 :=
  let c0_i32_16 : BitVec 32 := 0#32
  c0_i32_16
@[reducible] def k0_t1_loop (i : grid0.Coords) : Scf.Loop 32 :=
  let c0_i32_33 : BitVec 32 := 0#32
  let arg1 : BitVec 32 := BitVec.ofNat 32 (i 1).val
  let c1_i32 : BitVec 32 := 1#32
  let v29 : BitVec 32 := Scalar.muli arg1 c1_i32
  let v73 : BitVec 32 := Scalar.subi v29 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_35 : BitVec 32 := 1#32
  ⟨c0_i32_33, v77, c1_i32_35⟩
def k0_mult2 (i : grid0.Coords) (k0_t1 : Fin (k0_t1_loop i).trips) : BitVec 32 :=
  let c0_i32_33 : BitVec 32 := 0#32
  let c1_i32_35 : BitVec 32 := 1#32
  let arg10 : BitVec 32 := Scf.iv c0_i32_33 c1_i32_35 k0_t1
  let c256_i32_81 : BitVec 32 := 256#32
  let v205 : BitVec 32 := Scalar.muli arg10 c256_i32_81
  v205
def k0_off1 (i : grid0.Coords) (k0_t1 : Fin (k0_t1_loop i).trips) : Fin 2 → Nat :=
  let c0_i32_33 : BitVec 32 := 0#32
  let c1_i32_35 : BitVec 32 := 1#32
  let arg10 : BitVec 32 := Scf.iv c0_i32_33 c1_i32_35 k0_t1
  let c256_i32_81 : BitVec 32 := 256#32
  let v205 : BitVec 32 := Scalar.muli arg10 c256_i32_81
  let v206 : BitVec 32 := v205
  let v235 : Index := Scalar.indexCast v206
  let c0_86 : Index := 0#32
  ![v235.toNat, 0]
def k0_off2 (i : grid0.Coords) (k0_t1 : Fin (k0_t1_loop i).trips) : Fin 2 → Nat :=
  let c0_i32_33 : BitVec 32 := 0#32
  let c1_i32_35 : BitVec 32 := 1#32
  let arg10 : BitVec 32 := Scf.iv c0_i32_33 c1_i32_35 k0_t1
  let c256_i32_81 : BitVec 32 := 256#32
  let v205 : BitVec 32 := Scalar.muli arg10 c256_i32_81
  let v206 : BitVec 32 := v205
  let v243 : Index := Scalar.indexCast v206
  let c128_89 : Index := 128#32
  ![v243.toNat, 128]
def k0_mult3 (i : grid0.Coords) (k0_t1 : Fin (k0_t1_loop i).trips) : BitVec 32 :=
  let c0_i32_33 : BitVec 32 := 0#32
  let c1_i32_35 : BitVec 32 := 1#32
  let arg10 : BitVec 32 := Scf.iv c0_i32_33 c1_i32_35 k0_t1
  let c1_i32_94 : BitVec 32 := 1#32
  let v261 : BitVec 32 := Scalar.addi arg10 c1_i32_94
  let c256_i32_95 : BitVec 32 := 256#32
  let v262 : BitVec 32 := Scalar.muli v261 c256_i32_95
  v262
def k0_off3 (i : grid0.Coords) (k0_t1 : Fin (k0_t1_loop i).trips) : Fin 2 → Nat :=
  let c0_i32_33 : BitVec 32 := 0#32
  let c1_i32_35 : BitVec 32 := 1#32
  let arg10 : BitVec 32 := Scf.iv c0_i32_33 c1_i32_35 k0_t1
  let c1_i32_94 : BitVec 32 := 1#32
  let v261 : BitVec 32 := Scalar.addi arg10 c1_i32_94
  let c256_i32_95 : BitVec 32 := 256#32
  let v262 : BitVec 32 := Scalar.muli v261 c256_i32_95
  let v263 : BitVec 32 := v262
  let v264 : Index := Scalar.indexCast v263
  let c0_96 : Index := 0#32
  ![v264.toNat, 0]
def k0_off4 (i : grid0.Coords) (k0_t1 : Fin (k0_t1_loop i).trips) : Fin 2 → Nat :=
  let c0_i32_33 : BitVec 32 := 0#32
  let c1_i32_35 : BitVec 32 := 1#32
  let arg10 : BitVec 32 := Scf.iv c0_i32_33 c1_i32_35 k0_t1
  let c1_i32_94 : BitVec 32 := 1#32
  let v261 : BitVec 32 := Scalar.addi arg10 c1_i32_94
  let c256_i32_95 : BitVec 32 := 256#32
  let v262 : BitVec 32 := Scalar.muli v261 c256_i32_95
  let v263 : BitVec 32 := v262
  let v281 : Index := Scalar.indexCast v263
  let c128_102 : Index := 128#32
  ![v281.toNat, 128]
@[reducible] def k0_t2_loop (i : grid0.Coords) : Scf.Loop 32 :=
  let c0_i32_33 : BitVec 32 := 0#32
  let arg1 : BitVec 32 := BitVec.ofNat 32 (i 1).val
  let c1_i32 : BitVec 32 := 1#32
  let v29 : BitVec 32 := Scalar.muli arg1 c1_i32
  let v73 : BitVec 32 := Scalar.subi v29 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let v74 : BitVec 32 := Scalar.addi c0_i32_33 v73
  let c1_i32_36 : BitVec 32 := 1#32
  ⟨v77, v74, c1_i32_36⟩
def k0_mult4 (i : grid0.Coords) (k0_t2 : Fin (k0_t2_loop i).trips) : BitVec 32 :=
  let c0_i32_33 : BitVec 32 := 0#32
  let arg1 : BitVec 32 := BitVec.ofNat 32 (i 1).val
  let c1_i32 : BitVec 32 := 1#32
  let v29 : BitVec 32 := Scalar.muli arg1 c1_i32
  let v73 : BitVec 32 := Scalar.subi v29 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg10 : BitVec 32 := Scf.iv v77 c1_i32_36 k0_t2
  let c256_i32_81 : BitVec 32 := 256#32
  let v205 : BitVec 32 := Scalar.muli arg10 c256_i32_81
  v205
def k0_off5 (i : grid0.Coords) (k0_t2 : Fin (k0_t2_loop i).trips) : Fin 2 → Nat :=
  let c0_i32_33 : BitVec 32 := 0#32
  let arg1 : BitVec 32 := BitVec.ofNat 32 (i 1).val
  let c1_i32 : BitVec 32 := 1#32
  let v29 : BitVec 32 := Scalar.muli arg1 c1_i32
  let v73 : BitVec 32 := Scalar.subi v29 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg10 : BitVec 32 := Scf.iv v77 c1_i32_36 k0_t2
  let c256_i32_81 : BitVec 32 := 256#32
  let v205 : BitVec 32 := Scalar.muli arg10 c256_i32_81
  let v206 : BitVec 32 := v205
  let v235 : Index := Scalar.indexCast v206
  let c0_86 : Index := 0#32
  ![v235.toNat, 0]
def k0_off6 (i : grid0.Coords) (k0_t2 : Fin (k0_t2_loop i).trips) : Fin 2 → Nat :=
  let c0_i32_33 : BitVec 32 := 0#32
  let arg1 : BitVec 32 := BitVec.ofNat 32 (i 1).val
  let c1_i32 : BitVec 32 := 1#32
  let v29 : BitVec 32 := Scalar.muli arg1 c1_i32
  let v73 : BitVec 32 := Scalar.subi v29 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg10 : BitVec 32 := Scf.iv v77 c1_i32_36 k0_t2
  let c256_i32_81 : BitVec 32 := 256#32
  let v205 : BitVec 32 := Scalar.muli arg10 c256_i32_81
  let v206 : BitVec 32 := v205
  let v243 : Index := Scalar.indexCast v206
  let c128_89 : Index := 128#32
  ![v243.toNat, 128]
def k0_mult5 (i : grid0.Coords) (k0_t2 : Fin (k0_t2_loop i).trips) : BitVec 32 :=
  let c0_i32_33 : BitVec 32 := 0#32
  let arg1 : BitVec 32 := BitVec.ofNat 32 (i 1).val
  let c1_i32 : BitVec 32 := 1#32
  let v29 : BitVec 32 := Scalar.muli arg1 c1_i32
  let v73 : BitVec 32 := Scalar.subi v29 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg10 : BitVec 32 := Scf.iv v77 c1_i32_36 k0_t2
  let c1_i32_94 : BitVec 32 := 1#32
  let v261 : BitVec 32 := Scalar.addi arg10 c1_i32_94
  let c256_i32_95 : BitVec 32 := 256#32
  let v262 : BitVec 32 := Scalar.muli v261 c256_i32_95
  v262
def k0_off7 (i : grid0.Coords) (k0_t2 : Fin (k0_t2_loop i).trips) : Fin 2 → Nat :=
  let c0_i32_33 : BitVec 32 := 0#32
  let arg1 : BitVec 32 := BitVec.ofNat 32 (i 1).val
  let c1_i32 : BitVec 32 := 1#32
  let v29 : BitVec 32 := Scalar.muli arg1 c1_i32
  let v73 : BitVec 32 := Scalar.subi v29 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg10 : BitVec 32 := Scf.iv v77 c1_i32_36 k0_t2
  let c1_i32_94 : BitVec 32 := 1#32
  let v261 : BitVec 32 := Scalar.addi arg10 c1_i32_94
  let c256_i32_95 : BitVec 32 := 256#32
  let v262 : BitVec 32 := Scalar.muli v261 c256_i32_95
  let v263 : BitVec 32 := v262
  let v264 : Index := Scalar.indexCast v263
  let c0_96 : Index := 0#32
  ![v264.toNat, 0]
def k0_off8 (i : grid0.Coords) (k0_t2 : Fin (k0_t2_loop i).trips) : Fin 2 → Nat :=
  let c0_i32_33 : BitVec 32 := 0#32
  let arg1 : BitVec 32 := BitVec.ofNat 32 (i 1).val
  let c1_i32 : BitVec 32 := 1#32
  let v29 : BitVec 32 := Scalar.muli arg1 c1_i32
  let v73 : BitVec 32 := Scalar.subi v29 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg10 : BitVec 32 := Scf.iv v77 c1_i32_36 k0_t2
  let c1_i32_94 : BitVec 32 := 1#32
  let v261 : BitVec 32 := Scalar.addi arg10 c1_i32_94
  let c256_i32_95 : BitVec 32 := 256#32
  let v262 : BitVec 32 := Scalar.muli v261 c256_i32_95
  let v263 : BitVec 32 := v262
  let v281 : Index := Scalar.indexCast v263
  let c128_102 : Index := 128#32
  ![v281.toNat, 128]
def k0_mult6 (i : grid0.Coords) : BitVec 32 :=
  let arg1 : BitVec 32 := BitVec.ofNat 32 (i 1).val
  let c1_i32_37 : BitVec 32 := 1#32
  let v80 : BitVec 32 := Scalar.muli arg1 c1_i32_37
  let c0_i32_38 : BitVec 32 := 0#32
  let v81 : BitVec 32 := Scalar.addi v80 c0_i32_38
  let c256_i32 : BitVec 32 := 256#32
  let v82 : BitVec 32 := Scalar.muli v81 c256_i32
  v82
def k0_off9 (i : grid0.Coords) : Fin 2 → Nat :=
  let arg1 : BitVec 32 := BitVec.ofNat 32 (i 1).val
  let c1_i32_37 : BitVec 32 := 1#32
  let v80 : BitVec 32 := Scalar.muli arg1 c1_i32_37
  let c0_i32_38 : BitVec 32 := 0#32
  let v81 : BitVec 32 := Scalar.addi v80 c0_i32_38
  let c256_i32 : BitVec 32 := 256#32
  let v82 : BitVec 32 := Scalar.muli v81 c256_i32
  let v83 : BitVec 32 := v82
  let v133 : Index := Scalar.indexCast v83
  let c0_51 : Index := 0#32
  ![v133.toNat, 0]
def k0_off10 (i : grid0.Coords) : Fin 2 → Nat :=
  let arg1 : BitVec 32 := BitVec.ofNat 32 (i 1).val
  let c1_i32_37 : BitVec 32 := 1#32
  let v80 : BitVec 32 := Scalar.muli arg1 c1_i32_37
  let c0_i32_38 : BitVec 32 := 0#32
  let v81 : BitVec 32 := Scalar.addi v80 c0_i32_38
  let c256_i32 : BitVec 32 := 256#32
  let v82 : BitVec 32 := Scalar.muli v81 c256_i32
  let v83 : BitVec 32 := v82
  let v141 : Index := Scalar.indexCast v83
  let c128_54 : Index := 128#32
  ![v141.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S4096x3072 : Shape := ⟨2, ![4096, 3072]⟩
abbrev S4096x1024 : Shape := ⟨2, ![4096, 1024]⟩
abbrev S4096x8x128 : Shape := ⟨3, ![4096, 8, 128]⟩
abbrev S8x4096x128 : Shape := ⟨3, ![8, 4096, 128]⟩
abbrev S8x4096x4096 : Shape := ⟨3, ![8, 4096, 4096]⟩
abbrev S_ : Shape := ⟨0, ![]⟩
abbrev S4096x4096 : Shape := ⟨2, ![4096, 4096]⟩
abbrev S8x128x4096 : Shape := ⟨3, ![8, 128, 4096]⟩

abbrev nBuf : Space → Nat
  | .hbm => 174
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x1024, .f32⟩
  | 5 => ⟨S4096x8x128, .f32⟩
  | 6 => ⟨S8x4096x128, .f32⟩
  | 7 => ⟨S4096x8x128, .f32⟩
  | 8 => ⟨S8x4096x128, .f32⟩
  | 9 => ⟨S8x4096x4096, .f32⟩
  | 10 => ⟨S_, .f32⟩
  | 11 => ⟨S8x4096x4096, .f32⟩
  | 12 => ⟨S8x4096x4096, .f32⟩
  | 13 => ⟨S4096x4096, .i32⟩
  | 14 => ⟨S4096x4096, .i32⟩
  | 15 => ⟨S4096x4096, .i1⟩
  | 16 => ⟨S8x4096x4096, .f32⟩
  | 17 => ⟨S_, .f32⟩
  | 18 => ⟨S8x4096x4096, .f32⟩
  | 19 => ⟨S8x4096x4096, .f32⟩
  | 20 => ⟨S8x4096x4096, .f32⟩
  | 21 => ⟨S8x4096x4096, .f32⟩
  | 22 => ⟨S8x4096x4096, .i1⟩
  | 23 => ⟨S8x4096x4096, .f32⟩
  | 24 => ⟨S8x4096x4096, .f32⟩
  | 25 => ⟨S8x4096x4096, .f32⟩
  | 26 => ⟨S8x4096x4096, .f32⟩
  | 27 => ⟨S8x4096x4096, .f32⟩
  | 28 => ⟨S8x4096x4096, .f32⟩
  | 29 => ⟨S8x4096x4096, .f32⟩
  | 30 => ⟨S8x4096x4096, .f32⟩
  | 31 => ⟨S_, .f32⟩
  | 32 => ⟨S8x4096x4096, .f32⟩
  | 33 => ⟨S8x4096x4096, .i1⟩
  | 34 => ⟨S_, .f32⟩
  | 35 => ⟨S8x4096x4096, .f32⟩
  | 36 => ⟨S8x4096x4096, .f32⟩
  | 37 => ⟨S_, .f32⟩
  | 38 => ⟨S8x4096x4096, .f32⟩
  | 39 => ⟨S8x4096x4096, .i1⟩
  | 40 => ⟨S_, .f32⟩
  | 41 => ⟨S8x4096x4096, .f32⟩
  | 42 => ⟨S8x4096x4096, .f32⟩
  | 43 => ⟨S8x4096x4096, .f32⟩
  | 44 => ⟨S8x4096x4096, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S8x4096x4096, .f32⟩
  | 53 => ⟨S8x4096x4096, .i1⟩
  | 54 => ⟨S_, .f32⟩
  | 55 => ⟨S8x4096x4096, .f32⟩
  | 56 => ⟨S8x4096x4096, .f32⟩
  | 57 => ⟨S8x4096x4096, .f32⟩
  | 58 => ⟨S8x4096x4096, .f32⟩
  | 59 => ⟨S8x4096x4096, .f32⟩
  | 60 => ⟨S_, .f32⟩
  | 61 => ⟨S8x4096x4096, .f32⟩
  | 62 => ⟨S8x4096x4096, .f32⟩
  | 63 => ⟨S8x4096x4096, .f32⟩
  | 64 => ⟨S8x4096x4096, .f32⟩
  | 65 => ⟨S8x4096x4096, .f32⟩
  | 66 => ⟨S_, .f32⟩
  | 67 => ⟨S8x4096x4096, .f32⟩
  | 68 => ⟨S8x4096x4096, .f32⟩
  | 69 => ⟨S8x4096x4096, .f32⟩
  | 70 => ⟨S8x4096x4096, .f32⟩
  | 71 => ⟨S8x4096x4096, .i1⟩
  | 72 => ⟨S8x4096x4096, .f32⟩
  | 73 => ⟨S8x4096x4096, .f32⟩
  | 74 => ⟨S8x4096x4096, .f32⟩
  | 75 => ⟨S8x4096x4096, .f32⟩
  | 76 => ⟨S8x4096x4096, .f32⟩
  | 77 => ⟨S8x4096x4096, .f32⟩
  | 78 => ⟨S8x4096x4096, .f32⟩
  | 79 => ⟨S8x4096x4096, .f32⟩
  | 80 => ⟨S_, .f32⟩
  | 81 => ⟨S8x4096x4096, .f32⟩
  | 82 => ⟨S8x4096x4096, .i1⟩
  | 83 => ⟨S_, .f32⟩
  | 84 => ⟨S8x4096x4096, .f32⟩
  | 85 => ⟨S8x4096x4096, .f32⟩
  | 86 => ⟨S_, .f32⟩
  | 87 => ⟨S8x4096x4096, .f32⟩
  | 88 => ⟨S8x4096x4096, .i1⟩
  | 89 => ⟨S_, .f32⟩
  | 90 => ⟨S8x4096x4096, .f32⟩
  | 91 => ⟨S8x4096x4096, .f32⟩
  | 92 => ⟨S8x4096x4096, .f32⟩
  | 93 => ⟨S8x4096x4096, .f32⟩
  | 94 => ⟨S_, .f32⟩
  | 95 => ⟨S_, .f32⟩
  | 96 => ⟨S_, .i1⟩
  | 97 => ⟨S_, .f32⟩
  | 98 => ⟨S_, .f32⟩
  | 99 => ⟨S_, .f32⟩
  | 100 => ⟨S_, .f32⟩
  | 101 => ⟨S8x4096x4096, .f32⟩
  | 102 => ⟨S8x4096x4096, .i1⟩
  | 103 => ⟨S_, .f32⟩
  | 104 => ⟨S8x4096x4096, .f32⟩
  | 105 => ⟨S8x4096x4096, .f32⟩
  | 106 => ⟨S8x4096x4096, .f32⟩
  | 107 => ⟨S8x4096x4096, .f32⟩
  | 108 => ⟨S8x4096x4096, .f32⟩
  | 109 => ⟨S_, .f32⟩
  | 110 => ⟨S8x4096x4096, .f32⟩
  | 111 => ⟨S8x4096x4096, .f32⟩
  | 112 => ⟨S8x4096x4096, .f32⟩
  | 113 => ⟨S_, .f32⟩
  | 114 => ⟨S_, .f32⟩
  | 115 => ⟨S8x4096x4096, .i1⟩
  | 116 => ⟨S8x4096x4096, .f32⟩
  | 117 => ⟨S8x4096x4096, .f32⟩
  | 118 => ⟨S_, .f32⟩
  | 119 => ⟨S8x4096x4096, .f32⟩
  | 120 => ⟨S_, .f32⟩
  | 121 => ⟨S_, .f32⟩
  | 122 => ⟨S8x4096x4096, .f32⟩
  | 123 => ⟨S8x4096x4096, .f32⟩
  | 124 => ⟨S8x4096x4096, .f32⟩
  | 125 => ⟨S8x4096x4096, .f32⟩
  | 126 => ⟨S_, .f32⟩
  | 127 => ⟨S_, .f32⟩
  | _ => ⟨S4096x3072, .f32⟩

abbrev hbmTy0_1 (i : Nat) : BufTy := match i % 128 with
  | 0 => ⟨S8x4096x4096, .i1⟩
  | 1 => ⟨S8x4096x4096, .f32⟩
  | 2 => ⟨S8x4096x4096, .f32⟩
  | 3 => ⟨S_, .f32⟩
  | 4 => ⟨S8x4096x4096, .f32⟩
  | 5 => ⟨S4096x8x128, .f32⟩
  | 6 => ⟨S8x4096x128, .f32⟩
  | 7 => ⟨S8x4096x128, .f32⟩
  | 8 => ⟨S4096x8x128, .f32⟩
  | 9 => ⟨S4096x1024, .f32⟩
  | 10 => ⟨S4096x8x128, .f32⟩
  | 11 => ⟨S8x4096x128, .f32⟩
  | 12 => ⟨S8x128x4096, .f32⟩
  | 13 => ⟨S8x4096x128, .f32⟩
  | 14 => ⟨S8x4096x4096, .f32⟩
  | 15 => ⟨S4096x8x128, .f32⟩
  | 16 => ⟨S4096x1024, .f32⟩
  | 17 => ⟨S_, .f32⟩
  | 18 => ⟨S8x4096x4096, .f32⟩
  | 19 => ⟨S8x4096x4096, .f32⟩
  | 20 => ⟨S8x4096x4096, .f32⟩
  | 21 => ⟨S8x4096x4096, .f32⟩
  | 22 => ⟨S_, .f32⟩
  | 23 => ⟨S_, .f32⟩
  | 24 => ⟨S8x4096x4096, .f32⟩
  | 25 => ⟨S8x4096x4096, .f32⟩
  | 26 => ⟨S_, .f32⟩
  | 27 => ⟨S8x4096x4096, .f32⟩
  | 28 => ⟨S8x4096x4096, .f32⟩
  | 29 => ⟨S8x4096x4096, .f32⟩
  | 30 => ⟨S8x4096x4096, .f32⟩
  | 31 => ⟨S8x4096x4096, .f32⟩
  | 32 => ⟨S8x4096x4096, .f32⟩
  | 33 => ⟨S8x4096x4096, .f32⟩
  | 34 => ⟨S8x4096x4096, .f32⟩
  | 35 => ⟨S8x4096x4096, .f32⟩
  | 36 => ⟨S8x4096x4096, .f32⟩
  | 37 => ⟨S_, .f32⟩
  | 38 => ⟨S8x4096x4096, .f32⟩
  | 39 => ⟨S8x4096x4096, .f32⟩
  | 40 => ⟨S8x4096x128, .f32⟩
  | 41 => ⟨S8x4096x128, .f32⟩
  | 42 => ⟨S4096x8x128, .f32⟩
  | 43 => ⟨S4096x1024, .f32⟩
  | 44 => ⟨S4096x8x128, .f32⟩
  | 45 => ⟨S4096x1024, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1_0 : Ref sig .tc := ⟨.hbm, 30, rfl⟩
abbrev main_call0_call0_cst_0 : Ref sig .tc := ⟨.hbm, 31, rfl⟩
abbrev main_call0_call0_v13 : Ref sig .tc := ⟨.hbm, 32, rfl⟩
abbrev main_call0_call0_v14 : Ref sig .tc := ⟨.hbm, 33, rfl⟩
abbrev main_call0_call0_cst_1 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_cst_2 : Ref sig .tc := ⟨.hbm, 37, rfl⟩
abbrev main_call0_call0_v17 : Ref sig .tc := ⟨.hbm, 38, rfl⟩
abbrev main_call0_call0_v18 : Ref sig .tc := ⟨.hbm, 39, rfl⟩
abbrev main_call0_call0_cst_3 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_v13_1 : Ref sig .tc := ⟨.hbm, 44, rfl⟩
abbrev main_call0_call0_cst_4 : Ref sig .tc := ⟨.hbm, 45, rfl⟩
abbrev main_call0_call0_cst_5 : Ref sig .tc := ⟨.hbm, 46, rfl⟩
abbrev main_call0_call0_v23 : Ref sig .tc := ⟨.hbm, 47, rfl⟩
abbrev main_call0_call0_cst_6 : Ref sig .tc := ⟨.hbm, 48, rfl⟩
abbrev main_call0_call0_cst_7 : Ref sig .tc := ⟨.hbm, 49, rfl⟩
abbrev main_call0_call0_v24 : Ref sig .tc := ⟨.hbm, 50, rfl⟩
abbrev main_call0_call0_cst_8 : Ref sig .tc := ⟨.hbm, 51, rfl⟩
abbrev main_call0_call0_v25 : Ref sig .tc := ⟨.hbm, 52, rfl⟩
abbrev main_call0_call0_v26 : Ref sig .tc := ⟨.hbm, 53, rfl⟩
abbrev main_call0_call0_cst_9 : Ref sig .tc := ⟨.hbm, 54, rfl⟩
abbrev main_call0_call0_v27 : Ref sig .tc := ⟨.hbm, 55, rfl⟩
abbrev main_call0_call0_v28 : Ref sig .tc := ⟨.hbm, 56, rfl⟩
abbrev main_call0_call0_v29 : Ref sig .tc := ⟨.hbm, 57, rfl⟩
abbrev main_call0_call0_v30 : Ref sig .tc := ⟨.hbm, 58, rfl⟩
abbrev main_call0_call0_v31 : Ref sig .tc := ⟨.hbm, 59, rfl⟩
abbrev main_call0_call0_cst_10 : Ref sig .tc := ⟨.hbm, 60, rfl⟩
abbrev main_call0_call0_v32 : Ref sig .tc := ⟨.hbm, 61, rfl⟩
abbrev main_v13_2 : Ref sig .tc := ⟨.hbm, 62, rfl⟩
abbrev main_v13_0 : Ref sig .tc := ⟨.hbm, 63, rfl⟩
abbrev main_v14 : Ref sig .tc := ⟨.hbm, 64, rfl⟩
abbrev main_call1_v0 : Ref sig .tc := ⟨.hbm, 65, rfl⟩
abbrev main_call1_call0_cst : Ref sig .tc := ⟨.hbm, 66, rfl⟩
abbrev main_call1_call0_v0 : Ref sig .tc := ⟨.hbm, 67, rfl⟩
abbrev main_call1_call0_v1 : Ref sig .tc := ⟨.hbm, 68, rfl⟩
abbrev main_call1_call0_v2 : Ref sig .tc := ⟨.hbm, 69, rfl⟩
abbrev main_call1_call0_v3 : Ref sig .tc := ⟨.hbm, 70, rfl⟩
abbrev main_call1_call0_v4 : Ref sig .tc := ⟨.hbm, 71, rfl⟩
abbrev main_call1_call0_v5 : Ref sig .tc := ⟨.hbm, 72, rfl⟩
abbrev main_call1_call0_v6 : Ref sig .tc := ⟨.hbm, 73, rfl⟩
abbrev main_call1_call0_v7 : Ref sig .tc := ⟨.hbm, 74, rfl⟩
abbrev main_call1_call0_v8 : Ref sig .tc := ⟨.hbm, 75, rfl⟩
abbrev main_call1_call0_v9 : Ref sig .tc := ⟨.hbm, 76, rfl⟩
abbrev main_call1_call0_v10 : Ref sig .tc := ⟨.hbm, 77, rfl⟩
abbrev main_call1_call0_v11 : Ref sig .tc := ⟨.hbm, 78, rfl⟩
abbrev main_call1_v1_0 : Ref sig .tc := ⟨.hbm, 79, rfl⟩
abbrev main_call1_call0_cst_0 : Ref sig .tc := ⟨.hbm, 80, rfl⟩
abbrev main_call1_call0_v13 : Ref sig .tc := ⟨.hbm, 81, rfl⟩
abbrev main_call1_call0_v14 : Ref sig .tc := ⟨.hbm, 82, rfl⟩
abbrev main_call1_call0_cst_1 : Ref sig .tc := ⟨.hbm, 83, rfl⟩
abbrev main_call1_call0_v15 : Ref sig .tc := ⟨.hbm, 84, rfl⟩
abbrev main_call1_call0_v16 : Ref sig .tc := ⟨.hbm, 85, rfl⟩
abbrev main_call1_call0_cst_2 : Ref sig .tc := ⟨.hbm, 86, rfl⟩
abbrev main_call1_call0_v17 : Ref sig .tc := ⟨.hbm, 87, rfl⟩
abbrev main_call1_call0_v18 : Ref sig .tc := ⟨.hbm, 88, rfl⟩
abbrev main_call1_call0_cst_3 : Ref sig .tc := ⟨.hbm, 89, rfl⟩
abbrev main_call1_call0_v19 : Ref sig .tc := ⟨.hbm, 90, rfl⟩
abbrev main_call1_call0_v20 : Ref sig .tc := ⟨.hbm, 91, rfl⟩
abbrev main_call1_call0_v21 : Ref sig .tc := ⟨.hbm, 92, rfl⟩
abbrev main_v15_1 : Ref sig .tc := ⟨.hbm, 93, rfl⟩
abbrev main_call1_call0_cst_4 : Ref sig .tc := ⟨.hbm, 94, rfl⟩
abbrev main_call1_call0_cst_5 : Ref sig .tc := ⟨.hbm, 95, rfl⟩
abbrev main_call1_call0_v23 : Ref sig .tc := ⟨.hbm, 96, rfl⟩
abbrev main_call1_call0_cst_6 : Ref sig .tc := ⟨.hbm, 97, rfl⟩
abbrev main_call1_call0_cst_7 : Ref sig .tc := ⟨.hbm, 98, rfl⟩
abbrev main_call1_call0_v24 : Ref sig .tc := ⟨.hbm, 99, rfl⟩
abbrev main_call1_call0_cst_8 : Ref sig .tc := ⟨.hbm, 100, rfl⟩
abbrev main_call1_call0_v25 : Ref sig .tc := ⟨.hbm, 101, rfl⟩
abbrev main_call1_call0_v26 : Ref sig .tc := ⟨.hbm, 102, rfl⟩
abbrev main_call1_call0_cst_9 : Ref sig .tc := ⟨.hbm, 103, rfl⟩
abbrev main_call1_call0_v27 : Ref sig .tc := ⟨.hbm, 104, rfl⟩
abbrev main_call1_call0_v28 : Ref sig .tc := ⟨.hbm, 105, rfl⟩
abbrev main_call1_call0_v29 : Ref sig .tc := ⟨.hbm, 106, rfl⟩
abbrev main_call1_call0_v30 : Ref sig .tc := ⟨.hbm, 107, rfl⟩
abbrev main_call1_call0_v31 : Ref sig .tc := ⟨.hbm, 108, rfl⟩
abbrev main_call1_call0_cst_10 : Ref sig .tc := ⟨.hbm, 109, rfl⟩
abbrev main_call1_call0_v32 : Ref sig .tc := ⟨.hbm, 110, rfl⟩
abbrev main_v15_2 : Ref sig .tc := ⟨.hbm, 111, rfl⟩
abbrev main_v15_0 : Ref sig .tc := ⟨.hbm, 112, rfl⟩
abbrev main_cst_0 : Ref sig .tc := ⟨.hbm, 113, rfl⟩
abbrev main_call2_v0 : Ref sig .tc := ⟨.hbm, 114, rfl⟩
abbrev main_v16_1 : Ref sig .tc := ⟨.hbm, 115, rfl⟩
abbrev main_call2_v2 : Ref sig .tc := ⟨.hbm, 116, rfl⟩
abbrev main_v16_0 : Ref sig .tc := ⟨.hbm, 117, rfl⟩
abbrev main_call2_cst : Ref sig .tc := ⟨.hbm, 118, rfl⟩
abbrev main_v16_2 : Ref sig .tc := ⟨.hbm, 119, rfl⟩
abbrev main_call3_cst : Ref sig .tc := ⟨.hbm, 120, rfl⟩
abbrev main_call3_v0 : Ref sig .tc := ⟨.hbm, 121, rfl⟩
abbrev main_v17 : Ref sig .tc := ⟨.hbm, 122, rfl⟩
abbrev main_v18 : Ref sig .tc := ⟨.hbm, 123, rfl⟩
abbrev main_v19 : Ref sig .tc := ⟨.hbm, 124, rfl⟩
abbrev main_v20 : Ref sig .tc := ⟨.hbm, 125, rfl⟩
abbrev main_cst_1 : Ref sig .tc := ⟨.hbm, 126, rfl⟩
abbrev main_call4_v0 : Ref sig .tc := ⟨.hbm, 127, rfl⟩
abbrev main_v21_1 : Ref sig .tc := ⟨.hbm, 128, rfl⟩
abbrev main_call4_v2 : Ref sig .tc := ⟨.hbm, 129, rfl⟩
abbrev main_v21_0 : Ref sig .tc := ⟨.hbm, 130, rfl⟩
abbrev main_call4_cst : Ref sig .tc := ⟨.hbm, 131, rfl⟩
abbrev main_v21_2 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_call6_cst : Ref sig .tc := ⟨.hbm, 150, rfl⟩
abbrev main_call6_v0 : Ref sig .tc := ⟨.hbm, 151, rfl⟩
abbrev main_v37 : Ref sig .tc := ⟨.hbm, 152, rfl⟩
abbrev main_v38 : Ref sig .tc := ⟨.hbm, 153, rfl⟩
abbrev main_call7_cst : Ref sig .tc := ⟨.hbm, 154, rfl⟩
abbrev main_call7_v0 : Ref sig .tc := ⟨.hbm, 155, rfl⟩
abbrev main_v39 : Ref sig .tc := ⟨.hbm, 156, rfl⟩
abbrev main_call8_v0 : Ref sig .tc := ⟨.hbm, 157, rfl⟩
abbrev main_call8_v1 : Ref sig .tc := ⟨.hbm, 158, rfl⟩
abbrev main_v40 : Ref sig .tc := ⟨.hbm, 159, rfl⟩
abbrev main_v41 : Ref sig .tc := ⟨.hbm, 160, rfl⟩
abbrev main_call9_v0 : Ref sig .tc := ⟨.hbm, 161, rfl⟩
abbrev main_call9_v1 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩

abbrev nD : Nat := 1
abbrev τ : Topo := Topo.v7x

variable {F : FTy → Type} [FloatOps F]
-- ==== Kernel2.lean ====
abbrev S4096x11264 : Shape := ⟨2, ![4096, 11264]⟩
abbrev S5632x2048 : Shape := ⟨2, ![5632, 2048]⟩
abbrev S4096x2048 : Shape := ⟨2, ![4096, 2048]⟩
abbrev S512x2048 : Shape := ⟨2, ![512, 2048]⟩
abbrev S1408x2048 : Shape := ⟨2, ![1408, 2048]⟩
abbrev S512x2816 : Shape := ⟨2, ![512, 2816]⟩
abbrev S512x1408 : Shape := ⟨2, ![512, 1408]⟩

abbrev nBuf : Space → Nat
  | .hbm => 7
  | .vmem => 8
  | .smem => 0
  | _ => 0

abbrev bufTy : (tb : Table) → Fin (tcTables nBuf tb) → BufTy
  | .hbm, ⟨0, _⟩ => ⟨S4096x11264, .f32⟩
  | .hbm, ⟨1, _⟩ => ⟨S5632x2048, .f32⟩
  | .hbm, ⟨2, _⟩ => ⟨S4096x2048, .f32⟩
  | .hbm, ⟨3, _⟩ => ⟨S4096x2048, .bf16⟩
  | .hbm, ⟨4, _⟩ => ⟨S5632x2048, .bf16⟩
  | .hbm, ⟨5, _⟩ => ⟨S4096x11264, .bf16⟩
  | .hbm, ⟨6, _⟩ => ⟨S4096x11264, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x11264 : Shape := ⟨2, ![4096, 11264]⟩
abbrev S5632x2048 : Shape := ⟨2, ![5632, 2048]⟩
abbrev S4096x2048 : Shape := ⟨2, ![4096, 2048]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S4096x5632 : Shape := ⟨2, ![4096, 5632]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S5632x2048, .f32⟩
  | .hbm, ⟨2, _⟩ => ⟨S4096x2048, .f32⟩
  | .hbm, ⟨3, _⟩ => ⟨S4096x4x2x1408, .f32⟩
  | .hbm, ⟨4, _⟩ => ⟨S4096x4x1x1408, .f32⟩
  | .hbm, ⟨5, _⟩ => ⟨S4096x4x1408, .f32⟩
  | .hbm, ⟨6, _⟩ => ⟨S4096x5632, .f32⟩
  | .hbm, ⟨7, _⟩ => ⟨S4096x4x1x1408, .f32⟩
  | .hbm, ⟨8, _⟩ => ⟨S4096x4x1408, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x2048, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x4x1408, .f32⟩
  | .hbm, ⟨33, _⟩ => ⟨S4096x4x1x1408, .f32⟩
  | .hbm, ⟨34, _⟩ => ⟨S_, .f32⟩
  | .hbm, ⟨35, _⟩ => ⟨S4096x4x2x1408, .f32⟩
  | .hbm, ⟨36, _⟩ => ⟨S4096x4x1408, .f32⟩
  | .hbm, ⟨37, _⟩ => ⟨S4096x4x1x1408, .f32⟩
  | .hbm, ⟨38, _⟩ => ⟨S_, .f32⟩
  | .hbm, ⟨39, _⟩ => ⟨S4096x4x2x1408, .f32⟩
  | .hbm, ⟨40, _⟩ => ⟨S4096x4x2x1408, .f32⟩
  | .hbm, ⟨41, _⟩ => ⟨S4096x11264, .f32⟩
  | .hbm, ⟨42, _⟩ => ⟨S4096x11264, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S4096x5632, .bf16⟩
  | .hbm, ⟨3, _⟩ => ⟨S4096x2048, .bf16⟩
  | .hbm, ⟨4, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2048, .f32⟩
  | .hbm, ⟨2, _⟩ => ⟨S_, .f32⟩
  | .hbm, ⟨3, _⟩ => ⟨S5632x2048, .f32⟩
  | .hbm, ⟨4, _⟩ => ⟨S4096x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x11264 : Shape := ⟨2, ![4096, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x2048, .bf16⟩
  | .hbm, ⟨6, _⟩ => ⟨S4096x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli c4_i32 v26
  let v28 : BitVec 32 := Scalar.addi v16 v27
  let c0_i32_10 : BitVec 32 := 0#32
  let c0_i32_11 : BitVec 32 := 0#32
  ![v28.toNat, arg2.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S4096x4x1408 : Shape := ⟨3, ![4096, 4, 1408]⟩
abbrev S4096x4x1x1408 : Shape := ⟨4, ![4096, 4, 1, 1408]⟩
abbrev S4096x4x2x1408 : Shape := ⟨4, ![4096, 4, 2, 1408]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x5632, .f32⟩
  | .hbm, ⟨4, _⟩ => ⟨S4096x5632, .f32⟩
  | .hbm, ⟨5, _⟩ => ⟨S4096x4x1408, .f32⟩
  | .hbm, ⟨6, _⟩ => ⟨S4096x4x1408, .f32⟩
  | .hbm, ⟨7, _⟩ => ⟨S4096x4x1x1408, .f32⟩
  | .hbm, ⟨8, _⟩ => ⟨S4096x4x1x1408, .f32⟩
  | .hbm, ⟨9, _⟩ => ⟨S4096x4x2x1408, .f32⟩
  | .hbm, ⟨10, _⟩ => ⟨S4096x11264, .f32⟩
  | .hbm, ⟨11, _⟩ => ⟨S4096x11264, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel5.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x5632, .bf16⟩
  | .hbm, ⟨3, _⟩ => ⟨S5632x2048, .bf16⟩
  | .hbm, ⟨4, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel6.lean ====
abbrev S4096x2048 : Shape := ⟨2, ![4096, 2048]⟩
abbrev S4096x11264 : Shape := ⟨2, ![4096, 11264]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S4096x2048, .bf16⟩
  | .hbm, ⟨3, _⟩ => ⟨S4096x11264, .bf16⟩
  | .hbm, ⟨4, _⟩ => ⟨S8x2048x1408, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli c4_i32 v26
  let v28 : BitVec 32 := Scalar.addi v16 v27
  let c0_i32_10 : BitVec 32 := 0#32
  let c0_i32_11 : BitVec 32 := 0#32
  ![v28.toNat, arg0.toNat, c0_i32_10.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S4096x11264 : Shape := ⟨2, ![4096, 11264]⟩
abbrev S_ : Shape := ⟨0, ![]⟩
abbrev S2048x11264 : Shape := ⟨2, ![2048, 11264]⟩
abbrev S4096x5632 : Shape := ⟨2, ![4096, 5632]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x11264, .f32⟩
  | .hbm, ⟨2, _⟩ => ⟨S_, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x4x2x1408, .f32⟩
  | .hbm, ⟨8, _⟩ => ⟨S4096x4x1x1408, .f32⟩
  | .hbm, ⟨9, _⟩ => ⟨S4096x4x1408, .f32⟩
  | .hbm, ⟨10, _⟩ => ⟨S4096x5632, .f32⟩
  | .hbm, ⟨11, _⟩ => ⟨S4096x4x1x1408, .f32⟩
  | .hbm, ⟨12, _⟩ => ⟨S4096x4x1408, .f32⟩
  | .hbm, ⟨13, _⟩ => ⟨S4096x5632, .f32⟩
  | .hbm, ⟨14, _⟩ => ⟨S4096x11264, .f32⟩
  | .hbm, ⟨15, _⟩ => ⟨S11264x2048, .f32⟩
  | .hbm, ⟨16, _⟩ => ⟨S2048x11264, .f32⟩
  | .hbm, ⟨17, _⟩ => ⟨S2048x8x1408, .f32⟩
  | .hbm, ⟨18, _⟩ => ⟨S8x2048x1408, .f32⟩
  | .hbm, ⟨19, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Kernel7.lean ====
abbrev S4096x11264 : Shape := ⟨2, ![4096, 11264]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x2048 : Shape := ⟨2, ![4096, 2048]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x11264, .f32⟩
  | .hbm, ⟨1, _⟩ => ⟨S2048x11264, .f32⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x11264, .bf16⟩
  | .hbm, ⟨6, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond3 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.muli c4_i32 v26
  let v28 : BitVec 32 := Scalar.addi v16 v27
  let c0_i32_10 : BitVec 32 := 0#32
  let c0_i32_11 : BitVec 32 := 0#32
  ![v28.toNat, arg1.toNat, c0_i32_10.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x11264 : Shape := ⟨2, ![4096, 11264]⟩
abbrev S2048x11264 : Shape := ⟨2, ![2048, 11264]⟩
abbrev S_ : Shape := ⟨0, ![]⟩
abbrev S4096x2048 : Shape := ⟨2, ![4096, 2048]⟩
abbrev S4096x5632 : Shape := ⟨2, ![4096, 5632]⟩
abbrev S4096x4x2x1408 : Shape := ⟨4, ![4096, 4, 2, 1408]⟩
abbrev S4096x4x1x1408 : Shape := ⟨4, ![4096, 4, 1, 1408]⟩
abbrev S4096x4x1408 : Shape := ⟨3, ![4096, 4, 1408]⟩

abbrev nBuf : Space → Nat
  | .hbm => 16
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x4x2x1408, .f32⟩
  | .hbm, ⟨8, _⟩ => ⟨S4096x4x1x1408, .f32⟩
  | .hbm, ⟨9, _⟩ => ⟨S4096x4x1408, .f32⟩
  | .hbm, ⟨10, _⟩ => ⟨S4096x5632, .f32⟩
  | .hbm, ⟨11, _⟩ => ⟨S4096x4x1x1408, .f32⟩
  | .hbm, ⟨12, _⟩ => ⟨S4096x4x1408, .f32⟩
  | .hbm, ⟨13, _⟩ => ⟨S4096x5632, .f32⟩
  | .hbm, ⟨14, _⟩ => ⟨S4096x11264, .f32⟩
  | .hbm, ⟨15, _⟩ => ⟨S4096x2048, .f32⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .bf16⟩
  | .hbm, ⟨3, _⟩ => ⟨S4096x2048, .bf16⟩
  | .hbm, ⟨4, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel11.lean ====
abbrev S4096x2048 : Shape := ⟨2, ![4096, 2048]⟩
abbrev S2048x8256 : Shape := ⟨2, ![2048, 8256]⟩
abbrev S2048x2048 : Shape := ⟨2, ![2048, 2048]⟩
abbrev S2048x1024 : Shape := ⟨2, ![2048, 1024]⟩
abbrev S2048x512 : Shape := ⟨2, ![2048, 512]⟩
abbrev S2048x64 : Shape := ⟨2, ![2048, 64]⟩
abbrev S_ : Shape := ⟨0, ![]⟩
abbrev S2048x192 : Shape := ⟨2, ![2048, 192]⟩
abbrev S2048x8448 : Shape := ⟨2, ![2048, 8448]⟩
abbrev S4096x8448 : Shape := ⟨2, ![4096, 8448]⟩
abbrev S1024x2048 : Shape := ⟨2, ![1024, 2048]⟩
abbrev S2048x768 : Shape := ⟨2, ![2048, 768]⟩
abbrev S1024x768 : Shape := ⟨2, ![1024, 768]⟩

abbrev nBuf : Space → Nat
  | .hbm => 16
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x8256, .f32⟩
  | .hbm, ⟨2, _⟩ => ⟨S4096x2048, .bf16⟩
  | .hbm, ⟨3, _⟩ => ⟨S2048x8256, .bf16⟩
  | .hbm, ⟨4, _⟩ => ⟨S2048x2048, .bf16⟩
  | .hbm, ⟨5, _⟩ => ⟨S2048x2048, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .hbm, ⟨9, _⟩ => ⟨S2048x512, .bf16⟩
  | .hbm, ⟨10, _⟩ => ⟨S2048x512, .bf16⟩
  | .hbm, ⟨11, _⟩ => ⟨S2048x64, .bf16⟩
  | .hbm, ⟨12, _⟩ => ⟨S_, .bf16⟩
  | .hbm, ⟨13, _⟩ => ⟨S2048x192, .bf16⟩
  | .hbm, ⟨14, _⟩ => ⟨S2048x8448, .bf16⟩
  | .hbm, ⟨15, _⟩ => ⟨S4096x8448, .f32⟩
  | .local _ .vmem, ⟨0, _⟩ => ⟨S1024x2048, .bf16⟩
  | .local _ .vmem, ⟨1, _⟩ => ⟨S1024x2048, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .f32⟩
  | .local _ .vmem, ⟨5, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x8256 : Shape := ⟨2, ![2048, 8256]⟩
abbrev S4096x8256 : Shape := ⟨2, ![4096, 8256]⟩
abbrev S4096x4096 : Shape := ⟨2, ![4096, 4096]⟩
abbrev S4096x3072 : Shape := ⟨2, ![4096, 3072]⟩
abbrev S4096x1088 : Shape := ⟨2, ![4096, 1088]⟩
abbrev S_ : Shape := ⟨0, ![]⟩
abbrev S4096x192 : Shape := ⟨2, ![4096, 192]⟩
abbrev S4096x8448 : Shape := ⟨2, ![4096, 8448]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x8256, .f32⟩
  | .hbm, ⟨2, _⟩ => ⟨S4096x8256, .f32⟩
  | .hbm, ⟨3, _⟩ => ⟨S4096x4096, .f32⟩
  | .hbm, ⟨4, _⟩ => ⟨S4096x3072, .f32⟩
  | .hbm, ⟨5, _⟩ => ⟨S4096x1088, .f32⟩
  | .hbm, ⟨6, _⟩ => ⟨S_, .f32⟩
  | .hbm, ⟨7, _⟩ => ⟨S4096x192, .f32⟩
  | .hbm, ⟨8, _⟩ => ⟨S4096x8448, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x2048 : Shape := ⟨2, ![4096, 2048]⟩
abbrev S4096x8256 : Shape := ⟨2, ![4096, 8256]⟩
abbrev S4096x1024 : Shape := ⟨2, ![4096, 1024]⟩
abbrev S4096x512 : Shape := ⟨2, ![4096, 512]⟩
abbrev S4096x64 : Shape := ⟨2, ![4096, 64]⟩
abbrev S_ : Shape := ⟨0, ![]⟩
abbrev S4096x192 : Shape := ⟨2, ![4096, 192]⟩
abbrev S4096x8448 : Shape := ⟨2, ![4096, 8448]⟩
abbrev S2048x8448 : Shape := ⟨2, ![2048, 8448]⟩
abbrev S2048x1024 : Shape := ⟨2, ![2048, 1024]⟩
abbrev S2048x768 : Shape := ⟨2, ![2048, 768]⟩
abbrev S1024x768 : Shape := ⟨2, ![1024, 768]⟩

abbrev nBuf : Space → Nat
  | .hbm => 16
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S4096x8256, .f32⟩
  | .hbm, ⟨2, _⟩ => ⟨S4096x2048, .bf16⟩
  | .hbm, ⟨3, _⟩ => ⟨S4096x8256, .bf16⟩
  | .hbm, ⟨4, _⟩ => ⟨S4096x2048, .bf16⟩
  | .hbm, ⟨5, _⟩ => ⟨S4096x2048, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x512, .bf16⟩
  | .hbm, ⟨10, _⟩ => ⟨S4096x512, .bf16⟩
  | .hbm, ⟨11, _⟩ => ⟨S4096x64, .bf16⟩
  | .hbm, ⟨12, _⟩ => ⟨S_, .bf16⟩
  | .hbm, ⟨13, _⟩ => ⟨S4096x192, .bf16⟩
  | .hbm, ⟨14, _⟩ => ⟨S4096x8448, .bf16⟩
  | .hbm, ⟨15, _⟩ => ⟨S2048x8448, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S4096x8256 : Shape := ⟨2, ![4096, 8256]⟩
abbrev S_ : Shape := ⟨0, ![]⟩
abbrev S2048x8256 : Shape := ⟨2, ![2048, 8256]⟩
abbrev S8256x2048 : Shape := ⟨2, ![8256, 2048]⟩
abbrev S2048x4096 : Shape := ⟨2, ![2048, 4096]⟩
abbrev S2048x3072 : Shape := ⟨2, ![2048, 3072]⟩
abbrev S2048x1088 : Shape := ⟨2, ![2048, 1088]⟩
abbrev S2048x192 : Shape := ⟨2, ![2048, 192]⟩
abbrev S2048x8448 : Shape := ⟨2, ![2048, 8448]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x8256, .f32⟩
  | .hbm, ⟨2, _⟩ => ⟨S_, .f32⟩
  | .hbm, ⟨3, _⟩ => ⟨S2048x8256, .f32⟩
  | .hbm, ⟨4, _⟩ => ⟨S4096x8256, .f32⟩
  | .hbm, ⟨5, _⟩ => ⟨S8256x2048, .f32⟩
  | .hbm, ⟨6, _⟩ => ⟨S2048x8256, .f32⟩
  | .hbm, ⟨7, _⟩ => ⟨S2048x4096, .f32⟩
  | .hbm, ⟨8, _⟩ => ⟨S2048x3072, .f32⟩
  | .hbm, ⟨9, _⟩ => ⟨S2048x1088, .f32⟩
  | .hbm, ⟨10, _⟩ => ⟨S_, .f32⟩
  | .hbm, ⟨11, _⟩ => ⟨S2048x192, .f32⟩
  | .hbm, ⟨12, _⟩ => ⟨S2048x8448, .f32⟩
  | .hbm, ⟨13, _⟩ => ⟨S2048x8448, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel13.lean ====
abbrev S4096x8256 : Shape := ⟨2, ![4096, 8256]⟩
abbrev S2048x8256 : Shape := ⟨2, ![2048, 8256]⟩
abbrev S4096x2048 : Shape := ⟨2, ![4096, 2048]⟩
abbrev S4096x1024 : Shape := ⟨2, ![4096, 1024]⟩
abbrev S4096x512 : Shape := ⟨2, ![4096, 512]⟩
abbrev S4096x64 : Shape := ⟨2, ![4096, 64]⟩
abbrev S_ : Shape := ⟨0, ![]⟩
abbrev S4096x192 : Shape := ⟨2, ![4096, 192]⟩
abbrev S4096x8448 : Shape := ⟨2, ![4096, 8448]⟩
abbrev S2048x2048 : Shape := ⟨2, ![2048, 2048]⟩
abbrev S2048x1024 : Shape := ⟨2, ![2048, 1024]⟩
abbrev S2048x512 : Shape := ⟨2, ![2048, 512]⟩
abbrev S2048x64 : Shape := ⟨2, ![2048, 64]⟩
abbrev S2048x192 : Shape := ⟨2, ![2048, 192]⟩
abbrev S2048x8448 : Shape := ⟨2, ![2048, 8448]⟩
abbrev S1024x2816 : Shape := ⟨2, ![1024, 2816]⟩
abbrev S1024x1024 : Shape := ⟨2, ![1024, 1024]⟩

abbrev nBuf : Space → Nat
  | .hbm => 27
  | .vmem => 7
  | .smem => 0
  | _ => 0

abbrev bufTy : (tb : Table) → Fin (tcTables nBuf tb) → BufTy
  | .hbm, ⟨0, _⟩ => ⟨S4096x8256, .f32⟩
  | .hbm, ⟨1, _⟩ => ⟨S2048x8256, .f32⟩
  | .hbm, ⟨2, _⟩ => ⟨S4096x8256, .bf16⟩
  | .hbm, ⟨3, _⟩ => ⟨S4096x2048, .bf16⟩
  | .hbm, ⟨4, _⟩ => ⟨S4096x2048, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x512, .bf16⟩
  | .hbm, ⟨9, _⟩ => ⟨S4096x512, .bf16⟩
  | .hbm, ⟨10, _⟩ => ⟨S4096x64, .bf16⟩
  | .hbm, ⟨11, _⟩ => ⟨S_, .bf16⟩
  | .hbm, ⟨12, _⟩ => ⟨S4096x192, .bf16⟩
  | .hbm, ⟨13, _⟩ => ⟨S4096x8448, .bf16⟩
  | .hbm, ⟨14, _⟩ => ⟨S2048x8256, .bf16⟩
  | .hbm, ⟨15, _⟩ => ⟨S2048x2048, .bf16⟩
  | .hbm, ⟨16, _⟩ => ⟨S2048x2048, .bf16⟩
  | .hbm, ⟨17, _⟩ => ⟨S2048x1024, .bf16⟩
  | .hbm, ⟨18, _⟩ => ⟨S2048x1024, .bf16⟩
  | .hbm, ⟨19, _⟩ => ⟨S2048x1024, .bf16⟩
  | .hbm, ⟨20, _⟩ => ⟨S2048x512, .bf16⟩
  | .hbm, ⟨21, _⟩ => ⟨S2048x512, .bf16⟩
  | .hbm, ⟨22, _⟩ => ⟨S2048x64, .bf16⟩
  | .hbm, ⟨23, _⟩ => ⟨S_, .bf16⟩
  | .hbm, ⟨24, _⟩ => ⟨S2048x192, .bf16⟩
  | .hbm, ⟨25, _⟩ => ⟨S2048x8448, .bf16⟩
  | .hbm, ⟨26, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x8256 : Shape := ⟨2, ![4096, 8256]⟩
abbrev S2048x8256 : Shape := ⟨2, ![2048, 8256]⟩
abbrev S_ : Shape := ⟨0, ![]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x8256, .f32⟩
  | .hbm, ⟨1, _⟩ => ⟨S2048x8256, .f32⟩
  | .hbm, ⟨2, _⟩ => ⟨S_, .f32⟩
  | .hbm, ⟨3, _⟩ => ⟨S4096x2048, .f32⟩
  | .hbm, ⟨4, _⟩ => ⟨S4096x8256, .f32⟩
  | .hbm, ⟨5, _⟩ => ⟨S4096x2048, .f32⟩
  | _, _ => ⟨S4096x8256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel15.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x1024, .bf16⟩
  | .hbm, ⟨3, _⟩ => ⟨S1024x2048, .bf16⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel18.lean ====
abbrev S4096x1024 : Shape := ⟨2, ![4096, 1024]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x1024, .bf16⟩
  | .hbm, ⟨3, _⟩ => ⟨S4096x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S4096x2048, .bf16⟩
  | .hbm, ⟨3, _⟩ => ⟨S1024x2048, .bf16⟩
  | .hbm, ⟨4, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1024x2048, .f32⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x512, .bf16⟩
  | .hbm, ⟨3, _⟩ => ⟨S512x2048, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel21.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .bf16⟩
  | .hbm, ⟨3, _⟩ => ⟨S4096x2048, .bf16⟩
  | .hbm, ⟨4, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S4096x2048, .bf16⟩
  | .hbm, ⟨3, _⟩ => ⟨S512x2048, .bf16⟩
  | .hbm, ⟨4, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S_, .f32⟩
  | .hbm, ⟨3, _⟩ => ⟨S4096x512, .f32⟩
  | .hbm, ⟨4, _⟩ => ⟨S4096x2048, .f32⟩
  | .hbm, ⟨5, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel23.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x512, .bf16⟩
  | .hbm, ⟨3, _⟩ => ⟨S512x2048, .bf16⟩
  | .hbm, ⟨4, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S4096x512, .bf16⟩
  | .hbm, ⟨3, _⟩ => ⟨S4096x2048, .bf16⟩
  | .hbm, ⟨4, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S_, .f32⟩
  | .hbm, ⟨3, _⟩ => ⟨S512x2048, .f32⟩
  | .hbm, ⟨4, _⟩ => ⟨S4096x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S4096x2048, .bf16⟩
  | .hbm, ⟨3, _⟩ => ⟨S512x2048, .bf16⟩
  | .hbm, ⟨4, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S512x2048, .f32⟩
  | .hbm, ⟨2, _⟩ => ⟨S_, .f32⟩
  | .hbm, ⟨3, _⟩ => ⟨S4096x512, .f32⟩
  | .hbm, ⟨4, _⟩ => ⟨S4096x2048, .f32⟩
  | .hbm, ⟨5, _⟩ => ⟨S4096x512, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.RealVec.lean ====
/- Arrays of extended reals whose elements are all real numbers: `IsR X x` says that the array `X` holds the
   real function `x` of its two coordinates, read as natural numbers. Products, sums, windows and stores of
   such arrays hold real functions again. -/
module

public import Idealize.ShloMosaic.PureOps.Ideal.Laws
public import Idealize.ShloMosaic.Lib.Pointwise
public import Idealize.ShloMosaic.Lib.VecWindow

@[expose] public section

noncomputable section

namespace Sb

open Idealize.ShloMosaic
open scoped BigOperators

/-- The array `X` holds the real function `x` of the coordinates. -/
def IsR {a b : ℕ} (X : (⟨2, ![a, b]⟩ : Shape).Idx → EReal) (x : ℕ → ℕ → ℝ) : Prop :=
  ∀ (i : Fin a) (j : Fin b), X (ix2 i j) = ((x i.val j.val : ℝ) : EReal)

theorem IsR.congr {a b : ℕ} {X : (⟨2, ![a, b]⟩ : Shape).Idx → EReal} {x y : ℕ → ℕ → ℝ} (h : IsR X x)
    (hxy : ∀ i j, i < a → j < b → x i j = y i j) : IsR X y :=
  fun i j => (h i j).trans (by rw [hxy _ _ i.isLt j.isLt])

theorem IsR.unique {a b : ℕ} {X : (⟨2, ![a, b]⟩ : Shape).Idx → EReal} {x y : ℕ → ℕ → ℝ} (h : IsR X x) (h' : IsR X y)
    {i j : ℕ} (hi : i < a) (hj : j < b) : x i j = y i j := by
  have := (h ⟨i, hi⟩ ⟨j, hj⟩).symm.trans (h' ⟨i, hi⟩ ⟨j, hj⟩)
  exact EReal.coe_eq_coe_iff.mp this

/-- A finite sum of real numbers, read in the extended reals. -/
theorem coe_sum {ι : Type} (s : Finset ι) (f : ι → ℝ) : ((∑ i ∈ s, f i : ℝ) : EReal) = ∑ i ∈ s, ((f i : ℝ) : EReal) :=
  map_sum (⟨⟨fun x : ℝ => (x : EReal), EReal.coe_zero⟩, EReal.coe_add⟩ : ℝ →+ EReal) f s

theorem coe_sum_fin {n : ℕ} (f : ℕ → ℝ) : ∑ k : Fin n, ((f k.val : ℝ) : EReal) = ((∑ k ∈ Finset.range n, f k : ℝ) : EReal) := by
  rw [← Fin.sum_univ_eq_sum_range, coe_sum]

/-- A sum over `n` indices of a product with the indicator of `k ≤ j` stops at `j`. -/
theorem sum_upto {n j : ℕ} (hj : j < n) (f : ℕ → ℝ) :
    ∑ k ∈ Finset.range n, f k * (if k ≤ j then 1 else 0) = ∑ k ∈ Finset.range (j + 1), f k := by
  rw [← Finset.sum_subset (Finset.range_subset_range.mpr hj)]
  · exact Finset.sum_congr rfl fun k hk => by
      rw [if_pos (Nat.lt_succ_iff.mp (Finset.mem_range.mp hk)), mul_one]
  · intro k _ hk
    rw [if_neg (fun h => hk (Finset.mem_range.mpr (Nat.lt_succ_of_le h))), mul_zero]

/-- A sum over `n` indices of a product with the indicator of `k < j` stops before `j`. -/
theorem sum_before {n j : ℕ} (hj : j < n) (f : ℕ → ℝ) :
    ∑ k ∈ Finset.range n, f k * (if k < j then 1 else 0) = ∑ k ∈ Finset.range j, f k := by
  rw [← Finset.sum_subset (Finset.range_subset_range.mpr hj.le)]
  · exact Finset.sum_congr rfl fun k hk => by rw [if_pos (Finset.mem_range.mp hk), mul_one]
  · intro k _ hk
    rw [if_neg (fun h => hk (Finset.mem_range.mpr h)), mul_zero]

/-- A load of a window of an array of reals. -/
theorem IsR.window {a b : ℕ} {X : (⟨2, ![a, b]⟩ : Shape).Idx → EReal} {x : ℕ → ℕ → ℝ} (h : IsR X x) {o p m n : ℕ}
    (inb : ∀ i, (![o, p] : Fin 2 → ℕ) i + (![m, n] : Fin 2 → ℕ) i ≤ (⟨2, ![a, b]⟩ : Shape).size i) :
    IsR (a := m) (b := n) (VecWindow.window (s := ⟨2, ![a, b]⟩) X ![o, p] ![m, n] inb) (fun i j => x (o + i) (p + j)) := by
  intro i j
  have h0 : o + m ≤ a := inb 0
  have h1 : p + n ≤ b := inb 1
  have e := h ⟨o + i.val, by omega⟩ ⟨p + j.val, by omega⟩
  refine Eq.trans (congrArg X ?_) e
  funext ax
  refine Fin.ext ?_
  match ax with
  | 0 => show o + 1 * i.val = o + i.val; omega
  | 1 => show p + 1 * j.val = p + j.val; omega

/-- A store over a window of an array of reals. -/
theorem IsR.put {a b : ℕ} {X : (⟨2, ![a, b]⟩ : Shape).Idx → EReal} {x : ℕ → ℕ → ℝ} (h : IsR X x) {o p m n : ℕ}
    {Y : (⟨2, ![m, n]⟩ : Shape).Idx → EReal} {y : ℕ → ℕ → ℝ} (hY : IsR Y y) :
    IsR (a := a) (b := b) (VecWindow.put (s := ⟨2, ![a, b]⟩) X ![o, p] ![m, n] Y)
      (fun i j => if (o ≤ i ∧ i < o + m) ∧ (p ≤ j ∧ j < p + n) then y (i - o) (j - p) else x i j) := by
  intro i j
  unfold VecWindow.put
  by_cases hc : (o ≤ i.val ∧ i.val < o + m) ∧ (p ≤ j.val ∧ j.val < p + n)
  · have hall : ∀ ax : Fin 2, (![o, p] : Fin 2 → ℕ) ax ≤ ((ix2 i j : (⟨2, ![a, b]⟩ : Shape).Idx) ax).val
        ∧ ((ix2 i j : (⟨2, ![a, b]⟩ : Shape).Idx) ax).val < (![o, p] : Fin 2 → ℕ) ax + (![m, n] : Fin 2 → ℕ) ax :=
      Fin.forall_fin_two.mpr ⟨hc.1, hc.2⟩
    beta_reduce
    rw [dif_pos hall, if_pos hc]
    have e := hY ⟨i.val - o, by omega⟩ ⟨j.val - p, by omega⟩
    refine Eq.trans (congrArg Y ?_) e
    funext ax
    refine Fin.ext ?_
    match ax with
    | 0 => rfl
    | 1 => rfl
  · beta_reduce
    rw [dif_neg, if_neg hc]
    · exact h i j
    · intro hall
      exact hc ⟨hall 0, hall 1⟩

end Sb

end
-- ==== Proof.Pay.lean ====
/- The kernel's block computations over arrays of reals: each named block value, at inputs that hold real
   functions, holds the real function it should. -/
module

public import proofs.«01_k».proof.Proof.Gen.KernelIdeal.Skeleton
public import proofs.«01_k».proof.Proof.RealVec
public import Idealize.ShloMosaic.Lib.IdealHost
public import Idealize.ShloMosaic.Lib.WordCmp

@[expose] public section

set_option maxRecDepth 16384

noncomputable section

namespace Sb

open Idealize.ShloMosaic Cert.KernelIdeal Cert.KernelIdeal.Gen
open scoped BigOperators

/-- The scale of the logits, the single-precision word nearest to one over the square root of 128. -/
def sc : ℝ := 11863283 / 134217728

theorem bits_sc : Ideal.ofBits .f32 0x3DB504F3#32 = ((sc : ℝ) : EReal) := by
  simp [Ideal.ofBits, Ideal.ieee, -EReal.coe_mul, sc]; norm_num

/-- The logarithm of the logistic function, in the form that does not overflow. -/
def lsg (z : ℝ) : ℝ := min z 0 - Real.log (1 + Real.exp (-|z|))

theorem coe_one : (1 : EReal) = ((1 : ℝ) : EReal) := rfl
theorem coe_zero : (0 : EReal) = ((0 : ℝ) : EReal) := rfl

theorem absf_coe (z : ℝ) : (FloatOps.absf (F := Ideal) (φ := .f32) (z : EReal) : EReal) = ((|z| : ℝ) : EReal) := by
  rw [Ideal.absf_def, ← EReal.coe_neg, abs_eq_max_neg]
  exact (EReal.coe_strictMono.monotone.map_max).symm

theorem log_one_add_exp (z : ℝ) : Ideal.log (1 + Ideal.exp ((z : ℝ) : EReal)) = ((Real.log (1 + Real.exp z) : ℝ) : EReal) := by
  rw [Ideal.exp_coe, coe_one, ← EReal.coe_add, Ideal.log_coe, if_neg (by have := Real.exp_pos z; linarith)]

theorem min_coe (x y : ℝ) : min (x : EReal) (y : EReal) = ((min x y : ℝ) : EReal) := (EReal.coe_strictMono.monotone.map_min).symm

theorem lsg_coe (z : ℝ) :
    min (z : EReal) 0 - Ideal.log (1 + Ideal.exp (0 - FloatOps.absf (F := Ideal) (φ := .f32) (z : EReal))) = ((lsg z : ℝ) : EReal) := by
  rw [absf_coe, coe_zero, ← EReal.coe_sub, zero_sub, log_one_add_exp, min_coe, ← EReal.coe_sub]
  rfl

variable {X Y Z : FVec Ideal S256x256 .f32}

/-! ## Logits, their logarithms and the products with `v` -/

theorem is_z {A B : FVec Ideal S256x128 .bf16} {q k : ℕ → ℕ → ℝ} (ha : IsR A q) (hb : IsR B k) :
    IsR (k0_pay11 A B) (fun t s => (∑ d ∈ Finset.range 128, q t d * k s d) * sc) := by
  intro t s
  pointwise [k0_pay11]
  simp only [ha _ _, hb _ _, bits_sc, ← EReal.coe_mul, ← coe_sum, Finset.sum_range]

theorem is_lb {A B : FVec Ideal S256x128 .bf16} {z : ℕ → ℕ → ℝ} (hz : IsR (k0_pay11 A B) z) :
    IsR (k0_pay12 A B) (fun t s => lsg (z t s)) := by
  intro t s
  have e := hz t s
  pointwise [k0_pay12]
  rw [e]
  exact lsg_coe _

theorem is_sub {x y : ℕ → ℕ → ℝ} (hX : IsR X x) (hY : IsR Y y) : IsR (subf X Y) (fun t s => x t s - y t s) := by
  intro t s
  pointwise
  rw [hX, hY, ← EReal.coe_sub]

theorem is_lr {A B : FVec Ideal S256x128 .bf16} {z : ℕ → ℕ → ℝ} (hz : IsR (k0_pay11 A B) z) :
    IsR (k0_pay13 A B) (fun t s => lsg (z t s) - z t s) :=
  is_sub (is_lb hz) hz

theorem is_da {A B : FVec Ideal S256x128 .bf16} {q k : ℕ → ℕ → ℝ} (ha : IsR A q) (hb : IsR B k) :
    IsR (k0_pay19 A B) (fun t s => ∑ d ∈ Finset.range 128, q t d * k s d) := by
  intro t s
  pointwise [k0_pay19]
  simp only [ha _ _, hb _ _, ← EReal.coe_mul, ← coe_sum, Finset.sum_range]

/-! ## The triangular indicators and the mask -/

open Idealize.ShloMosaic.WordCmp in
theorem slt_ofNat {a b : ℕ} (ha : a < 2 ^ 31) (hb : b < 2 ^ 31) :
    IntOp.cmpi .slt (BitVec.ofNat 32 a) (BitVec.ofNat 32 b) = if a < b then 1#1 else 0#1 := by
  rw [cmpi_slt_of_lt (by rw [BitVec.toNat_ofNat]; omega) (by rw [BitVec.toNat_ofNat]; omega),
    BitVec.toNat_ofNat, BitVec.toNat_ofNat, Nat.mod_eq_of_lt (by omega), Nat.mod_eq_of_lt (by omega)]
  by_cases h : a < b <;> simp [h]

open Idealize.ShloMosaic.WordCmp in
theorem sle_ofNat {a b : ℕ} (ha : a < 2 ^ 31) (hb : b < 2 ^ 31) :
    IntOp.cmpi .sle (BitVec.ofNat 32 a) (BitVec.ofNat 32 b) = if a ≤ b then 1#1 else 0#1 := by
  rw [cmpi_sle_of_lt (by rw [BitVec.toNat_ofNat]; omega) (by rw [BitVec.toNat_ofNat]; omega),
    BitVec.toNat_ofNat, BitVec.toNat_ofNat, Nat.mod_eq_of_lt (by omega), Nat.mod_eq_of_lt (by omega)]
  by_cases h : a ≤ b <;> simp [h]

theorem is_upto : IsR (k0_pay57 (F := Ideal)) (fun t s => if t ≤ s then 1 else 0) := by
  intro t s
  pointwise [k0_pay57]
  rw [sle_ofNat (by omega) (by omega)]
  split
  · exact (by simp : (((1#32 : BitVec 32).toInt : ℝ) : EReal) = ((1 : ℝ) : EReal))
  · exact (by simp : (((0#32 : BitVec 32).toInt : ℝ) : EReal) = ((0 : ℝ) : EReal))

theorem is_before : IsR (k0_pay58 (F := Ideal)) (fun t s => if t < s then 1 else 0) := by
  intro t s
  pointwise [k0_pay58]
  rw [slt_ofNat (by omega) (by omega)]
  split
  · exact (by simp : (((1#32 : BitVec 32).toInt : ℝ) : EReal) = ((1 : ℝ) : EReal))
  · exact (by simp : (((0#32 : BitVec 32).toInt : ℝ) : EReal) = ((0 : ℝ) : EReal))

theorem mask_apply {n : ℕ} (hn : n < 16) (t s : Fin 256) :
    k0_pay82 (BitVec.ofNat 32 n) (ix2 t s) = if s.val < t.val then 1#1 else 0#1 := by
  have e : ∀ m : ℕ, IntOp.addi (Scalar.muli (BitVec.ofNat 32 n) 256#32) (BitVec.ofNat 32 m) = BitVec.ofNat 32 (n * 256 + m) := by
    intro m
    rw [BitVec.ofNat_add, BitVec.ofNat_mul]
    rfl
  have e' : Scalar.addi (Scalar.muli (BitVec.ofNat 32 n) 1#32) 0#32 = BitVec.ofNat 32 n := by
    show BitVec.ofNat 32 n * 1#32 + 0#32 = BitVec.ofNat 32 n
    simp
  pointwise [k0_pay82]
  rw [e', e, e, slt_ofNat (by omega) (by omega)]
  by_cases h : s.val < t.val
  · rw [if_pos h, if_pos (by omega)]
  · rw [if_neg h, if_neg (by omega)]

/-! ## The weights, their gradients and the running sums, off the diagonal -/

theorem is_exp {x : ℕ → ℕ → ℝ} (hX : IsR X x) : IsR (k0_pay3 X) (fun t s => Real.exp (x t s)) := by
  intro t s
  pointwise [k0_pay3]
  rw [hX, Ideal.exp_coe]

theorem is_a {T R : FVec Ideal S256x1 .f32} {U : FVec Ideal S256x256 .bf16} {tt r l x : ℕ → ℕ → ℝ} (hT : IsR T tt)
    (hU : IsR U (fun t s => if t ≤ s then 1 else 0)) (hX : IsR X l) (hY : IsR Y x) (hR : IsR R r) :
    IsR (k0_pay1 T U X Y R) (fun t s => Real.exp (l t s + (tt t 0 - (∑ k ∈ Finset.range (s + 1), x t k + r t 0)))) := by
  intro t s
  beta_reduce
  rw [← sum_upto s.isLt]
  pointwise [k0_pay1]
  simp only [hT _ _, hU _ _, hX _ _, hY _ _, hR _ _, ← EReal.coe_mul, ← EReal.coe_sub, ← coe_sum, ← EReal.coe_add,
    Ideal.exp_coe, Finset.sum_range, sub_self, zero_mul, Finset.sum_const_zero, add_zero]
  rfl

theorem is_mul {x y : ℕ → ℕ → ℝ} (hX : IsR X x) (hY : IsR Y y) : IsR (k0_pay7 X Y) (fun t s => y t s * x t s) := by
  intro t s
  pointwise [k0_pay7]
  rw [hX, hY, ← EReal.coe_mul]

/-- The transposed product with a block of 128 columns, added to what was there. -/
theorem is_tn {A : FVec Ideal S256x256 .bf16} {B : FVec Ideal S256x128 .bf16} {W : FVec Ideal S256x128 .f32} {a b w : ℕ → ℕ → ℝ}
    (hA : IsR A a) (hB : IsR B b) (hW : IsR W w) :
    IsR (addf (shapeCast S256x128 W shapeCasts_S256x128_S256x128)
      (matmul dot_S256x256_S256x128_S256x128_0_0_1_1_n_n none A B (constant S256x128 .f32 0x00000000#32)))
      (fun s d => w s d + ∑ t ∈ Finset.range 256, a t s * b t d) := by
  intro s d
  pointwise
  simp only [hA _ _, hB _ _, hW _ _, ← EReal.coe_mul, ← coe_sum, ← EReal.coe_add, Finset.sum_range]

/-- The product with a block of 128 columns, added to what was there. -/
theorem is_nn {A : FVec Ideal S256x256 .bf16} {B : FVec Ideal S256x128 .bf16} {W : FVec Ideal S256x128 .f32} {a b w : ℕ → ℕ → ℝ}
    (hA : IsR A a) (hB : IsR B b) (hW : IsR W w) : IsR (k0_pay70 A W B) (fun t d => w t d + ∑ s ∈ Finset.range 256, a t s * b s d) := by
  intro s d
  pointwise [k0_pay70]
  simp only [hA _ _, hB _ _, hW _ _, ← EReal.coe_mul, ← coe_sum, ← EReal.coe_add, Finset.sum_range]

theorem is_gb {R : FVec Ideal S256x1 .f32} {U : FVec Ideal S256x256 .bf16} {r g : ℕ → ℕ → ℝ} (hg : IsR (k0_pay7 X Y) g)
    (hU : IsR U (fun t s => if t < s then 1 else 0)) (hR : IsR R r) :
    IsR (k0_pay9 U X R Y) (fun t s => ∑ k ∈ Finset.range s, g t k + r t 0) := by
  intro t s
  beta_reduce
  rw [← sum_before s.isLt]
  pointwise [k0_pay9]
  simp only [hg _ _, hU _ _, hR _ _, ← EReal.coe_mul, ← coe_sum, ← EReal.coe_add, Finset.sum_range]
  rfl

theorem is_dz {b g s : ℕ → ℕ → ℝ} (hX : IsR X b) (hY : IsR Y g) (hZ : IsR Z s) :
    IsR (k0_pay21 X Y Z) (fun i j => (g i j * (1 - b i j) - s i j * b i j) * sc) := by
  intro i j
  pointwise [k0_pay21]
  rw [hX, hY, hZ, bits_sc, coe_one]
  simp only [← EReal.coe_mul, ← EReal.coe_sub]

/-- A row's sum added to what the row had. -/
theorem is_rowsum {R : FVec Ideal S256x1 .f32} {r x : ℕ → ℕ → ℝ} (hX : IsR X x) (hR : IsR R r) :
    IsR (k0_pay74 R X) (fun t _ => r t 0 + ∑ k ∈ Finset.range 256, x t k) := by
  intro t s
  obtain rfl : s = 0 := Subsingleton.elim _ _
  pointwise [k0_pay74]
  simp only [hX _ _, hR _ _, ← coe_sum, ← EReal.coe_add, Finset.sum_range]
  rfl

/-! ## The same on the diagonal, under the mask -/

theorem is_masked {M : IVec S256x256 1} {x : ℕ → ℕ → ℝ} (hM : ∀ t s : Fin 256, M (ix2 t s) = if s.val < t.val then 1#1 else 0#1)
    (hX : IsR X x) : IsR (k0_pay85 M X) (fun t s => if s < t then x t s else 0) := by
  intro t s
  pointwise [k0_pay85]
  rw [hM, hX]
  by_cases h : s.val < t.val
  · simp [h, Scalar.select]
  · simp [h, Scalar.select]

end Sb

end
-- ==== Proof.Spec.lean ====
/- One head of the stick-breaking attention over the reals, the gradients the backward pass forms for it, and what
   one step of the kernel computes of them: a step off the diagonal, where every key comes before every query, and the
   step on the diagonal, under the mask. -/
module

public import proofs.«01_k».proof.Proof.Pay

@[expose] public section

set_option maxRecDepth 16384

noncomputable section

namespace Sb

open Idealize.ShloMosaic Cert.KernelIdeal Cert.KernelIdeal.Gen
open scoped BigOperators

/-- One head: its queries, keys, values and cotangents by row and lane, and each row's total of the masked logs. -/
structure Hd where
  q : ℕ → ℕ → ℝ
  k : ℕ → ℕ → ℝ
  v : ℕ → ℕ → ℝ
  dy : ℕ → ℕ → ℝ
  tot : ℕ → ℝ

namespace Hd

variable (H : Hd)

/-- The logit of a query row and a key row. -/
def z (t s : ℕ) : ℝ := (∑ d ∈ Finset.range 128, H.q t d * H.k s d) * sc

/-- The log of the share of the stick taken. -/
def lb (t s : ℕ) : ℝ := lsg (H.z t s)

/-- The log of the share of the stick left. -/
def lr (t s : ℕ) : ℝ := H.lb t s - H.z t s

/-- The same, where the key comes before the query. -/
def rm (t s : ℕ) : ℝ := if s < t then H.lr t s else 0

/-- The weight. -/
def a (t s : ℕ) : ℝ := if s < t then Real.exp (H.lb t s + (H.tot t - ∑ j ∈ Finset.range (s + 1), H.rm t j)) else 0

/-- The share taken. -/
def b (t s : ℕ) : ℝ := if s < t then Real.exp (H.lb t s) else 0

/-- The cotangent of the weight. -/
def da (t s : ℕ) : ℝ := ∑ d ∈ Finset.range 128, H.dy t d * H.v s d

def g (t s : ℕ) : ℝ := H.a t s * H.da t s

/-- The cotangent of the logit, with the scale. -/
def dz (t s : ℕ) : ℝ := (H.g t s * (1 - H.b t s) - (∑ j ∈ Finset.range s, H.g t j) * H.b t s) * sc

end Hd

theorem sum_tile (f : ℕ → ℝ) (c n : ℕ) : ∑ j ∈ Finset.range c, f j + ∑ j ∈ Finset.range n, f (c + j) = ∑ j ∈ Finset.range (c + n), f j :=
  (Finset.sum_range_add f c n).symm

variable {H : Hd} {B C : ℕ} {X Y D : FVec Ideal S256x256 .f32} {T R G : FVec Ideal S256x1 .f32} {U W : FVec Ideal S256x256 .bf16}

/-- What the step at the key block `C` is given: the block's logs and weight cotangents, and the sums over the keys before. -/
structure Given (H : Hd) (B C : ℕ) (T : FVec Ideal S256x1 .f32) (U W : FVec Ideal S256x256 .bf16)
    (X Y D : FVec Ideal S256x256 .f32) (R G : FVec Ideal S256x1 .f32) : Prop where
  hT : IsR T (fun t _ => H.tot (B + t))
  hU : IsR U (fun t s => if t ≤ s then 1 else 0)
  hW : IsR W (fun t s => if t < s then 1 else 0)
  hX : IsR X (fun t s => H.lb (B + t) (C + s))
  hY : IsR Y (fun t s => H.lr (B + t) (C + s))
  hD : IsR D (fun t s => H.da (B + t) (C + s))
  hR : IsR R (fun t _ => ∑ j ∈ Finset.range C, H.rm (B + t) j)
  hG : IsR G (fun t _ => ∑ j ∈ Finset.range C, H.g (B + t) j)

theorem off_a (h : Given H B C T U W X Y D R G) (hBC : C + 256 ≤ B) :
    IsR (k0_pay1 T U X Y R) (fun t s => H.a (B + t) (C + s)) := by
  refine (is_a h.hT h.hU h.hX h.hY h.hR).congr fun t s ht hs => ?_
  have e : ∑ k ∈ Finset.range (s + 1), H.lr (B + t) (C + k) = ∑ k ∈ Finset.range (s + 1), H.rm (B + t) (C + k) :=
    Finset.sum_congr rfl fun k hk => by
      have := Finset.mem_range.mp hk
      rw [Hd.rm, if_pos (by omega)]
  rw [e, add_comm (Finset.sum _ _) (Finset.sum _ _), sum_tile, Hd.a, if_pos (by omega), ← add_assoc]

theorem off_g (h : Given H B C T U W X Y D R G) (hBC : C + 256 ≤ B) :
    IsR (k0_pay7 D (k0_pay1 T U X Y R)) (fun t s => H.g (B + t) (C + s)) :=
  is_mul h.hD (off_a h hBC)

theorem off_dz (h : Given H B C T U W X Y D R G) (hBC : C + 256 ≤ B) :
    IsR (k0_pay21 (k0_pay3 X) (k0_pay7 D (k0_pay1 T U X Y R)) (k0_pay9 W D G (k0_pay1 T U X Y R)))
      (fun t s => H.dz (B + t) (C + s)) := by
  refine (is_dz (is_exp h.hX) (off_g h hBC) (is_gb (off_g h hBC) h.hW h.hG)).congr fun t s ht hs => ?_
  rw [add_comm (Finset.sum _ _) (Finset.sum _ _), sum_tile, Hd.dz, Hd.b, if_pos (by omega)]

theorem off_rest (h : Given H B C T U W X Y D R G) (hBC : C + 256 ≤ B) :
    IsR (k0_pay72 Y R) (fun t _ => ∑ j ∈ Finset.range (C + 256), H.rm (B + t) j) := by
  refine (is_rowsum h.hY h.hR).congr fun t s ht hs => ?_
  rw [← sum_tile]
  refine congrArg _ (Finset.sum_congr rfl fun k hk => ?_)
  have := Finset.mem_range.mp hk
  rw [Hd.rm, if_pos (by omega)]

theorem off_left (h : Given H B C T U W X Y D R G) (hBC : C + 256 ≤ B) :
    IsR (k0_pay74 G (k0_pay7 D (k0_pay1 T U X Y R))) (fun t _ => ∑ j ∈ Finset.range (C + 256), H.g (B + t) j) := by
  refine (is_rowsum (off_g h hBC) h.hG).congr fun t s ht hs => ?_
  rw [← sum_tile]

/-! ## On the diagonal -/

variable {n : ℕ}

theorem mask_eq (hn : n < 16) : ∀ t s : Fin 256, k0_pay82 (BitVec.ofNat 32 n) (ix2 t s) = if s.val < t.val then 1#1 else 0#1 :=
  mask_apply hn

theorem diag_a (hn : n < 16) (h : Given H B B T U W X Y D R G) :
    IsR (k0_pay85 (k0_pay82 (BitVec.ofNat 32 n)) (k0_pay83 (BitVec.ofNat 32 n) T U X Y R)) (fun t s => H.a (B + t) (B + s)) := by
  have hY := is_masked (mask_eq hn) h.hY
  have e := is_masked (mask_eq hn) (is_a h.hT h.hU h.hX hY h.hR)
  refine IsR.congr (X := k0_pay85 (k0_pay82 (BitVec.ofNat 32 n)) (k0_pay83 (BitVec.ofNat 32 n) T U X Y R)) e fun t s ht hs => ?_
  have e : ∑ k ∈ Finset.range (s + 1), (if k < t then H.lr (B + t) (B + k) else 0) = ∑ k ∈ Finset.range (s + 1), H.rm (B + t) (B + k) :=
    Finset.sum_congr rfl fun k hk => by simp only [Hd.rm, Nat.add_lt_add_iff_left]
  rw [e, add_comm (Finset.sum _ _) (Finset.sum _ _), sum_tile, Hd.a, ← add_assoc]
  simp only [Nat.add_lt_add_iff_left]

theorem diag_b (hn : n < 16) (h : Given H B B T U W X Y D R G) :
    IsR (k0_pay87 X (k0_pay82 (BitVec.ofNat 32 n))) (fun t s => H.b (B + t) (B + s)) := by
  refine IsR.congr (X := k0_pay87 X (k0_pay82 (BitVec.ofNat 32 n))) (is_masked (mask_eq hn) (is_exp h.hX)) fun t s ht hs => ?_
  simp only [Hd.b, Nat.add_lt_add_iff_left]

theorem diag_g (hn : n < 16) (h : Given H B B T U W X Y D R G) :
    IsR (k0_pay7 D (k0_pay85 (k0_pay82 (BitVec.ofNat 32 n)) (k0_pay83 (BitVec.ofNat 32 n) T U X Y R))) (fun t s => H.g (B + t) (B + s)) :=
  is_mul h.hD (diag_a hn h)

theorem diag_dz (hn : n < 16) (h : Given H B B T U W X Y D R G) :
    IsR (k0_pay21 (k0_pay87 X (k0_pay82 (BitVec.ofNat 32 n)))
        (k0_pay7 D (k0_pay85 (k0_pay82 (BitVec.ofNat 32 n)) (k0_pay83 (BitVec.ofNat 32 n) T U X Y R)))
        (k0_pay9 W D G (k0_pay85 (k0_pay82 (BitVec.ofNat 32 n)) (k0_pay83 (BitVec.ofNat 32 n) T U X Y R))))
      (fun t s => H.dz (B + t) (B + s)) := by
  refine (is_dz (diag_b hn h) (diag_g hn h) (is_gb (diag_g hn h) h.hW h.hG)).congr fun t s ht hs => ?_
  rw [add_comm (Finset.sum _ _) (Finset.sum _ _), sum_tile, Hd.dz]

/-- The first head's cotangent of the logits, as the kernel writes it out. -/
theorem diag_dz0 (hn : n < 16) (h : Given H B B T U W X Y D R G) :
    IsR (k0_pay92 W X D G (k0_pay82 (BitVec.ofNat 32 n)) (k0_pay83 (BitVec.ofNat 32 n) T U X Y R)) (fun t s => H.dz (B + t) (B + s)) :=
  diag_dz hn h

/-- The second head's. -/
theorem diag_dz1 (hn : n < 16) (h : Given H B B T U W X Y D R G) :
    IsR (k0_pay94 (k0_pay87 X (k0_pay82 (BitVec.ofNat 32 n)))
      (k0_pay90 D (k0_pay82 (BitVec.ofNat 32 n)) (k0_pay84 (BitVec.ofNat 32 n) T U X Y R))
      (k0_pay91 W D G (k0_pay82 (BitVec.ofNat 32 n)) (k0_pay84 (BitVec.ofNat 32 n) T U X Y R))) (fun t s => H.dz (B + t) (B + s)) :=
  diag_dz hn h

theorem diag_a1 (hn : n < 16) (h : Given H B B T U W X Y D R G) :
    IsR (k0_pay86 (k0_pay82 (BitVec.ofNat 32 n)) (k0_pay84 (BitVec.ofNat 32 n) T U X Y R)) (fun t s => H.a (B + t) (B + s)) :=
  diag_a hn h

/-! ## Two heads' blocks of columns in one array -/

/-- Two blocks of 128 columns, each with something added, stored over the same rows. -/
theorem is_put2 {m o : ℕ} {M : (⟨2, ![m, 256]⟩ : Shape).Idx → EReal} {x : ℕ → ℕ → ℝ} {δ : ℕ → ℕ → ℕ → ℝ}
    {Y0 Y1 : (⟨2, ![256, 128]⟩ : Shape).Idx → EReal} (hM : IsR M x)
    (h0 : IsR Y0 fun i j => x (o + i) (0 + j) + δ 0 i j) (h1 : IsR Y1 fun i j => x (o + i) (128 + j) + δ 1 i j) :
    IsR (a := m) (b := 256) (VecWindow.put (s := ⟨2, ![m, 256]⟩) (VecWindow.put (s := ⟨2, ![m, 256]⟩) M ![o, 0] ![256, 128] Y0) ![o, 128] ![256, 128] Y1)
      (fun i j => x i j + if o ≤ i ∧ i < o + 256 then δ (j / 128) (i - o) (j % 128) else 0) := by
  refine ((hM.put h0).put h1).congr fun i j hi hj => ?_
  by_cases ho : o ≤ i ∧ i < o + 256
  · rcases Nat.lt_or_ge j 128 with h | h
    · rw [if_neg (by omega), if_pos ⟨ho, by omega⟩, if_pos ho, Nat.div_eq_of_lt h, Nat.mod_eq_of_lt h]
      congr 2 <;> omega
    · obtain ⟨j, rfl⟩ := Nat.exists_eq_add_of_le h
      rw [if_pos ⟨ho, by omega⟩, if_pos ho, show (128 + j) / 128 = 1 by omega, show (128 + j) % 128 = j by omega,
        Nat.add_sub_cancel_left, Nat.add_sub_cancel' ho.1]
  · rw [if_neg (fun h => ho h.1), if_neg (fun h => ho h.1), if_neg ho, add_zero]

/-- The second block's rows are not changed by the first store. -/
theorem is_second {m o : ℕ} {M : (⟨2, ![m, 256]⟩ : Shape).Idx → EReal} {x y : ℕ → ℕ → ℝ}
    {Y0 : (⟨2, ![256, 128]⟩ : Shape).Idx → EReal} (hM : IsR M x) (h0 : IsR Y0 y)
    (inb : ∀ i, (![o, 128] : Fin 2 → ℕ) i + (![256, 128] : Fin 2 → ℕ) i ≤ (⟨2, ![m, 256]⟩ : Shape).size i) :
    IsR (a := 256) (b := 128) (VecWindow.window (s := ⟨2, ![m, 256]⟩) (VecWindow.put (s := ⟨2, ![m, 256]⟩) M ![o, 0] ![256, 128] Y0) ![o, 128] ![256, 128] inb)
      (fun i j => x (o + i) (128 + j)) := by
  refine (IsR.window (hM.put h0) inb).congr fun i j hi hj => ?_
  rw [if_neg (by omega)]

end Sb

end
-- ==== Proof.Words.lean ====
/- The loops' trip counts and the offsets of the loads and stores, in closed form. -/
module

public import proofs.«01_k».proof.Proof.Gen.KernelIdeal.Skeleton

@[expose] public section

noncomputable section

namespace Sb

open Idealize.ShloMosaic Cert.KernelIdeal Cert.KernelIdeal.Gen

/-- The query block of a grid point. -/
abbrev qb (i : grid0.Coords) : ℕ := (i 1).val

theorem qb_lt (i : grid0.Coords) : qb i < 16 := (i 1).isLt

/-- The first loop runs once per key block before the query block's own. -/
theorem trips_first (i : grid0.Coords) : (k0_t1_loop i).trips = qb i := by
  have h : ∀ n : Fin 16, (⟨0#32, Scalar.addi 0#32 (Scalar.muli (Scalar.divsi (Scalar.subi (Scalar.muli (BitVec.ofNat 32 n.val) 1#32) 0#32) 1#32) 1#32), 1#32⟩ : Scf.Loop 32).trips = n.val := by
    decide +kernel
  exact h (i 1)

/-- The remainder loop does not run. -/
theorem trips_second (i : grid0.Coords) : (k0_t2_loop i).trips = 0 := by
  unfold k0_t2_loop
  have h : ∀ n : Fin 16, (let c0_i32_33 : BitVec 32 := 0#32
      let v29 : BitVec 32 := Scalar.muli (BitVec.ofNat 32 n.val) 1#32
      let v73 : BitVec 32 := Scalar.subi v29 c0_i32_33
      let v76 : BitVec 32 := Scalar.muli (Scalar.divsi v73 1#32) 1#32
      (⟨Scalar.addi c0_i32_33 v76, Scalar.addi c0_i32_33 v73, 1#32⟩ : Scf.Loop 32).trips) = 0 := by
    decide +kernel
  exact h (i 1)

theorem trip_lt (i : grid0.Coords) (k : Fin (k0_t1_loop i).trips) : k.val < qb i :=
  lt_of_lt_of_eq k.isLt (trips_first i)

theorem off1_eq (i : grid0.Coords) (k : Fin (k0_t1_loop i).trips) : k0_off1 i k = ![256 * k.val, 0] := by
  have h : ∀ n : Fin 16, (Scalar.indexCast (Scalar.muli (Scf.iv 0#32 1#32 n.val) 256#32)).toNat = 256 * n.val := by decide +kernel
  exact congrArg (fun z => ![z, 0]) (h ⟨k.val, (trip_lt i k).trans (qb_lt i)⟩)

theorem off2_eq (i : grid0.Coords) (k : Fin (k0_t1_loop i).trips) : k0_off2 i k = ![256 * k.val, 128] := by
  have h : ∀ n : Fin 16, (Scalar.indexCast (Scalar.muli (Scf.iv 0#32 1#32 n.val) 256#32)).toNat = 256 * n.val := by decide +kernel
  exact congrArg (fun z => ![z, 128]) (h ⟨k.val, (trip_lt i k).trans (qb_lt i)⟩)

theorem off3_eq (i : grid0.Coords) (k : Fin (k0_t1_loop i).trips) : k0_off3 i k = ![256 * (k.val + 1), 0] := by
  have h : ∀ n : Fin 16, (Scalar.indexCast (Scalar.muli (Scalar.addi (Scf.iv 0#32 1#32 n.val) 1#32) 256#32)).toNat = 256 * (n.val + 1) := by decide +kernel
  exact congrArg (fun z => ![z, 0]) (h ⟨k.val, (trip_lt i k).trans (qb_lt i)⟩)

theorem off4_eq (i : grid0.Coords) (k : Fin (k0_t1_loop i).trips) : k0_off4 i k = ![256 * (k.val + 1), 128] := by
  have h : ∀ n : Fin 16, (Scalar.indexCast (Scalar.muli (Scalar.addi (Scf.iv 0#32 1#32 n.val) 1#32) 256#32)).toNat = 256 * (n.val + 1) := by decide +kernel
  exact congrArg (fun z => ![z, 128]) (h ⟨k.val, (trip_lt i k).trans (qb_lt i)⟩)

theorem off9_eq (i : grid0.Coords) : k0_off9 i = ![256 * qb i, 0] := by
  have h : ∀ n : Fin 16, (Scalar.indexCast (Scalar.muli (Scalar.addi (Scalar.muli (BitVec.ofNat 32 n.val) 1#32) 0#32) 256#32)).toNat = 256 * n.val := by decide +kernel
  exact congrArg (fun z => ![z, 0]) (h (i 1))

theorem off10_eq (i : grid0.Coords) : k0_off10 i = ![256 * qb i, 128] := by
  have h : ∀ n : Fin 16, (Scalar.indexCast (Scalar.muli (Scalar.addi (Scalar.muli (BitVec.ofNat 32 n.val) 1#32) 0#32) 256#32)).toNat = 256 * n.val := by decide +kernel
  exact congrArg (fun z => ![z, 128]) (h (i 1))

end Sb

end
-- ==== Proof.Trip.lean ====
/- One pass through the kernel's loop over the key blocks, and the whole loop: what the carried values and the three
   output blocks hold after the key blocks before `n`. -/
module

public import proofs.«01_k».proof.Proof.Gen.KernelIdeal.Frame
public import proofs.«01_k».proof.Proof.Spec
public import proofs.«01_k».proof.Proof.Words

@[expose] public section

set_option maxRecDepth 16384
set_option maxHeartbeats 4000000

noncomputable section

namespace Sb

open Idealize.ShloMosaic Idealize.ShloMosaic.TcCoe Cert.KernelIdeal Cert.KernelIdeal.Gen
open scoped BigOperators

/-- The values a pass carries. -/
abbrev Carried : Type := FVec Ideal S256x256 .f32 × FVec Ideal S256x256 .f32 × FVec Ideal S256x256 .f32 × FVec Ideal S256x256 .f32 × FVec Ideal S256x256 .f32 × FVec Ideal S256x256 .f32 × FVec Ideal S256x1 .f32 × FVec Ideal S256x1 .f32 × FVec Ideal S256x1 .f32 × FVec Ideal S256x1 .f32

/-- What holds before the key block `n`, of the query block starting at row `B`: the logs of block `n`, the sums over
    the keys before it, and the three output blocks with the keys before it added (`p8`, `p9`: what the key and value
    gradients held from the query blocks before). -/
structure Inv (H : ℕ → Hd) (B n : ℕ) (p8 p9 : ℕ → ℕ → ℝ) (T0 T1 : FVec Ideal S256x1 .f32) (U W : FVec Ideal S256x256 .bf16)
    (acc : Carried) (m7 : S256x256.Idx → EReal) (m8 m9 : S4096x256.Idx → EReal) : Prop where
  g0 : Given (H 0) B (256 * n) T0 U W acc.1 acc.2.1 acc.2.2.1 acc.2.2.2.2.2.2.1 acc.2.2.2.2.2.2.2.2.1
  g1 : Given (H 1) B (256 * n) T1 U W acc.2.2.2.1 acc.2.2.2.2.1 acc.2.2.2.2.2.1 acc.2.2.2.2.2.2.2.1 acc.2.2.2.2.2.2.2.2.2
  h7 : IsR (a := 256) (b := 256) m7 fun t w => ∑ s ∈ Finset.range (256 * n), (H (w / 128)).dz (B + t) s * (H (w / 128)).k s (w % 128)
  h8 : IsR (a := 4096) (b := 256) m8 fun s w => p8 s w + if s < 256 * n then ∑ t ∈ Finset.range 256, (H (w / 128)).dz (B + t) s * (H (w / 128)).q (B + t) (w % 128) else 0
  h9 : IsR (a := 4096) (b := 256) m9 fun s w => p9 s w + if s < 256 * n then ∑ t ∈ Finset.range 256, (H (w / 128)).a (B + t) s * (H (w / 128)).dy (B + t) (w % 128) else 0

/-- The blocks of queries and cotangents a grid point reads, head by head. -/
structure Blocks (H : ℕ → Hd) (B : ℕ) (v4 v6 v8 v10 : FVec Ideal S256x128 .bf16) (K V : S4096x256.Idx → EReal) : Prop where
  q0 : IsR (a := 256) (b := 128) v4 fun t d => (H 0).q (B + t) d
  q1 : IsR (a := 256) (b := 128) v6 fun t d => (H 1).q (B + t) d
  y0 : IsR (a := 256) (b := 128) v8 fun t d => (H 0).dy (B + t) d
  y1 : IsR (a := 256) (b := 128) v10 fun t d => (H 1).dy (B + t) d
  hK : IsR (a := 4096) (b := 256) K fun s w => (H (w / 128)).k s (w % 128)
  hV : IsR (a := 4096) (b := 256) V fun s w => (H (w / 128)).v s (w % 128)

/-- The columns of the first head. -/
theorem IsR.head0 {m : ℕ} {M : (⟨2, ![m, 256]⟩ : Shape).Idx → EReal} {x : ℕ → ℕ → ℕ → ℝ} (h : IsR M fun s w => x (w / 128) s (w % 128)) {o : ℕ}
    (inb : ∀ i, (![o, 0] : Fin 2 → ℕ) i + (![256, 128] : Fin 2 → ℕ) i ≤ (⟨2, ![m, 256]⟩ : Shape).size i) :
    IsR (a := 256) (b := 128) (VecWindow.window (s := ⟨2, ![m, 256]⟩) M ![o, 0] ![256, 128] inb) fun s d => x 0 (o + s) d :=
  (IsR.window h inb).congr fun i j _ hj => by rw [Nat.zero_add, Nat.div_eq_of_lt hj, Nat.mod_eq_of_lt hj]

/-- The columns of the second head. -/
theorem IsR.head1 {m : ℕ} {M : (⟨2, ![m, 256]⟩ : Shape).Idx → EReal} {x : ℕ → ℕ → ℕ → ℝ} (h : IsR M fun s w => x (w / 128) s (w % 128)) {o : ℕ}
    (inb : ∀ i, (![o, 128] : Fin 2 → ℕ) i + (![256, 128] : Fin 2 → ℕ) i ≤ (⟨2, ![m, 256]⟩ : Shape).size i) :
    IsR (a := 256) (b := 128) (VecWindow.window (s := ⟨2, ![m, 256]⟩) M ![o, 128] ![256, 128] inb) fun s d => x 1 (o + s) d :=
  (IsR.window h inb).congr fun i j _ hj => by
    rw [show (128 + j) / 128 = 1 by omega, show (128 + j) % 128 = j by omega]

/-! ### Loads and stores through a view -/

theorem load0_b {sg : RefSig} {κ : Kind} {sp : Space} {m : ℕ} (v : View sg κ sp ⟨2, ![m, 256]⟩ .bf16) (f : v.ty.Contents (Elt Ideal)) {off : Fin 2 → ℕ} {o : ℕ}
    (inb : ∀ i, off i + (![256, 128] : Fin 2 → ℕ) i ≤ (⟨2, ![m, 256]⟩ : Shape).size i) (e : off = ![o, 0]) {x : ℕ → ℕ → ℕ → ℝ}
    (h : IsR (a := m) (b := 256) (v.read (Elt Ideal) f) fun s w => x (w / 128) s (w % 128)) :
    IsR (a := 256) (b := 128) (v.readAt (Elt Ideal) (Rect.unit (s := ⟨2, ![m, 256]⟩) off ![256, 128] inb).toLoadRect f) fun s d => x 0 (o + s) d := by
  subst e; rw [View.readAt_unit v f inb rfl inb]; exact h.head0 inb

theorem load1_b {sg : RefSig} {κ : Kind} {sp : Space} {m : ℕ} (v : View sg κ sp ⟨2, ![m, 256]⟩ .bf16) (f : v.ty.Contents (Elt Ideal)) {off : Fin 2 → ℕ} {o : ℕ}
    (inb : ∀ i, off i + (![256, 128] : Fin 2 → ℕ) i ≤ (⟨2, ![m, 256]⟩ : Shape).size i) (e : off = ![o, 128]) {x : ℕ → ℕ → ℕ → ℝ}
    (h : IsR (a := m) (b := 256) (v.read (Elt Ideal) f) fun s w => x (w / 128) s (w % 128)) :
    IsR (a := 256) (b := 128) (v.readAt (Elt Ideal) (Rect.unit (s := ⟨2, ![m, 256]⟩) off ![256, 128] inb).toLoadRect f) fun s d => x 1 (o + s) d := by
  subst e; rw [View.readAt_unit v f inb rfl inb]; exact h.head1 inb

theorem load0 {sg : RefSig} {κ : Kind} {sp : Space} {m : ℕ} (v : View sg κ sp ⟨2, ![m, 256]⟩ .f32) (f : v.ty.Contents (Elt Ideal)) {off : Fin 2 → ℕ} {o : ℕ}
    (inb : ∀ i, off i + (![256, 128] : Fin 2 → ℕ) i ≤ (⟨2, ![m, 256]⟩ : Shape).size i) (e : off = ![o, 0]) {x : ℕ → ℕ → ℕ → ℝ}
    (h : IsR (a := m) (b := 256) (v.read (Elt Ideal) f) fun s w => x (w / 128) s (w % 128)) :
    IsR (a := 256) (b := 128) (v.readAt (Elt Ideal) (Rect.unit (s := ⟨2, ![m, 256]⟩) off ![256, 128] inb).toLoadRect f) fun s d => x 0 (o + s) d := by
  subst e; rw [View.readAt_unit v f inb rfl inb]; exact h.head0 inb

theorem load1 {sg : RefSig} {κ : Kind} {sp : Space} {m : ℕ} (v : View sg κ sp ⟨2, ![m, 256]⟩ .f32) (f : v.ty.Contents (Elt Ideal)) {off : Fin 2 → ℕ} {o : ℕ}
    (inb : ∀ i, off i + (![256, 128] : Fin 2 → ℕ) i ≤ (⟨2, ![m, 256]⟩ : Shape).size i) (e : off = ![o, 128]) {x : ℕ → ℕ → ℕ → ℝ}
    (h : IsR (a := m) (b := 256) (v.read (Elt Ideal) f) fun s w => x (w / 128) s (w % 128)) :
    IsR (a := 256) (b := 128) (v.readAt (Elt Ideal) (Rect.unit (s := ⟨2, ![m, 256]⟩) off ![256, 128] inb).toLoadRect f) fun s d => x 1 (o + s) d := by
  subst e; rw [View.readAt_unit v f inb rfl inb]; exact h.head1 inb

theorem load_at {sg : RefSig} {κ : Kind} {sp : Space} {m : ℕ} (v : View sg κ sp ⟨2, ![m, 256]⟩ .f32) (f : v.ty.Contents (Elt Ideal)) {off : Fin 2 → ℕ} {o q : ℕ}
    (inb : ∀ i, off i + (![256, 128] : Fin 2 → ℕ) i ≤ (⟨2, ![m, 256]⟩ : Shape).size i) (e : off = ![o, q]) {x : ℕ → ℕ → ℝ}
    (h : IsR (a := m) (b := 256) (v.read (Elt Ideal) f) x) :
    IsR (a := 256) (b := 128) (v.readAt (Elt Ideal) (Rect.unit (s := ⟨2, ![m, 256]⟩) off ![256, 128] inb).toLoadRect f) fun i j => x (o + i) (q + j) := by
  subst e; rw [View.readAt_unit v f inb rfl inb]; exact h.window inb

theorem load_second {sg : RefSig} {κ : Kind} {sp : Space} {m : ℕ} (v : View sg κ sp ⟨2, ![m, 256]⟩ .f32) (f : v.ty.Contents (Elt Ideal)) (L : List (View.Piece (Elt Ideal) ⟨2, ![m, 256]⟩ .f32))
    {off off' : Fin 2 → ℕ} {o : ℕ}
    (inb : ∀ i, off i + (![256, 128] : Fin 2 → ℕ) i ≤ (⟨2, ![m, 256]⟩ : Shape).size i) (e : off = ![o, 0])
    (inb' : ∀ i, off' i + (![256, 128] : Fin 2 → ℕ) i ≤ (⟨2, ![m, 256]⟩ : Shape).size i) (e' : off' = ![o, 128]) {x y : ℕ → ℕ → ℝ}
    {Y0 : (⟨2, ![256, 128]⟩ : Shape).Idx → EReal}
    (h : IsR (a := m) (b := 256) (v.read (Elt Ideal) (v.writes (Elt Ideal) f L)) x) (h0 : IsR Y0 y) :
    IsR (a := 256) (b := 128) (v.readAt (Elt Ideal) (Rect.unit (s := ⟨2, ![m, 256]⟩) off' ![256, 128] inb').toLoadRect
      (v.writes (Elt Ideal) f (⟨Rect.unit (s := ⟨2, ![m, 256]⟩) off ![256, 128] inb, Y0⟩ :: L))) fun i j => x (o + i) (128 + j) := by
  subst e e'
  rw [View.readAt_unit v _ inb' rfl inb', View.read_writes_cons_put v f inb Y0 L rfl]
  exact is_second h h0 inb'

theorem store_both {sg : RefSig} {κ : Kind} {sp : Space} {m : ℕ} (v : View sg κ sp ⟨2, ![m, 256]⟩ .f32) (f : v.ty.Contents (Elt Ideal)) (L : List (View.Piece (Elt Ideal) ⟨2, ![m, 256]⟩ .f32))
    {off off' : Fin 2 → ℕ} {o : ℕ}
    (inb : ∀ i, off i + (![256, 128] : Fin 2 → ℕ) i ≤ (⟨2, ![m, 256]⟩ : Shape).size i) (e : off = ![o, 0])
    (inb' : ∀ i, off' i + (![256, 128] : Fin 2 → ℕ) i ≤ (⟨2, ![m, 256]⟩ : Shape).size i) (e' : off' = ![o, 128]) {x : ℕ → ℕ → ℝ} {δ : ℕ → ℕ → ℕ → ℝ}
    {Y0 Y1 : (⟨2, ![256, 128]⟩ : Shape).Idx → EReal}
    (h : IsR (a := m) (b := 256) (v.read (Elt Ideal) (v.writes (Elt Ideal) f L)) x)
    (h0 : IsR Y0 fun i j => x (o + i) (0 + j) + δ 0 i j) (h1 : IsR Y1 fun i j => x (o + i) (128 + j) + δ 1 i j) :
    IsR (a := m) (b := 256) (v.read (Elt Ideal) (v.writes (Elt Ideal) f (⟨Rect.unit (s := ⟨2, ![m, 256]⟩) off' ![256, 128] inb', Y1⟩ ::
      ⟨Rect.unit (s := ⟨2, ![m, 256]⟩) off ![256, 128] inb, Y0⟩ :: L)))
      fun i j => x i j + if o ≤ i ∧ i < o + 256 then δ (j / 128) (i - o) (j % 128) else 0 := by
  subst e e'
  rw [View.read_writes_cons_put v f inb' Y1 _ rfl, View.read_writes_cons_put v f inb Y0 L rfl]
  exact is_put2 h h0 h1

/-- A block of rows added to the rows before it. -/
theorem tile_add (p : ℝ) (f : ℕ → ℝ) (s k : ℕ) :
    p + (if s < 256 * k then f s else 0) + (if 256 * k ≤ s ∧ s < 256 * k + 256 then f (256 * k + (s - 256 * k)) else 0)
      = p + if s < 256 * (k + 1) then f s else 0 := by
  rcases Nat.lt_or_ge s (256 * k) with h | h
  · rw [if_pos h, if_neg (by omega), if_pos (by omega), add_zero]
  · rw [if_neg (by omega), add_zero, Nat.add_sub_cancel' h]
    by_cases h' : s < 256 * k + 256
    · rw [if_pos ⟨h, h'⟩, if_pos (by omega)]
    · rw [if_neg (fun e => h' e.2), if_neg (by omega)]

/-- The logs of the next block, first head. -/
theorem next_given {H : Hd} {B C : ℕ} {T R G R' G' : FVec Ideal S256x1 .f32} {X Y D : FVec Ideal S256x256 .f32} {U W : FVec Ideal S256x256 .bf16}
    {Q K E V : FVec Ideal S256x128 .bf16} {C' : ℕ} (h : Given H B C T U W X Y D R G)
    (hQ : IsR (a := 256) (b := 128) Q fun t d => H.q (B + t) d) (hK : IsR (a := 256) (b := 128) K fun s d => H.k (C' + s) d)
    (hE : IsR (a := 256) (b := 128) E fun t d => H.dy (B + t) d) (hV : IsR (a := 256) (b := 128) V fun s d => H.v (C' + s) d)
    (hR : IsR R' fun t _ => ∑ j ∈ Finset.range C', H.rm (B + t) j) (hG : IsR G' fun t _ => ∑ j ∈ Finset.range C', H.g (B + t) j) :
    Given H B C' T U W (k0_pay12 Q K) (k0_pay13 Q K) (k0_pay19 E V) R' G' :=
  ⟨h.hT, h.hU, h.hW, is_lb (is_z hQ hK), is_lr (is_z hQ hK), is_da hE hV, hR, hG⟩

variable (𝒱 : Variants) (c : Dev nD) (bd : Option 𝒱.V) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S2x256x1 .f32) (harg6 : arg6.IsWhole) (arg7 : Memref sig .tc .vmem S256x256 .f32) (harg7 : arg7.IsWhole) (arg8 : Memref sig .tc .vmem S4096x256 .f32) (harg8 : arg8.IsWhole) (arg9 : Memref sig .tc .vmem S4096x256 .f32) (harg9 : arg9.IsWhole) (arg1 : BitVec 32) (v4 : FVec Ideal S256x128 .bf16) (v6 : FVec Ideal S256x128 .bf16) (v8 : FVec Ideal S256x128 .bf16) (v10 : FVec Ideal S256x128 .bf16) (v12 : FVec Ideal S256x1 .f32) (v14 : FVec Ideal S256x1 .f32) (v20 : FVec Ideal S256x256 .bf16) (v24 : FVec Ideal S256x256 .bf16) (v27 : FVec Ideal S256x1 .f32) (v28 : FVec Ideal S256x1 .f32) (v46 : FVec Ideal S256x256 .f32) (v47 : FVec Ideal S256x256 .f32) (v63 : FVec Ideal S256x256 .f32) (v64 : FVec Ideal S256x256 .f32) (v68 : FVec Ideal S256x256 .f32) (v72 : FVec Ideal S256x256 .f32) (c0_i32_33 : BitVec 32) (v73 : BitVec 32) (c1_i32_34 : BitVec 32) (X_arg3 : BufTy.Contents (Elt Ideal) arg3.view.ty) (X_arg4 : BufTy.Contents (Elt Ideal) arg4.view.ty)

/-- One pass. -/
theorem trip_inv {H : ℕ → Hd} {p8 p9 : ℕ → ℕ → ℝ} (k : Fin (k0_t1_loop i).trips) (acc : Carried)
    (f7 : BufTy.Contents (Elt Ideal) arg7.view.ty) (f8 : BufTy.Contents (Elt Ideal) arg8.view.ty) (f9 : BufTy.Contents (Elt Ideal) arg9.view.ty)
    (hb : Blocks H (256 * qb i) v4 v6 v8 v10 (arg3.view.read (Elt Ideal) X_arg3) (arg4.view.read (Elt Ideal) X_arg4))
    (h : Inv H (256 * qb i) k.val p8 p9 v12 v14 v20 v24 acc (arg7.view.read (Elt Ideal) f7) (arg8.view.read (Elt Ideal) f8) (arg9.view.read (Elt Ideal) f9)) :
    Inv H (256 * qb i) (k.val + 1) p8 p9 v12 v14 v20 v24
      (tripR_k0_t1 (F := Ideal) 𝒱 c bd i arg2 harg2 arg3 harg3 arg4 harg4 arg5 harg5 arg6 harg6 arg7 harg7 arg8 harg8 arg9 harg9 arg1 v4 v6 v8 v10 v12 v14 v20 v24 v27 v28 v46 v47 v63 v64 v68 v72 c0_i32_33 v73 c1_i32_34 X_arg3 X_arg4 k acc f7 f8 f9)
      (arg7.view.read (Elt Ideal) (arg7.view.writes (Elt Ideal) f7 (tripL_k0_t1 (F := Ideal) 𝒱 c bd i arg2 harg2 arg3 harg3 arg4 harg4 arg5 harg5 arg6 harg6 arg7 harg7 arg8 harg8 arg9 harg9 arg1 v4 v6 v8 v10 v12 v14 v20 v24 v27 v28 v46 v47 v63 v64 v68 v72 c0_i32_33 v73 c1_i32_34 X_arg3 X_arg4 k acc f7 f8 f9).1))
      (arg8.view.read (Elt Ideal) (arg8.view.writes (Elt Ideal) f8 (tripL_k0_t1 (F := Ideal) 𝒱 c bd i arg2 harg2 arg3 harg3 arg4 harg4 arg5 harg5 arg6 harg6 arg7 harg7 arg8 harg8 arg9 harg9 arg1 v4 v6 v8 v10 v12 v14 v20 v24 v27 v28 v46 v47 v63 v64 v68 v72 c0_i32_33 v73 c1_i32_34 X_arg3 X_arg4 k acc f7 f8 f9).2.1))
      (arg9.view.read (Elt Ideal) (arg9.view.writes (Elt Ideal) f9 (tripL_k0_t1 (F := Ideal) 𝒱 c bd i arg2 harg2 arg3 harg3 arg4 harg4 arg5 harg5 arg6 harg6 arg7 harg7 arg8 harg8 arg9 harg9 arg1 v4 v6 v8 v10 v12 v14 v20 v24 v27 v28 v46 v47 v63 v64 v68 v72 c0_i32_33 v73 c1_i32_34 X_arg3 X_arg4 k acc f7 f8 f9).2.2)) := by
  have hk := trip_lt i k
  have hC : 256 * k.val + 256 ≤ 256 * qb i := by omega
  have e1 := off1_eq i k
  have e2 := off2_eq i k
  have e3 := off3_eq i k
  have e4 := off4_eq i k
  have a0 := off_a h.g0 hC
  have a1 := off_a h.g1 hC
  have z0 := off_dz h.g0 hC
  have z1 := off_dz h.g1 hC
  have r0 := off_rest h.g0 hC
  have r1 := off_rest h.g1 hC
  have l0 := off_left h.g0 hC
  have l1 := off_left h.g1 hC
  rw [show 256 * k.val + 256 = 256 * (k.val + 1) by omega] at r0 r1 l0 l1
  have K3 := load0_b arg3.view X_arg3 (k0_off3_inb i k) e3 (x := fun e => (H e).k) hb.hK
  have K4 := load1_b arg3.view X_arg3 (k0_off4_inb i k) e4 (x := fun e => (H e).k) hb.hK
  have V3 := load0_b arg4.view X_arg4 (k0_off3_inb i k) e3 (x := fun e => (H e).v) hb.hV
  have V4 := load1_b arg4.view X_arg4 (k0_off4_inb i k) e4 (x := fun e => (H e).v) hb.hV
  have K1 := load0_b arg3.view X_arg3 (k0_off1_inb i k) e1 (x := fun e => (H e).k) hb.hK
  have K2 := load1_b arg3.view X_arg3 (k0_off2_inb i k) e2 (x := fun e => (H e).k) hb.hK
  unfold tripR_k0_t1 tripL_k0_t1 trip_k0_t1
  dsimp only
  have n0 := next_given h.g0 hb.q0 K3 hb.y0 V3 r0 l0
  have n1 := next_given h.g1 hb.q1 K4 hb.y1 V4 r1 l1
  clear r0 r1 l0 l1
  refine ⟨n0, n1, ?_, ?_, ?_⟩
  · have s0 := load_at arg7.view f7 inb_S256x256_S256x128_0_0 rfl h.h7
    have Y0 := is_nn z0 K1 s0
    have s1 := load_at arg7.view f7 inb_S256x256_S256x128_0_128 rfl h.h7
    have Y1 := is_nn z1 K2 s1
    have e := store_both arg7.view f7 [] inb_S256x256_S256x128_0_0 rfl inb_S256x256_S256x128_0_128 rfl h.h7
      (δ := fun e t d => ∑ s ∈ Finset.range 256, (H e).dz (256 * qb i + t) (256 * k.val + s) * (H e).k (256 * k.val + s) d) Y0 Y1
    refine IsR.congr e fun t w ht hw => ?_
    rw [if_pos (by omega), Nat.sub_zero, sum_tile (fun s => (H (w / 128)).dz (256 * qb i + t) s * (H (w / 128)).k s (w % 128))]
    rfl
  · have s0 := load_at arg8.view f8 (k0_off1_inb i k) e1 h.h8
    have Y0 := is_tn z0 hb.q0 s0
    have s1 := load_at arg8.view f8 (k0_off2_inb i k) e2 h.h8
    have Y1 := is_tn z1 hb.q1 s1
    have e := store_both arg8.view f8 [] (k0_off1_inb i k) e1 (k0_off2_inb i k) e2 h.h8
      (δ := fun e j d => ∑ t ∈ Finset.range 256, (H e).dz (256 * qb i + t) (256 * k.val + j) * (H e).q (256 * qb i + t) d) Y0 Y1
    refine IsR.congr e fun s w hs hw => ?_
    exact tile_add _ (fun s => ∑ t ∈ Finset.range 256, (H (w / 128)).dz (256 * qb i + t) s * (H (w / 128)).q (256 * qb i + t) (w % 128)) s k.val
  · have s0 := load_at arg9.view f9 (k0_off1_inb i k) e1 h.h9
    have Y0 := is_tn a0 hb.y0 s0
    have s1 := load_at arg9.view f9 (k0_off2_inb i k) e2 h.h9
    have Y1 := is_tn a1 hb.y1 s1
    have e := store_both arg9.view f9 [] (k0_off1_inb i k) e1 (k0_off2_inb i k) e2 h.h9
      (δ := fun e j d => ∑ t ∈ Finset.range 256, (H e).a (256 * qb i + t) (256 * k.val + j) * (H e).dy (256 * qb i + t) d) Y0 Y1
    refine IsR.congr e fun s w hs hw => ?_
    exact tile_add _ (fun s => ∑ t ∈ Finset.range 256, (H (w / 128)).a (256 * qb i + t) s * (H (w / 128)).dy (256 * qb i + t) (w % 128)) s k.val

/-- The whole loop. -/
theorem loop_inv {H : ℕ → Hd} {p8 p9 : ℕ → ℕ → ℝ}
    (G7 : BufTy.Contents (Elt Ideal) arg7.view.ty) (G8 : BufTy.Contents (Elt Ideal) arg8.view.ty) (G9 : BufTy.Contents (Elt Ideal) arg9.view.ty) (init : Carried)
    (hb : Blocks H (256 * qb i) v4 v6 v8 v10 (arg3.view.read (Elt Ideal) X_arg3) (arg4.view.read (Elt Ideal) X_arg4))
    (h : Inv H (256 * qb i) 0 p8 p9 v12 v14 v20 v24 init (arg7.view.read (Elt Ideal) G7) (arg8.view.read (Elt Ideal) G8) (arg9.view.read (Elt Ideal) G9)) :
    ∀ n ≤ (k0_t1_loop i).trips, Inv H (256 * qb i) n p8 p9 v12 v14 v20 v24
      (st_k0_t1 (F := Ideal) 𝒱 c bd i arg2 harg2 arg3 harg3 arg4 harg4 arg5 harg5 arg6 harg6 arg7 harg7 arg8 harg8 arg9 harg9 arg1 v4 v6 v8 v10 v12 v14 v20 v24 v27 v28 v46 v47 v63 v64 v68 v72 c0_i32_33 v73 c1_i32_34 X_arg3 X_arg4 G7 G8 G9 init n).1
      (arg7.view.read (Elt Ideal) (arg7.view.writes (Elt Ideal) G7 (st_k0_t1 (F := Ideal) 𝒱 c bd i arg2 harg2 arg3 harg3 arg4 harg4 arg5 harg5 arg6 harg6 arg7 harg7 arg8 harg8 arg9 harg9 arg1 v4 v6 v8 v10 v12 v14 v20 v24 v27 v28 v46 v47 v63 v64 v68 v72 c0_i32_33 v73 c1_i32_34 X_arg3 X_arg4 G7 G8 G9 init n).2.1))
      (arg8.view.read (Elt Ideal) (arg8.view.writes (Elt Ideal) G8 (st_k0_t1 (F := Ideal) 𝒱 c bd i arg2 harg2 arg3 harg3 arg4 harg4 arg5 harg5 arg6 harg6 arg7 harg7 arg8 harg8 arg9 harg9 arg1 v4 v6 v8 v10 v12 v14 v20 v24 v27 v28 v46 v47 v63 v64 v68 v72 c0_i32_33 v73 c1_i32_34 X_arg3 X_arg4 G7 G8 G9 init n).2.2.1))
      (arg9.view.read (Elt Ideal) (arg9.view.writes (Elt Ideal) G9 (st_k0_t1 (F := Ideal) 𝒱 c bd i arg2 harg2 arg3 harg3 arg4 harg4 arg5 harg5 arg6 harg6 arg7 harg7 arg8 harg8 arg9 harg9 arg1 v4 v6 v8 v10 v12 v14 v20 v24 v27 v28 v46 v47 v63 v64 v68 v72 c0_i32_33 v73 c1_i32_34 X_arg3 X_arg4 G7 G8 G9 init n).2.2.2))
  | 0, _ => h
  | n + 1, hn => by
    have ih := loop_inv G7 G8 G9 init hb h n (Nat.le_of_succ_le hn)
    rw [st_k0_t1_succ (k := ⟨n, hn⟩)]
    dsimp only
    rw [View.writes_append, View.writes_append, View.writes_append]
    exact trip_inv (k := ⟨n, hn⟩) (hb := hb) (h := ih) ..

end Sb

end
-- ==== Proof.Diag.lean ====
/- The step on the diagonal, after the loop, and what the loop starts from. -/
module

public import proofs.«01_k».proof.Proof.Trip

@[expose] public section

set_option maxRecDepth 16384
set_option maxHeartbeats 4000000

noncomputable section

namespace Sb

open Idealize.ShloMosaic Idealize.ShloMosaic.TcCoe Cert.KernelIdeal Cert.KernelIdeal.Gen
open scoped BigOperators

/-! ## The stores of the diagonal step -/

/-- The mask of the diagonal block. -/
abbrev mk (i : grid0.Coords) : IVec S256x256 1 := k0_pay82 (BitVec.ofNat 32 (i 1).val)

/-- The second head's exponents. -/
abbrev ex1 (i : grid0.Coords) (T : FVec Ideal S256x1 .f32) (U : FVec Ideal S256x256 .bf16) (acc : Carried) : FVec Ideal S256x256 .f32 :=
  k0_pay84 (BitVec.ofNat 32 (i 1).val) T U acc.2.2.2.1 acc.2.2.2.2.1 acc.2.2.2.2.2.2.2.1

/-- The first head's unmasked weights. -/
abbrev ex0 (i : grid0.Coords) (T : FVec Ideal S256x1 .f32) (U : FVec Ideal S256x256 .bf16) (acc : Carried) : FVec Ideal S256x256 .f32 :=
  k0_pay83 (BitVec.ofNat 32 (i 1).val) T U acc.1 acc.2.1 acc.2.2.2.2.2.2.1

/-- The first head's cotangent of the logits. -/
abbrev dz0 (i : grid0.Coords) (T : FVec Ideal S256x1 .f32) (U W : FVec Ideal S256x256 .bf16) (acc : Carried) : FVec Ideal S256x256 .f32 :=
  k0_pay92 W acc.1 acc.2.2.1 acc.2.2.2.2.2.2.2.2.1 (mk i) (ex0 i T U acc)

abbrev be1 (i : grid0.Coords) (acc : Carried) : FVec Ideal S256x256 .f32 := k0_pay87 acc.2.2.2.1 (mk i)

abbrev ga1 (i : grid0.Coords) (T : FVec Ideal S256x1 .f32) (U : FVec Ideal S256x256 .bf16) (acc : Carried) : FVec Ideal S256x256 .f32 :=
  k0_pay90 acc.2.2.2.2.2.1 (mk i) (ex1 i T U acc)

abbrev gb1 (i : grid0.Coords) (T : FVec Ideal S256x1 .f32) (U W : FVec Ideal S256x256 .bf16) (acc : Carried) : FVec Ideal S256x256 .f32 :=
  k0_pay91 W acc.2.2.2.2.2.1 acc.2.2.2.2.2.2.2.2.2 (mk i) (ex1 i T U acc)

variable (i : grid0.Coords)

/-- The stores into the query gradient, after the first and after both. -/
def list7 (arg3 : Memref sig .tc .vmem S4096x256 .bf16) (X3 : BufTy.Contents (Elt Ideal) arg3.view.ty) (arg7 : Memref sig .tc .vmem S256x256 .f32)
    (f : BufTy.Contents (Elt Ideal) arg7.view.ty) (T0 : FVec Ideal S256x1 .f32) (U W : FVec Ideal S256x256 .bf16) (acc : Carried)
    (L : List (View.Piece (Elt Ideal) S256x256 .f32)) : List (View.Piece (Elt Ideal) S256x256 .f32) :=
  ⟨Rect.unit ![0, 0] S256x128.size inb_S256x256_S256x128_0_0, k0_pay97 (dz0 i T0 U W acc)
    (arg7.view.readAt (Elt Ideal) (Rect.unit (s := S256x256) ![0, 0] S256x128.size inb_S256x256_S256x128_0_0).toLoadRect (arg7.view.writes (Elt Ideal) f L))
    (arg3.view.readAt (Elt Ideal) (Rect.unit (s := S4096x256) (k0_off9 i) S256x128.size (k0_off9_inb i)).toLoadRect X3)⟩ :: L

def list7' (arg3 : Memref sig .tc .vmem S4096x256 .bf16) (X3 : BufTy.Contents (Elt Ideal) arg3.view.ty) (arg7 : Memref sig .tc .vmem S256x256 .f32)
    (f : BufTy.Contents (Elt Ideal) arg7.view.ty) (T0 T1 : FVec Ideal S256x1 .f32) (U W : FVec Ideal S256x256 .bf16) (acc : Carried)
    (L : List (View.Piece (Elt Ideal) S256x256 .f32)) : List (View.Piece (Elt Ideal) S256x256 .f32) :=
  ⟨Rect.unit ![0, 128] S256x128.size inb_S256x256_S256x128_0_128, k0_pay98 (be1 i acc) (ga1 i T1 U acc) (gb1 i T1 U W acc)
    (arg7.view.readAt (Elt Ideal) (Rect.unit (s := S256x256) ![0, 128] S256x128.size inb_S256x256_S256x128_0_128).toLoadRect
      (arg7.view.writes (Elt Ideal) f (list7 i arg3 X3 arg7 f T0 U W acc L)))
    (arg3.view.readAt (Elt Ideal) (Rect.unit (s := S4096x256) (k0_off10 i) S256x128.size (k0_off10_inb i)).toLoadRect X3)⟩ :: list7 i arg3 X3 arg7 f T0 U W acc L

/-- The stores into the key gradient. -/
def list8 (v4 : FVec Ideal S256x128 .bf16) (arg8 : Memref sig .tc .vmem S4096x256 .f32)
    (f : BufTy.Contents (Elt Ideal) arg8.view.ty) (T0 : FVec Ideal S256x1 .f32) (U W : FVec Ideal S256x256 .bf16) (acc : Carried)
    (L : List (View.Piece (Elt Ideal) S4096x256 .f32)) : List (View.Piece (Elt Ideal) S4096x256 .f32) :=
  ⟨Rect.unit (k0_off9 i) S256x128.size (k0_off9_inb i), k0_pay95 v4 (dz0 i T0 U W acc)
    (arg8.view.readAt (Elt Ideal) (Rect.unit (s := S4096x256) (k0_off9 i) S256x128.size (k0_off9_inb i)).toLoadRect (arg8.view.writes (Elt Ideal) f L))⟩ :: L

def list8' (v4 v6 : FVec Ideal S256x128 .bf16) (arg8 : Memref sig .tc .vmem S4096x256 .f32)
    (f : BufTy.Contents (Elt Ideal) arg8.view.ty) (T0 T1 : FVec Ideal S256x1 .f32) (U W : FVec Ideal S256x256 .bf16) (acc : Carried)
    (L : List (View.Piece (Elt Ideal) S4096x256 .f32)) : List (View.Piece (Elt Ideal) S4096x256 .f32) :=
  ⟨Rect.unit (k0_off10 i) S256x128.size (k0_off10_inb i), k0_pay96 v6 (be1 i acc) (ga1 i T1 U acc) (gb1 i T1 U W acc)
    (arg8.view.readAt (Elt Ideal) (Rect.unit (s := S4096x256) (k0_off10 i) S256x128.size (k0_off10_inb i)).toLoadRect
      (arg8.view.writes (Elt Ideal) f (list8 i v4 arg8 f T0 U W acc L)))⟩ :: list8 i v4 arg8 f T0 U W acc L

/-- The stores into the value gradient. -/
def list9 (v8 : FVec Ideal S256x128 .bf16) (arg9 : Memref sig .tc .vmem S4096x256 .f32)
    (f : BufTy.Contents (Elt Ideal) arg9.view.ty) (T0 : FVec Ideal S256x1 .f32) (U : FVec Ideal S256x256 .bf16) (acc : Carried)
    (L : List (View.Piece (Elt Ideal) S4096x256 .f32)) : List (View.Piece (Elt Ideal) S4096x256 .f32) :=
  ⟨Rect.unit (k0_off9 i) S256x128.size (k0_off9_inb i), k0_pay88 v8 (mk i) (ex0 i T0 U acc)
    (arg9.view.readAt (Elt Ideal) (Rect.unit (s := S4096x256) (k0_off9 i) S256x128.size (k0_off9_inb i)).toLoadRect (arg9.view.writes (Elt Ideal) f L))⟩ :: L

def list9' (v8 v10 : FVec Ideal S256x128 .bf16) (arg9 : Memref sig .tc .vmem S4096x256 .f32)
    (f : BufTy.Contents (Elt Ideal) arg9.view.ty) (T0 T1 : FVec Ideal S256x1 .f32) (U : FVec Ideal S256x256 .bf16) (acc : Carried)
    (L : List (View.Piece (Elt Ideal) S4096x256 .f32)) : List (View.Piece (Elt Ideal) S4096x256 .f32) :=
  ⟨Rect.unit (k0_off10 i) S256x128.size (k0_off10_inb i), k0_pay89 v10 (mk i) (ex1 i T1 U acc)
    (arg9.view.readAt (Elt Ideal) (Rect.unit (s := S4096x256) (k0_off10 i) S256x128.size (k0_off10_inb i)).toLoadRect
      (arg9.view.writes (Elt Ideal) f (list9 i v8 arg9 f T0 U acc L)))⟩ :: list9 i v8 arg9 f T0 U acc L

/-! ## What they leave -/

/-- The query gradient, the key gradient and the value gradient of a pair of heads after a query block. -/
structure After (H : ℕ → Hd) (q : ℕ) (p8 p9 : ℕ → ℕ → ℝ) (m7 : S256x256.Idx → EReal) (m8 m9 : S4096x256.Idx → EReal) : Prop where
  h7 : IsR (a := 256) (b := 256) m7 fun t w => ∑ s ∈ Finset.range (256 * (q + 1)), (H (w / 128)).dz (256 * q + t) s * (H (w / 128)).k s (w % 128)
  h8 : IsR (a := 4096) (b := 256) m8 fun s w => p8 s w + if s < 256 * (q + 1) then ∑ t ∈ Finset.range 256, (H (w / 128)).dz (256 * q + t) s * (H (w / 128)).q (256 * q + t) (w % 128) else 0
  h9 : IsR (a := 4096) (b := 256) m9 fun s w => p9 s w + if s < 256 * (q + 1) then ∑ t ∈ Finset.range 256, (H (w / 128)).a (256 * q + t) s * (H (w / 128)).dy (256 * q + t) (w % 128) else 0

theorem diag_after {H : ℕ → Hd} {p8 p9 : ℕ → ℕ → ℝ} {v4 v6 v8 v10 : FVec Ideal S256x128 .bf16} {arg3 arg4 : Memref sig .tc .vmem S4096x256 .bf16}
    {X3 : BufTy.Contents (Elt Ideal) arg3.view.ty} {X4 : BufTy.Contents (Elt Ideal) arg4.view.ty}
    (arg7 : Memref sig .tc .vmem S256x256 .f32) (arg8 arg9 : Memref sig .tc .vmem S4096x256 .f32)
    (f7 : BufTy.Contents (Elt Ideal) arg7.view.ty) (f8 : BufTy.Contents (Elt Ideal) arg8.view.ty) (f9 : BufTy.Contents (Elt Ideal) arg9.view.ty)
    (L7 : List (View.Piece (Elt Ideal) S256x256 .f32)) (L8 L9 : List (View.Piece (Elt Ideal) S4096x256 .f32))
    {T0 T1 : FVec Ideal S256x1 .f32} {U W : FVec Ideal S256x256 .bf16} {acc : Carried}
    (hb : Blocks H (256 * qb i) v4 v6 v8 v10 (arg3.view.read (Elt Ideal) X3) (arg4.view.read (Elt Ideal) X4))
    (h : Inv H (256 * qb i) (qb i) p8 p9 T0 T1 U W acc (arg7.view.read (Elt Ideal) (arg7.view.writes (Elt Ideal) f7 L7))
      (arg8.view.read (Elt Ideal) (arg8.view.writes (Elt Ideal) f8 L8)) (arg9.view.read (Elt Ideal) (arg9.view.writes (Elt Ideal) f9 L9))) :
    After H (qb i) p8 p9
      (arg7.view.read (Elt Ideal) (arg7.view.writes (Elt Ideal) f7 (list7' i arg3 X3 arg7 f7 T0 T1 U W acc L7)))
      (arg8.view.read (Elt Ideal) (arg8.view.writes (Elt Ideal) f8 (list8' i v4 v6 arg8 f8 T0 T1 U W acc L8)))
      (arg9.view.read (Elt Ideal) (arg9.view.writes (Elt Ideal) f9 (list9' i v8 v10 arg9 f9 T0 T1 U acc L9))) := by
  have hn := qb_lt i
  have e1 := off9_eq i
  have e2 := off10_eq i
  have a0 := diag_a hn h.g0
  have a1 := diag_a1 hn h.g1
  have z0 := diag_dz0 hn h.g0
  have z1 := diag_dz1 hn h.g1
  have K1 := load0_b arg3.view X3 (k0_off9_inb i) e1 (x := fun e => (H e).k) hb.hK
  have K2 := load1_b arg3.view X3 (k0_off10_inb i) e2 (x := fun e => (H e).k) hb.hK
  refine ⟨?_, ?_, ?_⟩
  · have s0 := load_at arg7.view (arg7.view.writes (Elt Ideal) f7 L7) inb_S256x256_S256x128_0_0 rfl h.h7
    have Y0 := is_nn z0 K1 s0
    have s1 := load_second arg7.view f7 L7 inb_S256x256_S256x128_0_0 rfl inb_S256x256_S256x128_0_128 rfl h.h7 Y0
    have Y1 := is_nn z1 K2 s1
    have e := store_both arg7.view f7 L7 inb_S256x256_S256x128_0_0 rfl inb_S256x256_S256x128_0_128 rfl h.h7
      (δ := fun e t d => ∑ s ∈ Finset.range 256, (H e).dz (256 * qb i + t) (256 * qb i + s) * (H e).k (256 * qb i + s) d) Y0 Y1
    refine IsR.congr e fun t w ht hw => ?_
    rw [if_pos (by omega), Nat.sub_zero, sum_tile (fun s => (H (w / 128)).dz (256 * qb i + t) s * (H (w / 128)).k s (w % 128))]
    rfl
  · have s0 := load_at arg8.view (arg8.view.writes (Elt Ideal) f8 L8) (k0_off9_inb i) e1 h.h8
    have Y0 := is_tn z0 hb.q0 s0
    have s1 := load_second arg8.view f8 L8 (k0_off9_inb i) e1 (k0_off10_inb i) e2 h.h8 Y0
    have Y1 := is_tn z1 hb.q1 s1
    have e := store_both arg8.view f8 L8 (k0_off9_inb i) e1 (k0_off10_inb i) e2 h.h8
      (δ := fun e j d => ∑ t ∈ Finset.range 256, (H e).dz (256 * qb i + t) (256 * qb i + j) * (H e).q (256 * qb i + t) d) Y0 Y1
    refine IsR.congr e fun s w hs hw => ?_
    exact tile_add _ (fun s => ∑ t ∈ Finset.range 256, (H (w / 128)).dz (256 * qb i + t) s * (H (w / 128)).q (256 * qb i + t) (w % 128)) s (qb i)
  · have s0 := load_at arg9.view (arg9.view.writes (Elt Ideal) f9 L9) (k0_off9_inb i) e1 h.h9
    have Y0 := is_tn a0 hb.y0 s0
    have s1 := load_second arg9.view f9 L9 (k0_off9_inb i) e1 (k0_off10_inb i) e2 h.h9 Y0
    have Y1 := is_tn a1 hb.y1 s1
    have e := store_both arg9.view f9 L9 (k0_off9_inb i) e1 (k0_off10_inb i) e2 h.h9
      (δ := fun e j d => ∑ t ∈ Finset.range 256, (H e).a (256 * qb i + t) (256 * qb i + j) * (H e).dy (256 * qb i + t) d) Y0 Y1
    refine IsR.congr e fun s w hs hw => ?_
    exact tile_add _ (fun s => ∑ t ∈ Finset.range 256, (H (w / 128)).a (256 * qb i + t) s * (H (w / 128)).dy (256 * qb i + t) (w % 128)) s (qb i)

/-! ## What the loop starts from -/

/-- What a grid point reads: its blocks of queries, keys, values, cotangents and totals, for the pair of heads `H`. -/
structure PointIn (H : ℕ → Hd) (B : ℕ) (x0 : S256x256.Idx → EReal) (x1 x2 : S4096x256.Idx → EReal) (x3 : S256x256.Idx → EReal)
    (x4 : S2x256x1.Idx → EReal) : Prop where
  hq : IsR (a := 256) (b := 256) x0 fun t w => (H (w / 128)).q (B + t) (w % 128)
  hk : IsR (a := 4096) (b := 256) x1 fun s w => (H (w / 128)).k s (w % 128)
  hv : IsR (a := 4096) (b := 256) x2 fun s w => (H (w / 128)).v s (w % 128)
  hy : IsR (a := 256) (b := 256) x3 fun t w => (H (w / 128)).dy (B + t) (w % 128)
  ht : ∀ (e : Fin 2) (t : Fin 256), x4 (ix3 e t 0) = (((H e.val).tot (B + t.val) : ℝ) : EReal)

theorem is_cast {V : FVec Ideal S256x128 .bf16} {v : ℕ → ℕ → ℝ} (h : IsR V v) : IsR (a := 256) (b := 128) (k0_pay51 (F := Ideal) V) v := by
  intro t s
  pointwise [k0_pay51]
  exact h t s

theorem is_zero7 : IsR (a := 256) (b := 256) (k0_pay59 (F := Ideal)) fun _ _ => 0 := by
  intro t s
  pointwise [k0_pay59]
  rfl

theorem is_zero8 : IsR (a := 4096) (b := 256) (k0_pay49 (F := Ideal)) fun _ _ => 0 := by
  intro t s
  pointwise [k0_pay49]
  rfl

theorem is_zero1 : IsR (a := 256) (b := 1) (k0_pay60 (F := Ideal)) fun _ _ => 0 := by
  intro t s
  pointwise [k0_pay60]
  rfl

theorem is_tot {H : Hd} {B : ℕ} {V : FVec Ideal S1x256x1 .f32} (h : ∀ t : Fin 256, V (ix3 0 t 0) = ((H.tot (B + t.val) : ℝ) : EReal)) :
    IsR (a := 256) (b := 1) (k0_pay55 (F := Ideal) V) fun t _ => H.tot (B + t) := by
  intro t s
  obtain rfl : s = 0 := Subsingleton.elim _ _
  pointwise [k0_pay55]
  exact h t

end Sb

end
-- ==== Proof.Point.lean ====
/- One grid point: the blocks it reads, the loop and the diagonal step put together. -/
module

public import proofs.«01_k».proof.Proof.Diag

@[expose] public section

set_option maxRecDepth 16384
set_option maxHeartbeats 4000000

noncomputable section

namespace Sb

open Idealize.ShloMosaic Idealize.ShloMosaic.TcCoe Cert.KernelIdeal Cert.KernelIdeal.Gen
open scoped BigOperators

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S2x256x1 .f32) (harg6 : arg6.IsWhole) (arg7 : Memref sig .tc .vmem S256x256 .f32) (harg7 : arg7.IsWhole) (arg8 : Memref sig .tc .vmem S4096x256 .f32) (harg8 : arg8.IsWhole) (arg9 : Memref sig .tc .vmem S4096x256 .f32) (harg9 : arg9.IsWhole)
  (x0 : Vec Ideal S256x256 .bf16) (x1 x2 : Vec Ideal S4096x256 .bf16) (x3 : Vec Ideal S256x256 .f32) (x4 : Vec Ideal S2x256x1 .f32)

/-! ## The blocks, head by head -/

def q0 : FVec Ideal S256x128 .bf16 := k0_pay51 (arg2.view.readAt (Elt Ideal) (Rect.unit (s := S256x256) ![0, 0] S256x128.size inb_S256x256_S256x128_0_0).toLoadRect (harg2.unread x0))
def q1 : FVec Ideal S256x128 .bf16 := k0_pay52 (arg2.view.readAt (Elt Ideal) (Rect.unit (s := S256x256) ![0, 128] S256x128.size inb_S256x256_S256x128_0_128).toLoadRect (harg2.unread x0))
def y0 : FVec Ideal S256x128 .bf16 := k0_pay53 (arg5.view.readAt (Elt Ideal) (Rect.unit (s := S256x256) ![0, 0] S256x128.size inb_S256x256_S256x128_0_0).toLoadRect (harg5.unread x3))
def y1 : FVec Ideal S256x128 .bf16 := k0_pay54 (arg5.view.readAt (Elt Ideal) (Rect.unit (s := S256x256) ![0, 128] S256x128.size inb_S256x256_S256x128_0_128).toLoadRect (harg5.unread x3))
def t0 : FVec Ideal S256x1 .f32 := k0_pay55 (arg6.view.readAt (Elt Ideal) (Rect.unit (s := S2x256x1) ![0, 0, 0] S1x256x1.size inb_S2x256x1_S1x256x1_0_0_0).toLoadRect (harg6.unread x4))
def t1 : FVec Ideal S256x1 .f32 := k0_pay56 (arg6.view.readAt (Elt Ideal) (Rect.unit (s := S2x256x1) ![1, 0, 0] S1x256x1.size inb_S2x256x1_S1x256x1_1_0_0).toLoadRect (harg6.unread x4))

/-- What the loop starts from. -/
def start : Carried :=
  (k0_pay63 (q0 arg2 harg2 x0) (arg3.view.readAt (Elt Ideal) (Rect.unit (s := S4096x256) ![0, 0] S256x128.size inb_S4096x256_S256x128_0_0).toLoadRect (harg3.unread x1)),
   k0_pay64 (q0 arg2 harg2 x0) (arg3.view.readAt (Elt Ideal) (Rect.unit (s := S4096x256) ![0, 0] S256x128.size inb_S4096x256_S256x128_0_0).toLoadRect (harg3.unread x1)),
   k0_pay68 (y0 arg5 harg5 x3) (arg4.view.readAt (Elt Ideal) (Rect.unit (s := S4096x256) ![0, 0] S256x128.size inb_S4096x256_S256x128_0_0).toLoadRect (harg4.unread x2)),
   k0_pay66 (q1 arg2 harg2 x0) (arg3.view.readAt (Elt Ideal) (Rect.unit (s := S4096x256) ![0, 128] S256x128.size inb_S4096x256_S256x128_0_128).toLoadRect (harg3.unread x1)),
   k0_pay67 (q1 arg2 harg2 x0) (arg3.view.readAt (Elt Ideal) (Rect.unit (s := S4096x256) ![0, 128] S256x128.size inb_S4096x256_S256x128_0_128).toLoadRect (harg3.unread x1)),
   k0_pay69 (y1 arg5 harg5 x3) (arg4.view.readAt (Elt Ideal) (Rect.unit (s := S4096x256) ![0, 128] S256x128.size inb_S4096x256_S256x128_0_128).toLoadRect (harg4.unread x2)),
   k0_pay60, k0_pay61, k0_pay60, k0_pay61)

/-- The query gradient set to zero. -/
def zero7 : List (View.Piece (Elt Ideal) S256x256 .f32) := [⟨Rect.unit (s := S256x256) ![0, 0] S256x256.size inb_S256x256_S256x256_0_0, k0_pay59 (F := Ideal)⟩]
def zero8 : List (View.Piece (Elt Ideal) S4096x256 .f32) := [⟨Rect.unit (s := S4096x256) ![0, 0] S4096x256.size inb_S4096x256_S4096x256_0_0, k0_pay49 (F := Ideal)⟩]
def zero9 : List (View.Piece (Elt Ideal) S4096x256 .f32) := [⟨Rect.unit (s := S4096x256) ![0, 0] S4096x256.size inb_S4096x256_S4096x256_0_0, k0_pay50 (F := Ideal)⟩]

/-- The loop. -/
def loop1 (G8 : BufTy.Contents (Elt Ideal) arg8.view.ty) (G9 : BufTy.Contents (Elt Ideal) arg9.view.ty) :=
  st_k0_t1 (F := Ideal) Variants.none c none i arg2 harg2 arg3 harg3 arg4 harg4 arg5 harg5 arg6 harg6 arg7 harg7 arg8 harg8 arg9 harg9 (BitVec.ofNat 32 (i 1).val) (q0 arg2 harg2 x0) (q1 arg2 harg2 x0) (y0 arg5 harg5 x3) (y1 arg5 harg5 x3)
    (t0 arg6 harg6 x4) (t1 arg6 harg6 x4) k0_pay57 k0_pay58 k0_pay60 k0_pay61
    (start arg2 harg2 arg3 harg3 arg4 harg4 arg5 harg5 x0 x1 x2 x3).1 (start arg2 harg2 arg3 harg3 arg4 harg4 arg5 harg5 x0 x1 x2 x3).2.1
    (start arg2 harg2 arg3 harg3 arg4 harg4 arg5 harg5 x0 x1 x2 x3).2.2.2.1 (start arg2 harg2 arg3 harg3 arg4 harg4 arg5 harg5 x0 x1 x2 x3).2.2.2.2.1
    (start arg2 harg2 arg3 harg3 arg4 harg4 arg5 harg5 x0 x1 x2 x3).2.2.1 (start arg2 harg2 arg3 harg3 arg4 harg4 arg5 harg5 x0 x1 x2 x3).2.2.2.2.2.1
    0#32 (Scalar.subi (Scalar.muli (BitVec.ofNat 32 (i 1).val) 1#32) 0#32) 1#32 (harg3.unread x1) (harg4.unread x2)
    (arg7.view.writes (Elt Ideal) arg7.view.junk zero7) G8 G9 (start arg2 harg2 arg3 harg3 arg4 harg4 arg5 harg5 x0 x1 x2 x3) (k0_t1_loop i).trips

/-- The loop over the whole groups of key blocks left over: none. -/
def loop2 (w : BitVec 32) (M7 : BufTy.Contents (Elt Ideal) arg7.view.ty) (M8 : BufTy.Contents (Elt Ideal) arg8.view.ty) (M9 : BufTy.Contents (Elt Ideal) arg9.view.ty) (acc : Carried) :=
  st_k0_t2 (F := Ideal) Variants.none c none i arg2 harg2 arg3 harg3 arg4 harg4 arg5 harg5 arg6 harg6 arg7 harg7 arg8 harg8 arg9 harg9 (BitVec.ofNat 32 (i 1).val) (q0 arg2 harg2 x0) (q1 arg2 harg2 x0) (y0 arg5 harg5 x3) (y1 arg5 harg5 x3)
    (t0 arg6 harg6 x4) (t1 arg6 harg6 x4) k0_pay57 k0_pay58 k0_pay60 k0_pay61
    (start arg2 harg2 arg3 harg3 arg4 harg4 arg5 harg5 x0 x1 x2 x3).1 (start arg2 harg2 arg3 harg3 arg4 harg4 arg5 harg5 x0 x1 x2 x3).2.1
    (start arg2 harg2 arg3 harg3 arg4 harg4 arg5 harg5 x0 x1 x2 x3).2.2.2.1 (start arg2 harg2 arg3 harg3 arg4 harg4 arg5 harg5 x0 x1 x2 x3).2.2.2.2.1
    (start arg2 harg2 arg3 harg3 arg4 harg4 arg5 harg5 x0 x1 x2 x3).2.2.1 (start arg2 harg2 arg3 harg3 arg4 harg4 arg5 harg5 x0 x1 x2 x3).2.2.2.2.2.1
    0#32 (Scalar.subi (Scalar.muli (BitVec.ofNat 32 (i 1).val) 1#32) 0#32) 1#32 w (harg3.unread x1) (harg4.unread x2)
    M7 M8 M9 acc (k0_t2_loop i).trips

theorem loop2_eq (w : BitVec 32) (M7 : BufTy.Contents (Elt Ideal) arg7.view.ty) (M8 : BufTy.Contents (Elt Ideal) arg8.view.ty) (M9 : BufTy.Contents (Elt Ideal) arg9.view.ty) (acc : Carried) :
    loop2 c i arg2 harg2 arg3 harg3 arg4 harg4 arg5 harg5 arg6 harg6 arg7 harg7 arg8 harg8 arg9 harg9 x0 x1 x2 x3 x4 w M7 M8 M9 acc = (acc, [], [], []) := by
  unfold loop2
  rw [trips_second]
  rfl

theorem blocks_of {H : ℕ → Hd} {B : ℕ} (h : PointIn H B x0 x1 x2 x3 x4) :
    Blocks H B (q0 arg2 harg2 x0) (q1 arg2 harg2 x0) (y0 arg5 harg5 x3) (y1 arg5 harg5 x3)
      (arg3.view.read (Elt Ideal) (harg3.unread x1)) (arg4.view.read (Elt Ideal) (harg4.unread x2)) := by
  have e2 : IsR (a := 256) (b := 256) (arg2.view.read (Elt Ideal) (harg2.unread x0)) (fun t w => (H (w / 128)).q (B + t) (w % 128)) := by rw [harg2.read_unread]; exact h.hq
  have e5 : IsR (a := 256) (b := 256) (arg5.view.read (Elt Ideal) (harg5.unread x3)) (fun t w => (H (w / 128)).dy (B + t) (w % 128)) := by rw [harg5.read_unread]; exact h.hy
  refine ⟨?_, ?_, ?_, ?_, ?_, ?_⟩
  · exact (is_cast (load0_b arg2.view (harg2.unread x0) inb_S256x256_S256x128_0_0 rfl (x := fun e t d => (H e).q (B + t) d) e2)).congr fun t d _ _ => by rw [Nat.zero_add]
  · exact (is_cast (load1_b arg2.view (harg2.unread x0) inb_S256x256_S256x128_0_128 rfl (x := fun e t d => (H e).q (B + t) d) e2)).congr fun t d _ _ => by rw [Nat.zero_add]
  · exact (load0 arg5.view (harg5.unread x3) inb_S256x256_S256x128_0_0 rfl (x := fun e t d => (H e).dy (B + t) d) e5).congr (X := y0 arg5 harg5 x3) fun t d _ _ => by rw [Nat.zero_add]
  · exact (load1 arg5.view (harg5.unread x3) inb_S256x256_S256x128_0_128 rfl (x := fun e t d => (H e).dy (B + t) d) e5).congr (X := y1 arg5 harg5 x3) fun t d _ _ => by rw [Nat.zero_add]
  · rw [harg3.read_unread]; exact h.hk
  · rw [harg4.read_unread]; exact h.hv

theorem start_inv {H : ℕ → Hd} {p8 p9 : ℕ → ℕ → ℝ} (h : PointIn H (256 * qb i) x0 x1 x2 x3 x4)
    {G8 : S4096x256.Idx → EReal} {G9 : S4096x256.Idx → EReal} (h8 : IsR (a := 4096) (b := 256) G8 p8) (h9 : IsR (a := 4096) (b := 256) G9 p9) :
    Inv H (256 * qb i) 0 p8 p9 (t0 arg6 harg6 x4) (t1 arg6 harg6 x4) k0_pay57 k0_pay58 (start arg2 harg2 arg3 harg3 arg4 harg4 arg5 harg5 x0 x1 x2 x3)
      (arg7.view.read (Elt Ideal) (arg7.view.writes (Elt Ideal) arg7.view.junk zero7)) G8 G9 := by
  have hb := blocks_of arg2 harg2 arg3 harg3 arg4 harg4 arg5 harg5 x0 x1 x2 x3 x4 h
  have K0 := load0_b arg3.view (harg3.unread x1) inb_S4096x256_S256x128_0_0 rfl (x := fun e => (H e).k) hb.hK
  have K1 := load1_b arg3.view (harg3.unread x1) inb_S4096x256_S256x128_0_128 rfl (x := fun e => (H e).k) hb.hK
  have V0 := load0_b arg4.view (harg4.unread x2) inb_S4096x256_S256x128_0_0 rfl (x := fun e => (H e).v) hb.hV
  have V1 := load1_b arg4.view (harg4.unread x2) inb_S4096x256_S256x128_0_128 rfl (x := fun e => (H e).v) hb.hV
  have T0 : IsR (a := 256) (b := 1) (t0 arg6 harg6 x4) fun t _ => (H 0).tot (256 * qb i + t) := by
    refine is_tot fun t => ?_
    rw [View.readAt_unit arg6.view _ inb_S2x256x1_S1x256x1_0_0_0 rfl inb_S2x256x1_S1x256x1_0_0_0, harg6.read_unread]
    refine Eq.trans (congrArg x4 ?_) (h.ht 0 t)
    funext a; fin_cases a <;> exact Fin.ext (by simp [ix3])
  have T1 : IsR (a := 256) (b := 1) (t1 arg6 harg6 x4) fun t _ => (H 1).tot (256 * qb i + t) := by
    refine is_tot fun t => ?_
    rw [View.readAt_unit arg6.view _ inb_S2x256x1_S1x256x1_1_0_0 rfl inb_S2x256x1_S1x256x1_1_0_0, harg6.read_unread]
    refine Eq.trans (congrArg x4 ?_) (h.ht 1 t)
    funext a; fin_cases a <;> exact Fin.ext (by simp [ix3])
  have Z (f : ℕ → ℝ) : ∑ j ∈ Finset.range (256 * 0), f j = 0 := by simp
  have R0 (f : ℕ → ℕ → ℝ) : IsR (a := 256) (b := 1) (k0_pay60 (F := Ideal)) fun t _ => ∑ j ∈ Finset.range (256 * 0), f t j :=
    is_zero1.congr fun t s _ _ => (Z (f t)).symm
  refine ⟨⟨T0, is_upto, is_before, is_lb (is_z hb.q0 K0), is_lr (is_z hb.q0 K0), is_da hb.y0 V0, R0 _, R0 _⟩,
    ⟨T1, is_upto, is_before, is_lb (is_z hb.q1 K1), is_lr (is_z hb.q1 K1), is_da hb.y1 V1, R0 _, R0 _⟩, ?_, ?_, ?_⟩
  · unfold zero7
    rw [View.read_writes_full]
    exact is_zero7.congr fun t w _ _ => by simp
  · exact h8.congr fun s w _ _ => by simp
  · exact h9.congr fun s w _ _ => by simp

/-- The loop and the diagonal step. -/
theorem point_gen {H : ℕ → Hd} {p8 p9 : ℕ → ℕ → ℝ} (h : PointIn H (256 * qb i) x0 x1 x2 x3 x4)
    (f8 : BufTy.Contents (Elt Ideal) arg8.view.ty) (f9 : BufTy.Contents (Elt Ideal) arg9.view.ty) (L8 L9 : List (View.Piece (Elt Ideal) S4096x256 .f32))
    (h8 : IsR (a := 4096) (b := 256) (arg8.view.read (Elt Ideal) (arg8.view.writes (Elt Ideal) f8 L8)) p8)
    (h9 : IsR (a := 4096) (b := 256) (arg9.view.read (Elt Ideal) (arg9.view.writes (Elt Ideal) f9 L9)) p9)
    (S : Carried × List (View.Piece (Elt Ideal) S256x256 .f32) × List (View.Piece (Elt Ideal) S4096x256 .f32) × List (View.Piece (Elt Ideal) S4096x256 .f32)) (hS : S = loop1 c i arg2 harg2 arg3 harg3 arg4 harg4 arg5 harg5 arg6 harg6 arg7 harg7 arg8 harg8 arg9 harg9 x0 x1 x2 x3 x4 (arg8.view.writes (Elt Ideal) f8 L8) (arg9.view.writes (Elt Ideal) f9 L9)) :
    After H (qb i) p8 p9
      (arg7.view.read (Elt Ideal) (arg7.view.writes (Elt Ideal) arg7.view.junk (list7' i arg3 (harg3.unread x1) arg7 arg7.view.junk (t0 arg6 harg6 x4) (t1 arg6 harg6 x4) k0_pay57 k0_pay58 S.1 (S.2.1 ++ zero7))))
      (arg8.view.read (Elt Ideal) (arg8.view.writes (Elt Ideal) f8 (list8' i (q0 arg2 harg2 x0) (q1 arg2 harg2 x0) arg8 f8 (t0 arg6 harg6 x4) (t1 arg6 harg6 x4) k0_pay57 k0_pay58 S.1 (S.2.2.1 ++ L8))))
      (arg9.view.read (Elt Ideal) (arg9.view.writes (Elt Ideal) f9 (list9' i (y0 arg5 harg5 x3) (y1 arg5 harg5 x3) arg9 f9 (t0 arg6 harg6 x4) (t1 arg6 harg6 x4) k0_pay57 S.1 (S.2.2.2 ++ L9)))) := by
  have hb := blocks_of arg2 harg2 arg3 harg3 arg4 harg4 arg5 harg5 x0 x1 x2 x3 x4 h
  have h0 := start_inv i arg2 harg2 arg3 harg3 arg4 harg4 arg5 harg5 arg6 harg6 arg7 x0 x1 x2 x3 x4 h h8 h9
  have hl := loop_inv (i := i) (hb := hb) (h := h0) (𝒱 := Variants.none) (c := c) (bd := none) (arg2 := arg2) (harg2 := harg2) (arg5 := arg5) (harg5 := harg5)
    (arg6 := arg6) (harg6 := harg6) (harg3 := harg3) (harg4 := harg4) (harg7 := harg7) (harg8 := harg8) (harg9 := harg9) (arg1 := BitVec.ofNat 32 (i 1).val)
    (v27 := k0_pay60) (v28 := k0_pay61) (v46 := (start arg2 harg2 arg3 harg3 arg4 harg4 arg5 harg5 x0 x1 x2 x3).1) (v47 := (start arg2 harg2 arg3 harg3 arg4 harg4 arg5 harg5 x0 x1 x2 x3).2.1)
    (v63 := (start arg2 harg2 arg3 harg3 arg4 harg4 arg5 harg5 x0 x1 x2 x3).2.2.2.1) (v64 := (start arg2 harg2 arg3 harg3 arg4 harg4 arg5 harg5 x0 x1 x2 x3).2.2.2.2.1)
    (v68 := (start arg2 harg2 arg3 harg3 arg4 harg4 arg5 harg5 x0 x1 x2 x3).2.2.1) (v72 := (start arg2 harg2 arg3 harg3 arg4 harg4 arg5 harg5 x0 x1 x2 x3).2.2.2.2.2.1)
    (c0_i32_33 := 0#32) (v73 := Scalar.subi (Scalar.muli (BitVec.ofNat 32 (i 1).val) 1#32) 0#32) (c1_i32_34 := 1#32)
    (arg3 := arg3) (arg4 := arg4) (X_arg3 := harg3.unread x1) (X_arg4 := harg4.unread x2) (init := start arg2 harg2 arg3 harg3 arg4 harg4 arg5 harg5 x0 x1 x2 x3) (H := H) (p8 := p8) (p9 := p9) (v4 := q0 arg2 harg2 x0) (v6 := q1 arg2 harg2 x0) (v8 := y0 arg5 harg5 x3) (v10 := y1 arg5 harg5 x3) (v12 := t0 arg6 harg6 x4) (v14 := t1 arg6 harg6 x4) (v20 := k0_pay57) (v24 := k0_pay58) (arg7 := arg7) (arg8 := arg8) (arg9 := arg9) (G7 := arg7.view.writes (Elt Ideal) arg7.view.junk zero7) (G8 := arg8.view.writes (Elt Ideal) f8 L8) (G9 := arg9.view.writes (Elt Ideal) f9 L9) (n := (k0_t1_loop i).trips) le_rfl
  have hl' : Inv H (256 * qb i) (k0_t1_loop i).trips p8 p9 (t0 arg6 harg6 x4) (t1 arg6 harg6 x4) k0_pay57 k0_pay58 S.1
      (arg7.view.read (Elt Ideal) (arg7.view.writes (Elt Ideal) (arg7.view.writes (Elt Ideal) arg7.view.junk zero7) S.2.1))
      (arg8.view.read (Elt Ideal) (arg8.view.writes (Elt Ideal) (arg8.view.writes (Elt Ideal) f8 L8) S.2.2.1))
      (arg9.view.read (Elt Ideal) (arg9.view.writes (Elt Ideal) (arg9.view.writes (Elt Ideal) f9 L9) S.2.2.2)) := by
    rw [hS]; exact hl
  rw [← View.writes_append, ← View.writes_append, ← View.writes_append, trips_first] at hl'
  exact diag_after i arg7 arg8 arg9 arg7.view.junk f8 f9 _ _ _ hb hl'

end Sb

end
-- ==== Proof.Runs.lean ====
/- What a grid point leaves in the three output blocks. -/
module

public import proofs.«01_k».proof.Proof.Point

@[expose] public section

set_option maxRecDepth 16384
set_option maxHeartbeats 4000000

noncomputable section

namespace Sb

open Idealize.ShloMosaic Idealize.ShloMosaic.TcCoe Cert.KernelIdeal Cert.KernelIdeal.Gen
open scoped BigOperators

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S2x256x1 .f32) (harg6 : arg6.IsWhole) (arg7 : Memref sig .tc .vmem S256x256 .f32) (harg7 : arg7.IsWhole) (arg8 : Memref sig .tc .vmem S4096x256 .f32) (harg8 : arg8.IsWhole) (arg9 : Memref sig .tc .vmem S4096x256 .f32) (harg9 : arg9.IsWhole)
  (x0 : Vec Ideal S256x256 .bf16) (x1 x2 : Vec Ideal S4096x256 .bf16) (x3 : Vec Ideal S256x256 .f32) (x4 : Vec Ideal S2x256x1 .f32)

theorem run_A_7 (hc0 : cond0_0 i) : (kernelRun0_A (F := Ideal) c i arg2 harg2 arg3 harg3 arg4 harg4 arg5 harg5 arg6 harg6 arg7 harg7 arg8 harg8 arg9 harg9 hc0 x0 x1 x2 x3 x4).1 =
    list7' i arg3 (harg3.unread x1) arg7 arg7.view.junk (t0 arg6 harg6 x4) (t1 arg6 harg6 x4) k0_pay57 k0_pay58 (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1 ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.1 ++ zero7) := by
  have e : (kernelRun0_A (F := Ideal) c i arg2 harg2 arg3 harg3 arg4 harg4 arg5 harg5 arg6 harg6 arg7 harg7 arg8 harg8 arg9 harg9 hc0 x0 x1 x2 x3 x4).1 =
    list7' i arg3 (harg3.unread x1) arg7 arg7.view.junk (t0 arg6 harg6 x4) (t1 arg6 harg6 x4) k0_pay57 k0_pay58 (loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.1 ++ zero7)) (arg8.view.writes (Elt Ideal) arg8.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.1 ++ zero8)) (arg9.view.writes (Elt Ideal) arg9.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.2 ++ zero9)) (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1).1 ((loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.1 ++ zero7)) (arg8.view.writes (Elt Ideal) arg8.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.1 ++ zero8)) (arg9.view.writes (Elt Ideal) arg9.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.2 ++ zero9)) (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1).2.1 ++ ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.1 ++ zero7)) := by
    unfold kernelRun0_A
    rfl
  rw [e, loop2_eq]
  rfl

theorem run_A_8 (hc0 : cond0_0 i) : (kernelRun0_A (F := Ideal) c i arg2 harg2 arg3 harg3 arg4 harg4 arg5 harg5 arg6 harg6 arg7 harg7 arg8 harg8 arg9 harg9 hc0 x0 x1 x2 x3 x4).2.1 =
    list8' i (q0 arg2 harg2 x0) (q1 arg2 harg2 x0) arg8 arg8.view.junk (t0 arg6 harg6 x4) (t1 arg6 harg6 x4) k0_pay57 k0_pay58 (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1 ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.1 ++ zero8) := by
  have e : (kernelRun0_A (F := Ideal) c i arg2 harg2 arg3 harg3 arg4 harg4 arg5 harg5 arg6 harg6 arg7 harg7 arg8 harg8 arg9 harg9 hc0 x0 x1 x2 x3 x4).2.1 =
    list8' i (q0 arg2 harg2 x0) (q1 arg2 harg2 x0) arg8 arg8.view.junk (t0 arg6 harg6 x4) (t1 arg6 harg6 x4) k0_pay57 k0_pay58 (loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.1 ++ zero7)) (arg8.view.writes (Elt Ideal) arg8.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.1 ++ zero8)) (arg9.view.writes (Elt Ideal) arg9.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.2 ++ zero9)) (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1).1 ((loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.1 ++ zero7)) (arg8.view.writes (Elt Ideal) arg8.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.1 ++ zero8)) (arg9.view.writes (Elt Ideal) arg9.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.2 ++ zero9)) (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1).2.2.1 ++ ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.1 ++ zero8)) := by
    unfold kernelRun0_A
    rfl
  rw [e, loop2_eq]
  rfl

theorem run_A_9 (hc0 : cond0_0 i) : (kernelRun0_A (F := Ideal) c i arg2 harg2 arg3 harg3 arg4 harg4 arg5 harg5 arg6 harg6 arg7 harg7 arg8 harg8 arg9 harg9 hc0 x0 x1 x2 x3 x4).2.2.1 =
    list9' i (y0 arg5 harg5 x3) (y1 arg5 harg5 x3) arg9 arg9.view.junk (t0 arg6 harg6 x4) (t1 arg6 harg6 x4) k0_pay57 (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1 ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.2 ++ zero9) := by
  have e : (kernelRun0_A (F := Ideal) c i arg2 harg2 arg3 harg3 arg4 harg4 arg5 harg5 arg6 harg6 arg7 harg7 arg8 harg8 arg9 harg9 hc0 x0 x1 x2 x3 x4).2.2.1 =
    list9' i (y0 arg5 harg5 x3) (y1 arg5 harg5 x3) arg9 arg9.view.junk (t0 arg6 harg6 x4) (t1 arg6 harg6 x4) k0_pay57 (loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.1 ++ zero7)) (arg8.view.writes (Elt Ideal) arg8.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.1 ++ zero8)) (arg9.view.writes (Elt Ideal) arg9.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.2 ++ zero9)) (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1).1 ((loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.1 ++ zero7)) (arg8.view.writes (Elt Ideal) arg8.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.1 ++ zero8)) (arg9.view.writes (Elt Ideal) arg9.view.junk ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.2 ++ zero9)) (loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).1).2.2.2 ++ ((loop1 c i arg2 harg2 arg3 harg3 arg4 harg4 arg5 harg5 arg6 harg6 arg7 harg7 arg8 harg8 arg9 harg9 x0 x1 x2 x3 x4 (arg8.view.writes (Elt Ideal) arg8.view.junk zero8) (arg9.view.writes (Elt Ideal) arg9.view.junk zero9)).2.2.2 ++ zero9)) := by
    unfold kernelRun0_A
    rfl
  rw [e, loop2_eq]
  rfl

theorem run_B_7 (hc0 : ¬cond0_0 i) (xo6 xo7 : Vec Ideal S4096x256 .f32) : (kernelRun0_B (F := Ideal) c i arg2 harg2 arg3 harg3 arg4 harg4 arg5 harg5 arg6 harg6 arg7 harg7 arg8 harg8 arg9 harg9 hc0 x0 x1 x2 x3 x4 xo6 xo7).1 =
    list7' i arg3 (harg3.unread x1) arg7 arg7.view.junk (t0 arg6 harg6 x4) (t1 arg6 harg6 x4) k0_pay57 k0_pay58 (loop1 c i arg2 harg2 arg3 harg3 arg4 harg4 arg5 harg5 arg6 harg6 arg7 harg7 arg8 harg8 arg9 harg9 x0 x1 x2 x3 x4 (harg8.unread xo6) (harg9.unread xo7)).1 ((loop1 c i arg2 harg2 arg3 harg3 arg4 harg4 arg5 harg5 arg6 harg6 arg7 harg7 arg8 harg8 arg9 harg9 x0 x1 x2 x3 x4 (harg8.unread xo6) (harg9.unread xo7)).2.1 ++ zero7) := by
  have e : (kernelRun0_B (F := Ideal) c i arg2 harg2 arg3 harg3 arg4 harg4 arg5 harg5 arg6 harg6 arg7 harg7 arg8 harg8 arg9 harg9 hc0 x0 x1 x2 x3 x4 xo6 xo7).1 =
    list7' i arg3 (harg3.unread x1) arg7 arg7.view.junk (t0 arg6 harg6 x4) (t1 arg6 harg6 x4) k0_pay57 k0_pay58 (loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (harg8.unread xo6) (harg9.unread xo7)).2.1 ++ zero7)) (arg8.view.writes (Elt Ideal) (harg8.unread xo6) ((loop1 c i arg2 harg2 arg3 harg3 arg4 harg4 arg5 harg5 arg6 harg6 arg7 harg7 arg8 harg8 arg9 harg9 x0 x1 x2 x3 x4 (harg8.unread xo6) (harg9.unread xo7)).2.2.1)) (arg9.view.writes (Elt Ideal) (harg9.unread xo7) ((loop1 c i arg2 harg2 arg3 harg3 arg4 harg4 arg5 harg5 arg6 harg6 arg7 harg7 arg8 harg8 arg9 harg9 x0 x1 x2 x3 x4 (harg8.unread xo6) (harg9.unread xo7)).2.2.2)) (loop1 c i arg2 harg2 arg3 harg3 arg4 harg4 arg5 harg5 arg6 harg6 arg7 harg7 arg8 harg8 arg9 harg9 x0 x1 x2 x3 x4 (harg8.unread xo6) (harg9.unread xo7)).1).1 ((loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (harg8.unread xo6) (harg9.unread xo7)).2.1 ++ zero7)) (arg8.view.writes (Elt Ideal) (harg8.unread xo6) ((loop1 c i arg2 harg2 arg3 harg3 arg4 harg4 arg5 harg5 arg6 harg6 arg7 harg7 arg8 harg8 arg9 harg9 x0 x1 x2 x3 x4 (harg8.unread xo6) (harg9.unread xo7)).2.2.1)) (arg9.view.writes (Elt Ideal) (harg9.unread xo7) ((loop1 c i arg2 harg2 arg3 harg3 arg4 harg4 arg5 harg5 arg6 harg6 arg7 harg7 arg8 harg8 arg9 harg9 x0 x1 x2 x3 x4 (harg8.unread xo6) (harg9.unread xo7)).2.2.2)) (loop1 c i arg2 harg2 arg3 harg3 arg4 harg4 arg5 harg5 arg6 harg6 arg7 harg7 arg8 harg8 arg9 harg9 x0 x1 x2 x3 x4 (harg8.unread xo6) (harg9.unread xo7)).1).2.1 ++ ((loop1 c i arg2 harg2 arg3 harg3 arg4 harg4 arg5 harg5 arg6 harg6 arg7 harg7 arg8 harg8 arg9 harg9 x0 x1 x2 x3 x4 (harg8.unread xo6) (harg9.unread xo7)).2.1 ++ zero7)) := by
    unfold kernelRun0_B
    rfl
  rw [e, loop2_eq]
  rfl

theorem run_B_8 (hc0 : ¬cond0_0 i) (xo6 xo7 : Vec Ideal S4096x256 .f32) : (kernelRun0_B (F := Ideal) c i arg2 harg2 arg3 harg3 arg4 harg4 arg5 harg5 arg6 harg6 arg7 harg7 arg8 harg8 arg9 harg9 hc0 x0 x1 x2 x3 x4 xo6 xo7).2.1 =
    list8' i (q0 arg2 harg2 x0) (q1 arg2 harg2 x0) arg8 (harg8.unread xo6) (t0 arg6 harg6 x4) (t1 arg6 harg6 x4) k0_pay57 k0_pay58 (loop1 c i arg2 harg2 arg3 harg3 arg4 harg4 arg5 harg5 arg6 harg6 arg7 harg7 arg8 harg8 arg9 harg9 x0 x1 x2 x3 x4 (harg8.unread xo6) (harg9.unread xo7)).1 ((loop1 c i arg2 harg2 arg3 harg3 arg4 harg4 arg5 harg5 arg6 harg6 arg7 harg7 arg8 harg8 arg9 harg9 x0 x1 x2 x3 x4 (harg8.unread xo6) (harg9.unread xo7)).2.2.1) := by
  have e : (kernelRun0_B (F := Ideal) c i arg2 harg2 arg3 harg3 arg4 harg4 arg5 harg5 arg6 harg6 arg7 harg7 arg8 harg8 arg9 harg9 hc0 x0 x1 x2 x3 x4 xo6 xo7).2.1 =
    list8' i (q0 arg2 harg2 x0) (q1 arg2 harg2 x0) arg8 (harg8.unread xo6) (t0 arg6 harg6 x4) (t1 arg6 harg6 x4) k0_pay57 k0_pay58 (loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (harg8.unread xo6) (harg9.unread xo7)).2.1 ++ zero7)) (arg8.view.writes (Elt Ideal) (harg8.unread xo6) ((loop1 c i arg2 harg2 arg3 harg3 arg4 harg4 arg5 harg5 arg6 harg6 arg7 harg7 arg8 harg8 arg9 harg9 x0 x1 x2 x3 x4 (harg8.unread xo6) (harg9.unread xo7)).2.2.1)) (arg9.view.writes (Elt Ideal) (harg9.unread xo7) ((loop1 c i arg2 harg2 arg3 harg3 arg4 harg4 arg5 harg5 arg6 harg6 arg7 harg7 arg8 harg8 arg9 harg9 x0 x1 x2 x3 x4 (harg8.unread xo6) (harg9.unread xo7)).2.2.2)) (loop1 c i arg2 harg2 arg3 harg3 arg4 harg4 arg5 harg5 arg6 harg6 arg7 harg7 arg8 harg8 arg9 harg9 x0 x1 x2 x3 x4 (harg8.unread xo6) (harg9.unread xo7)).1).1 ((loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (harg8.unread xo6) (harg9.unread xo7)).2.1 ++ zero7)) (arg8.view.writes (Elt Ideal) (harg8.unread xo6) ((loop1 c i arg2 harg2 arg3 harg3 arg4 harg4 arg5 harg5 arg6 harg6 arg7 harg7 arg8 harg8 arg9 harg9 x0 x1 x2 x3 x4 (harg8.unread xo6) (harg9.unread xo7)).2.2.1)) (arg9.view.writes (Elt Ideal) (harg9.unread xo7) ((loop1 c i arg2 harg2 arg3 harg3 arg4 harg4 arg5 harg5 arg6 harg6 arg7 harg7 arg8 harg8 arg9 harg9 x0 x1 x2 x3 x4 (harg8.unread xo6) (harg9.unread xo7)).2.2.2)) (loop1 c i arg2 harg2 arg3 harg3 arg4 harg4 arg5 harg5 arg6 harg6 arg7 harg7 arg8 harg8 arg9 harg9 x0 x1 x2 x3 x4 (harg8.unread xo6) (harg9.unread xo7)).1).2.2.1 ++ ((loop1 c i arg2 harg2 arg3 harg3 arg4 harg4 arg5 harg5 arg6 harg6 arg7 harg7 arg8 harg8 arg9 harg9 x0 x1 x2 x3 x4 (harg8.unread xo6) (harg9.unread xo7)).2.2.1)) := by
    unfold kernelRun0_B
    rfl
  rw [e, loop2_eq]
  rfl

theorem run_B_9 (hc0 : ¬cond0_0 i) (xo6 xo7 : Vec Ideal S4096x256 .f32) : (kernelRun0_B (F := Ideal) c i arg2 harg2 arg3 harg3 arg4 harg4 arg5 harg5 arg6 harg6 arg7 harg7 arg8 harg8 arg9 harg9 hc0 x0 x1 x2 x3 x4 xo6 xo7).2.2.1 =
    list9' i (y0 arg5 harg5 x3) (y1 arg5 harg5 x3) arg9 (harg9.unread xo7) (t0 arg6 harg6 x4) (t1 arg6 harg6 x4) k0_pay57 (loop1 c i arg2 harg2 arg3 harg3 arg4 harg4 arg5 harg5 arg6 harg6 arg7 harg7 arg8 harg8 arg9 harg9 x0 x1 x2 x3 x4 (harg8.unread xo6) (harg9.unread xo7)).1 ((loop1 c i arg2 harg2 arg3 harg3 arg4 harg4 arg5 harg5 arg6 harg6 arg7 harg7 arg8 harg8 arg9 harg9 x0 x1 x2 x3 x4 (harg8.unread xo6) (harg9.unread xo7)).2.2.2) := by
  have e : (kernelRun0_B (F := Ideal) c i arg2 harg2 arg3 harg3 arg4 harg4 arg5 harg5 arg6 harg6 arg7 harg7 arg8 harg8 arg9 harg9 hc0 x0 x1 x2 x3 x4 xo6 xo7).2.2.1 =
    list9' i (y0 arg5 harg5 x3) (y1 arg5 harg5 x3) arg9 (harg9.unread xo7) (t0 arg6 harg6 x4) (t1 arg6 harg6 x4) k0_pay57 (loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (harg8.unread xo6) (harg9.unread xo7)).2.1 ++ zero7)) (arg8.view.writes (Elt Ideal) (harg8.unread xo6) ((loop1 c i arg2 harg2 arg3 harg3 arg4 harg4 arg5 harg5 arg6 harg6 arg7 harg7 arg8 harg8 arg9 harg9 x0 x1 x2 x3 x4 (harg8.unread xo6) (harg9.unread xo7)).2.2.1)) (arg9.view.writes (Elt Ideal) (harg9.unread xo7) ((loop1 c i arg2 harg2 arg3 harg3 arg4 harg4 arg5 harg5 arg6 harg6 arg7 harg7 arg8 harg8 arg9 harg9 x0 x1 x2 x3 x4 (harg8.unread xo6) (harg9.unread xo7)).2.2.2)) (loop1 c i arg2 harg2 arg3 harg3 arg4 harg4 arg5 harg5 arg6 harg6 arg7 harg7 arg8 harg8 arg9 harg9 x0 x1 x2 x3 x4 (harg8.unread xo6) (harg9.unread xo7)).1).1 ((loop2 c i arg2 harg2 arg3 harg3 arg4 harg4 arg5 harg5 arg6 harg6 arg7 harg7 arg8 harg8 arg9 harg9 x0 x1 x2 x3 x4 (Scalar.addi 0#32 (Scalar.muli (Scalar.divsi (Scalar.subi (Scalar.muli (BitVec.ofNat 32 (i 1).val) 1#32) 0#32) 1#32) 1#32)) (arg7.view.writes (Elt Ideal) arg7.view.junk ((loop1 c i arg2 harg2 arg3 harg3 arg4 harg4 arg5 harg5 arg6 harg6 arg7 harg7 arg8 harg8 arg9 harg9 x0 x1 x2 x3 x4 (harg8.unread xo6) (harg9.unread xo7)).2.1 ++ zero7)) (arg8.view.writes (Elt Ideal) (harg8.unread xo6) ((loop1 c i arg2 harg2 arg3 harg3 arg4 harg4 arg5 harg5 arg6 harg6 arg7 harg7 arg8 harg8 arg9 harg9 x0 x1 x2 x3 x4 (harg8.unread xo6) (harg9.unread xo7)).2.2.1)) (arg9.view.writes (Elt Ideal) (harg9.unread xo7) ((loop1 c i arg2 harg2 arg3 harg3 arg4 harg4 arg5 harg5 arg6 harg6 arg7 harg7 arg8 harg8 arg9 harg9 x0 x1 x2 x3 x4 (harg8.unread xo6) (harg9.unread xo7)).2.2.2)) (loop1 c i arg2 harg2 arg3 harg3 arg4 harg4 arg5 harg5 arg6 harg6 arg7 harg7 arg8 harg8 arg9 harg9 x0 x1 x2 x3 x4 (harg8.unread xo6) (harg9.unread xo7)).1).2.2.2 ++ ((loop1 c i arg2 harg2 arg3 harg3 arg4 harg4 arg5 harg5 arg6 harg6 arg7 harg7 arg8 harg8 arg9 harg9 x0 x1 x2 x3 x4 (harg8.unread xo6) (harg9.unread xo7)).2.2.2)) := by
    unfold kernelRun0_B
    rfl
  rw [e, loop2_eq]
  rfl

end Sb

end
-- ==== Proof.Out.lean ====
/- The three output blocks after a grid point, as sums over reals. -/
module

public import proofs.«01_k».proof.Proof.Runs

@[expose] public section

set_option maxRecDepth 16384
set_option maxHeartbeats 4000000

noncomputable section

namespace Sb

open Idealize.ShloMosaic Idealize.ShloMosaic.TcCoe Cert.KernelIdeal Cert.KernelIdeal.Gen
open scoped BigOperators

variable (c : Dev nD) (i : grid0.Coords) (arg2 : Memref sig .tc .vmem S256x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S256x256 .f32) (harg5 : arg5.IsWhole) (arg6 : Memref sig .tc .vmem S2x256x1 .f32) (harg6 : arg6.IsWhole) (arg7 : Memref sig .tc .vmem S256x256 .f32) (harg7 : arg7.IsWhole) (arg8 : Memref sig .tc .vmem S4096x256 .f32) (harg8 : arg8.IsWhole) (arg9 : Memref sig .tc .vmem S4096x256 .f32) (harg9 : arg9.IsWhole)
  (x0 : Vec Ideal S256x256 .bf16) (x1 x2 : Vec Ideal S4096x256 .bf16) (x3 : Vec Ideal S256x256 .f32) (x4 : Vec Ideal S2x256x1 .f32)

theorem point_A (hc0 : cond0_0 i) {H : ℕ → Hd} (h : PointIn H (256 * qb i) x0 x1 x2 x3 x4) :
    After H (qb i) (fun _ _ => 0) (fun _ _ => 0) (out0_A_5 c i arg2 harg2 arg3 harg3 arg4 harg4 arg5 harg5 arg6 harg6 arg7 harg7 arg8 harg8 arg9 harg9 hc0 x0 x1 x2 x3 x4)
      (out0_A_6 c i arg2 harg2 arg3 harg3 arg4 harg4 arg5 harg5 arg6 harg6 arg7 harg7 arg8 harg8 arg9 harg9 hc0 x0 x1 x2 x3 x4) (out0_A_7 c i arg2 harg2 arg3 harg3 arg4 harg4 arg5 harg5 arg6 harg6 arg7 harg7 arg8 harg8 arg9 harg9 hc0 x0 x1 x2 x3 x4) := by
  have h8 : IsR (a := 4096) (b := 256) (arg8.view.read (Elt Ideal) (arg8.view.writes (Elt Ideal) arg8.view.junk zero8)) fun _ _ => 0 := by
    unfold zero8
    rw [View.read_writes_full]
    exact is_zero8
  have h9 : IsR (a := 4096) (b := 256) (arg9.view.read (Elt Ideal) (arg9.view.writes (Elt Ideal) arg9.view.junk zero9)) fun _ _ => 0 := by
    unfold zero9
    rw [View.read_writes_full]
    exact is_zero8
  have e := point_gen c i arg2 harg2 arg3 harg3 arg4 harg4 arg5 harg5 arg6 harg6 arg7 harg7 arg8 harg8 arg9 harg9 x0 x1 x2 x3 x4 h arg8.view.junk arg9.view.junk zero8 zero9 h8 h9 _ rfl
  rw [← run_A_7 c i arg2 harg2 arg3 harg3 arg4 harg4 arg5 harg5 arg6 harg6 arg7 harg7 arg8 harg8 arg9 harg9 x0 x1 x2 x3 x4 hc0, ← run_A_8 c i arg2 harg2 arg3 harg3 arg4 harg4 arg5 harg5 arg6 harg6 arg7 harg7 arg8 harg8 arg9 harg9 x0 x1 x2 x3 x4 hc0, ← run_A_9 c i arg2 harg2 arg3 harg3 arg4 harg4 arg5 harg5 arg6 harg6 arg7 harg7 arg8 harg8 arg9 harg9 x0 x1 x2 x3 x4 hc0] at e
  unfold out0_A_5 out0_A_6 out0_A_7
  rw [View.read_writes_of_cover VO0_5 VO0_5.junk arg7.view arg7.view.junk _ (cover0_A_5 c i arg2 harg2 arg3 harg3 arg4 harg4 arg5 harg5 arg6 harg6 arg7 harg7 arg8 harg8 arg9 harg9 hc0 x0 x1 x2 x3 x4),
    View.read_writes_of_cover VO0_6 VO0_6.junk arg8.view arg8.view.junk _ (cover0_A_6 c i arg2 harg2 arg3 harg3 arg4 harg4 arg5 harg5 arg6 harg6 arg7 harg7 arg8 harg8 arg9 harg9 hc0 x0 x1 x2 x3 x4),
    View.read_writes_of_cover VO0_7 VO0_7.junk arg9.view arg9.view.junk _ (cover0_A_7 c i arg2 harg2 arg3 harg3 arg4 harg4 arg5 harg5 arg6 harg6 arg7 harg7 arg8 harg8 arg9 harg9 hc0 x0 x1 x2 x3 x4)]
  exact e

theorem point_B (hc0 : ¬cond0_0 i) {H : ℕ → Hd} {p8 p9 : ℕ → ℕ → ℝ} (h : PointIn H (256 * qb i) x0 x1 x2 x3 x4)
    (xo6 xo7 : Vec Ideal S4096x256 .f32) (h8 : IsR (a := 4096) (b := 256) xo6 p8) (h9 : IsR (a := 4096) (b := 256) xo7 p9) :
    After H (qb i) p8 p9 (out0_B_5 c i arg2 harg2 arg3 harg3 arg4 harg4 arg5 harg5 arg6 harg6 arg7 harg7 arg8 harg8 arg9 harg9 hc0 x0 x1 x2 x3 x4 xo6 xo7)
      (out0_B_6 c i arg2 harg2 arg3 harg3 arg4 harg4 arg5 harg5 arg6 harg6 arg7 harg7 arg8 harg8 arg9 harg9 hc0 x0 x1 x2 x3 x4 xo6 xo7) (out0_B_7 c i arg2 harg2 arg3 harg3 arg4 harg4 arg5 harg5 arg6 harg6 arg7 harg7 arg8 harg8 arg9 harg9 hc0 x0 x1 x2 x3 x4 xo6 xo7) := by
  have h8' : IsR (a := 4096) (b := 256) (arg8.view.read (Elt Ideal) (arg8.view.writes (Elt Ideal) (harg8.unread xo6) [])) p8 := by
    rw [View.writes_nil, harg8.read_unread]
    exact h8
  have h9' : IsR (a := 4096) (b := 256) (arg9.view.read (Elt Ideal) (arg9.view.writes (Elt Ideal) (harg9.unread xo7) [])) p9 := by
    rw [View.writes_nil, harg9.read_unread]
    exact h9
  have e := point_gen c i arg2 harg2 arg3 harg3 arg4 harg4 arg5 harg5 arg6 harg6 arg7 harg7 arg8 harg8 arg9 harg9 x0 x1 x2 x3 x4 h (harg8.unread xo6) (harg9.unread xo7) [] [] h8' h9' _ rfl
  rw [List.append_nil, List.append_nil, View.writes_nil, View.writes_nil, ← run_B_7 c i arg2 harg2 arg3 harg3 arg4 harg4 arg5 harg5 arg6 harg6 arg7 harg7 arg8 harg8 arg9 harg9 x0 x1 x2 x3 x4 hc0 xo6 xo7, ← run_B_8 c i arg2 harg2 arg3 harg3 arg4 harg4 arg5 harg5 arg6 harg6 arg7 harg7 arg8 harg8 arg9 harg9 x0 x1 x2 x3 x4 hc0 xo6 xo7, ← run_B_9 c i arg2 harg2 arg3 harg3 arg4 harg4 arg5 harg5 arg6 harg6 arg7 harg7 arg8 harg8 arg9 harg9 x0 x1 x2 x3 x4 hc0 xo6 xo7] at e
  unfold out0_B_5 out0_B_6 out0_B_7
  rw [View.read_writes_of_cover VO0_5 VO0_5.junk arg7.view arg7.view.junk _ (cover0_B_5 c i arg2 harg2 arg3 harg3 arg4 harg4 arg5 harg5 arg6 harg6 arg7 harg7 arg8 harg8 arg9 harg9 hc0 x0 x1 x2 x3 x4 xo6 xo7)]
  exact e

end Sb

end
-- ==== Proof.Grid.lean ====
/- The grid: what the kernel's three results hold once every query block of every pair of heads has been visited. -/
module

public import proofs.«01_k».proof.Proof.Out
public import proofs.«01_k».proof.Proof.Gen.KernelIdeal.Value
public import Idealize.ShloMosaic.Lib.Pipeline.ValueKit

@[expose] public section

set_option maxRecDepth 16384
set_option maxHeartbeats 4000000

noncomputable section

namespace Sb

open Idealize.ShloMosaic Idealize.ShloMosaic.TcCoe Cert.KernelIdeal Cert.KernelIdeal.Gen
open scoped BigOperators

/-- Head `h` of the operands: `X` the packed queries, keys and values, `Y` the cotangents, `T` the totals. -/
def hd (X Y T : ℕ → ℕ → ℝ) (h : ℕ) : Hd :=
  ⟨fun t d => X t (128 * h + d), fun s d => X s (1024 + 128 * h + d), fun s d => X s (2048 + 128 * h + d), fun t d => Y t (128 * h + d), T h⟩

/-- The two heads of pair `p`. -/
def pair (X Y T : ℕ → ℕ → ℝ) (p : ℕ) (e : ℕ) : Hd := hd X Y T (2 * p + e)

theorem Hd.a_zero (H : Hd) {t s : ℕ} (h : t ≤ s) : H.a t s = 0 := if_neg (by omega)

theorem Hd.dz_zero (H : Hd) {t s : ℕ} (h : t ≤ s) : H.dz t s = 0 := by
  unfold Hd.dz Hd.g Hd.b
  rw [H.a_zero h, if_neg (by omega)]
  simp

variable (m : (ℓ : Loc nD τ sig) → Buf (Elt Ideal) ℓ) (c : Dev nD)

/-- The region's operands as reals. -/
structure OpsAt (X Y T : ℕ → ℕ → ℝ) : Prop where
  hx : IsR (a := 4096) (b := 3072) (V m c main_v17) X
  hy : IsR (a := 4096) (b := 1024) (V m c main_arg1) Y
  ht : ∀ (h : Fin 8) (t : Fin 4096), (V m c main_v16 : S8x4096x1.Idx → EReal) (ix3 h t 0) = ((T h.val t.val : ℝ) : EReal)

theorem qb_point (t : Fin cfg0.N) : qb (grid0.coords t) = t.val % 16 := by
  exact (by decide +kernel : ∀ t : Fin grid0.N, (grid0.coords t 1).val = t.val % 16) t

theorem idx0 : ∀ t : Fin cfg0.N, win0_0.index t = ![t.val % 16, t.val / 16] := (by decide +kernel : ∀ t : Fin grid0.N, win0_0.index t = ![t.val % 16, t.val / 16])
theorem idx1 : ∀ t : Fin cfg0.N, win0_1.index t = ![0, 4 + t.val / 16] := (by decide +kernel : ∀ t : Fin grid0.N, win0_1.index t = ![0, 4 + t.val / 16])
theorem idx2 : ∀ t : Fin cfg0.N, win0_2.index t = ![0, 8 + t.val / 16] := (by decide +kernel : ∀ t : Fin grid0.N, win0_2.index t = ![0, 8 + t.val / 16])
theorem idx3 : ∀ t : Fin cfg0.N, win0_3.index t = ![t.val % 16, t.val / 16] := (by decide +kernel : ∀ t : Fin grid0.N, win0_3.index t = ![t.val % 16, t.val / 16])
theorem idx4 : ∀ t : Fin cfg0.N, win0_4.index t = ![t.val / 16, t.val % 16, 0] := (by decide +kernel : ∀ t : Fin grid0.N, win0_4.index t = ![t.val / 16, t.val % 16, 0])
theorem idx5 : ∀ t : Fin cfg0.N, win0_5.index t = ![t.val % 16, t.val / 16] := (by decide +kernel : ∀ t : Fin grid0.N, win0_5.index t = ![t.val % 16, t.val / 16])
theorem idx6 : ∀ t : Fin cfg0.N, win0_6.index t = ![0, t.val / 16] := (by decide +kernel : ∀ t : Fin grid0.N, win0_6.index t = ![0, t.val / 16])
theorem idx7 : ∀ t : Fin cfg0.N, win0_7.index t = ![0, t.val / 16] := (by decide +kernel : ∀ t : Fin grid0.N, win0_7.index t = ![0, t.val / 16])

theorem point_lt (t : Fin cfg0.N) : t.val < 64 := t.isLt

variable {X Y T : ℕ → ℕ → ℝ}

theorem point_in (h : OpsAt m c X Y T) (t : Fin cfg0.N) :
    PointIn (pair X Y T (t.val / 16)) (256 * qb (grid0.coords t)) (iblk m c 0 t) (iblk m c 1 t) (iblk m c 2 t) (iblk m c 3 t) (iblk m c 4 t) := by
  have hl := point_lt t
  rw [qb_point]
  refine ⟨?_, ?_, ?_, ?_, ?_⟩
  · intro a w
    have e : iblk m c 0 t (ix2 a w) = V m c main_v17 (ix2 ⟨256 * (t.val % 16) + a.val, by omega⟩ ⟨256 * (t.val / 16) + w.val, by omega⟩) := by blk_ext [iblk, idx0 t]
    refine e.trans ((h.hx _ _).trans ?_)
    exact congrArg (fun n => ((X _ n : ℝ) : EReal)) (by show 256 * (t.val / 16) + w.val = _; omega)
  · intro a w
    have e : iblk m c 1 t (ix2 a w) = V m c main_v17 (ix2 ⟨a.val, by omega⟩ ⟨1024 + 256 * (t.val / 16) + w.val, by omega⟩) := by blk_ext [iblk, idx1 t]
    refine e.trans ((h.hx _ _).trans ?_)
    exact congrArg (fun n => ((X _ n : ℝ) : EReal)) (by show 1024 + 256 * (t.val / 16) + w.val = _; omega)
  · intro a w
    have e : iblk m c 2 t (ix2 a w) = V m c main_v17 (ix2 ⟨a.val, by omega⟩ ⟨2048 + 256 * (t.val / 16) + w.val, by omega⟩) := by blk_ext [iblk, idx2 t]
    refine e.trans ((h.hx _ _).trans ?_)
    exact congrArg (fun n => ((X _ n : ℝ) : EReal)) (by show 2048 + 256 * (t.val / 16) + w.val = _; omega)
  · intro a w
    have e : iblk m c 3 t (ix2 a w) = V m c main_arg1 (ix2 ⟨256 * (t.val % 16) + a.val, by omega⟩ ⟨256 * (t.val / 16) + w.val, by omega⟩) := by blk_ext [iblk, idx3 t]
    refine e.trans ((h.hy _ _).trans ?_)
    exact congrArg (fun n => ((Y _ n : ℝ) : EReal)) (by show 256 * (t.val / 16) + w.val = _; omega)
  · intro e a
    have e' : iblk m c 4 t (ix3 e a 0) = V m c main_v16 (ix3 ⟨2 * (t.val / 16) + e.val, by omega⟩ ⟨256 * (t.val % 16) + a.val, by omega⟩ 0) := by blk_ext [iblk, idx4 t]
    exact e'.trans (h.ht _ _)

end Sb

end
-- ==== Proof.HostTot.lean ====
/- The host's row totals. -/
module

public import proofs.«01_k».proof.Proof.Grid
public import Idealize.ShloMosaic.Lib.Claim
public import Idealize.ShloMosaic.Lib.StableHlo.ReadAt
public import Idealize.ShloMosaic.Lib.IdealHost

@[expose] public section

set_option maxRecDepth 16384
set_option maxHeartbeats 4000000

noncomputable section

namespace Sb

open Idealize.ShloMosaic Idealize.ShloMosaic.TcCoe Cert.KernelIdeal Cert.KernelIdeal.Gen
open scoped BigOperators

variable (m : (ℓ : Loc nD τ sig) → Buf (Elt Ideal) ℓ) (c : Dev nD)

theorem V17 : (V m c main_v17 : S4096x3072.Idx → EReal) = (m ((c.tc : Thread nD τ).loc main_arg0) : S4096x3072.Idx → EReal) := by
  unfold V
  simp only [hostOps0, hostOps0_1, hostOps0_2, hostOps0_3, hostOps0_4, List.flatten_cons, List.flatten_nil, List.append_nil, List.cons_append, List.nil_append]
  after_reads_simp
  rfl

theorem max_coe (x y : ℝ) : max (x : EReal) (y : EReal) = ((max x y : ℝ) : EReal) :=
  (EReal.coe_strictMono.monotone.map_max (a := x) (b := y)).symm

/-- The host's logarithm of the logistic function at the negated logit, as the library spells it. -/
theorem soft_coe (z : ℝ) :
    -(if -(-(z : EReal)) ≠ -(-(z : EReal)) then -(-(z : EReal)) else max (-(-(z : EReal))) 0
      + Ideal.log1p (Ideal.exp (-FloatOps.absf (F := Ideal) (φ := .f32) (-(-(z : EReal)))))) = ((lsg (-z) : ℝ) : EReal) := by
  rw [if_neg (by simp), neg_neg, absf_coe, ← EReal.coe_neg |z|]
  unfold Ideal.log1p
  rw [log_one_add_exp, coe_zero, max_coe, ← EReal.coe_add, ← EReal.coe_neg]
  unfold lsg
  congr 1
  rw [abs_neg, neg_add, ← min_neg_neg, neg_zero, sub_eq_add_neg]

theorem lsg_neg (z : ℝ) : lsg (-z) = lsg z - z := by
  unfold lsg
  rw [abs_neg]
  have : min (-z) 0 = min z 0 - z := by
    rcases le_total z 0 with h | h
    · rw [min_eq_right (by linarith), min_eq_left h]; ring
    · rw [min_eq_left (by linarith), min_eq_right h]; ring
  rw [this]
  ring

/-- The logit of the packed operands. -/
theorem z_coe {A : S4096x3072.Idx → EReal} {X : ℕ → ℕ → ℝ} (hA : IsR (a := 4096) (b := 3072) A X) (Y T : ℕ → ℕ → ℝ) (h : Fin 8) (t s : Fin 4096) :
    (∑ d : Fin 128, A (ix2 t ⟨h.val * 128 + d.val, by omega⟩) * A (ix2 s ⟨1024 + (h.val * 128 + d.val), by omega⟩)) * Ideal.ofBits .f32 0x3DB504F3#32
      = (((hd X Y T h.val).z t.val s.val : ℝ) : EReal) := by
  simp only [hA _ _, bits_sc, ← EReal.coe_mul, ← coe_sum]
  unfold Hd.z hd
  rw [Finset.sum_range]
  simp only [Nat.mul_comm 128, Nat.add_assoc]

theorem V16 {X : ℕ → ℕ → ℝ} (hA : IsR (a := 4096) (b := 3072) (m ((c.tc : Thread nD τ).loc main_arg0) : S4096x3072.Idx → EReal) X) (Y T : ℕ → ℕ → ℝ)
    (h : Fin 8) (t : Fin 4096) :
    (V m c main_v16 : S8x4096x1.Idx → EReal) (ix3 h t 0) = ((∑ s ∈ Finset.range 4096, (hd X Y T h.val).rm t.val s : ℝ) : EReal) := by
  unfold V
  simp only [hostOps0, hostOps0_1, hostOps0_2, hostOps0_3, hostOps0_4, List.flatten_cons, List.flatten_nil, List.append_nil, List.cons_append, List.nil_append]
  after_reads_at
  rw [Finset.sum_range, coe_sum]
  refine Finset.sum_congr rfl fun s _ => ?_
  have e := z_coe hA Y T h t s
  rw [slt_ofNat (by omega) (by omega)]
  unfold Hd.rm
  by_cases hst : s.val < t.val
  · rw [if_pos hst, if_pos hst]
    refine Eq.trans ?_ ((soft_coe ((hd X Y T h.val).z t.val s.val)).trans (congrArg _ (lsg_neg _)))
    rw [← e]
    rfl
  · rw [if_neg hst, if_neg hst]
    show Ideal.ofBits .f32 0#32 = _
    simp

end Sb

end
-- ==== Proof.Steps.lean ====
/- What the run holds after each grid point. -/
module

public import proofs.«01_k».proof.Proof.Grid
public import proofs.«01_k».proof.Proof.Gen.KernelIdeal.Value
public import Idealize.ShloMosaic.Lib.Pipeline.ValueKit

@[expose] public section

set_option maxRecDepth 16384
set_option maxHeartbeats 4000000

noncomputable section

namespace Sb

open Idealize.ShloMosaic Idealize.ShloMosaic.TcCoe Cert.KernelIdeal Cert.KernelIdeal.Gen
open scoped BigOperators

variable (m : (ℓ : Loc nD τ sig) → Buf (Elt Ideal) ℓ) (c : Dev nD) {X Y T : ℕ → ℕ → ℝ}

/-- What the query blocks before `n` leave in a pair's key gradient. -/
def key (H : ℕ → Hd) (n s w : ℕ) : ℝ :=
  ∑ j ∈ Finset.range n, if s < 256 * (j + 1) then ∑ t ∈ Finset.range 256, (H (w / 128)).dz (256 * j + t) s * (H (w / 128)).q (256 * j + t) (w % 128) else 0

/-- The same of the value gradient. -/
def val (H : ℕ → Hd) (n s w : ℕ) : ℝ :=
  ∑ j ∈ Finset.range n, if s < 256 * (j + 1) then ∑ t ∈ Finset.range 256, (H (w / 128)).a (256 * j + t) s * (H (w / 128)).dy (256 * j + t) (w % 128) else 0

/-- The three output blocks after the query block `q`. -/
structure Upto (H : ℕ → Hd) (q : ℕ) (m7 : S256x256.Idx → EReal) (m8 m9 : S4096x256.Idx → EReal) : Prop where
  h7 : IsR (a := 256) (b := 256) m7 fun t w => ∑ s ∈ Finset.range (256 * (q + 1)), (H (w / 128)).dz (256 * q + t) s * (H (w / 128)).k s (w % 128)
  h8 : IsR (a := 4096) (b := 256) m8 (key H (q + 1))
  h9 : IsR (a := 4096) (b := 256) m9 (val H (q + 1))

theorem After.upto {H : ℕ → Hd} {q : ℕ} {p8 p9 : ℕ → ℕ → ℝ} {m7 : S256x256.Idx → EReal} {m8 m9 : S4096x256.Idx → EReal}
    (h : After H q p8 p9 m7 m8 m9) (e8 : p8 = key H q) (e9 : p9 = val H q) : Upto H q m7 m8 m9 := by
  subst e8 e9
  exact ⟨h.h7, h.h8.congr fun _ _ _ _ => (Finset.sum_range_succ _ _).symm, h.h9.congr fun _ _ _ _ => (Finset.sum_range_succ _ _).symm⟩

theorem key_zero (H : ℕ → Hd) : key H 0 = fun _ _ => 0 := by funext s w; exact Finset.sum_range_zero _
theorem val_zero (H : ℕ → Hd) : val H 0 = fun _ _ => 0 := by funext s w; exact Finset.sum_range_zero _

theorem outs_A (h : OpsAt m c X Y T) (t : Fin cfg0.N) (h0 : t.val % 16 = 0) :
    Upto (pair X Y T (t.val / 16)) (t.val % 16) (outsAt0 m c t.val t.isLt).1 (outsAt0 m c t.val t.isLt).2.1 (outsAt0 m c t.val t.isLt).2.2 := by
  have A := point_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    _ _ _ _ _ ((hcond0_0 t).mpr h0) (point_in m c h t)
  rw [qb_point] at A
  rw [outsAt0_A m c t h0]
  refine After.upto A ?_ ?_
  · rw [h0, key_zero]
  · rw [h0, val_zero]

theorem outs_B (h : OpsAt m c X Y T) (t : Fin cfg0.N) (h0 : ¬t.val % 16 = 0)
    (ih : Upto (pair X Y T ((t.val - 1) / 16)) ((t.val - 1) % 16) (outsAt0 m c (t.val - 1) (Nat.lt_of_le_of_lt (Nat.sub_le _ _) t.isLt)).1
      (outsAt0 m c (t.val - 1) (Nat.lt_of_le_of_lt (Nat.sub_le _ _) t.isLt)).2.1 (outsAt0 m c (t.val - 1) (Nat.lt_of_le_of_lt (Nat.sub_le _ _) t.isLt)).2.2) :
    Upto (pair X Y T (t.val / 16)) (t.val % 16) (outsAt0 m c t.val t.isLt).1 (outsAt0 m c t.val t.isLt).2.1 (outsAt0 m c t.val t.isLt).2.2 := by
  have e1 : (t.val - 1) / 16 = t.val / 16 := by omega
  have e2 : (t.val - 1) % 16 + 1 = t.val % 16 := by omega
  have i8 := ih.h8
  have i9 := ih.h9
  rw [e1, e2] at i8 i9
  have A := point_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    _ _ _ _ _ (fun hh => h0 ((hcond0_0 t).mp hh)) (point_in m c h t) _ _ i8 i9
  rw [qb_point] at A
  rw [outsAt0_B m c t h0]
  exact After.upto A rfl rfl

/-- What the run holds after a point. -/
theorem outs (h : OpsAt m c X Y T) (t : Fin cfg0.N) :
    Upto (pair X Y T (t.val / 16)) (t.val % 16) (outsAt0 m c t.val t.isLt).1 (outsAt0 m c t.val t.isLt).2.1 (outsAt0 m c t.val t.isLt).2.2 := by
  obtain ⟨n, hn⟩ := t
  induction n with
  | zero => exact outs_A m c h ⟨0, hn⟩ (Nat.zero_mod _)
  | succ n ih =>
    by_cases h0 : (n + 1) % 16 = 0
    · exact outs_A m c h ⟨n + 1, hn⟩ h0
    · exact outs_B m c h ⟨n + 1, hn⟩ h0 (ih (Nat.lt_of_succ_lt hn))

end Sb

end
-- ==== Proof.Final.lean ====
/- The grid: what the kernel's three results hold once every query block of every pair of heads has been visited. -/
module

public import proofs.«01_k».proof.Proof.Steps
public import proofs.«01_k».proof.Proof.Gen.KernelIdeal.Value
public import Idealize.ShloMosaic.Lib.Pipeline.ValueKit

@[expose] public section

set_option maxRecDepth 16384
set_option maxHeartbeats 4000000

noncomputable section

namespace Sb

open Idealize.ShloMosaic Idealize.ShloMosaic.TcCoe Cert.KernelIdeal Cert.KernelIdeal.Gen
open scoped BigOperators

variable (m : (ℓ : Loc nD τ sig) → Buf (Elt Ideal) ℓ) (c : Dev nD) {X Y T : ℕ → ℕ → ℝ}

/-- Blocks of rows, none of the masked ones counted. -/
theorem all_rows (f : ℕ → ℕ → ℝ) (hf : ∀ t s, t ≤ s → f t s = 0) (s n : ℕ) :
    (∑ j ∈ Finset.range n, if s < 256 * (j + 1) then ∑ t ∈ Finset.range 256, f (256 * j + t) s else 0) = ∑ t ∈ Finset.range (256 * n), f t s := by
  induction n with
  | zero => simp
  | succ n ih =>
    rw [Finset.sum_range_succ, ih, Nat.mul_succ, ← sum_tile (fun t => f t s) (256 * n) 256]
    congr 1
    split_ifs with h
    · rfl
    · exact (Finset.sum_eq_zero fun t ht => hf _ _ (by have := Finset.mem_range.mp ht; omega)).symm

/-- The keys after the query are masked. -/
theorem all_keys (f : ℕ → ℕ → ℝ) (hf : ∀ t s, t ≤ s → f t s = 0) (t n : ℕ) (h1 : t < 256 * n) (h2 : n ≤ 16) :
    ∑ s ∈ Finset.range (256 * n), f t s = ∑ s ∈ Finset.range 4096, f t s := by
  refine Finset.sum_subset (fun x hx => Finset.mem_range.mpr (by have := Finset.mem_range.mp hx; omega)) fun s _ h => hf _ _ ?_
  rw [Finset.mem_range] at h
  omega

/-- The whole gradients, head by head. -/
def dqR (X Y T : ℕ → ℕ → ℝ) (t w : ℕ) : ℝ := ∑ s ∈ Finset.range 4096, (hd X Y T (w / 128)).dz t s * (hd X Y T (w / 128)).k s (w % 128)
def dkR (X Y T : ℕ → ℕ → ℝ) (s w : ℕ) : ℝ := ∑ t ∈ Finset.range 4096, (hd X Y T (w / 128)).dz t s * (hd X Y T (w / 128)).q t (w % 128)
def dvR (X Y T : ℕ → ℕ → ℝ) (s w : ℕ) : ℝ := ∑ t ∈ Finset.range 4096, (hd X Y T (w / 128)).a t s * (hd X Y T (w / 128)).dy t (w % 128)

theorem IsR.at {a b : ℕ} {Z : (⟨2, ![a, b]⟩ : Shape).Idx → EReal} {z : ℕ → ℕ → ℝ} (h : IsR Z z) (y : (⟨2, ![a, b]⟩ : Shape).Idx) :
    Z y = ((z (y 0).val (y 1).val : ℝ) : EReal) :=
  (congrArg Z (eq_ix2 y)).trans (h (y 0) (y 1))

theorem pair_head (X Y T : ℕ → ℕ → ℝ) (p w : ℕ) : pair X Y T p (w / 128) = hd X Y T ((p * 256 + w) / 128) := by
  unfold pair
  congr 1
  omega

theorem lane_head (p w : ℕ) : w % 128 = (p * 256 + w) % 128 := by omega

theorem dq_block (p r t w : ℕ) (hr : r < 16) (ht : t < 256) :
    ∑ s ∈ Finset.range (256 * (r + 1)), (pair X Y T p (w / 128)).dz (256 * r + t) s * (pair X Y T p (w / 128)).k s (w % 128)
      = dqR X Y T (r * 256 + t) (p * 256 + w) := by
  unfold dqR
  rw [pair_head, lane_head p w, Nat.mul_comm r 256]
  exact all_keys (fun a s => (hd X Y T ((p * 256 + w) / 128)).dz a s * (hd X Y T ((p * 256 + w) / 128)).k s ((p * 256 + w) % 128))
    (fun a s h => by rw [Hd.dz_zero _ h, zero_mul]) (256 * r + t) (r + 1) (by omega) (by omega)

theorem dk_block (p s w : ℕ) : key (pair X Y T p) 16 s w = dkR X Y T s (p * 256 + w) := by
  unfold dkR key
  rw [pair_head, lane_head p w]
  exact all_rows (fun t s => (hd X Y T ((p * 256 + w) / 128)).dz t s * (hd X Y T ((p * 256 + w) / 128)).q t ((p * 256 + w) % 128))
    (fun a s h => by rw [Hd.dz_zero _ h, zero_mul]) s 16

theorem dv_block (p s w : ℕ) : val (pair X Y T p) 16 s w = dvR X Y T s (p * 256 + w) := by
  unfold dvR val
  rw [pair_head, lane_head p w]
  exact all_rows (fun t s => (hd X Y T ((p * 256 + w) / 128)).a t s * (hd X Y T ((p * 256 + w) / 128)).dy t ((p * 256 + w) % 128))
    (fun a s h => by rw [Hd.a_zero _ h, zero_mul]) s 16

theorem final5 (h : OpsAt m c X Y T) :
    (dats m 0 c).arrAt 5 cfg0.N = fun i : S4096x1024.Idx => ((dqR X Y T (i 0).val (i 1).val : ℝ) : EReal) := by
  refine (dats m 0 c).arrAt_eq_of_covers 5 _ (by decide +kernel) fun t hf y => ?_
  have hl := point_lt t
  have h0 := (outs m c h t).h7.at y
  blk_simp [idx5 t]
  rw [after0_5]
  refine h0.trans (congrArg _ ?_)
  have hy : ((y : S256x256.Idx) 0).val < 256 := ((y : S256x256.Idx) 0).isLt
  exact dq_block _ _ _ _ (by omega) hy

theorem final6 (h : OpsAt m c X Y T) :
    (dats m 0 c).arrAt 6 cfg0.N = fun i : S4096x1024.Idx => ((dkR X Y T (i 0).val (i 1).val : ℝ) : EReal) := by
  refine (dats m 0 c).arrAt_eq_of_covers 6 _ (by decide +kernel) fun t hf y => ?_
  have hm := (flush0_6 t).mp hf
  have h0 := (outs m c h t).h8.at y
  rw [hm] at h0
  blk_simp [idx6 t]
  rw [after0_6]
  refine h0.trans (congrArg _ ?_)
  exact dk_block _ _ _

theorem final7 (h : OpsAt m c X Y T) :
    (dats m 0 c).arrAt 7 cfg0.N = fun i : S4096x1024.Idx => ((dvR X Y T (i 0).val (i 1).val : ℝ) : EReal) := by
  refine (dats m 0 c).arrAt_eq_of_covers 7 _ (by decide +kernel) fun t hf y => ?_
  have hm := (flush0_7 t).mp hf
  have h0 := (outs m c h t).h9.at y
  rw [hm] at h0
  blk_simp [idx7 t]
  rw [after0_7]
  refine h0.trans (congrArg _ ?_)
  exact dv_block _ _ _

end Sb

end
-- ==== Proof.Window.lean ====
/- The two running sums of the reference as sums over a range. -/
module

public import proofs.«01_k».proof.Proof.HostTot
public import proofs.«01_k».proof.Proof.Gen.ReferenceIdeal.Read

@[expose] public section

set_option maxRecDepth 16384
set_option maxHeartbeats 4000000

noncomputable section

namespace Sb

open Idealize.ShloMosaic Idealize.ShloMosaic.TcCoe
open scoped BigOperators

/-- The array `V` holds the real function `x` of the three coordinates. -/
def IsR3 {a b c : ℕ} (V : (⟨3, ![a, b, c]⟩ : Shape).Idx → EReal) (x : ℕ → ℕ → ℕ → ℝ) : Prop :=
  ∀ (i : Fin a) (j : Fin b) (k : Fin c), V (ix3 i j k) = ((x i.val j.val k.val : ℝ) : EReal)

theorem foldl_real {α : Type} (l : List α) (F : EReal → α → EReal) (f : α → ℝ) (hF : ∀ r : ℝ, ∀ n, F r n = ((r + f n : ℝ) : EReal)) (r : ℝ) :
    l.foldl F (r : EReal) = ((r + (l.map f).sum : ℝ) : EReal) := by
  induction l generalizing r with
  | nil => simp
  | cons n l ih => rw [List.foldl_cons, hF, ih, List.map_cons, List.sum_cons, add_assoc]

theorem win_pos (n : Fin (⟨3, ![1, 1, 4096]⟩ : Shape).numel) :
    ((⟨3, ![1, 1, 4096]⟩ : Shape).rowMajor.symm n 0).val = 0 ∧ ((⟨3, ![1, 1, 4096]⟩ : Shape).rowMajor.symm n 1).val = 0
      ∧ ((⟨3, ![1, 1, 4096]⟩ : Shape).rowMajor.symm n 2).val = n.val := by
  have h0 : ((⟨3, ![1, 1, 4096]⟩ : Shape).rowMajor.symm n 0).val < 1 := ((⟨3, ![1, 1, 4096]⟩ : Shape).rowMajor.symm n 0).isLt
  have h1 : ((⟨3, ![1, 1, 4096]⟩ : Shape).rowMajor.symm n 1).val < 1 := ((⟨3, ![1, 1, 4096]⟩ : Shape).rowMajor.symm n 1).isLt
  refine ⟨by omega, by omega, ?_⟩
  have e := (⟨3, ![1, 1, 4096]⟩ : Shape).rowMajor.apply_symm_apply n
  have e' := congrArg Fin.val e
  rw [Shape.rowMajor_val_three] at e'
  rw [Nat.lt_one_iff.mp h0, Nat.lt_one_iff.mp h1] at e'
  simpa using e'

theorem win_numel : (⟨3, ![1, 1, 4096]⟩ : Shape).numel = 4096 := by
  simp [Shape.numel, Fin.prod_univ_three]

/-- One entry of a running sum along the last axis. -/
theorem win_coe (lo hi : ℕ) {V : (⟨3, ![8, 4096, 4096]⟩ : Shape).Idx → EReal} {x : ℕ → ℕ → ℕ → ℝ} (hV : IsR3 (a := 8) (b := 4096) (c := 4096) V x)
    (h : (⟨3, ![8, 4096, 4096]⟩ : Shape).ReduceWindows ![1, 1, 4096] ![1, 1, 1] ![0, 0, lo] ![0, 0, hi] ⟨3, ![8, 4096, 4096]⟩)
    (a : Fin 8) (t s : Fin 4096) :
    Ideal.hostReduceWindowAdd ![1, 1, 4096] ![1, 1, 1] ![0, 0, lo] ![0, 0, hi] h V 0 (ix3 a t s)
      = ((∑ n ∈ Finset.range 4096, if lo ≤ s.val + n ∧ s.val + n - lo < 4096 then x a.val t.val (s.val + n - lo) else 0 : ℝ) : EReal) := by
  unfold Ideal.hostReduceWindowAdd Host.reduceWindow
  refine (foldl_real _ _ (fun n => if lo ≤ s.val + n.val ∧ s.val + n.val - lo < 4096 then x a.val t.val (s.val + n.val - lo) else 0) (fun r n => ?_) 0).trans ?_
  · obtain ⟨w0, w1, w2⟩ := win_pos n
    have ha := a.isLt
    have ht := t.isLt
    dsimp only
    by_cases hc : lo ≤ s.val + n.val ∧ s.val + n.val - lo < 4096
    · rw [if_pos hc, dif_pos (fun i => by
        match i with
        | ⟨0, _⟩ =>
          show 0 ≤ a.val * 1 + ((⟨3, ![1, 1, 4096]⟩ : Shape).rowMajor.symm n 0).val ∧ a.val * 1 + ((⟨3, ![1, 1, 4096]⟩ : Shape).rowMajor.symm n 0).val - 0 < 8
          omega
        | ⟨1, _⟩ =>
          show 0 ≤ t.val * 1 + ((⟨3, ![1, 1, 4096]⟩ : Shape).rowMajor.symm n 1).val ∧ t.val * 1 + ((⟨3, ![1, 1, 4096]⟩ : Shape).rowMajor.symm n 1).val - 0 < 4096
          omega
        | ⟨2, _⟩ =>
          show lo ≤ s.val * 1 + ((⟨3, ![1, 1, 4096]⟩ : Shape).rowMajor.symm n 2).val ∧ s.val * 1 + ((⟨3, ![1, 1, 4096]⟩ : Shape).rowMajor.symm n 2).val - lo < 4096
          omega)]
      rw [EReal.coe_add]
      congr 1
      refine (congrArg V (funext fun i => Fin.ext ?_)).trans (hV a t ⟨s.val + n.val - lo, hc.2⟩)
      match i with
      | ⟨0, _⟩ =>
        show a.val * 1 + ((⟨3, ![1, 1, 4096]⟩ : Shape).rowMajor.symm n 0).val - 0 = a.val
        omega
      | ⟨1, _⟩ =>
        show t.val * 1 + ((⟨3, ![1, 1, 4096]⟩ : Shape).rowMajor.symm n 1).val - 0 = t.val
        omega
      | ⟨2, _⟩ =>
        show s.val * 1 + ((⟨3, ![1, 1, 4096]⟩ : Shape).rowMajor.symm n 2).val - lo = s.val + n.val - lo
        omega
    · rw [if_neg hc, dif_neg (fun hin => hc (by
        have h2 : lo ≤ s.val * 1 + ((⟨3, ![1, 1, 4096]⟩ : Shape).rowMajor.symm n 2).val ∧ s.val * 1 + ((⟨3, ![1, 1, 4096]⟩ : Shape).rowMajor.symm n 2).val - lo < 4096 := hin 2
        omega))]
      rw [add_zero, add_zero]
  · congr 1
    rw [zero_add, ← Fin.sum_univ_def, Fin.sum_univ_eq_sum_range (fun n => if lo ≤ s.val + n ∧ s.val + n - lo < 4096 then x a.val t.val (s.val + n - lo) else 0), win_numel]

/-- From an entry to the end of the row. -/
theorem sum_rest (f : ℕ → ℝ) (s : ℕ) (hs : s < 4096) :
    (∑ n ∈ Finset.range 4096, if 0 ≤ s + n ∧ s + n - 0 < 4096 then f (s + n - 0) else 0) = ∑ j ∈ Finset.range 4096, f j - ∑ j ∈ Finset.range s, f j := by
  have e := sum_tile f s (4096 - s)
  rw [show s + (4096 - s) = 4096 by omega] at e
  rw [← e, add_sub_cancel_left, ← Finset.sum_filter]
  refine Finset.sum_congr ?_ fun _ _ => rfl
  ext n
  simp only [Finset.mem_filter, Finset.mem_range]
  omega

/-- From the start of the row to an entry. -/
theorem sum_start (f : ℕ → ℝ) (s : ℕ) (hs : s < 4096) :
    (∑ n ∈ Finset.range 4096, if 4095 ≤ s + n ∧ s + n - 4095 < 4096 then f (s + n - 4095) else 0) = ∑ j ∈ Finset.range (s + 1), f j := by
  have e := sum_tile (fun n => if 4095 ≤ s + n ∧ s + n - 4095 < 4096 then f (s + n - 4095) else 0) (4095 - s) (s + 1)
  rw [show 4095 - s + (s + 1) = 4096 by omega] at e
  rw [← e, Finset.sum_eq_zero (fun n hn => if_neg (by have := Finset.mem_range.mp hn; omega)), zero_add]
  refine Finset.sum_congr rfl fun n hn => ?_
  have := Finset.mem_range.mp hn
  rw [if_pos (by omega)]
  exact congrArg f (by omega)

end Sb

end
-- ==== Proof.Ref.lean ====
/- The reference's stages over the reals. -/
module

public import proofs.«01_k».proof.Proof.Window
public import proofs.«01_k».proof.Proof.Final
public import Idealize.ShloMosaic.Lib.Pointwise

@[expose] public section

set_option maxRecDepth 16384
set_option maxHeartbeats 4000000

noncomputable section

namespace Sb

open Idealize.ShloMosaic Idealize.ShloMosaic.TcCoe Cert.ReferenceIdeal Cert.ReferenceIdeal.Read
open scoped BigOperators

/-- The row totals of the masked logarithms, head by head. -/
def tots (X : ℕ → ℕ → ℝ) (h t : ℕ) : ℝ := ∑ s ∈ Finset.range 4096, (hd X (fun _ _ => 0) (fun _ _ => 0) h).rm t s

/-- Head `h` with its row totals. -/
def hh (X Y : ℕ → ℕ → ℝ) (h : ℕ) : Hd := hd X Y (tots X) h

theorem hh_tot (X Y : ℕ → ℕ → ℝ) (h t : ℕ) : (hh X Y h).tot t = ∑ s ∈ Finset.range 4096, (hh X Y h).rm t s := by
  show tots X h t = _
  unfold tots
  exact Finset.sum_congr rfl fun s _ => rfl

/-- The logarithm of one plus the exponential, in the form that does not overflow. -/
def sp (w : ℝ) : ℝ := max w 0 + Real.log (1 + Real.exp (-|w|))

theorem sp_lsg (w : ℝ) : w - sp w = lsg w := by
  unfold sp lsg
  have := min_add_max w 0
  linarith

theorem neg_sp (w : ℝ) : -sp (-w) = lsg w := by
  unfold sp lsg
  rw [abs_neg, neg_add, ← min_neg_neg, neg_neg, neg_zero, sub_eq_add_neg]

/-- The shares taken and left add up to one. -/
theorem share (z : ℝ) : Real.exp (lsg (-z)) = 1 - Real.exp (lsg z) := by
  have hp : 0 < 1 + Real.exp (-|z|) := by positivity
  have e : ∀ w : ℝ, Real.exp (w - Real.log (1 + Real.exp (-|z|))) = Real.exp w / (1 + Real.exp (-|z|)) := fun w => by
    rw [Real.exp_sub, Real.exp_log hp]
  unfold lsg
  rw [abs_neg, e, e, eq_sub_iff_add_eq, ← add_div, div_eq_one_iff_eq hp.ne']
  rcases le_total z 0 with h | h
  · rw [min_eq_right (by linarith), min_eq_left h, abs_of_nonpos h, neg_neg, Real.exp_zero]
  · rw [min_eq_left (by linarith), min_eq_right h, abs_of_nonneg h, Real.exp_zero, add_comm]

theorem coe_ne_inf (x : ℝ) : (x : EReal) ≠ Ideal.ofBits .f32 0x7F800000#32 := by
  have e : Ideal.ofBits .f32 0x7F800000#32 = (⊤ : EReal) := by simp [Ideal.ofBits, Ideal.ieee]
  rw [e]
  exact EReal.coe_ne_top x

/-- The library's spelling at a real argument. -/
theorem sp_coe (w : ℝ) :
    (if (w : EReal) ≠ (w : EReal) then (w : EReal) else max (w : EReal) 0
      + Ideal.log1p (Ideal.exp (-FloatOps.absf (F := Ideal) (φ := .f32) (w : EReal)))) = ((sp w : ℝ) : EReal) := by
  rw [if_neg (by simp), absf_coe, ← EReal.coe_neg |w|]
  unfold Ideal.log1p
  rw [log_one_add_exp, coe_zero, max_coe, ← EReal.coe_add]
  rfl

theorem dsp_coe (w : ℝ) :
    Ideal.exp ((if (w : EReal) = Ideal.ofBits .f32 0x7F800000#32 then 0 else (w : EReal))
      - (if ((sp w : ℝ) : EReal) = Ideal.ofBits .f32 0x7F800000#32 then 0 else ((sp w : ℝ) : EReal))) = ((Real.exp (lsg w) : ℝ) : EReal) := by
  rw [if_neg (coe_ne_inf _), if_neg (coe_ne_inf _), ← EReal.coe_sub, Ideal.exp_coe, sp_lsg]

variable {A : S4096x3072.Idx → EReal} {D : S4096x1024.Idx → EReal} {X Y : ℕ → ℕ → ℝ}
  (hA : IsR (a := 4096) (b := 3072) A X) (hD : IsR (a := 4096) (b := 1024) D Y)

include hA in
theorem r9 : IsR3 (a := 8) (b := 4096) (c := 4096) (val_main_v9 (F := Ideal) A) fun h t s => (hh X Y h).z t s := by
  intro h t s
  pointwise [val_main_v9, val_main_v7, val_main_v8, val_main_cst, val_main_v6, val_main_v5, val_main_v4, val_main_v3, val_main_v2, val_main_v1, val_main_v0]
  exact z_coe hA Y (tots X) h t s

include hA in
theorem r12 : IsR3 (a := 8) (b := 4096) (c := 4096) (val_main_call0_v1_0 (F := Ideal) A) fun h t s => sp (-(hh X Y h).z t s) := by
  intro h t s
  pointwise [val_main_call0_v1_0, val_main_call0_v0, val_main_call0_call0_cst, val_main_call0_call0_v0, val_main_call0_call0_v1, val_main_call0_call0_v2, val_main_call0_call0_v3, val_main_call0_call0_v4, val_main_call0_call0_v5, val_main_call0_call0_v6, val_main_call0_call0_v7, val_main_call0_call0_v8, val_main_call0_call0_v9, val_main_call0_call0_v10, val_main_call0_call0_v11]
  rw [r9 (Y := Y) hA h t s, ← EReal.coe_neg]
  exact sp_coe _

include hA in
theorem r13_0 : IsR3 (a := 8) (b := 4096) (c := 4096) (val_main_v13_0 (F := Ideal) A) fun h t s => (hh X Y h).lb t s := by
  intro h t s
  pointwise [val_main_v13_0]
  rw [r12 (Y := Y) hA h t s, ← EReal.coe_neg, neg_sp]
  rfl

include hA in
theorem r13_1 : IsR3 (a := 8) (b := 4096) (c := 4096) (val_main_v13_1 (F := Ideal) A) fun h t s => Real.exp (lsg (-(hh X Y h).z t s)) := by
  intro h t s
  pointwise [val_main_v13_1, val_main_call0_v0, val_main_call0_call0_cst_0, val_main_call0_call0_v13, val_main_call0_call0_v14, val_main_call0_call0_cst_1, val_main_call0_call0_v15, val_main_call0_call0_v16, val_main_call0_call0_cst_2, val_main_call0_call0_v17, val_main_call0_call0_v18, val_main_call0_call0_cst_3, val_main_call0_call0_v19, val_main_call0_call0_v20, val_main_call0_call0_v21]
  rw [r12 (Y := Y) hA h t s, r9 (Y := Y) hA h t s, ← EReal.coe_neg]
  exact dsp_coe _

include hA in
theorem r15 : IsR3 (a := 8) (b := 4096) (c := 4096) (val_main_call1_v1_0 (F := Ideal) A) fun h t s => sp ((hh X Y h).z t s) := by
  intro h t s
  pointwise [val_main_call1_v1_0, val_main_call1_v0, val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11, val_main_v14]
  rw [r9 (Y := Y) hA h t s, neg_neg]
  exact sp_coe _

include hA in
theorem r15_0 : IsR3 (a := 8) (b := 4096) (c := 4096) (val_main_v15_0 (F := Ideal) A) fun h t s => (hh X Y h).lr t s := by
  intro h t s
  pointwise [val_main_v15_0]
  rw [r15 (Y := Y) hA h t s, ← EReal.coe_neg]
  refine congrArg _ ?_
  unfold Hd.lr Hd.lb
  rw [← lsg_neg, ← neg_sp, neg_neg]

include hA in
theorem r15_1 : IsR3 (a := 8) (b := 4096) (c := 4096) (val_main_v15_1 (F := Ideal) A) fun h t s => Real.exp ((hh X Y h).lb t s) := by
  intro h t s
  pointwise [val_main_v15_1, val_main_call1_v0, val_main_call1_call0_cst_0, val_main_call1_call0_v13, val_main_call1_call0_v14, val_main_call1_call0_cst_1, val_main_call1_call0_v15, val_main_call1_call0_v16, val_main_call1_call0_cst_2, val_main_call1_call0_v17, val_main_call1_call0_v18, val_main_call1_call0_cst_3, val_main_call1_call0_v19, val_main_call1_call0_v20, val_main_call1_call0_v21, val_main_v14]
  rw [r15 (Y := Y) hA h t s, r9 (Y := Y) hA h t s, neg_neg]
  exact dsp_coe _

theorem zero_const : id (constant (F := Ideal) S_ FTy.f32 0#32) ix0 = (0 : EReal) := by
  show Ideal.ofBits .f32 0#32 = _
  simp

include hA in
theorem r16 : IsR3 (a := 8) (b := 4096) (c := 4096) (val_main_v16_0 (F := Ideal) A) fun h t s => (hh X Y h).rm t s := by
  intro h t s
  pointwise [val_main_v16_0, val_main_v16_1, val_main_call2_v0, val_main_call2_v2, val_main_cst_0, val_main_v12, val_main_v11, val_main_v10]
  rw [r15_0 (Y := Y) hA h t s, slt_ofNat (by omega) (by omega), zero_const]
  unfold Hd.rm
  by_cases hst : s.val < t.val
  · rw [if_pos hst, if_pos hst]
    rfl
  · rw [if_neg hst, if_neg hst]
    rfl

include hA in
theorem r17 : IsR3 (a := 8) (b := 4096) (c := 4096) (val_main_v17 (F := Ideal) A)
    fun h t s => (hh X Y h).tot t - ∑ j ∈ Finset.range s, (hh X Y h).rm t j := by
  intro h t s
  beta_reduce
  rw [hh_tot]
  refine Eq.trans ?_ ((win_coe 0 4095 (r16 (Y := Y) hA) Gen.reduceWindows_S8x4096x4096_S8x4096x4096_w1s1p0_0_w1s1p0_0_w4096s1p0_4095 h t s).trans (congrArg _ (sum_rest ((hh X Y h.val).rm t.val) s.val s.isLt)))
  unfold val_main_v17 Host.reduceWindowAdd
  show Ideal.hostReduceWindowAdd _ _ _ _ _ _ (Ideal.ofBits .f32 0#32) _ = _
  rw [show Ideal.ofBits .f32 0#32 = 0 by simp]

include hA in
/-- The exponential of the weight, masked or not. -/
theorem r20_real : IsR3 (a := 8) (b := 4096) (c := 4096) (val_main_v20 (F := Ideal) A)
    fun h t s => Real.exp ((hh X Y h).lb t s + ((hh X Y h).tot t - ∑ j ∈ Finset.range (s + 1), (hh X Y h).rm t j)) := by
  intro h t s
  pointwise [val_main_v20, val_main_v19, val_main_v18]
  rw [r13_0 (Y := Y) hA h t s, r17 (Y := Y) hA h t s, r16 (Y := Y) hA h t s, ← EReal.coe_sub, ← EReal.coe_add, Ideal.exp_coe]
  beta_reduce
  rw [Finset.sum_range_succ, sub_sub]

include hA in
theorem r21 : IsR3 (a := 8) (b := 4096) (c := 4096) (val_main_v21_0 (F := Ideal) A) fun h t s => (hh X Y h).a t s := by
  intro h t s
  pointwise [val_main_v21_0, val_main_v21_1, val_main_call4_v0, val_main_call4_v2, val_main_cst_1, val_main_v12, val_main_v11, val_main_v10]
  rw [r20_real (Y := Y) hA h t s, slt_ofNat (by omega) (by omega), zero_const]
  unfold Hd.a
  by_cases hst : s.val < t.val
  · rw [if_pos hst, if_pos hst]
    rfl
  · rw [if_neg hst, if_neg hst]
    rfl

include hA in
theorem r4 : IsR3 (a := 8) (b := 4096) (c := 128) (val_main_v4 (F := Ideal) A) fun h t d => (hh X Y h).q t d := by
  intro h t d
  pointwise [val_main_v4, val_main_v3, val_main_v0]
  rw [hA _ _]
  unfold hh hd
  simp only [Nat.mul_comm 128]

include hA in
theorem r6 : IsR3 (a := 8) (b := 4096) (c := 128) (val_main_v6 (F := Ideal) A) fun h t d => (hh X Y h).k t d := by
  intro h t d
  pointwise [val_main_v6, val_main_v5, val_main_v1]
  rw [hA _ _]
  unfold hh hd
  simp only [Nat.mul_comm 128, Nat.add_assoc]

include hA in
theorem r23 : IsR3 (a := 8) (b := 4096) (c := 128) (val_main_v23 (F := Ideal) A) fun h t d => (hh X Y h).v t d := by
  intro h t d
  pointwise [val_main_v23, val_main_v22, val_main_v2]
  rw [hA _ _]
  unfold hh hd
  simp only [Nat.mul_comm 128, Nat.add_assoc]

include hD in
theorem r28 : IsR3 (a := 8) (b := 4096) (c := 128) (val_main_v28 (F := Ideal) D) fun h t d => (hh X Y h).dy t d := by
  intro h t d
  pointwise [val_main_v28, val_main_v27]
  rw [hD _ _]
  unfold hh hd
  simp only [Nat.mul_comm 128]

include hA hD in
theorem r31 : IsR3 (a := 8) (b := 4096) (c := 4096) (val_main_v31 (F := Ideal) A D) fun h t s => (hh X Y h).da t s := by
  intro h t s
  pointwise [val_main_v31]
  simp only [r28 (X := X) hD _ _ _, r23 (Y := Y) hA _ _ _, ← EReal.coe_mul, ← coe_sum]
  unfold Hd.da
  rw [Finset.sum_range]

include hA hD in
theorem r35 : IsR3 (a := 8) (b := 4096) (c := 4096) (val_main_v35 (F := Ideal) A D) fun h t s => (hh X Y h).g t s := by
  intro h t s
  pointwise [val_main_v35, val_main_v34, val_main_call5_v0, val_main_call5_cst, val_main_v21_1, val_main_v12, val_main_v11, val_main_v10]
  rw [r31 hA hD h t s, r20_real (Y := Y) hA h t s, slt_ofNat (by omega) (by omega)]
  unfold Hd.g Hd.a
  by_cases hst : s.val < t.val
  · rw [if_pos hst, if_pos hst, mul_comm, EReal.coe_mul]
    rfl
  · rw [if_neg hst, if_neg hst, zero_mul]
    rfl

include hA hD in
theorem r37 : IsR3 (a := 8) (b := 4096) (c := 4096) (val_main_v37 (F := Ideal) A D)
    fun h t s => ∑ j ∈ Finset.range (s + 1), (hh X Y h).g t j := by
  intro h t s
  refine Eq.trans ?_ ((win_coe 4095 0 (r35 hA hD) Gen.reduceWindows_S8x4096x4096_S8x4096x4096_w1s1p0_0_w1s1p0_0_w4096s1p4095_0 h t s).trans (congrArg _ (sum_start ((hh X Y h.val).g t.val) s.val s.isLt)))
  unfold val_main_v37 Host.reduceWindowAdd
  show Ideal.hostReduceWindowAdd _ _ _ _ _ _ (Ideal.ofBits .f32 0#32) _ = _
  rw [show Ideal.ofBits .f32 0#32 = 0 by simp]

include hA hD in
theorem r45 : IsR3 (a := 8) (b := 4096) (c := 4096) (val_main_v45 (F := Ideal) A D) fun h t s => (hh X Y h).dz t s := by
  intro h t s
  pointwise [val_main_v45, val_main_v44, val_main_cst_2, val_main_v43, val_main_v42, val_main_call9_v1, val_main_call9_v0, val_main_v41, val_main_v40, val_main_call8_v1, val_main_call8_v0, val_main_v39, val_main_call7_cst, val_main_call7_v0, val_main_v38, val_main_v36, val_main_v16_1, val_main_v12, val_main_v11, val_main_v10]
  rw [r35 hA hD h t s, r37 hA hD h t s, r15_1 (Y := Y) hA h t s, r13_1 (Y := Y) hA h t s, slt_ofNat (by omega) (by omega), bits_sc]
  beta_reduce
  rw [share]
  by_cases hst : s.val < t.val
  · rw [if_pos hst]
    show (-(-(-(-(((hh X Y h.val).g t.val s.val : ℝ) : EReal) + ((∑ j ∈ Finset.range (s.val + 1), (hh X Y h.val).g t.val j : ℝ) : EReal)) * _)) + _) * _ = _
    simp only [← EReal.coe_neg, ← EReal.coe_add, ← EReal.coe_mul]
    refine congrArg _ ?_
    unfold Hd.dz Hd.b
    rw [if_pos hst, Finset.sum_range_succ]
    unfold Hd.lb
    ring
  · rw [if_neg hst, Hd.dz_zero _ (by omega)]
    have e : (hh X Y h.val).g t.val s.val = 0 := by
      unfold Hd.g
      rw [Hd.a_zero _ (by omega), zero_mul]
    rw [e]
    show (-(-(-(0 : EReal) * _)) + _) * _ = _
    simp

/-- The reference's three results. -/
theorem r51 (hA : IsR (a := 4096) (b := 3072) A X) (hD : IsR (a := 4096) (b := 1024) D Y) :
    IsR (a := 4096) (b := 1024) (val_main_v51 (F := Ideal) A D) (dqR X Y (tots X)) := by
  intro t w
  pointwise [val_main_v51, val_main_v50, val_main_v47]
  simp only [r45 hA hD _ _ _, r6 (Y := Y) hA _ _ _, ← EReal.coe_mul, ← coe_sum]
  unfold dqR
  rw [Finset.sum_range]
  rfl

theorem r49 (hA : IsR (a := 4096) (b := 3072) A X) (hD : IsR (a := 4096) (b := 1024) D Y) :
    IsR (a := 4096) (b := 1024) (val_main_v49 (F := Ideal) A D) (dkR X Y (tots X)) := by
  intro t w
  pointwise [val_main_v49, val_main_v48, val_main_v46]
  simp only [r45 hA hD _ _ _, r4 (Y := Y) hA _ _ _, ← EReal.coe_mul, ← coe_sum]
  unfold dkR
  rw [Finset.sum_range]
  rfl

theorem r33 (hA : IsR (a := 4096) (b := 3072) A X) (hD : IsR (a := 4096) (b := 1024) D Y) :
    IsR (a := 4096) (b := 1024) (val_main_v33 (F := Ideal) A D) (dvR X Y (tots X)) := by
  intro t w
  pointwise [val_main_v33, val_main_v32, val_main_v30, val_main_v29]
  simp only [r28 (X := X) hD _ _ _, r21 (Y := Y) hA _ _ _, ← EReal.coe_mul, ← coe_sum]
  unfold dvR
  rw [Finset.sum_range]
  simp only [mul_comm]
  rfl

end Sb

end
-- ==== Proof.Finite.lean ====
/-
  What the precondition says: every entry of `qkv` and of the cotangent is a real number.
-/
module

public import proofs.«01_k».proof.Proof.RealVec
public import proofs.«01_k».proof.Proof.Gen.Pre_finite
public import Idealize.ShloMosaic.Lib.ReduceAll
public import Idealize.ShloMosaic.Lib.Pointwise

@[expose] public section

noncomputable section

namespace Sb

open Idealize.ShloMosaic

/-- The real number at row `i`, column `j` of an array. -/
def reals {a b : ℕ} (Z : (⟨2, ![a, b]⟩ : Shape).Idx → EReal) (i j : ℕ) : ℝ :=
  if h : i < a ∧ j < b then (Z (ix2 ⟨i, h.1⟩ ⟨j, h.2⟩)).toReal else 0

theorem reals_of {a b : ℕ} {Z : (⟨2, ![a, b]⟩ : Shape).Idx → EReal} (h : ∀ i, max (Z i) (-(Z i)) < ⊤) : IsR Z (reals Z) := by
  intro i j
  have h1 := h (ix2 i j)
  have ht : Z (ix2 i j) ≠ ⊤ := fun e => by rw [e] at h1; simp at h1
  have hb : Z (ix2 i j) ≠ ⊥ := fun e => by rw [e] at h1; simp at h1
  unfold reals
  rw [dif_pos ⟨i.isLt, j.isLt⟩]
  exact (EReal.coe_toReal ht hb).symm

instance : Subsingleton Cert.Pre_finite.S_.Idx := ⟨fun i j => funext fun k => k.elim0⟩

theorem inf_word : Ideal.ofBits .f32 0x7F800000#32 = (⊤ : EReal) := by simp [Ideal.ofBits, Ideal.ieee]

theorem lt_of_cmp {x y : EReal} (h : Ideal.cmp .olt x y = 1#1) : x < y := by
  by_contra hn
  rw [Ideal.cmp_olt, decide_eq_false hn] at h
  exact absurd h (by decide)

variable {A : FVec Ideal Cert.Pre_finite.S4096x3072 .f32} {D : FVec Ideal Cert.Pre_finite.S4096x1024 .f32}

theorem finite_reals (h : Cert.Pre_finite.fn (F := Ideal) A D = fun _ => 1#1) :
    IsR (a := 4096) (b := 3072) A (reals A) ∧ IsR (a := 4096) (b := 1024) D (reals D) := by
  have h0 := congrFun h (fun k => k.elim0)
  obtain ⟨hA, hD⟩ := IntOp.andi_eq_one.1 h0
  refine ⟨reals_of fun i => ?_, reals_of fun i => ?_⟩
  · have e := Host.reduce_andi_all _ _ _ _ _ hA i
    exact (lt_of_cmp e).trans_eq inf_word
  · have e := Host.reduce_andi_all _ _ _ _ _ hD i
    exact (lt_of_cmp e).trans_eq inf_word

end Sb
-- ==== Proof.Finite2.lean ====
/-
  What the second precondition says: every entry of the projection, of the weight and of the cotangent is a real number.
-/
module

public import proofs.«01_k».proof.Proof.Finite
public import proofs.«01_k».proof.Proof.Gen.Pre_finite2

@[expose] public section

noncomputable section

namespace Sb

open Idealize.ShloMosaic

instance : Subsingleton Cert.Pre_finite2.S_.Idx := ⟨fun i j => funext fun k => k.elim0⟩

variable {G : FVec Ideal Cert.Pre_finite2.S4096x11264 .f32} {W : FVec Ideal Cert.Pre_finite2.S5632x2048 .f32}
  {D : FVec Ideal Cert.Pre_finite2.S4096x2048 .f32}

theorem finite2_reals (h : Cert.Pre_finite2.fn (F := Ideal) G W D = fun _ => 1#1) :
    IsR (a := 4096) (b := 11264) G (reals G) ∧ IsR (a := 5632) (b := 2048) W (reals W) ∧ IsR (a := 4096) (b := 2048) D (reals D) := by
  have h0 := congrFun h (fun k => k.elim0)
  obtain ⟨hGW, hD⟩ := IntOp.andi_eq_one.1 h0
  obtain ⟨hG, hW⟩ := IntOp.andi_eq_one.1 hGW
  refine ⟨reals_of fun i => ?_, reals_of fun i => ?_, reals_of fun i => ?_⟩
  · have e := Host.reduce_andi_all _ _ _ _ _ hG i
    exact (lt_of_cmp e).trans_eq inf_word
  · have e := Host.reduce_andi_all _ _ _ _ _ hW i
    exact (lt_of_cmp e).trans_eq inf_word
  · have e := Host.reduce_andi_all _ _ _ _ _ hD i
    exact (lt_of_cmp e).trans_eq inf_word

end Sb
-- ==== Proof.Swiglu.lean ====
/- The gated unit's backward product: the kernel's array over the reals, entry by entry. -/
module

public import proofs.«01_k».proof.Proof.RealVec
public import proofs.«01_k».proof.Proof.Pay
public import proofs.«01_k».proof.Proof.Gen.Kernel2Ideal.Value
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 4000000

noncomputable section

namespace Sb.Swiglu

open Idealize.ShloMosaic Idealize.ShloMosaic.TcCoe Cert.Kernel2Ideal Cert.Kernel2Ideal.Gen
open scoped BigOperators

/-- The logistic function. -/
def sg (x : ℝ) : ℝ := (1 + Real.exp (-x))⁻¹

theorem sg_neg (x : ℝ) : Ideal.div 1 (1 + Ideal.exp (-(x : EReal))) = ((sg x : ℝ) : EReal) := by
  have h : (1 + Real.exp (-x)) ≠ 0 := by have := Real.exp_pos (-x); linarith
  rw [← EReal.coe_neg, Ideal.exp_coe, coe_one, ← EReal.coe_add]
  unfold Ideal.div
  rw [if_neg (by exact_mod_cast h), ← coe_one, one_mul, ← EReal.coe_inv]
  rfl

theorem sg_sub (x : ℝ) : Ideal.div 1 (1 + Ideal.exp (0 - (x : EReal))) = ((sg x : ℝ) : EReal) := by
  rw [zero_sub, sg_neg]

/-- The gradient of a gate entry `g` whose other half is `u`, where the gradient of the unit's output is `a`. -/
def gateG (a g u : ℝ) : ℝ := a * u * (sg g * (1 + g * (1 - sg g)))

/-- The gradient of the other half. -/
def upG (a g : ℝ) : ℝ := a * (g * sg g)

/-- The gradient of the unit's output: the cotangent times the transposed weight. -/
def da (d w : ℕ → ℕ → ℝ) (r n : ℕ) : ℝ := ∑ k ∈ Finset.range 2048, d r k * w n k

/-- The kernel's array: in every group of 2816 columns, 1408 gradients of gates and then those of the other halves. -/
def spec (d w g : ℕ → ℕ → ℝ) (r j : ℕ) : ℝ :=
  if j % 2816 < 1408 then gateG (da d w r (j / 2816 * 1408 + j % 2816)) (g r j) (g r (j + 1408))
  else upG (da d w r (j / 2816 * 1408 + (j % 2816 - 1408))) (g r (j - 1408))

section
variable {A : S512x2048.Idx → EReal} {B : S1408x2048.Idx → EReal} {G U : S512x1408.Idx → EReal} {d w g u : ℕ → ℕ → ℝ}

theorem is_gate (hA : IsR (a := 512) (b := 2048) A d) (hB : IsR (a := 1408) (b := 2048) B w)
    (hG : IsR (a := 512) (b := 1408) G g) (hU : IsR (a := 512) (b := 1408) U u) :
    IsR (a := 512) (b := 1408) (k0_pay4 (F := Ideal) A B G U) (fun r j => gateG (da d w r j) (g r j) (u r j)) := by
  intro i j
  pointwise [k0_pay4, k0_pay3, k0_pay2, k0_pay1]
  simp only [hA _ _, hB _ _, hG _ _, hU _ _, sg_sub]
  simp only [coe_one, ← EReal.coe_mul, ← EReal.coe_sub, ← EReal.coe_add, ← coe_sum, gateG, da, Finset.sum_range]

theorem is_up (hA : IsR (a := 512) (b := 2048) A d) (hB : IsR (a := 1408) (b := 2048) B w)
    (hG : IsR (a := 512) (b := 1408) G g) :
    IsR (a := 512) (b := 1408) (k0_pay5 (F := Ideal) A B G) (fun r j => upG (da d w r j) (g r j)) := by
  intro i j
  pointwise [k0_pay5, k0_pay3, k0_pay2, k0_pay1]
  simp only [hA _ _, hB _ _, hG _ _, sg_sub]
  simp only [← EReal.coe_mul, ← coe_sum, upG, da, Finset.sum_range]

end

section
variable {A : S512x2048.Idx → EReal} {B : S1408x2048.Idx → EReal} {G : S512x2816.Idx → EReal} {d w g : ℕ → ℕ → ℝ}

theorem is_left (hG : IsR (a := 512) (b := 2816) G g) :
    IsR (a := 512) (b := 1408) (View.ld (Val := Elt Ideal) (e' := .f32) G r0_2) g := by
  intro i j
  refine (View.ld_unit_apply_of (Val := Elt Ideal) (e := .f32) G _ _ _ (ix2 i j) (ix2 i ⟨j.val, by omega⟩) (fun ax => ?_)).trans (hG _ _)
  match ax with
  | 0 => show i.val = 0 + i.val; omega
  | 1 => show j.val = 0 + j.val; omega

theorem is_right (hG : IsR (a := 512) (b := 2816) G g) :
    IsR (a := 512) (b := 1408) (View.ld (Val := Elt Ideal) (e' := .f32) G r0_3) (fun r j => g r (1408 + j)) := by
  intro i j
  refine (View.ld_unit_apply_of (Val := Elt Ideal) (e := .f32) G _ _ _ (ix2 i j) (ix2 i ⟨1408 + j.val, by omega⟩) (fun ax => ?_)).trans (hG _ _)
  match ax with
  | 0 => show i.val = 0 + i.val; omega
  | 1 => show 1408 + j.val = 1408 + j.val; omega

/-- What one grid point leaves in its output block. -/
theorem is_out (hA : IsR (a := 512) (b := 2048) A d) (hB : IsR (a := 1408) (b := 2048) B w)
    (hG : IsR (a := 512) (b := 2816) G g) :
    IsR (a := 512) (b := 2816) (out0_3 (F := Ideal) A B G) (fun r j =>
      if j < 1408 then gateG (da d w r j) (g r j) (g r (j + 1408)) else upG (da d w r (j - 1408)) (g r (j - 1408))) := by
  intro i j
  frame_out [out0_3]
  refine View.canon_eq_of_allAt _ _ _ (cover0_3 _ _ _)
    (View.allAt_cons_unit _ _ _ _ _ ?_ (View.allAt_cons_unit _ _ _ _ _ ?_ (View.allAt_nil _ _)))
  · intro x hx
    have h0 : i.val = 0 + (x 0).val := hx 0
    have h1 : j.val = 1408 + (x 1).val := hx 1
    have e := is_up hA hB (is_left hG) (x 0) (x 1)
    rw [← eq_ix2 (x : S512x1408.Idx)] at e
    refine e.trans ?_
    rw [if_neg (by omega), h0, h1, Nat.zero_add, Nat.add_sub_cancel_left]
  · intro x hx
    have h0 : i.val = 0 + (x 0).val := hx 0
    have h1 : j.val = 0 + (x 1).val := hx 1
    have hx1 : (x 1).val < 1408 := (x 1).isLt
    have e := is_gate hA hB (is_left hG) (is_right hG) (x 0) (x 1)
    rw [← eq_ix2 (x : S512x1408.Idx)] at e
    refine e.trans ?_
    rw [if_pos (by omega), h0, h1, Nat.zero_add, Nat.zero_add, Nat.add_comm (x 1).val 1408]

end

variable (m : (ℓ : Loc nD τ sig) → Buf (Elt Ideal) ℓ) (c : Dev nD)

theorem V0 : (V m c main_v0 : S4096x2048.Idx → EReal) = (m ((c.tc : Thread nD τ).loc main_arg2) : S4096x2048.Idx → EReal) := by
  unfold V
  simp only [hostOps0, List.flatten_cons, List.flatten_nil, List.append_nil, List.cons_append, List.nil_append]
  after_reads_simp
  rfl

theorem V1 : (V m c main_v1 : S5632x2048.Idx → EReal) = (m ((c.tc : Thread nD τ).loc main_arg1) : S5632x2048.Idx → EReal) := by
  unfold V
  simp only [hostOps0, List.flatten_cons, List.flatten_nil, List.append_nil, List.cons_append, List.nil_append]
  after_reads_simp
  rfl

theorem V2 : (V m c main_v2 : S4096x11264.Idx → EReal) = (m ((c.tc : Thread nD τ).loc main_arg0) : S4096x11264.Idx → EReal) := by
  unfold V
  simp only [hostOps0, List.flatten_cons, List.flatten_nil, List.append_nil, List.cons_append, List.nil_append]
  after_reads_simp
  rfl

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![t.val % 4, 0] := (by decide +kernel : ∀ t : Fin grid0.N, win0_1.index t = ![t.val % 4, 0])
theorem idx2 : ∀ t : Fin cfg0.N, win0_2.index t = ![t.val / 4, t.val % 4] := (by decide +kernel : ∀ t : Fin grid0.N, win0_2.index t = ![t.val / 4, t.val % 4])
theorem idx3 : ∀ t : Fin cfg0.N, win0_3.index t = ![t.val / 4, t.val % 4] := (by decide +kernel : ∀ t : Fin grid0.N, win0_3.index t = ![t.val / 4, t.val % 4])

theorem point_lt (t : Fin cfg0.N) : t.val < 32 := t.isLt

variable {g w d : ℕ → ℕ → ℝ}

theorem blk0 (hD : IsR (a := 4096) (b := 2048) (m ((c.tc : Thread nD τ).loc main_arg2)) d) (t : Fin cfg0.N) :
    IsR (a := 512) (b := 2048) (iblk m c 0 t) (fun r k => d (512 * (t.val / 4) + r) k) := by
  intro a k
  have hl := point_lt t
  have h : iblk m c 0 t (ix2 a k) = V m c main_v0 (ix2 ⟨512 * (t.val / 4) + a.val, by omega⟩ k) := by
    blk_ext [iblk, idx0 t]
  exact h.trans ((congrFun (V0 m c) _).trans (hD _ _))

theorem blk1 (hW : IsR (a := 5632) (b := 2048) (m ((c.tc : Thread nD τ).loc main_arg1)) w) (t : Fin cfg0.N) :
    IsR (a := 1408) (b := 2048) (iblk m c 1 t) (fun n k => w (1408 * (t.val % 4) + n) k) := by
  intro a k
  have h : iblk m c 1 t (ix2 a k) = V m c main_v1 (ix2 ⟨1408 * (t.val % 4) + a.val, by omega⟩ k) := by
    blk_ext [iblk, idx1 t]
  exact h.trans ((congrFun (V1 m c) _).trans (hW _ _))

theorem blk2 (hG : IsR (a := 4096) (b := 11264) (m ((c.tc : Thread nD τ).loc main_arg0)) g) (t : Fin cfg0.N) :
    IsR (a := 512) (b := 2816) (iblk m c 2 t) (fun r p => g (512 * (t.val / 4) + r) (2816 * (t.val % 4) + p)) := by
  intro a k
  have hl := point_lt t
  have h : iblk m c 2 t (ix2 a k)
      = V m c main_v2 (ix2 ⟨512 * (t.val / 4) + a.val, by omega⟩ ⟨2816 * (t.val % 4) + k.val, by omega⟩) := by
    blk_ext [iblk, idx2 t]
  exact h.trans ((congrFun (V2 m c) _).trans (hG _ _))

/-- An entry of a block, in the coordinates of the whole array. -/
theorem spec_block (d w g : ℕ → ℕ → ℝ) (R q r j : ℕ) (hj : j < 2816) :
    (if j < 1408 then gateG (da (fun r k => d (R + r) k) (fun n k => w (1408 * q + n) k) r j) (g (R + r) (2816 * q + j)) (g (R + r) (2816 * q + (j + 1408)))
      else upG (da (fun r k => d (R + r) k) (fun n k => w (1408 * q + n) k) r (j - 1408)) (g (R + r) (2816 * q + (j - 1408))))
      = spec d w g (R + r) (2816 * q + j) := by
  have h1 : (2816 * q + j) % 2816 = j := by omega
  have h2 : (2816 * q + j) / 2816 = q := by omega
  unfold spec da
  rw [h1, h2, Nat.mul_comm q 1408]
  by_cases h : j < 1408
  · rw [if_pos h, if_pos h]
    rfl
  · rw [if_neg h, if_neg h, Nat.add_sub_assoc (by omega)]

end Sb.Swiglu
-- ==== Proof.SwigluOut.lean ====
/- The gated unit's backward product: the kernel's array assembled. -/
module

public import proofs.«01_k».proof.Proof.Swiglu
public import proofs.«01_k».proof.Proof.Gen.Kernel2Ideal.Value
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 4000000

noncomputable section

namespace Sb.Swiglu

open Idealize.ShloMosaic Idealize.ShloMosaic.TcCoe Cert.Kernel2Ideal Cert.Kernel2Ideal.Gen
open scoped BigOperators

variable (m : (ℓ : Loc nD τ sig) → Buf (Elt Ideal) ℓ) (c : Dev nD) {g w d : ℕ → ℕ → ℝ}

theorem final3 (hG : IsR (a := 4096) (b := 11264) (m ((c.tc : Thread nD τ).loc main_arg0)) g)
    (hW : IsR (a := 5632) (b := 2048) (m ((c.tc : Thread nD τ).loc main_arg1)) w)
    (hD : IsR (a := 4096) (b := 2048) (m ((c.tc : Thread nD τ).loc main_arg2)) d) :
    (dats m 0 c).arrAt 3 cfg0.N = fun i : S4096x11264.Idx => ((spec d w g (i 0).val (i 1).val : ℝ) : EReal) := by
  refine (dats m 0 c).arrAt_eq_of_covers 3 _ (by decide +kernel) fun t hf y => ?_
  blk_simp [idx3 t]
  rw [after0_3]
  have e := is_out (blk0 m c hD t) (blk1 m c hW t) (blk2 m c hG t) ((y : S512x2816.Idx) 0) ((y : S512x2816.Idx) 1)
  rw [← eq_ix2 (y : S512x2816.Idx)] at e
  have hy1 : ((y : S512x2816.Idx) 1).val < 2816 := ((y : S512x2816.Idx) 1).isLt
  have k := spec_block d w g (512 * (t.val / 4)) (t.val % 4) ((y : S512x2816.Idx) 0).val ((y : S512x2816.Idx) 1).val hy1
  have e' := e.trans (congrArg (fun x : ℝ => (x : EReal)) k)
  rw [Nat.mul_comm 512, Nat.mul_comm 2816] at e'
  exact e'

end Sb.Swiglu
-- ==== Proof.SwigluRef.lean ====
/- The gated unit's backward product: the reference's array over the reals, entry by entry. -/
module

public import proofs.«01_k».proof.Proof.Swiglu
public import proofs.«01_k».proof.Proof.Gen.Reference2Ideal.Read
public import Idealize.ShloMosaic.Lib.KernelVsHost

@[expose] public section

set_option maxRecDepth 16384
set_option maxHeartbeats 4000000

noncomputable section

namespace Sb.Swiglu

open Idealize.ShloMosaic Idealize.ShloMosaic.TcCoe Cert.Reference2Ideal Cert.Reference2Ideal.Read
open scoped BigOperators

theorem real_at {a b : ℕ} {X : (⟨2, ![a, b]⟩ : Shape).Idx → EReal} {x : ℕ → ℕ → ℝ} (h : IsR X x) (i : (⟨2, ![a, b]⟩ : Shape).Idx)
    {r j : ℕ} (hr : (i 0).val = r) (hj : (i 1).val = j) : X i = ((x r j : ℝ) : EReal) := by
  have e := h (i 0) (i 1)
  rw [← eq_ix2 i] at e
  rw [e, hr, hj]

/-- The column of the projection that holds gate `n`. -/
def gateCol (n : ℕ) : ℕ := n / 1408 * 2816 + n % 1408

variable {G : S4096x11264.Idx → EReal} {W : S5632x2048.Idx → EReal} {D : S4096x2048.Idx → EReal} {g w d : ℕ → ℕ → ℝ}

theorem r3 (hG : IsR (a := 4096) (b := 11264) G g) (i : S4096x5632.Idx) :
    val_main_v3 (F := Ideal) G i = ((g (i 0).val (gateCol (i 1).val) : ℝ) : EReal) := by
  have i0 : (i 0).val < 4096 := (i 0).isLt
  have i1 : (i 1).val < 5632 := (i 1).isLt
  rw [val_main_v3_apply, val_main_v2_apply, val_main_v1_apply, val_main_v0_apply]
  unfold gateCol
  have e0 : ((i 0).val * 5632 + (i 1).val) / 5632 = (i 0).val := by omega
  have e1 : ((i 0).val * 5632 + (i 1).val) / 1408 % 4 = (i 1).val / 1408 := by omega
  have e2 : ((i 0).val * 5632 + (i 1).val) % 1408 = (i 1).val % 1408 := by omega
  have f0 : (((i 0).val * 4 + (i 1).val / 1408) * 1408 + (i 1).val % 1408) / 5632 = (i 0).val := by omega
  have f1 : (((i 0).val * 4 + (i 1).val / 1408) * 1408 + (i 1).val % 1408) / 1408 % 4 = (i 1).val / 1408 := by omega
  have f2 : (((i 0).val * 4 + (i 1).val / 1408) * 1408 + (i 1).val % 1408) % 1408 = (i 1).val % 1408 := by omega
  refine real_at hG _ ?_ ?_
  · simp only [e0, e1, e2, f0, f1, f2]
    omega
  · simp only [e0, e1, e2, f0, f1, f2]
    omega

theorem r6 (hG : IsR (a := 4096) (b := 11264) G g) (i : S4096x5632.Idx) :
    val_main_v6 (F := Ideal) G i = ((g (i 0).val (gateCol (i 1).val + 1408) : ℝ) : EReal) := by
  have i0 : (i 0).val < 4096 := (i 0).isLt
  have i1 : (i 1).val < 5632 := (i 1).isLt
  rw [val_main_v6_apply, val_main_v5_apply, val_main_v4_apply, val_main_v0_apply]
  unfold gateCol
  have e0 : ((i 0).val * 5632 + (i 1).val) / 5632 = (i 0).val := by omega
  have e1 : ((i 0).val * 5632 + (i 1).val) / 1408 % 4 = (i 1).val / 1408 := by omega
  have e2 : ((i 0).val * 5632 + (i 1).val) % 1408 = (i 1).val % 1408 := by omega
  have f0 : (((i 0).val * 4 + (i 1).val / 1408) * 1408 + (i 1).val % 1408) / 5632 = (i 0).val := by omega
  have f1 : (((i 0).val * 4 + (i 1).val / 1408) * 1408 + (i 1).val % 1408) / 1408 % 4 = (i 1).val / 1408 := by omega
  have f2 : (((i 0).val * 4 + (i 1).val / 1408) * 1408 + (i 1).val % 1408) % 1408 = (i 1).val % 1408 := by omega
  refine real_at hG _ ?_ ?_
  · simp only [e0, e1, e2, f0, f1, f2]
    omega
  · simp only [e0, e1, e2, f0, f1, f2]
    omega

theorem r7_2 (hG : IsR (a := 4096) (b := 11264) G g) (i : S4096x5632.Idx) :
    val_main_v7_2 (F := Ideal) G i = ((sg (g (i 0).val (gateCol (i 1).val)) : ℝ) : EReal) := by
  rw [val_main_v7_2_apply, val_main_call0_v4_apply, val_main_call0_cst_0_apply, val_main_call0_v3_apply,
    val_main_call0_v2_apply, val_main_call0_cst_apply, val_main_call0_v1_apply, val_main_call0_v0_apply, r3 hG]
  show Ideal.div (Ideal.ofBits .f32 0x3F800000#32) (Ideal.ofBits .f32 0x3F800000#32
    + Ideal.exp (-((g (i 0).val (gateCol (i 1).val) : ℝ) : EReal))) = _
  rw [Ideal.ofBits_one_f32, sg_neg]

theorem r7_1 (hG : IsR (a := 4096) (b := 11264) G g) (i : S4096x5632.Idx) :
    val_main_v7_1 (F := Ideal) G i = ((sg (g (i 0).val (gateCol (i 1).val)) * (1 - sg (g (i 0).val (gateCol (i 1).val))) : ℝ) : EReal) := by
  rw [val_main_v7_1_apply, val_main_call0_v7_apply, val_main_call0_v6_apply, val_main_call0_cst_1_apply, r7_2 hG]
  show _ * (Ideal.ofBits .f32 0x3F800000#32 - _) = _
  rw [Ideal.ofBits_one_f32, coe_one, ← EReal.coe_sub, ← EReal.coe_mul]

theorem r10 (hW : IsR (a := 5632) (b := 2048) W w) (hD : IsR (a := 4096) (b := 2048) D d) (i : S4096x5632.Idx) :
    val_main_v10 (F := Ideal) W D i = ((da d w (i 0).val (i 1).val : ℝ) : EReal) := by
  rw [val_main_v10_apply, da, ← coe_sum_fin]
  refine Finset.sum_congr rfl fun k _ => ?_
  rw [EReal.coe_mul]
  exact congr (congrArg HMul.hMul (real_at hD _ rfl rfl)) (real_at hW _ rfl rfl)

/-- The gradient of the gates' halves. -/
theorem r11 (hG : IsR (a := 4096) (b := 11264) G g) (hW : IsR (a := 5632) (b := 2048) W w) (hD : IsR (a := 4096) (b := 2048) D d)
    (i : S4096x5632.Idx) :
    val_main_v11 (F := Ideal) G W D i = ((upG (da d w (i 0).val (i 1).val) (g (i 0).val (gateCol (i 1).val)) : ℝ) : EReal) := by
  rw [val_main_v11_apply, val_main_v7_0_apply, r3 hG, r7_2 hG, r10 hW hD]
  show (_ * _) * _ = _
  rw [← EReal.coe_mul, ← EReal.coe_mul, upG, mul_comm]

/-- The gradient of the gates. -/
theorem r13 (hG : IsR (a := 4096) (b := 11264) G g) (hW : IsR (a := 5632) (b := 2048) W w) (hD : IsR (a := 4096) (b := 2048) D d)
    (i : S4096x5632.Idx) :
    val_main_v13 (F := Ideal) G W D i = ((gateG (da d w (i 0).val (i 1).val) (g (i 0).val (gateCol (i 1).val))
      (g (i 0).val (gateCol (i 1).val + 1408)) : ℝ) : EReal) := by
  rw [val_main_v13_apply, val_main_call1_v1_apply, val_main_call1_v2_apply, val_main_call1_v0_apply, val_main_v12_apply,
    r3 hG, r6 hG, r7_2 hG, r7_1 hG, r10 hW hD]
  show _ * _ * _ + _ * (_ * _) * _ = _
  simp only [← EReal.coe_mul, ← EReal.coe_add]
  refine congrArg _ ?_
  unfold gateG
  ring

theorem r15 (hG : IsR (a := 4096) (b := 11264) G g) (hW : IsR (a := 5632) (b := 2048) W w) (hD : IsR (a := 4096) (b := 2048) D d)
    (i : S4096x4x1x1408.Idx) {r n : ℕ} (hr : (i 0).val = r) (hn : (i 1).val * 1408 + (i 3).val = n) :
    val_main_v15 (F := Ideal) G W D i = ((upG (da d w r n) (g r (gateCol n)) : ℝ) : EReal) := by
  have i0 : (i 0).val < 4096 := (i 0).isLt
  have i1 : (i 1).val < 4 := (i 1).isLt
  have i3 : (i 3).val < 1408 := (i 3).isLt
  rw [val_main_v15_apply, val_main_v14_apply, r11 hG hW hD]
  have e0 : (((i 0).val * 4 + (i 1).val) * 1408 + (i 3).val) / 5632 = r := by omega
  have e1 : (((i 0).val * 4 + (i 1).val) * 1408 + (i 3).val) % 5632 = n := by omega
  simp only [e0, e1]

theorem r18 (hG : IsR (a := 4096) (b := 11264) G g) (hW : IsR (a := 5632) (b := 2048) W w) (hD : IsR (a := 4096) (b := 2048) D d)
    (i : S4096x4x1x1408.Idx) {r n : ℕ} (hr : (i 0).val = r) (hn : (i 1).val * 1408 + (i 3).val = n) :
    val_main_v18 (F := Ideal) G W D i = ((gateG (da d w r n) (g r (gateCol n)) (g r (gateCol n + 1408)) : ℝ) : EReal) := by
  have i0 : (i 0).val < 4096 := (i 0).isLt
  have i1 : (i 1).val < 4 := (i 1).isLt
  have i3 : (i 3).val < 1408 := (i 3).isLt
  rw [val_main_v18_apply, val_main_v17_apply, r13 hG hW hD]
  have e0 : (((i 0).val * 4 + (i 1).val) * 1408 + (i 3).val) / 5632 = r := by omega
  have e1 : (((i 0).val * 4 + (i 1).val) * 1408 + (i 3).val) % 5632 = n := by omega
  simp only [e0, e1]

/-- The index of a half's own array that an index of the stack reads. -/
abbrev flat (i : S4096x4x2x1408.Idx) : S4096x4x1x1408.Idx := fun a => match a with
  | ⟨0, _⟩ => ⟨(i 0).val, (i 0).isLt⟩
  | ⟨1, _⟩ => ⟨(i 1).val, (i 1).isLt⟩
  | ⟨2, _⟩ => ⟨0, Nat.zero_lt_one⟩
  | ⟨3, _⟩ => ⟨(i 3).val, (i 3).isLt⟩

theorem v16_low (i : S4096x4x2x1408.Idx) (h : (i 2).val = 0) : val_main_v16 (F := Ideal) G W D i = (0 : EReal) := by
  unfold val_main_v16
  refine (pad_apply_of_not_inside _ _ _ _ _ _ _ i (2 : Fin 4) ?_).trans Ideal.ofBits_zero_f32
  intro hin
  have : 1 ≤ (i 2).val := hin.1
  omega

theorem v16_high (i : S4096x4x2x1408.Idx) (h : (i 2).val = 1) :
    val_main_v16 (F := Ideal) G W D i = val_main_v15 (F := Ideal) G W D (flat i) := by
  unfold val_main_v16
  refine pad_apply_of_inside _ _ _ _ _ _ _ i (flat i) ?_
  intro a
  fin_cases a
  · show (i 0).val = 0 + (i 0).val * (0 + 1); omega
  · show (i 1).val = 0 + (i 1).val * (0 + 1); omega
  · show (i 2).val = 1 + 0 * (0 + 1); omega
  · show (i 3).val = 0 + (i 3).val * (0 + 1); omega

theorem v19_low (i : S4096x4x2x1408.Idx) (h : (i 2).val = 0) :
    val_main_v19 (F := Ideal) G W D i = val_main_v18 (F := Ideal) G W D (flat i) := by
  unfold val_main_v19
  refine pad_apply_of_inside _ _ _ _ _ _ _ i (flat i) ?_
  intro a
  fin_cases a
  · show (i 0).val = 0 + (i 0).val * (0 + 1); omega
  · show (i 1).val = 0 + (i 1).val * (0 + 1); omega
  · show (i 2).val = 0 + 0 * (0 + 1); omega
  · show (i 3).val = 0 + (i 3).val * (0 + 1); omega

theorem v19_high (i : S4096x4x2x1408.Idx) (h : (i 2).val = 1) : val_main_v19 (F := Ideal) G W D i = (0 : EReal) := by
  unfold val_main_v19
  refine (pad_apply_of_not_inside _ _ _ _ _ _ _ i (2 : Fin 4) ?_).trans Ideal.ofBits_zero_f32
  intro hin
  have : ((i 2).val - 0) / (0 + 1) < 1 := hin.2.2
  omega

/-- The reference's array. -/
theorem ref_spec (hG : IsR (a := 4096) (b := 11264) G g) (hW : IsR (a := 5632) (b := 2048) W w) (hD : IsR (a := 4096) (b := 2048) D d) :
    val_main_v22 (F := Ideal) G W D = fun i : S4096x11264.Idx => ((spec d w g (i 0).val (i 1).val : ℝ) : EReal) := by
  funext i
  have i0 : (i 0).val < 4096 := (i 0).isLt
  have i1 : (i 1).val < 11264 := (i 1).isLt
  have e0 : ((i 0).val * 11264 + (i 1).val) / 11264 = (i 0).val := by omega
  have e1 : ((i 0).val * 11264 + (i 1).val) / 2816 % 4 = (i 1).val / 2816 := by omega
  have e2 : ((i 0).val * 11264 + (i 1).val) / 1408 % 2 = (i 1).val / 1408 % 2 := by omega
  have e3 : ((i 0).val * 11264 + (i 1).val) % 1408 = (i 1).val % 1408 := by omega
  have e : val_main_v22 (F := Ideal) G W D i = val_main_v21 (F := Ideal) G W D i := rfl
  rw [e, val_main_v21_apply, val_main_v20_apply]
  show val_main_v16 (F := Ideal) G W D _ + val_main_v19 (F := Ideal) G W D _ = _
  unfold spec
  by_cases h : (i 1).val % 2816 < 1408
  · have hz : (idx_main_v21 i 2).val = 0 := by show ((i 0).val * 11264 + (i 1).val) / 1408 % 2 = 0; omega
    rw [v16_low _ hz, v19_low _ hz, zero_add, if_pos h]
    refine (r18 hG hW hD _ (r := (i 0).val) (n := (i 1).val / 2816 * 1408 + (i 1).val % 2816) e0 ?_).trans ?_
    · show ((i 0).val * 11264 + (i 1).val) / 2816 % 4 * 1408 + ((i 0).val * 11264 + (i 1).val) % 1408 = _
      omega
    · have q : gateCol ((i 1).val / 2816 * 1408 + (i 1).val % 2816) = (i 1).val := by unfold gateCol; omega
      rw [q]
  · have hz : (idx_main_v21 i 2).val = 1 := by show ((i 0).val * 11264 + (i 1).val) / 1408 % 2 = 1; omega
    rw [v16_high _ hz, v19_high _ hz, add_zero, if_neg h]
    refine (r15 hG hW hD _ (r := (i 0).val) (n := (i 1).val / 2816 * 1408 + ((i 1).val % 2816 - 1408)) e0 ?_).trans ?_
    · show ((i 0).val * 11264 + (i 1).val) / 2816 % 4 * 1408 + ((i 0).val * 11264 + (i 1).val) % 1408 = _
      omega
    · have q : gateCol ((i 1).val / 2816 * 1408 + ((i 1).val % 2816 - 1408)) = (i 1).val - 1408 := by unfold gateCol; omega
      rw [q]

end Sb.Swiglu
-- ==== Proof.GFfnOut.lean ====
/- The gradient of the feed-forward block's second weight: the kernel's array, entry by entry, and the reference's. -/
module

public import proofs.«01_k».proof.Proof.Gen.Kernel3Ideal.Value
public import proofs.«01_k».proof.Proof.Gen.Reference3Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 4000000

noncomputable section

namespace Sb.GFfnOut

open Idealize.ShloMosaic Idealize.ShloMosaic.TcCoe Cert.Kernel3Ideal Cert.Kernel3Ideal.Gen
open scoped BigOperators

variable (m : (ℓ : Loc nD τ sig) → Buf (Elt Idealize.ShloMosaic.Ideal) ℓ) (c : Dev nD)

/-- The first argument: the activations. -/
def act : S4096x5632.Idx → EReal := m ((c.tc : Thread nD τ).loc main_arg0)

/-- The second argument: the gradient that comes in. -/
def dy : S4096x2048.Idx → EReal := m ((c.tc : Thread nD τ).loc main_arg1)

/-- What the launch finds in the first operand: the cast argument, which is the argument. -/
theorem V0 : (V m c main_v0 : S4096x5632.Idx → EReal) = act m c := by
  unfold V
  simp only [hostOps0, List.flatten_cons, List.flatten_nil, List.append_nil, List.cons_append, List.nil_append]
  after_reads_simp
  rfl

/-- What the launch finds in the second operand. -/
theorem V1 : (V m c main_v1 : S4096x2048.Idx → EReal) = dy m c := by
  unfold V
  simp only [hostOps0, List.flatten_cons, List.flatten_nil, List.append_nil, List.cons_append, List.nil_append]
  after_reads_simp
  rfl

theorem idx0 : ∀ t : Fin cfg0.N, win0_0.index t = ![t.val % 2, t.val / 4] :=
  (by decide +kernel : ∀ t : Fin grid0.N, _)
theorem idx1 : ∀ t : Fin cfg0.N, win0_1.index t = ![t.val % 2, t.val / 2 % 2] :=
  (by decide +kernel : ∀ t : Fin grid0.N, _)
theorem idx2 : ∀ t : Fin cfg0.N, win0_2.index t = ![t.val / 4, t.val / 2 % 2] :=
  (by decide +kernel : ∀ t : Fin grid0.N, _)

theorem point_lt (t : Fin cfg0.N) : t.val < 44 := lt_of_lt_of_eq t.isLt (show cfg0.N = 44 from N_0)

/-- The activations' block at a point. -/
def blkA (u : Fin cfg0.N) : S2048x512.Idx → EReal := iblk m c 0 u

/-- The incoming gradient's block at a point. -/
def blkB (u : Fin cfg0.N) : S2048x1024.Idx → EReal := iblk m c 1 u

theorem blkA_val (u : Fin cfg0.N) (k : Fin 2048) (a : Fin 512) :
    blkA m c u (ix2 k a) = act m c (ix2 ⟨2048 * (u.val % 2) + k.val, by omega⟩ ⟨512 * (u.val / 4) + a.val, by have := point_lt u; omega⟩) := by
  refine Eq.trans ?_ (congrFun (V0 m c) _)
  unfold blkA
  blk_ext [iblk, idx0 u]

theorem blkB_val (u : Fin cfg0.N) (k : Fin 2048) (l : Fin 1024) :
    blkB m c u (ix2 k l) = dy m c (ix2 ⟨2048 * (u.val % 2) + k.val, by omega⟩ ⟨1024 * (u.val / 2 % 2) + l.val, by omega⟩) := by
  refine Eq.trans ?_ (congrFun (V1 m c) _)
  unfold blkB
  blk_ext [iblk, idx1 u]

/-- An even point leaves its blocks' product in the scratch. -/
theorem scratch_even (i : grid0.Coords) (a3 : Memref sig .tc .vmem S2048x512 .bf16) (w3 : a3.IsWhole) (a4 : Memref sig .tc .vmem S2048x1024 .bf16) (w4 : a4.IsWhole)
    (a5 : Memref sig .tc .vmem S512x1024 .bf16) (w5 : a5.IsWhole) (a6 : Memref sig .tc .vmem S512x1024 .f32) (w6 : a6.IsWhole)
    (h0 : cond0_0 i) (h1 : ¬cond0_1 i) (h2 : ¬cond0_2 i)
    (A : S2048x512.Idx → EReal) (B : S2048x1024.Idx → EReal) (a : Fin 512) (l : Fin 1024) :
    (sout0_A_0 (F := Ideal) c i a3 w3 a4 w4 a5 w5 a6 w6 h0 h1 h2 A B : S512x1024.Idx → EReal) (ix2 a l)
      = ∑ k : Fin 2048, A (ix2 k a) * B (ix2 k l) := by
  frame_out [sout0_A_0]
  pointwise [k0_pay2, k0_pay1]

/-- An odd point writes back the scratch with its blocks' product added. -/
theorem out_odd (i : grid0.Coords) (a3 : Memref sig .tc .vmem S2048x512 .bf16) (w3 : a3.IsWhole) (a4 : Memref sig .tc .vmem S2048x1024 .bf16) (w4 : a4.IsWhole)
    (a5 : Memref sig .tc .vmem S512x1024 .bf16) (w5 : a5.IsWhole) (a6 : Memref sig .tc .vmem S512x1024 .f32) (w6 : a6.IsWhole)
    (h0 : ¬cond0_0 i) (h1 : cond0_1 i) (h2 : cond0_2 i)
    (A : S2048x512.Idx → EReal) (B : S2048x1024.Idx → EReal) (C : S512x1024.Idx → EReal) (a : Fin 512) (l : Fin 1024) :
    (out0_B_2 (F := Ideal) c i a3 w3 a4 w4 a5 w5 a6 w6 h0 h1 h2 A B C : S512x1024.Idx → EReal) (ix2 a l)
      = C (ix2 a l) + ∑ k : Fin 2048, A (ix2 k a) * B (ix2 k l) := by
  frame_out [out0_B_2]
  pointwise [k0_pay4, k0_pay3, k0_pay1]

/-- The scratch after an even point. -/
theorem even_val (t : Fin cfg0.N) (ht : t.val % 2 = 0) (a : Fin 512) (l : Fin 1024) :
    ((outsAt0 m c t.val t.isLt).2 : S512x1024.Idx → EReal) (ix2 a l)
      = ∑ k : Fin 2048, blkA m c t (ix2 k a) * blkB m c t (ix2 k l) := by
  have n1 : ¬t.val % 2 = 1 := by omega
  rw [outsAt0_A m c t ht n1 n1]
  unfold blkA blkB
  exact scratch_even c (grid0.coords t) (ms0_0 t) (hs0_0 t) (ms0_1 t) (hs0_1 t) (ms0_2 t) (hs0_2 t) scM0_0
    (Memref.isWhole_whole _) ((hcond0_0 t).mpr ht) (fun h => n1 ((hcond0_1 t).mp h)) (fun h => n1 ((hcond0_2 t).mp h))
    (iblk m c 0 t) (iblk m c 1 t) a l

/-- The output block after an odd point. -/
theorem odd_val (t : Fin cfg0.N) (ht : t.val % 2 = 1) (a : Fin 512) (l : Fin 1024) :
    ((outsAt0 m c t.val t.isLt).1 : S512x1024.Idx → EReal) (ix2 a l)
      = ((outsAt0 m c (t.val - 1) (Nat.lt_of_le_of_lt (Nat.sub_le _ _) t.isLt)).2 : S512x1024.Idx → EReal) (ix2 a l)
        + ∑ k : Fin 2048, blkA m c t (ix2 k a) * blkB m c t (ix2 k l) := by
  have n0 : ¬t.val % 2 = 0 := by omega
  rw [outsAt0_B m c t n0 ht ht]
  unfold blkA blkB
  exact out_odd c (grid0.coords t) (ms0_0 t) (hs0_0 t) (ms0_1 t) (hs0_1 t) (ms0_2 t) (hs0_2 t) scM0_0
    (Memref.isWhole_whole _) (fun h => n0 ((hcond0_0 t).mp h)) ((hcond0_1 t).mpr ht) ((hcond0_2 t).mpr ht)
    (iblk m c 0 t) (iblk m c 1 t) (outsAt0 m c (t.val - 1) (Nat.lt_of_le_of_lt (Nat.sub_le _ _) t.isLt)).2 a l

/-- The product with the first factor turned. -/
def prod (A : S4096x5632.Idx → EReal) (D : S4096x2048.Idx → EReal) : S5632x2048.Idx → EReal := fun i =>
  ∑ k : Fin 4096, A (ix2 k (i 0)) * D (ix2 k (i 1))

/-- The product as a sum over both halves of the rows. -/
theorem prod_halves (A : S4096x5632.Idx → EReal) (D : S4096x2048.Idx → EReal) (i : S5632x2048.Idx) :
    prod A D i = ∑ k : Fin 2048, A (ix2 ⟨k.val, by omega⟩ (i 0)) * D (ix2 ⟨k.val, by omega⟩ (i 1))
      + ∑ k : Fin 2048, A (ix2 ⟨2048 + k.val, by omega⟩ (i 0)) * D (ix2 ⟨2048 + k.val, by omega⟩ (i 1)) :=
  Fin.sum_univ_add (a := 2048) (b := 2048) fun k => A (ix2 k (i 0)) * D (ix2 k (i 1))

/-- A pair of points writes back a block of the product. -/
theorem pair_val (t : Fin cfg0.N) (ht : t.val % 2 = 1) (a : Fin 512) (l : Fin 1024) (i : S5632x2048.Idx)
    (i0 : (i 0).val = 512 * (t.val / 4) + a.val) (i1 : (i 1).val = 1024 * (t.val / 2 % 2) + l.val) :
    ((outsAt0 m c t.val t.isLt).1 : S512x1024.Idx → EReal) (ix2 a l) = prod (act m c) (dy m c) i := by
  have hp : t.val - 1 < cfg0.N := Nat.lt_of_le_of_lt (Nat.sub_le _ _) t.isLt
  have h2 : (t.val - 1) % 2 = 0 := by omega
  have d4 : (t.val - 1) / 4 = t.val / 4 := by omega
  have d2 : (t.val - 1) / 2 % 2 = t.val / 2 % 2 := by omega
  rw [prod_halves, odd_val m c t ht]
  refine congr (congrArg HAdd.hAdd ((even_val m c ⟨t.val - 1, hp⟩ h2 a l).trans (Finset.sum_congr rfl fun k _ => ?_)))
    (Finset.sum_congr rfl fun k _ => ?_)
  · rw [blkA_val, blkB_val]
    refine congr (congrArg HMul.hMul (congrArg₂ (fun p q => act m c (ix2 p q)) (Fin.ext ?_) (Fin.ext ?_)))
      (congrArg₂ (fun p q => dy m c (ix2 p q)) (Fin.ext ?_) (Fin.ext ?_))
    · show 2048 * ((t.val - 1) % 2) + k.val = k.val
      omega
    · show 512 * ((t.val - 1) / 4) + a.val = _
      rw [d4, i0]
    · show 2048 * ((t.val - 1) % 2) + k.val = k.val
      omega
    · show 1024 * ((t.val - 1) / 2 % 2) + l.val = _
      rw [d2, i1]
  · rw [blkA_val, blkB_val]
    refine congr (congrArg HMul.hMul (congrArg₂ (fun p q => act m c (ix2 p q)) (Fin.ext ?_) (Fin.ext ?_)))
      (congrArg₂ (fun p q => dy m c (ix2 p q)) (Fin.ext ?_) (Fin.ext ?_))
    · show 2048 * (t.val % 2) + k.val = 2048 + k.val
      omega
    · exact i0.symm
    · show 2048 * (t.val % 2) + k.val = 2048 + k.val
      omega
    · exact i1.symm

/-- The same, at the place of the array the block's index names. -/
theorem blk_val (t : Fin cfg0.N) (ht : t.val % 2 = 1) (y : S512x1024.Idx) :
    ((outsAt0 m c t.val t.isLt).1 : S512x1024.Idx → EReal) y = prod (act m c) (dy m c) ((win0_2.blk t).view.emb y) := by
  have b0 : ((win0_2.blk t).view.emb y 0).val = win0_2.index t (0 : Fin 2) * 512 + 1 * (y 0).val := rfl
  have b1 : ((win0_2.blk t).view.emb y 1).val = win0_2.index t (1 : Fin 2) * 1024 + 1 * (y 1).val := rfl
  rw [idx2 t] at b0 b1
  have c0 : ((win0_2.blk t).view.emb y 0).val = t.val / 4 * 512 + 1 * (y 0).val := b0
  have c1 : ((win0_2.blk t).view.emb y 1).val = t.val / 2 % 2 * 1024 + 1 * (y 1).val := b1
  refine (congrArg (outsAt0 m c t.val t.isLt).1 (eq_ix2 y)).trans ?_
  exact pair_val m c t ht (y 0) (y 1) ((win0_2.blk t).view.emb y) (by rw [c0]; omega) (by rw [c1]; omega)

/-- The array after the run is the product. -/
theorem final2 : (dats m 0 c).arrAt 2 cfg0.N = prod (act m c) (dy m c) := by
  refine (dats m 0 c).arrAt_eq_of_covers 2 _ (by decide +kernel) fun t hf y => ?_
  blk_simp [idx2 t]
  rw [after0_2]
  exact blk_val m c t ((flush0_2 t).mp hf) y

section
open Cert.Reference3Ideal.Read

/-- The reference's array is the same product. -/
theorem ref_prod (A : S4096x5632.Idx → EReal) (D : S4096x2048.Idx → EReal) :
    val_main_v4 (F := Ideal) A D = prod A D := by
  funext i
  have e : val_main_v4 (F := Ideal) A D i = val_main_v3 (F := Ideal) A D i := by
    rw [eq_ix2 i]
    generalize i 0 = a
    generalize i 1 = b
    pointwise [val_main_v4]
  rw [e, val_main_v3_apply, val_main_v2_apply]
  refine Finset.sum_congr rfl fun k _ => ?_
  rw [mul_comm]
  refine congr (congrArg HMul.hMul (congrArg A (funext fun b => ?_))) (congrArg D (funext fun b => ?_)) <;>
    fin_cases b <;> rfl

end

end Sb.GFfnOut
-- ==== Proof.FfnIn.lean ====
/- The feed-forward block's first product: the kernel's array, entry by entry. -/
module

public import proofs.«01_k».proof.Proof.Gen.Kernel4Ideal.Value
public import proofs.«01_k».proof.Proof.Gen.Reference4Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 4000000

noncomputable section

namespace Sb.FfnIn

open Idealize.ShloMosaic Idealize.ShloMosaic.TcCoe Cert.Kernel4Ideal Cert.Kernel4Ideal.Gen
open scoped BigOperators

variable (m : (ℓ : Loc nD τ sig) → Buf (Elt Ideal) ℓ) (c : Dev nD)

theorem V3 : (V m c main_v3 : S4096x2048.Idx → EReal) = (m ((c.tc : Thread nD τ).loc main_arg0) : S4096x2048.Idx → EReal) := by
  unfold V
  simp only [hostOps0, List.flatten_cons, List.flatten_nil, List.append_nil, List.cons_append, List.nil_append]
  after_reads_simp
  rfl

theorem V2 (e : Fin 8) (k : Fin 2048) (l : Fin 1408) : (V m c main_v2 : S8x2048x1408.Idx → EReal) (ix3 e k l)
    = (m ((c.tc : Thread nD τ).loc main_arg1) : S2048x11264.Idx → EReal) (ix2 k ⟨e.val * 1408 + l.val, by omega⟩) := by
  unfold V
  simp only [hostOps0, List.flatten_cons, List.flatten_nil, List.append_nil, List.cons_append, List.nil_append]
  after_reads_at

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![t.val % 8 / 2 + 4 * (t.val % 2), 0, 0] := (by decide +kernel : ∀ t : Fin grid0.N, win0_1.index t = ![t.val % 8 / 2 + 4 * (t.val % 2), 0, 0])
theorem idx2 : ∀ t : Fin cfg0.N, win0_2.index t = ![t.val / 8, t.val % 8] := (by decide +kernel : ∀ t : Fin grid0.N, win0_2.index t = ![t.val / 8, t.val % 8])

theorem point_lt (t : Fin cfg0.N) : t.val < 32 := t.isLt

/-- The column of the weight that the kernel's column `j` is the product with: gate and up columns alternate, 1408 at a time. -/
def col (j : Fin 11264) : Fin 11264 := ⟨(j.val / 1408 % 2 * 4 + j.val / 1408 / 2) * 1408 + j.val % 1408, by omega⟩

theorem is_out (A : Vec Ideal S1024x2048 .bf16) (B : Vec Ideal S1x2048x1408 .bf16) (a : Fin 1024) (l : Fin 1408) :
    out0_2 A B (ix2 a l) = ∑ k : Fin 2048, A (ix2 a k) * B (ix3 0 k l) := by
  frame_out [out0_2]
  pointwise [k0_pay1]

/-- The product, its columns in the kernel's order. -/
def prod (A : S4096x2048.Idx → EReal) (W : S2048x11264.Idx → EReal) : S4096x11264.Idx → EReal := fun i =>
  ∑ k : Fin 2048, A (ix2 (i 0) k) * W (ix2 k (col (i 1)))

theorem final2 : (dats m 0 c).arrAt 2 cfg0.N
    = prod (m ((c.tc : Thread nD τ).loc main_arg0) : S4096x2048.Idx → EReal) (m ((c.tc : Thread nD τ).loc main_arg1) : S2048x11264.Idx → EReal) := by
  refine (dats m 0 c).arrAt_eq_of_covers 2 _ (by decide +kernel) fun t hf y => ?_
  have hl := point_lt t
  have h0 : ∀ (a : Fin 1024) (k : Fin 2048), iblk m c 0 t (ix2 a k) = V m c main_v3 (ix2 ⟨1024 * (t.val / 8) + a.val, by omega⟩ k) := by
    intro a k
    blk_ext [iblk, idx0 t]
  have h1 : ∀ (k : Fin 2048) (l : Fin 1408), iblk m c 1 t (ix3 0 k l) = V m c main_v2 (ix3 ⟨t.val % 8 / 2 + 4 * (t.val % 2), by omega⟩ k l) := by
    intro k l
    blk_ext [iblk, idx1 t]
  blk_simp [idx2 t]
  rw [after0_2]
  have e := is_out (iblk m c 0 t) (iblk m c 1 t) ((y : S1024x1408.Idx) 0) ((y : S1024x1408.Idx) 1)
  rw [← eq_ix2 (y : S1024x1408.Idx)] at e
  refine e.trans (Finset.sum_congr rfl fun k _ => ?_)
  have hy1 : ((y : S1024x1408.Idx) 1).val < 1408 := ((y : S1024x1408.Idx) 1).isLt
  have b0 : ((win0_2.blk t).view.emb y 0).val = win0_2.index t (0 : Fin 2) * 1024 + 1 * ((y : S1024x1408.Idx) 0).val := rfl
  have b1 : ((win0_2.blk t).view.emb y 1).val = win0_2.index t (1 : Fin 2) * 1408 + 1 * ((y : S1024x1408.Idx) 1).val := rfl
  rw [idx2 t] at b0 b1
  have c0 : ((win0_2.blk t).view.emb y 0).val = t.val / 8 * 1024 + 1 * ((y : S1024x1408.Idx) 0).val := b0
  have c1 : ((win0_2.blk t).view.emb y 1).val = t.val % 8 * 1408 + 1 * ((y : S1024x1408.Idx) 1).val := b1
  have g0 : iblk m c 0 t (ix2 ((y : S1024x1408.Idx) 0) k)
      = _root_.id (m ((c.tc : Thread nD τ).loc main_arg0) : S4096x2048.Idx → EReal)
          (ix2 ((win0_2.blk t).view.emb y 0) k) := by
    refine (h0 _ k).trans ((congrFun (V3 m c) _).trans ?_)
    refine congrArg (fun a => _root_.id (m ((c.tc : Thread nD τ).loc main_arg0) : S4096x2048.Idx → EReal) (ix2 a k)) (Fin.ext ?_)
    show 1024 * (t.val / 8) + _ = _
    rw [c0]; omega
  have g1 : iblk m c 1 t (ix3 0 k ((y : S1024x1408.Idx) 1))
      = _root_.id (m ((c.tc : Thread nD τ).loc main_arg1) : S2048x11264.Idx → EReal)
          (ix2 k (col ((win0_2.blk t).view.emb y 1))) := by
    refine (h1 k _).trans ((V2 m c _ _ _).trans ?_)
    refine congrArg (fun a => _root_.id (m ((c.tc : Thread nD τ).loc main_arg1) : S2048x11264.Idx → EReal) (ix2 k a)) (Fin.ext ?_)
    show (t.val % 8 / 2 + 4 * (t.val % 2)) * 1408 + _ = (_ / 1408 % 2 * 4 + _ / 1408 / 2) * 1408 + _ % 1408
    rw [c1]; omega
  exact congr (congrArg HMul.hMul g0) g1

section
open Cert.Reference4Ideal.Read

/-- The index of one half's piece that an index of the stack reads. -/
abbrev flat (i : Cert.Reference4Ideal.S4096x4x2x1408.Idx) : Cert.Reference4Ideal.S4096x4x1x1408.Idx := fun a => match a with
  | ⟨0, _⟩ => ⟨(i 0).val, (i 0).isLt⟩
  | ⟨1, _⟩ => ⟨(i 1).val, (i 1).isLt⟩
  | ⟨2, _⟩ => ⟨0, Nat.zero_lt_one⟩
  | ⟨3, _⟩ => ⟨(i 3).val, (i 3).isLt⟩

/-- The two halves of the product, stacked: gate columns in the first row, up columns in the second. -/
theorem ref_stack (A : S4096x2048.Idx → EReal) (W : S2048x11264.Idx → EReal)
    (i : Cert.Reference4Ideal.S4096x4x2x1408.Idx) (o : S4096x11264.Idx)
    (o0 : (o 0).val = (i 0).val) (o1 : (o 1).val = ((i 2).val * 4 + (i 1).val) * 1408 + (i 3).val) :
    val_main_v7 (F := Ideal) A W i = val_main_v0 (F := Ideal) A W o := by
  have i0 : (i 0).val < 4096 := (i 0).isLt
  have i1 : (i 1).val < 4 := (i 1).isLt
  have i2 : (i 2).val < 2 := (i 2).isLt
  have i3 : (i 3).val < 1408 := (i 3).isLt
  unfold val_main_v7
  by_cases h : (i 2).val = 0
  · refine (Idealize.ShloMosaic.concatenate_pair_apply_left (s₁ := Cert.Reference4Ideal.S4096x4x1x1408) (s₂ := Cert.Reference4Ideal.S4096x4x1x1408) _ _ _ _ i rfl
      (flat i) ?_).trans ?_
    · intro b
      fin_cases b
      exacts [rfl, rfl, h.symm, rfl]
    · rw [val_main_v5_apply, val_main_v3_apply, val_main_v1_apply]
      refine congrArg _ (funext fun b => Fin.ext ?_)
      fin_cases b
      · show (((i 0).val * 4 + (i 1).val) * 1408 + (i 3).val) / 5632 = (o 0).val
        omega
      · show (((i 0).val * 4 + (i 1).val) * 1408 + (i 3).val) % 5632 = (o 1).val
        omega
  · refine (Idealize.ShloMosaic.concatenate_pair_apply_right (s₁ := Cert.Reference4Ideal.S4096x4x1x1408) (s₂ := Cert.Reference4Ideal.S4096x4x1x1408) _ _ _ _ i rfl rfl
      (flat i) ?_ ?_).trans ?_
    · intro b hb
      fin_cases b
      exacts [rfl, rfl, absurd rfl hb, rfl]
    · show 0 + 1 = (i 2).val
      omega
    · rw [val_main_v6_apply, val_main_v4_apply, val_main_v2_apply]
      refine congrArg _ (funext fun b => Fin.ext ?_)
      fin_cases b
      · show (((i 0).val * 4 + (i 1).val) * 1408 + (i 3).val) / 5632 = (o 0).val
        omega
      · show 5632 + (((i 0).val * 4 + (i 1).val) * 1408 + (i 3).val) % 5632 = (o 1).val
        omega

/-- The reference's array is the same product. -/
theorem ref_prod (A : S4096x2048.Idx → EReal) (W : S2048x11264.Idx → EReal) :
    val_main_v9 (F := Ideal) A W = prod A W := by
  funext i
  have i0 : (i 0).val < 4096 := (i 0).isLt
  have i1 : (i 1).val < 11264 := (i 1).isLt
  have e : val_main_v9 (F := Ideal) A W i = val_main_v8 (F := Ideal) A W i := by
    rw [eq_ix2 i]
    generalize i 0 = a
    generalize i 1 = b
    pointwise [val_main_v9]
  rw [e, val_main_v8_apply, ref_stack A W _ (ix2 (i 0) (col (i 1))) ?_ ?_, val_main_v0_apply]
  · refine Finset.sum_congr rfl fun k _ => ?_
    refine congr (congrArg HMul.hMul (congrArg A (funext fun b => ?_))) (congrArg W (funext fun b => ?_)) <;>
      fin_cases b <;> rfl
  · show (i 0).val = ((i 0).val * 11264 + (i 1).val) / 11264
    omega
  · show ((i 1).val / 1408 % 2 * 4 + (i 1).val / 1408 / 2) * 1408 + (i 1).val % 1408
      = (((i 0).val * 11264 + (i 1).val) / 1408 % 2 * 4 + ((i 0).val * 11264 + (i 1).val) / 2816 % 4) * 1408
        + ((i 0).val * 11264 + (i 1).val) % 1408
    omega

end

end Sb.FfnIn
-- ==== Proof.FfnOut.lean ====
/- The feed-forward block's second product: the kernel's array, entry by entry, and the reference's. -/
module

public import proofs.«01_k».proof.Proof.Gen.Kernel5Ideal.Value
public import proofs.«01_k».proof.Proof.Gen.Reference5Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 4000000

noncomputable section

namespace Sb.FfnOut

open Idealize.ShloMosaic Idealize.ShloMosaic.TcCoe Cert.Kernel5Ideal Cert.Kernel5Ideal.Gen
open scoped BigOperators

variable (m : (ℓ : Loc nD τ sig) → Buf (Elt Idealize.ShloMosaic.Ideal) ℓ) (c : Dev nD)

/-- The first argument: the activations. -/
def act : S4096x5632.Idx → EReal := m ((c.tc : Thread nD τ).loc main_arg0)

/-- The second argument: the weight. -/
def w : S5632x2048.Idx → EReal := m ((c.tc : Thread nD τ).loc main_arg1)

/-- What the launch finds in the first operand: the cast argument, which is the argument. -/
theorem V0 : (V m c main_v0 : S4096x5632.Idx → EReal) = act m c := by
  unfold V
  simp only [hostOps0, List.flatten_cons, List.flatten_nil, List.append_nil, List.cons_append, List.nil_append]
  after_reads_simp
  rfl

/-- What the launch finds in the second operand. -/
theorem V1 : (V m c main_v1 : S5632x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val / 4, t.val % 2] :=
  (by decide +kernel : ∀ t : Fin grid0.N, _)
theorem idx1 : ∀ t : Fin cfg0.N, win0_1.index t = ![t.val % 2, t.val / 2 % 2] :=
  (by decide +kernel : ∀ t : Fin grid0.N, _)
theorem idx2 : ∀ t : Fin cfg0.N, win0_2.index t = ![t.val / 4, t.val / 2 % 2] :=
  (by decide +kernel : ∀ t : Fin grid0.N, _)

theorem point_lt (t : Fin cfg0.N) : t.val < 16 := lt_of_lt_of_eq t.isLt (show cfg0.N = 16 from N_0)

/-- An even point leaves its blocks' product in the scratch. -/
theorem scratch_even (i : grid0.Coords) (a3 : Memref sig .tc .vmem S1024x2816 .bf16) (w3 : a3.IsWhole) (a4 : Memref sig .tc .vmem S2816x1024 .bf16) (w4 : a4.IsWhole)
    (a5 : Memref sig .tc .vmem S1024x1024 .f32) (w5 : a5.IsWhole) (a6 : Memref sig .tc .vmem S1024x1024 .f32) (w6 : a6.IsWhole)
    (h0 : cond0_0 i) (h1 : ¬cond0_1 i) (h2 : ¬cond0_2 i)
    (A : S1024x2816.Idx → EReal) (B : S2816x1024.Idx → EReal) (a l : Fin 1024) :
    (sout0_A_0 (F := Ideal) c i a3 w3 a4 w4 a5 w5 a6 w6 h0 h1 h2 A B : S1024x1024.Idx → EReal) (ix2 a l)
      = ∑ k : Fin 2816, A (ix2 a k) * B (ix2 k l) := by
  frame_out [sout0_A_0]
  pointwise [k0_pay2, k0_pay1]

/-- An odd point writes back the scratch with its blocks' product added. -/
theorem out_odd (i : grid0.Coords) (a3 : Memref sig .tc .vmem S1024x2816 .bf16) (w3 : a3.IsWhole) (a4 : Memref sig .tc .vmem S2816x1024 .bf16) (w4 : a4.IsWhole)
    (a5 : Memref sig .tc .vmem S1024x1024 .f32) (w5 : a5.IsWhole) (a6 : Memref sig .tc .vmem S1024x1024 .f32) (w6 : a6.IsWhole)
    (h0 : ¬cond0_0 i) (h1 : cond0_1 i) (h2 : cond0_2 i)
    (A : S1024x2816.Idx → EReal) (B : S2816x1024.Idx → EReal) (C : S1024x1024.Idx → EReal) (a l : Fin 1024) :
    (out0_B_2 (F := Ideal) c i a3 w3 a4 w4 a5 w5 a6 w6 h0 h1 h2 A B C : S1024x1024.Idx → EReal) (ix2 a l)
      = C (ix2 a l) + ∑ k : Fin 2816, A (ix2 a k) * B (ix2 k l) := by
  frame_out [out0_B_2]
  pointwise [k0_pay3, k0_pay1]

/-- The first operand's block at a point. -/
def blkA (u : Fin cfg0.N) : S1024x2816.Idx → EReal := iblk m c 0 u

/-- The second operand's block at a point. -/
def blkB (u : Fin cfg0.N) : S2816x1024.Idx → EReal := iblk m c 1 u

theorem blkA_val (u : Fin cfg0.N) (a : Fin 1024) (k : Fin 2816) :
    blkA m c u (ix2 a k) = act m c (ix2 ⟨1024 * (u.val / 4) + a.val, by have := point_lt u; omega⟩ ⟨2816 * (u.val % 2) + k.val, by omega⟩) := by
  refine Eq.trans ?_ (congrFun (V0 m c) _)
  unfold blkA
  blk_ext [iblk, idx0 u]

theorem blkB_val (u : Fin cfg0.N) (k : Fin 2816) (l : Fin 1024) :
    blkB m c u (ix2 k l) = w m c (ix2 ⟨2816 * (u.val % 2) + k.val, by omega⟩ ⟨1024 * (u.val / 2 % 2) + l.val, by omega⟩) := by
  refine Eq.trans ?_ (congrFun (V1 m c) _)
  unfold blkB
  blk_ext [iblk, idx1 u]

/-- The scratch after an even point. -/
theorem even_val (t : Fin cfg0.N) (ht : t.val % 2 = 0) (a l : Fin 1024) :
    ((outsAt0 m c t.val t.isLt).2 : S1024x1024.Idx → EReal) (ix2 a l)
      = ∑ k : Fin 2816, blkA m c t (ix2 a k) * blkB m c t (ix2 k l) := by
  have n1 : ¬t.val % 2 = 1 := by omega
  rw [outsAt0_A m c t ht n1 n1]
  unfold blkA blkB
  exact scratch_even c (grid0.coords t) (ms0_0 t) (hs0_0 t) (ms0_1 t) (hs0_1 t) (ms0_2 t) (hs0_2 t) scM0_0
    (Memref.isWhole_whole _) ((hcond0_0 t).mpr ht) (fun h => n1 ((hcond0_1 t).mp h)) (fun h => n1 ((hcond0_2 t).mp h))
    (iblk m c 0 t) (iblk m c 1 t) a l

/-- The output block after an odd point. -/
theorem odd_val (t : Fin cfg0.N) (ht : t.val % 2 = 1) (a l : Fin 1024) :
    ((outsAt0 m c t.val t.isLt).1 : S1024x1024.Idx → EReal) (ix2 a l)
      = ((outsAt0 m c (t.val - 1) (Nat.lt_of_le_of_lt (Nat.sub_le _ _) t.isLt)).2 : S1024x1024.Idx → EReal) (ix2 a l)
        + ∑ k : Fin 2816, blkA m c t (ix2 a k) * blkB m c t (ix2 k l) := by
  have n0 : ¬t.val % 2 = 0 := by omega
  rw [outsAt0_B m c t n0 ht ht]
  unfold blkA blkB
  exact out_odd c (grid0.coords t) (ms0_0 t) (hs0_0 t) (ms0_1 t) (hs0_1 t) (ms0_2 t) (hs0_2 t) scM0_0
    (Memref.isWhole_whole _) (fun h => n0 ((hcond0_0 t).mp h)) ((hcond0_1 t).mpr ht) ((hcond0_2 t).mpr ht)
    (iblk m c 0 t) (iblk m c 1 t) (outsAt0 m c (t.val - 1) (Nat.lt_of_le_of_lt (Nat.sub_le _ _) t.isLt)).2 a l

/-- The product. -/
def prod (A : S4096x5632.Idx → EReal) (W : S5632x2048.Idx → EReal) : S4096x2048.Idx → EReal := fun i =>
  ∑ k : Fin 5632, A (ix2 (i 0) k) * W (ix2 k (i 1))

/-- The product as a sum over both halves of the contracted extent. -/
theorem prod_halves (A : S4096x5632.Idx → EReal) (W : S5632x2048.Idx → EReal) (i : S4096x2048.Idx) :
    prod A W i = ∑ k : Fin 2816, A (ix2 (i 0) ⟨k.val, by omega⟩) * W (ix2 ⟨k.val, by omega⟩ (i 1))
      + ∑ k : Fin 2816, A (ix2 (i 0) ⟨2816 + k.val, by omega⟩) * W (ix2 ⟨2816 + k.val, by omega⟩ (i 1)) :=
  Fin.sum_univ_add (a := 2816) (b := 2816) fun k => A (ix2 (i 0) k) * W (ix2 k (i 1))

/-- A pair of points writes back a block of the product. -/
theorem pair_val (t : Fin cfg0.N) (ht : t.val % 2 = 1) (a l : Fin 1024) (i : S4096x2048.Idx)
    (i0 : (i 0).val = 1024 * (t.val / 4) + a.val) (i1 : (i 1).val = 1024 * (t.val / 2 % 2) + l.val) :
    ((outsAt0 m c t.val t.isLt).1 : S1024x1024.Idx → EReal) (ix2 a l) = prod (act m c) (w m c) i := by
  have hp : t.val - 1 < cfg0.N := Nat.lt_of_le_of_lt (Nat.sub_le _ _) t.isLt
  have h2 : (t.val - 1) % 2 = 0 := by omega
  have d4 : (t.val - 1) / 4 = t.val / 4 := by omega
  have d2 : (t.val - 1) / 2 % 2 = t.val / 2 % 2 := by omega
  rw [prod_halves, odd_val m c t ht]
  refine congr (congrArg HAdd.hAdd ((even_val m c ⟨t.val - 1, hp⟩ h2 a l).trans (Finset.sum_congr rfl fun k _ => ?_)))
    (Finset.sum_congr rfl fun k _ => ?_)
  · have e0 : 2816 * ((t.val - 1) % 2) + k.val = k.val := by omega
    rw [blkA_val, blkB_val]
    refine congr (congrArg HMul.hMul (congrArg₂ (fun p q => act m c (ix2 p q)) (Fin.ext ?_) (Fin.ext e0)))
      (congrArg₂ (fun p q => w m c (ix2 p q)) (Fin.ext e0) (Fin.ext ?_))
    · show 1024 * ((t.val - 1) / 4) + a.val = _
      rw [d4, i0]
    · show 1024 * ((t.val - 1) / 2 % 2) + l.val = _
      rw [d2, i1]
  · have e1 : 2816 * (t.val % 2) + k.val = 2816 + k.val := by omega
    rw [blkA_val, blkB_val]
    exact congr (congrArg HMul.hMul (congrArg₂ (fun p q => act m c (ix2 p q)) (Fin.ext i0.symm) (Fin.ext e1)))
      (congrArg₂ (fun p q => w m c (ix2 p q)) (Fin.ext e1) (Fin.ext i1.symm))

/-- The same, at the place of the array the block's index names. -/
theorem blk_val (t : Fin cfg0.N) (ht : t.val % 2 = 1) (y : S1024x1024.Idx) :
    ((outsAt0 m c t.val t.isLt).1 : S1024x1024.Idx → EReal) y = prod (act m c) (w m c) ((win0_2.blk t).view.emb y) := by
  have b0 : ((win0_2.blk t).view.emb y 0).val = win0_2.index t (0 : Fin 2) * 1024 + 1 * (y 0).val := rfl
  have b1 : ((win0_2.blk t).view.emb y 1).val = win0_2.index t (1 : Fin 2) * 1024 + 1 * (y 1).val := rfl
  rw [idx2 t] at b0 b1
  have c0 : ((win0_2.blk t).view.emb y 0).val = t.val / 4 * 1024 + 1 * (y 0).val := b0
  have c1 : ((win0_2.blk t).view.emb y 1).val = t.val / 2 % 2 * 1024 + 1 * (y 1).val := b1
  refine (congrArg (outsAt0 m c t.val t.isLt).1 (eq_ix2 y)).trans ?_
  exact pair_val m c t ht (y 0) (y 1) ((win0_2.blk t).view.emb y) (by rw [c0]; omega) (by rw [c1]; omega)

/-- The array after the run is the product. -/
theorem final2 : (dats m 0 c).arrAt 2 cfg0.N = prod (act m c) (w m c) := by
  refine (dats m 0 c).arrAt_eq_of_covers 2 _ (by decide +kernel) fun t hf y => ?_
  blk_simp [idx2 t]
  rw [after0_2]
  exact blk_val m c t ((flush0_2 t).mp hf) y

/-- The reference's array is the same product. -/
theorem ref_prod (A : S4096x5632.Idx → EReal) (W : S5632x2048.Idx → EReal) :
    Cert.Reference5Ideal.Read.val_main_v0 (F := Ideal) A W = prod A W := by
  funext i
  rw [Cert.Reference5Ideal.Read.val_main_v0_apply]
  refine Finset.sum_congr rfl fun k _ => ?_
  refine congr (congrArg HMul.hMul (congrArg A (funext fun b => ?_))) (congrArg W (funext fun b => ?_)) <;>
    fin_cases b <;> rfl

end Sb.FfnOut
-- ==== Proof.AtNat.lean ====
/- An array of two axes read at natural numbers, and sums over runs of equal length. -/
module

public import Idealize.ShloMosaic.Lib.Pipeline.ValueKit
public import Idealize.ShloMosaic.Lib.IdealHost

@[expose] public section

noncomputable section

namespace Sb

open Idealize.ShloMosaic
open scoped BigOperators

/-- The entry of an array at two natural numbers, zero outside. -/
def at2 {a b : ℕ} (X : (⟨2, ![a, b]⟩ : Shape).Idx → EReal) (r j : ℕ) : EReal :=
  if h : r < a ∧ j < b then X (ix2 ⟨r, h.1⟩ ⟨j, h.2⟩) else 0

theorem at2_ix {a b : ℕ} (X : (⟨2, ![a, b]⟩ : Shape).Idx → EReal) (p : Fin a) (q : Fin b) {r j : ℕ} (hr : p.val = r) (hj : q.val = j) :
    X (ix2 p q) = at2 X r j := by
  subst hr hj
  unfold at2
  rw [dif_pos ⟨p.isLt, q.isLt⟩]

theorem at2_eq {a b : ℕ} (X : (⟨2, ![a, b]⟩ : Shape).Idx → EReal) (i : (⟨2, ![a, b]⟩ : Shape).Idx) {r j : ℕ}
    (hr : (i 0).val = r) (hj : (i 1).val = j) : X i = at2 X r j := by
  have e := at2_ix X (i 0) (i 1) hr hj
  rwa [← eq_ix2 i] at e

/-- A sum over `n + m` numbers, cut after the first `n`. -/
theorem sum_cut (n m : ℕ) (f : ℕ → EReal) : ∑ k : Fin (n + m), f k.val = ∑ k : Fin n, f k.val + ∑ k : Fin m, f (n + k.val) :=
  Fin.sum_univ_add (a := n) (b := m) fun k => f k.val

/-- A sum over `n` runs of `m` numbers. -/
theorem sum_runs (n m : ℕ) (f : ℕ → EReal) :
    ∑ k : Fin (n * m), f k.val = ∑ s ∈ Finset.range n, ∑ l : Fin m, f (s * m + l.val) := by
  rw [Fin.sum_univ_eq_sum_range f (n * m)]
  induction n with
  | zero => simp
  | succ n ih =>
    rw [Finset.sum_range_succ, ← ih, Nat.succ_mul, Finset.sum_range_add, Fin.sum_univ_eq_sum_range (fun l => f (n * m + l)) m]

end Sb
-- ==== Proof.GFfnIn.lean ====
/- The gradient of the feed-forward block's first weight: the kernel's array, entry by entry. -/
module

public import proofs.«01_k».proof.Proof.AtNat
public import proofs.«01_k».proof.Proof.Gen.Kernel6Ideal.Value
public import proofs.«01_k».proof.Proof.Gen.Reference6Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.GFfnIn

open Idealize.ShloMosaic Idealize.ShloMosaic.TcCoe Cert.Kernel6Ideal Cert.Kernel6Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the gradient that comes in. -/
def dy : S4096x11264.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- What the launch finds in the second operand. -/
theorem V1 : (V m c main_v1 : S4096x11264.Idx → EReal) = dy m c := by
  unfold V
  simp only [hostOps0, List.flatten_cons, List.flatten_nil, List.append_nil, List.cons_append, List.nil_append]
  after_reads_simp
  rfl

theorem idx0 : ∀ t : Fin cfg0.N, win0_0.index t = ![t.val % 2, t.val / 16] :=
  (by decide +kernel : ∀ t : Fin grid0.N, _)
theorem idx1 : ∀ t : Fin cfg0.N, win0_1.index t = ![t.val % 2, t.val / 2 % 8] :=
  (by decide +kernel : ∀ t : Fin grid0.N, _)
theorem idx2 : ∀ t : Fin cfg0.N, win0_2.index t = ![t.val / 2 % 8 / 2 + 4 * (t.val / 2 % 2), t.val / 16, 0] :=
  (by decide +kernel : ∀ t : Fin grid0.N, _)

theorem point_lt (t : Fin cfg0.N) : t.val < 32 := lt_of_lt_of_eq t.isLt (show cfg0.N = 32 from N_0)

/-- The first operand's block at a point. -/
def blkA (u : Fin cfg0.N) : S2048x1024.Idx → EReal := iblk m c 0 u

/-- The second operand's block at a point. -/
def blkB (u : Fin cfg0.N) : S2048x1408.Idx → EReal := iblk m c 1 u

theorem blkA_val (u : Fin cfg0.N) (k : Fin 2048) (a : Fin 1024) :
    blkA m c u (ix2 k a) = at2 (x m c) (u.val % 2 * 2048 + k.val) (u.val / 16 * 1024 + a.val) := by
  have hu := point_lt u
  have e : blkA m c u (ix2 k a) = V m c main_v0 (ix2 ⟨u.val % 2 * 2048 + k.val, by omega⟩ ⟨u.val / 16 * 1024 + a.val, by omega⟩) := by
    unfold blkA
    blk_ext [iblk, idx0 u]
  exact e.trans ((congrFun (V0 m c) _).trans (at2_ix (x m c) _ _ rfl rfl))

theorem blkB_val (u : Fin cfg0.N) (k : Fin 2048) (l : Fin 1408) :
    blkB m c u (ix2 k l) = at2 (dy m c) (u.val % 2 * 2048 + k.val) (u.val / 2 % 8 * 1408 + l.val) := by
  have e : blkB m c u (ix2 k l) = V m c main_v1 (ix2 ⟨u.val % 2 * 2048 + k.val, by omega⟩ ⟨u.val / 2 % 8 * 1408 + l.val, by omega⟩) := by
    unfold blkB
    blk_ext [iblk, idx1 u]
  exact e.trans ((congrFun (V1 m c) _).trans (at2_ix (dy m c) _ _ rfl rfl))

/-- An even point leaves its blocks' product in the scratch. -/
theorem scratch_even (i : grid0.Coords) (a3 : Memref sig .tc .vmem S2048x1024 .bf16) (w3 : a3.IsWhole) (a4 : Memref sig .tc .vmem S2048x1408 .bf16) (w4 : a4.IsWhole)
    (a5 : Memref sig .tc .vmem S1x1024x1408 .bf16) (w5 : a5.IsWhole) (a6 : Memref sig .tc .vmem S1024x1408 .f32) (w6 : a6.IsWhole)
    (h0 : cond0_0 i) (h1 : ¬cond0_1 i) (h2 : ¬cond0_2 i)
    (A : S2048x1024.Idx → EReal) (B : S2048x1408.Idx → EReal) (a : Fin 1024) (l : Fin 1408) :
    (sout0_A_0 (F := Ideal) c i a3 w3 a4 w4 a5 w5 a6 w6 h0 h1 h2 A B : S1024x1408.Idx → EReal) (ix2 a l)
      = ∑ k : Fin 2048, A (ix2 k a) * B (ix2 k l) := by
  frame_out [sout0_A_0]
  pointwise [k0_pay2, k0_pay1]

/-- An odd point writes back the scratch with its blocks' product added. -/
theorem out_odd (i : grid0.Coords) (a3 : Memref sig .tc .vmem S2048x1024 .bf16) (w3 : a3.IsWhole) (a4 : Memref sig .tc .vmem S2048x1408 .bf16) (w4 : a4.IsWhole)
    (a5 : Memref sig .tc .vmem S1x1024x1408 .bf16) (w5 : a5.IsWhole) (a6 : Memref sig .tc .vmem S1024x1408 .f32) (w6 : a6.IsWhole)
    (h0 : ¬cond0_0 i) (h1 : cond0_1 i) (h2 : cond0_2 i)
    (A : S2048x1024.Idx → EReal) (B : S2048x1408.Idx → EReal) (C : S1024x1408.Idx → EReal) (a : Fin 1024) (l : Fin 1408) :
    (out0_B_2 (F := Ideal) c i a3 w3 a4 w4 a5 w5 a6 w6 h0 h1 h2 A B C : S1x1024x1408.Idx → EReal) (ix3 0 a l)
      = C (ix2 a l) + ∑ k : Fin 2048, A (ix2 k a) * B (ix2 k l) := by
  frame_out [out0_B_2]
  pointwise [k0_pay4, k0_pay3, k0_pay1]

/-- One term of the product's entry at row `r` and column `j` of the incoming gradient. -/
def term (X : S4096x2048.Idx → EReal) (D : S4096x11264.Idx → EReal) (r j k : ℕ) : EReal := at2 X k r * at2 D k j

/-- The product with the first factor turned, at row `r` and column `j`. -/
def pr (X : S4096x2048.Idx → EReal) (D : S4096x11264.Idx → EReal) (r j : ℕ) : EReal := ∑ k : Fin 4096, term X D r j k.val

/-- The product as a sum over both halves of the rows. -/
theorem pr_halves (X : S4096x2048.Idx → EReal) (D : S4096x11264.Idx → EReal) (r j : ℕ) :
    pr X D r j = ∑ k : Fin 2048, term X D r j k.val + ∑ k : Fin 2048, term X D r j (2048 + k.val) := sum_cut 2048 2048 (term X D r j)

/-- A point's product of its blocks. -/
theorem dot_val (t : Fin cfg0.N) (a : Fin 1024) (l : Fin 1408) :
    ∑ k : Fin 2048, blkA m c t (ix2 k a) * blkB m c t (ix2 k l)
      = ∑ k : Fin 2048, term (x m c) (dy m c) (t.val / 16 * 1024 + a.val) (t.val / 2 % 8 * 1408 + l.val) (t.val % 2 * 2048 + k.val) :=
  Finset.sum_congr rfl fun k _ => congr (congrArg HMul.hMul (blkA_val m c t k a)) (blkB_val m c t k l)

/-- What an even point's run leaves in the scratch. -/
theorem even_dot (t : Fin cfg0.N) (ht : t.val % 2 = 0) (n1 : ¬t.val % 2 = 1) (a : Fin 1024) (l : Fin 1408) :
    (sout0_A_0 (F := Ideal) c (grid0.coords t) (ms0_0 t) (hs0_0 t) (ms0_1 t) (hs0_1 t) (ms0_2 t) (hs0_2 t) scM0_0 (Memref.isWhole_whole _)
      ((hcond0_0 t).mpr ht) (fun h => n1 ((hcond0_1 t).mp h)) (fun h => n1 ((hcond0_2 t).mp h)) (blkA m c t) (blkB m c t) : S1024x1408.Idx → EReal) (ix2 a l)
      = ∑ k : Fin 2048, term (x m c) (dy m c) (t.val / 16 * 1024 + a.val) (t.val / 2 % 8 * 1408 + l.val) (t.val % 2 * 2048 + k.val) := by
  rw [scratch_even]
  exact dot_val m c t a l

theorem even_fn (t : Fin cfg0.N) (ht : t.val % 2 = 0) (n1 : ¬t.val % 2 = 1) :
    (outsAt0 m c t.val t.isLt).2 = sout0_A_0 (F := Ideal) c (grid0.coords t) (ms0_0 t) (hs0_0 t) (ms0_1 t) (hs0_1 t) (ms0_2 t) (hs0_2 t) scM0_0
      (Memref.isWhole_whole _) ((hcond0_0 t).mpr ht) (fun h => n1 ((hcond0_1 t).mp h)) (fun h => n1 ((hcond0_2 t).mp h))
      (iblk m c 0 t) (iblk m c 1 t) := by
  rw [outsAt0_A m c t ht n1 n1]

/-- The scratch after an even point. -/
theorem even_val (t : Fin cfg0.N) (ht : t.val % 2 = 0) (a : Fin 1024) (l : Fin 1408) :
    ((outsAt0 m c t.val t.isLt).2 : S1024x1408.Idx → EReal) (ix2 a l)
      = ∑ k : Fin 2048, term (x m c) (dy m c) (t.val / 16 * 1024 + a.val) (t.val / 2 % 8 * 1408 + l.val) (t.val % 2 * 2048 + k.val) := by
  have n1 : ¬t.val % 2 = 1 := by omega
  rw [even_fn m c t ht n1]
  exact even_dot m c t ht n1 a l

/-- What an odd point's run leaves in the output block, over what the scratch held. -/
theorem odd_dot (t : Fin cfg0.N) (n0 : ¬t.val % 2 = 0) (ht : t.val % 2 = 1) (C : S1024x1408.Idx → EReal) (a : Fin 1024) (l : Fin 1408) :
    (out0_B_2 (F := Ideal) c (grid0.coords t) (ms0_0 t) (hs0_0 t) (ms0_1 t) (hs0_1 t) (ms0_2 t) (hs0_2 t) scM0_0 (Memref.isWhole_whole _)
      (fun h => n0 ((hcond0_0 t).mp h)) ((hcond0_1 t).mpr ht) ((hcond0_2 t).mpr ht) (blkA m c t) (blkB m c t) C : S1x1024x1408.Idx → EReal) (ix3 0 a l)
      = C (ix2 a l) + ∑ k : Fin 2048, term (x m c) (dy m c) (t.val / 16 * 1024 + a.val) (t.val / 2 % 8 * 1408 + l.val) (t.val % 2 * 2048 + k.val) := by
  rw [out_odd, dot_val]

theorem odd_fn (t : Fin cfg0.N) (n0 : ¬t.val % 2 = 0) (ht : t.val % 2 = 1) :
    (outsAt0 m c t.val t.isLt).1 = out0_B_2 (F := Ideal) c (grid0.coords t) (ms0_0 t) (hs0_0 t) (ms0_1 t) (hs0_1 t) (ms0_2 t) (hs0_2 t) scM0_0
      (Memref.isWhole_whole _) (fun h => n0 ((hcond0_0 t).mp h)) ((hcond0_1 t).mpr ht) ((hcond0_2 t).mpr ht)
      (iblk m c 0 t) (iblk m c 1 t) (outsAt0 m c (t.val - 1) (Nat.lt_of_le_of_lt (Nat.sub_le _ _) t.isLt)).2 := by
  rw [outsAt0_B m c t n0 ht ht]

/-- The output block after an odd point. -/
theorem odd_val (t : Fin cfg0.N) (ht : t.val % 2 = 1) (a : Fin 1024) (l : Fin 1408) :
    ((outsAt0 m c t.val t.isLt).1 : S1x1024x1408.Idx → EReal) (ix3 0 a l)
      = ((outsAt0 m c (t.val - 1) (Nat.lt_of_le_of_lt (Nat.sub_le _ _) t.isLt)).2 : S1024x1408.Idx → EReal) (ix2 a l)
        + ∑ k : Fin 2048, term (x m c) (dy m c) (t.val / 16 * 1024 + a.val) (t.val / 2 % 8 * 1408 + l.val) (t.val % 2 * 2048 + k.val) := by
  have n0 : ¬t.val % 2 = 0 := by omega
  rw [odd_fn m c t n0 ht]
  exact odd_dot m c t n0 ht _ a l

/-- A pair of points writes back a block of the product. -/
theorem pair_val (t : Fin cfg0.N) (ht : t.val % 2 = 1) (a : Fin 1024) (l : Fin 1408) :
    ((outsAt0 m c t.val t.isLt).1 : S1x1024x1408.Idx → EReal) (ix3 0 a l)
      = pr (x m c) (dy m c) (t.val / 16 * 1024 + a.val) (t.val / 2 % 8 * 1408 + l.val) := by
  have hp : t.val - 1 < cfg0.N := Nat.lt_of_le_of_lt (Nat.sub_le _ _) t.isLt
  have h2 : (t.val - 1) % 2 = 0 := by omega
  have e := even_val m c ⟨t.val - 1, hp⟩ h2 a l
  have d4 : (t.val - 1) / 16 = t.val / 16 := by omega
  have d2 : (t.val - 1) / 2 % 8 = t.val / 2 % 8 := by omega
  simp only [d4, d2, h2, Nat.zero_mul, Nat.zero_add] at e
  rw [odd_val m c t ht, e, pr_halves, ht, Nat.one_mul]

/-- The column of the interleaved gradient that slot `s` holds at place `l`. -/
def col (s l : ℕ) : ℕ := (2 * (s % 4) + s / 4) * 1408 + l

theorem chunk_slot (q : ℕ) : 2 * ((q % 8 / 2 + 4 * (q % 2)) % 4) + (q % 8 / 2 + 4 * (q % 2)) / 4 = q % 8 := by
  have h : q % 8 < 8 := Nat.mod_lt _ (by decide)
  have e : q % 2 = q % 8 % 2 := by omega
  rw [e]
  generalize q % 8 = j at h
  interval_cases j <;> rfl

/-- The array after the run is the product, its columns cut into slots. -/
theorem final2 : (dats m 0 c).arrAt 2 cfg0.N
    = fun i : S8x2048x1408.Idx => pr (x m c) (dy m c) (i 1).val (col (i 0).val (i 2).val) := by
  refine (dats m 0 c).arrAt_eq_of_covers 2 _ (by decide +kernel) fun t hf y => ?_
  have ht := (flush0_2 t).mp hf
  blk_simp [idx2 t]
  rw [after0_2]
  have y0 : ((y : S1x1024x1408.Idx) 0).val < 1 := ((y : S1x1024x1408.Idx) 0).isLt
  have hy : (y : S1x1024x1408.Idx) 0 = (0 : Fin 1) := Fin.ext (show ((y : S1x1024x1408.Idx) 0).val = 0 by omega)
  have e := pair_val m c t ht ((y : S1x1024x1408.Idx) 1) ((y : S1x1024x1408.Idx) 2)
  have ey : (ix3 0 ((y : S1x1024x1408.Idx) 1) ((y : S1x1024x1408.Idx) 2) : S1x1024x1408.Idx) = y := by
    rw [← hy]
    exact (eq_ix3 (y : S1x1024x1408.Idx)).symm
  rw [ey] at e
  have k := chunk_slot (t.val / 2)
  rw [← k] at e
  exact e

section
open Cert.Reference6Ideal.Read

/-- The gradient of the gates, at column `l` of piece `s`. -/
theorem v7_at (G : S4096x11264.Idx → EReal) (i : Cert.Reference6Ideal.S4096x5632.Idx) {s l : ℕ} (hs : s < 4) (hl : l < 1408)
    (h : (i 1).val = s * 1408 + l) : val_main_v7 (F := Ideal) G i = at2 G (i 0).val ((2 * s + 0) * 1408 + l) := by
  have i0 : (i 0).val < 4096 := (i 0).isLt
  rw [val_main_v7_apply, val_main_v6_apply, val_main_v5_apply, val_main_v4_apply]
  have e0 : ((i 0).val * 5632 + (i 1).val) / 5632 = (i 0).val := by omega
  have e1 : ((i 0).val * 5632 + (i 1).val) / 1408 % 4 = s := by omega
  have e2 : ((i 0).val * 5632 + (i 1).val) % 1408 = l := by omega
  have f0 : (((i 0).val * 4 + s) * 1408 + l) / 5632 = (i 0).val := by omega
  have f1 : (((i 0).val * 4 + s) * 1408 + l) / 1408 % 4 = s := by omega
  have f2 : (((i 0).val * 4 + s) * 1408 + l) % 1408 = l := by omega
  refine at2_eq G _ ?_ ?_
  · simp only [e0, e1, e2, f0, f1, f2]
    omega
  · simp only [e0, e1, e2, f0, f1, f2]
    omega

/-- The gradient of the halves beside the gates. -/
theorem v10_at (G : S4096x11264.Idx → EReal) (i : Cert.Reference6Ideal.S4096x5632.Idx) {s l : ℕ} (hs : s < 4) (hl : l < 1408)
    (h : (i 1).val = s * 1408 + l) : val_main_v10 (F := Ideal) G i = at2 G (i 0).val ((2 * s + 1) * 1408 + l) := by
  have i0 : (i 0).val < 4096 := (i 0).isLt
  rw [val_main_v10_apply, val_main_v9_apply, val_main_v8_apply, val_main_v4_apply]
  have e0 : ((i 0).val * 5632 + (i 1).val) / 5632 = (i 0).val := by omega
  have e1 : ((i 0).val * 5632 + (i 1).val) / 1408 % 4 = s := by omega
  have e2 : ((i 0).val * 5632 + (i 1).val) % 1408 = l := by omega
  have f0 : (((i 0).val * 4 + s) * 1408 + l) / 5632 = (i 0).val := by omega
  have f1 : (((i 0).val * 4 + s) * 1408 + l) / 1408 % 4 = s := by omega
  have f2 : (((i 0).val * 4 + s) * 1408 + l) % 1408 = l := by omega
  refine at2_eq G _ ?_ ?_
  · simp only [e0, e1, e2, f0, f1, f2]
    omega
  · simp only [e0, e1, e2, f0, f1, f2]
    omega

/-- The joined gradient, gates first. -/
theorem v11_at (G : S4096x11264.Idx → EReal) (i : Cert.Reference6Ideal.S4096x11264.Idx) {s l : ℕ} (hs : s < 8) (hl : l < 1408)
    (h : (i 1).val = s * 1408 + l) : val_main_v11 (F := Ideal) G i = at2 G (i 0).val ((2 * (s % 4) + s / 4) * 1408 + l) := by
  have i0 : (i 0).val < 4096 := (i 0).isLt
  unfold val_main_v11
  by_cases q : s < 4
  · have e : 2 * (s % 4) + s / 4 = 2 * s + 0 := by omega
    rw [e]
    refine (Idealize.ShloMosaic.concatenate_pair_apply_left (s₁ := Cert.Reference6Ideal.S4096x5632) (s₂ := Cert.Reference6Ideal.S4096x5632) _ _ _ _ i rfl
      (ix2 ⟨(i 0).val, i0⟩ ⟨s * 1408 + l, by omega⟩) ?_).trans ?_
    · intro b
      fin_cases b
      exacts [rfl, h.symm]
    · exact v7_at G _ q hl rfl
  · have e : 2 * (s % 4) + s / 4 = 2 * (s - 4) + 1 := by omega
    rw [e]
    refine (Idealize.ShloMosaic.concatenate_pair_apply_right (s₁ := Cert.Reference6Ideal.S4096x5632) (s₂ := Cert.Reference6Ideal.S4096x5632) _ _ _ _ i rfl rfl
      (ix2 ⟨(i 0).val, i0⟩ ⟨(s - 4) * 1408 + l, by omega⟩) ?_ ?_).trans ?_
    · intro b hb
      fin_cases b
      exacts [rfl, absurd rfl hb]
    · show (s - 4) * 1408 + l + 5632 = (i 1).val
      omega
    · exact v10_at G _ (by omega) hl rfl

/-- The reference's array is the same product, its columns in the same slots. -/
theorem ref_prod (X : S4096x2048.Idx → EReal) (D : S4096x11264.Idx → EReal) :
    val_main_v16 (F := Ideal) X D = fun i : S8x2048x1408.Idx => pr X D (i 1).val (col (i 0).val (i 2).val) := by
  funext i
  have i0 : (i 0).val < 8 := (i 0).isLt
  have i1 : (i 1).val < 2048 := (i 1).isLt
  have i2 : (i 2).val < 1408 := (i 2).isLt
  rw [val_main_v16_apply]
  show val_main_v15 (F := Ideal) X D i = _
  rw [val_main_v15_apply, val_main_v14_apply, val_main_v13_apply, val_main_v12_apply]
  have e0 : (((i 1).val * 8 + (i 0).val) * 1408 + (i 2).val) / 11264 = (i 1).val := by omega
  have e1 : (((i 1).val * 8 + (i 0).val) * 1408 + (i 2).val) % 11264 = (i 0).val * 1408 + (i 2).val := by omega
  refine Finset.sum_congr rfl fun k _ => ?_
  rw [mul_comm]
  exact congr (congrArg HMul.hMul (at2_eq X _ rfl e0)) (v11_at D _ i0 i2 e1)

end

end Sb.GFfnIn
-- ==== Proof.DH2.lean ====
/- The gradient of the feed-forward block's input: the kernel's array, entry by entry. -/
module

public import proofs.«01_k».proof.Proof.AtNat
public import proofs.«01_k».proof.Proof.Gen.Kernel7Ideal.Value
public import proofs.«01_k».proof.Proof.Gen.Reference7Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.DH2

open Idealize.ShloMosaic Idealize.ShloMosaic.TcCoe Cert.Kernel7Ideal Cert.Kernel7Ideal.Gen
open scoped BigOperators

variable (m : (ℓ : Loc nD τ sig) → Buf (Elt Idealize.ShloMosaic.Ideal) ℓ) (c : Dev nD)

/-- The first argument: the gradient of the projection, gate and up columns alternating. -/
def dgu : S4096x11264.Idx → EReal := m ((c.tc : Thread nD τ).loc main_arg0)

/-- The second argument: the weight. -/
def w : S2048x11264.Idx → EReal := m ((c.tc : Thread nD τ).loc main_arg1)

/-- What the launch finds in the first operand: the cast argument, which is the argument. -/
theorem V3 : (V m c main_v3 : S4096x11264.Idx → EReal) = dgu m c := by
  unfold V
  simp only [hostOps0, List.flatten_cons, List.flatten_nil, List.append_nil, List.cons_append, List.nil_append]
  after_reads_simp
  rfl

/-- What the launch finds in the second operand: the weight's columns cut into slots. -/
theorem V2 (e : Fin 8) (k : Fin 2048) (l : Fin 1408) : (V m c main_v2 : S8x2048x1408.Idx → EReal) (ix3 e k l)
    = w m c (ix2 k ⟨e.val * 1408 + l.val, by omega⟩) := by
  unfold V w
  simp only [hostOps0, List.flatten_cons, List.flatten_nil, List.append_nil, List.cons_append, List.nil_append]
  after_reads_at

theorem idx0 : ∀ t : Fin cfg0.N, win0_0.index t = ![t.val / 16, t.val % 8] :=
  (by decide +kernel : ∀ t : Fin grid0.N, _)
theorem idx1 : ∀ t : Fin cfg0.N, win0_1.index t = ![t.val % 8 / 2 + 4 * (t.val % 2), t.val / 8 % 2, 0] :=
  (by decide +kernel : ∀ t : Fin grid0.N, _)
theorem idx2 : ∀ t : Fin cfg0.N, win0_2.index t = ![t.val / 16, t.val / 8 % 2] :=
  (by decide +kernel : ∀ t : Fin grid0.N, _)

theorem point_lt (t : Fin cfg0.N) : t.val < 64 := lt_of_lt_of_eq t.isLt (show cfg0.N = 64 from N_0)

/-- The first operand's block at a point. -/
def blkA (u : Fin cfg0.N) : S1024x1408.Idx → EReal := iblk m c 0 u

/-- The second operand's block at a point. -/
def blkB (u : Fin cfg0.N) : S1x1024x1408.Idx → EReal := iblk m c 1 u

theorem blkA_val (u : Fin cfg0.N) (a : Fin 1024) (k : Fin 1408) :
    blkA m c u (ix2 a k) = at2 (dgu m c) (u.val / 16 * 1024 + a.val) (u.val % 8 * 1408 + k.val) := by
  have hu := point_lt u
  have e : blkA m c u (ix2 a k) = V m c main_v3 (ix2 ⟨u.val / 16 * 1024 + a.val, by omega⟩ ⟨u.val % 8 * 1408 + k.val, by omega⟩) := by
    unfold blkA
    blk_ext [iblk, idx0 u]
  exact e.trans ((congrFun (V3 m c) _).trans (at2_ix (dgu m c) _ _ rfl rfl))

theorem blkB_val (u : Fin cfg0.N) (l : Fin 1024) (k : Fin 1408) :
    blkB m c u (ix3 0 l k) = at2 (w m c) (u.val / 8 % 2 * 1024 + l.val) ((u.val % 8 / 2 + 4 * (u.val % 2)) * 1408 + k.val) := by
  have e : blkB m c u (ix3 0 l k) = V m c main_v2 (ix3 ⟨u.val % 8 / 2 + 4 * (u.val % 2), by omega⟩ ⟨u.val / 8 % 2 * 1024 + l.val, by omega⟩ k) := by
    unfold blkB
    blk_ext [iblk, idx1 u]
  exact e.trans ((V2 m c _ _ _).trans (at2_ix (w m c) _ _ rfl rfl))

/-- The first of a block's eight points leaves its blocks' product in the scratch. -/
theorem scratch_first (i : grid0.Coords) (a3 : Memref sig .tc .vmem S1024x1408 .bf16) (w3 : a3.IsWhole) (a4 : Memref sig .tc .vmem S1x1024x1408 .bf16) (w4 : a4.IsWhole)
    (a5 : Memref sig .tc .vmem S1024x1024 .f32) (w5 : a5.IsWhole) (a6 : Memref sig .tc .vmem S1024x1024 .f32) (w6 : a6.IsWhole)
    (h0 : cond0_0 i) (h1 : ¬cond0_1 i) (h2 : ¬cond0_2 i)
    (A : S1024x1408.Idx → EReal) (B : S1x1024x1408.Idx → EReal) (a l : Fin 1024) :
    (sout0_A_0 (F := Ideal) c i a3 w3 a4 w4 a5 w5 a6 w6 h0 h1 h2 A B : S1024x1024.Idx → EReal) (ix2 a l)
      = ∑ k : Fin 1408, A (ix2 a k) * B (ix3 0 l k) := by
  frame_out [sout0_A_0]
  pointwise [k0_pay2, k0_pay1]

/-- A middle point adds its blocks' product to the scratch. -/
theorem scratch_mid (i : grid0.Coords) (a3 : Memref sig .tc .vmem S1024x1408 .bf16) (w3 : a3.IsWhole) (a4 : Memref sig .tc .vmem S1x1024x1408 .bf16) (w4 : a4.IsWhole)
    (a5 : Memref sig .tc .vmem S1024x1024 .f32) (w5 : a5.IsWhole) (a6 : Memref sig .tc .vmem S1024x1024 .f32) (w6 : a6.IsWhole)
    (h0 : ¬cond0_0 i) (h1 : cond0_1 i) (h2 : ¬cond0_2 i)
    (A : S1024x1408.Idx → EReal) (B : S1x1024x1408.Idx → EReal) (C : S1024x1024.Idx → EReal) (a l : Fin 1024) :
    (sout0_B_0 (F := Ideal) c i a3 w3 a4 w4 a5 w5 a6 w6 h0 h1 h2 A B C : S1024x1024.Idx → EReal) (ix2 a l)
      = C (ix2 a l) + ∑ k : Fin 1408, A (ix2 a k) * B (ix3 0 l k) := by
  frame_out [sout0_B_0]
  pointwise [k0_pay3, k0_pay1]

/-- The last point writes back the scratch with its blocks' product added. -/
theorem out_last (i : grid0.Coords) (a3 : Memref sig .tc .vmem S1024x1408 .bf16) (w3 : a3.IsWhole) (a4 : Memref sig .tc .vmem S1x1024x1408 .bf16) (w4 : a4.IsWhole)
    (a5 : Memref sig .tc .vmem S1024x1024 .f32) (w5 : a5.IsWhole) (a6 : Memref sig .tc .vmem S1024x1024 .f32) (w6 : a6.IsWhole)
    (h0 : ¬cond0_0 i) (h1 : cond0_1 i) (h2 : cond0_2 i)
    (A : S1024x1408.Idx → EReal) (B : S1x1024x1408.Idx → EReal) (C : S1024x1024.Idx → EReal) (a l : Fin 1024) :
    (out0_C_2 (F := Ideal) c i a3 w3 a4 w4 a5 w5 a6 w6 h0 h1 h2 A B C : S1024x1024.Idx → EReal) (ix2 a l)
      = C (ix2 a l) + ∑ k : Fin 1408, A (ix2 a k) * B (ix3 0 l k) := by
  frame_out [out0_C_2]
  pointwise [k0_pay3, k0_pay1]

/-- A piece of the product's entry: piece `p` of the gradient's row `r` against slot `s` of the weight's row `j`. -/
def piece (G : S4096x11264.Idx → EReal) (W : S2048x11264.Idx → EReal) (r j p s : ℕ) : EReal :=
  ∑ k : Fin 1408, at2 G r (p * 1408 + k.val) * at2 W j (s * 1408 + k.val)

/-- The piece the `k`-th of a block's points adds. -/
def part (G : S4096x11264.Idx → EReal) (W : S2048x11264.Idx → EReal) (r j k : ℕ) : EReal := piece G W r j k (k / 2 + 4 * (k % 2))

/-- The product's entry at row `r` and column `j`. -/
def pr (G : S4096x11264.Idx → EReal) (W : S2048x11264.Idx → EReal) (r j : ℕ) : EReal := ∑ k ∈ Finset.range 8, part G W r j k

/-- A point's product of its blocks. -/
theorem dot_val (t : Fin cfg0.N) (a l : Fin 1024) :
    ∑ k : Fin 1408, blkA m c t (ix2 a k) * blkB m c t (ix3 0 l k) = part (dgu m c) (w m c) (t.val / 16 * 1024 + a.val) (t.val / 8 % 2 * 1024 + l.val) (t.val % 8) := by
  have e : t.val % 2 = t.val % 8 % 2 := by omega
  unfold part piece
  refine Finset.sum_congr rfl fun k _ => ?_
  rw [blkA_val, blkB_val, e]

theorem first_dot (t : Fin cfg0.N) (h0 : t.val % 8 = 0) (h1 : ¬1 ≤ t.val % 8) (h2 : ¬t.val % 8 = 7) (a l : Fin 1024) :
    (sout0_A_0 (F := Ideal) c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (fun h => h2 ((hcond0_2 t).mp h)) (blkA m c t) (blkB m c t) : S1024x1024.Idx → EReal) (ix2 a l) = part (dgu m c) (w m c) (t.val / 16 * 1024 + a.val) (t.val / 8 % 2 * 1024 + l.val) (t.val % 8) := by
  rw [scratch_first]
  exact dot_val m c t a l

theorem first_fn (t : Fin cfg0.N) (h0 : t.val % 8 = 0) (h1 : ¬1 ≤ t.val % 8) (h2 : ¬t.val % 8 = 7) :
    (outsAt0 m c t.val t.isLt).2 = sout0_A_0 (F := Ideal) c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (fun h => h2 ((hcond0_2 t).mp h)) (iblk m c 0 t) (iblk m c 1 t) := by
  rw [outsAt0_A m c t h0 h1 h2]

/-- The scratch after the first point. -/
theorem first_val (t : Fin cfg0.N) (h0 : t.val % 8 = 0) (a l : Fin 1024) :
    ((outsAt0 m c t.val t.isLt).2 : S1024x1024.Idx → EReal) (ix2 a l) = part (dgu m c) (w m c) (t.val / 16 * 1024 + a.val) (t.val / 8 % 2 * 1024 + l.val) (t.val % 8) := by
  have h1 : ¬1 ≤ t.val % 8 := by omega
  have h2 : ¬t.val % 8 = 7 := by omega
  rw [first_fn m c t h0 h1 h2]
  exact first_dot m c t h0 h1 h2 a l

theorem mid_dot (t : Fin cfg0.N) (h0 : ¬t.val % 8 = 0) (h1 : 1 ≤ t.val % 8) (h2 : ¬t.val % 8 = 7) (C : S1024x1024.Idx → EReal) (a l : Fin 1024) :
    (sout0_B_0 (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (fun h => h2 ((hcond0_2 t).mp h)) (blkA m c t) (blkB m c t) C : S1024x1024.Idx → EReal) (ix2 a l) = C (ix2 a l) + part (dgu m c) (w m c) (t.val / 16 * 1024 + a.val) (t.val / 8 % 2 * 1024 + l.val) (t.val % 8) := by
  rw [scratch_mid, dot_val]

theorem mid_fn (t : Fin cfg0.N) (h0 : ¬t.val % 8 = 0) (h1 : 1 ≤ t.val % 8) (h2 : ¬t.val % 8 = 7) :
    (outsAt0 m c t.val t.isLt).2 = sout0_B_0 (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 := by
  rw [outsAt0_B m c t h0 h1 h2]

/-- The scratch after a middle point. -/
theorem mid_val (t : Fin cfg0.N) (h0 : ¬t.val % 8 = 0) (h1 : 1 ≤ t.val % 8) (h2 : ¬t.val % 8 = 7) (a l : Fin 1024) :
    ((outsAt0 m c t.val t.isLt).2 : S1024x1024.Idx → EReal) (ix2 a l)
      = ((outsAt0 m c (t.val - 1) (Nat.lt_of_le_of_lt (Nat.sub_le _ _) t.isLt)).2 : S1024x1024.Idx → EReal) (ix2 a l)
        + part (dgu m c) (w m c) (t.val / 16 * 1024 + a.val) (t.val / 8 % 2 * 1024 + l.val) (t.val % 8) := by
  rw [mid_fn m c t h0 h1 h2]
  exact mid_dot m c t h0 h1 h2 _ a l

theorem last_dot (t : Fin cfg0.N) (h0 : ¬t.val % 8 = 0) (h1 : 1 ≤ t.val % 8) (h2 : t.val % 8 = 7) (C : S1024x1024.Idx → EReal) (a l : Fin 1024) :
    (out0_C_2 (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) ((hcond0_2 t).mpr h2) (blkA m c t) (blkB m c t) C : S1024x1024.Idx → EReal) (ix2 a l) = C (ix2 a l) + part (dgu m c) (w m c) (t.val / 16 * 1024 + a.val) (t.val / 8 % 2 * 1024 + l.val) (t.val % 8) := by
  rw [out_last, dot_val]

theorem last_fn (t : Fin cfg0.N) (h0 : ¬t.val % 8 = 0) (h1 : 1 ≤ t.val % 8) (h2 : t.val % 8 = 7) :
    (outsAt0 m c t.val t.isLt).1 = out0_C_2 (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2 := by
  rw [outsAt0_C m c t h0 h1 h2]

/-- The output block after the last point. -/
theorem last_val (t : Fin cfg0.N) (h0 : ¬t.val % 8 = 0) (h1 : 1 ≤ t.val % 8) (h2 : t.val % 8 = 7) (a l : Fin 1024) :
    ((outsAt0 m c t.val t.isLt).1 : S1024x1024.Idx → EReal) (ix2 a l)
      = ((outsAt0 m c (t.val - 1) (Nat.lt_of_le_of_lt (Nat.sub_le _ _) t.isLt)).2 : S1024x1024.Idx → EReal) (ix2 a l)
        + part (dgu m c) (w m c) (t.val / 16 * 1024 + a.val) (t.val / 8 % 2 * 1024 + l.val) (t.val % 8) := by
  rw [last_fn m c t h0 h1 h2]
  exact last_dot m c t h0 h1 h2 _ a l

/-- The scratch after each point but the last: the pieces so far. -/
theorem acc_val (a l : Fin 1024) : ∀ (n : ℕ) (t : Fin cfg0.N), t.val % 8 = n → n ≤ 6 →
    ((outsAt0 m c t.val t.isLt).2 : S1024x1024.Idx → EReal) (ix2 a l)
      = ∑ k ∈ Finset.range (n + 1), part (dgu m c) (w m c) (t.val / 16 * 1024 + a.val) (t.val / 8 % 2 * 1024 + l.val) k
  | 0, t, hn, _ => by
    rw [first_val m c t hn, hn, Finset.sum_range_one]
  | n + 1, t, hn, h6 => by
    have hp : t.val - 1 < cfg0.N := Nat.lt_of_le_of_lt (Nat.sub_le _ _) t.isLt
    have e := acc_val a l n ⟨t.val - 1, hp⟩ (show (t.val - 1) % 8 = n by omega) (by omega)
    have d0 : (t.val - 1) / 16 = t.val / 16 := by omega
    have d1 : (t.val - 1) / 8 % 2 = t.val / 8 % 2 := by omega
    simp only [d0, d1] at e
    rw [mid_val m c t (by omega) (by omega) (by omega), e, hn, Finset.sum_range_succ _ (n + 1)]

/-- Eight points write back a block of the product. -/
theorem run_val (t : Fin cfg0.N) (ht : t.val % 8 = 7) (a l : Fin 1024) :
    ((outsAt0 m c t.val t.isLt).1 : S1024x1024.Idx → EReal) (ix2 a l)
      = pr (dgu m c) (w m c) (t.val / 16 * 1024 + a.val) (t.val / 8 % 2 * 1024 + l.val) := by
  have hp : t.val - 1 < cfg0.N := Nat.lt_of_le_of_lt (Nat.sub_le _ _) t.isLt
  have e := acc_val m c a l 6 ⟨t.val - 1, hp⟩ (show (t.val - 1) % 8 = 6 by omega) (le_refl 6)
  have d0 : (t.val - 1) / 16 = t.val / 16 := by omega
  have d1 : (t.val - 1) / 8 % 2 = t.val / 8 % 2 := by omega
  simp only [d0, d1] at e
  rw [last_val m c t (by omega) (by omega) ht, e, ht, pr, Finset.sum_range_succ _ 7]

/-- The array after the run is the product. -/
theorem final2 : (dats m 0 c).arrAt 2 cfg0.N = fun i : S4096x2048.Idx => pr (dgu m c) (w m c) (i 0).val (i 1).val := by
  refine (dats m 0 c).arrAt_eq_of_covers 2 _ (by decide +kernel) fun t hf y => ?_
  have ht := (flush0_2 t).mp hf
  blk_simp [idx2 t]
  rw [after0_2]
  have e := run_val m c t ht ((y : S1024x1024.Idx) 0) ((y : S1024x1024.Idx) 1)
  rw [← eq_ix2 (y : S1024x1024.Idx)] at e
  exact e

section
open Cert.Reference7Ideal.Read

/-- The gradient of the gates, at column `l` of piece `s`. -/
theorem v7_at (G : S4096x11264.Idx → EReal) (i : Cert.Reference7Ideal.S4096x5632.Idx) {s l : ℕ} (hs : s < 4) (hl : l < 1408)
    (h : (i 1).val = s * 1408 + l) : val_main_v7 (F := Ideal) G i = at2 G (i 0).val ((2 * s + 0) * 1408 + l) := by
  have i0 : (i 0).val < 4096 := (i 0).isLt
  rw [val_main_v7_apply, val_main_v6_apply, val_main_v5_apply, val_main_v4_apply]
  have e0 : ((i 0).val * 5632 + (i 1).val) / 5632 = (i 0).val := by omega
  have e1 : ((i 0).val * 5632 + (i 1).val) / 1408 % 4 = s := by omega
  have e2 : ((i 0).val * 5632 + (i 1).val) % 1408 = l := by omega
  have f0 : (((i 0).val * 4 + s) * 1408 + l) / 5632 = (i 0).val := by omega
  have f1 : (((i 0).val * 4 + s) * 1408 + l) / 1408 % 4 = s := by omega
  have f2 : (((i 0).val * 4 + s) * 1408 + l) % 1408 = l := by omega
  refine at2_eq G _ ?_ ?_
  · simp only [e0, e1, e2, f0, f1, f2]
    omega
  · simp only [e0, e1, e2, f0, f1, f2]
    omega

/-- The gradient of the halves beside the gates. -/
theorem v10_at (G : S4096x11264.Idx → EReal) (i : Cert.Reference7Ideal.S4096x5632.Idx) {s l : ℕ} (hs : s < 4) (hl : l < 1408)
    (h : (i 1).val = s * 1408 + l) : val_main_v10 (F := Ideal) G i = at2 G (i 0).val ((2 * s + 1) * 1408 + l) := by
  have i0 : (i 0).val < 4096 := (i 0).isLt
  rw [val_main_v10_apply, val_main_v9_apply, val_main_v8_apply, val_main_v4_apply]
  have e0 : ((i 0).val * 5632 + (i 1).val) / 5632 = (i 0).val := by omega
  have e1 : ((i 0).val * 5632 + (i 1).val) / 1408 % 4 = s := by omega
  have e2 : ((i 0).val * 5632 + (i 1).val) % 1408 = l := by omega
  have f0 : (((i 0).val * 4 + s) * 1408 + l) / 5632 = (i 0).val := by omega
  have f1 : (((i 0).val * 4 + s) * 1408 + l) / 1408 % 4 = s := by omega
  have f2 : (((i 0).val * 4 + s) * 1408 + l) % 1408 = l := by omega
  refine at2_eq G _ ?_ ?_
  · simp only [e0, e1, e2, f0, f1, f2]
    omega
  · simp only [e0, e1, e2, f0, f1, f2]
    omega

/-- The joined gradient, gates first. -/
theorem v11_at (G : S4096x11264.Idx → EReal) (i : Cert.Reference7Ideal.S4096x11264.Idx) {s l : ℕ} (hs : s < 8) (hl : l < 1408)
    (h : (i 1).val = s * 1408 + l) : val_main_v11 (F := Ideal) G i = at2 G (i 0).val ((2 * (s % 4) + s / 4) * 1408 + l) := by
  have i0 : (i 0).val < 4096 := (i 0).isLt
  unfold val_main_v11
  by_cases q : s < 4
  · have e : 2 * (s % 4) + s / 4 = 2 * s + 0 := by omega
    rw [e]
    refine (Idealize.ShloMosaic.concatenate_pair_apply_left (s₁ := Cert.Reference7Ideal.S4096x5632) (s₂ := Cert.Reference7Ideal.S4096x5632) _ _ _ _ i rfl
      (ix2 ⟨(i 0).val, i0⟩ ⟨s * 1408 + l, by omega⟩) ?_).trans ?_
    · intro b
      fin_cases b
      exacts [rfl, h.symm]
    · exact v7_at G _ q hl rfl
  · have e : 2 * (s % 4) + s / 4 = 2 * (s - 4) + 1 := by omega
    rw [e]
    refine (Idealize.ShloMosaic.concatenate_pair_apply_right (s₁ := Cert.Reference7Ideal.S4096x5632) (s₂ := Cert.Reference7Ideal.S4096x5632) _ _ _ _ i rfl rfl
      (ix2 ⟨(i 0).val, i0⟩ ⟨(s - 4) * 1408 + l, by omega⟩) ?_ ?_).trans ?_
    · intro b hb
      fin_cases b
      exacts [rfl, absurd rfl hb]
    · show (s - 4) * 1408 + l + 5632 = (i 1).val
      omega
    · exact v10_at G _ (by omega) hl rfl

/-- The product with its pieces in the order of the slots. -/
theorem pr_slots (G : S4096x11264.Idx → EReal) (W : S2048x11264.Idx → EReal) (r j : ℕ) :
    pr G W r j = ∑ s ∈ Finset.range 8, piece G W r j (2 * (s % 4) + s / 4) s := by
  unfold pr part
  generalize piece G W r j = T
  simp only [Finset.sum_range_succ, Finset.sum_range_zero]
  norm_num
  abel

/-- One term of the reference's sum. -/
def term (G : S4096x11264.Idx → EReal) (W : S2048x11264.Idx → EReal) (r j q : ℕ) : EReal :=
  at2 G r ((2 * (q / 1408 % 4) + q / 1408 / 4) * 1408 + q % 1408) * at2 W j q

theorem term_run (G : S4096x11264.Idx → EReal) (W : S2048x11264.Idx → EReal) (r j s : ℕ) :
    ∑ l : Fin 1408, term G W r j (s * 1408 + l.val) = piece G W r j (2 * (s % 4) + s / 4) s := by
  unfold piece
  refine Finset.sum_congr rfl fun l _ => ?_
  have e0 : (s * 1408 + l.val) / 1408 = s := by omega
  have e1 : (s * 1408 + l.val) % 1408 = l.val := by omega
  unfold term
  rw [e0, e1]

/-- The reference's array is the same product. -/
theorem ref_prod (G : S4096x11264.Idx → EReal) (W : S2048x11264.Idx → EReal) :
    val_main_v12 (F := Ideal) G W = fun i : S4096x2048.Idx => pr G W (i 0).val (i 1).val := by
  funext i
  rw [val_main_v12_apply, pr_slots]
  have e : ∑ k : Fin 11264, val_main_v11 (F := Ideal) G (lidx_main_v12 i k) * W (ridx_main_v12 i k)
      = ∑ k : Fin (8 * 1408), term G W (i 0).val (i 1).val k.val := by
    refine Finset.sum_congr rfl fun k _ => ?_
    have hk : k.val < 11264 := k.isLt
    exact congr (congrArg HMul.hMul (v11_at G _ (s := k.val / 1408) (l := k.val % 1408) (by omega) (by omega)
      (show k.val = _ by omega))) (at2_eq W _ rfl rfl)
  rw [e, sum_runs 8 1408]
  exact Finset.sum_congr rfl fun s _ => term_run G W _ _ s

end

end Sb.DH2
-- ==== Proof.OutProd.lean ====
/- The merged branches times the output weight: the kernel's array, entry by entry, and the reference's. -/
module

public import proofs.«01_k».proof.Proof.AtNat
public import proofs.«01_k».proof.Proof.Gen.Kernel8Ideal.Value
public import proofs.«01_k».proof.Proof.Gen.Reference8Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.OutProd

open Idealize.ShloMosaic Idealize.ShloMosaic.TcCoe Cert.Kernel8Ideal Cert.Kernel8Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the weight. -/
def w : S2048x2048.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- What the launch finds in the second operand. -/
theorem V1 : (V m c main_v1 : S2048x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val / 2, 0] :=
  (by decide +kernel : ∀ t : Fin grid0.N, _)
theorem idx1 : ∀ t : Fin cfg0.N, win0_1.index t = ![0, t.val % 2] :=
  (by decide +kernel : ∀ t : Fin grid0.N, _)
theorem idx2 : ∀ t : Fin cfg0.N, win0_2.index t = ![t.val / 2, t.val % 2] :=
  (by decide +kernel : ∀ t : Fin grid0.N, _)

theorem point_lt (t : Fin cfg0.N) : t.val < 8 := lt_of_lt_of_eq t.isLt (show cfg0.N = 8 from N_0)

/-- The first operand's block at a point. -/
theorem blkA_val (u : Fin cfg0.N) (a : Fin 1024) (k : Fin 2048) :
    (iblk m c 0 u : S1024x2048.Idx → EReal) (ix2 a k) = at2 (x m c) (u.val / 2 * 1024 + a.val) k.val := by
  have hu := point_lt u
  have e : (iblk m c 0 u : S1024x2048.Idx → EReal) (ix2 a k) = V m c main_v0 (ix2 ⟨u.val / 2 * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (k : Fin 2048) (l : Fin 1024) :
    (iblk m c 1 u : S2048x1024.Idx → EReal) (ix2 k l) = at2 (w m c) k.val (u.val % 2 * 1024 + l.val) := by
  have e : (iblk m c 1 u : S2048x1024.Idx → EReal) (ix2 k l) = V m c main_v1 (ix2 k ⟨u.val % 2 * 1024 + l.val, by omega⟩) := by
    blk_ext [iblk, idx1 u]
  exact e.trans ((congrFun (V1 m c) _).trans (at2_ix (w m c) _ _ rfl rfl))

/-- A point writes back its blocks' product. -/
theorem is_out (A : S1024x2048.Idx → EReal) (B : S2048x1024.Idx → EReal) (a l : Fin 1024) :
    (out0_2 (F := Ideal) A B : S1024x1024.Idx → EReal) (ix2 a l) = ∑ k : Fin 2048, A (ix2 a k) * B (ix2 k l) := by
  frame_out [out0_2]
  pointwise [k0_pay1]

/-- An entry of the product. -/
def pr (X : S4096x2048.Idx → EReal) (W : S2048x2048.Idx → EReal) (r j : ℕ) : EReal := ∑ k : Fin 2048, at2 X r k.val * at2 W k.val j

/-- A point's block is a block of the product. -/
theorem point_val (t : Fin cfg0.N) (a l : Fin 1024) :
    (out0_2 (F := Ideal) (iblk m c 0 t) (iblk m c 1 t) : S1024x1024.Idx → EReal) (ix2 a l)
      = pr (x m c) (w m c) (t.val / 2 * 1024 + a.val) (t.val % 2 * 1024 + l.val) :=
  (is_out (iblk m c 0 t) (iblk m c 1 t) a l).trans (Finset.sum_congr rfl fun k _ =>
    congr (congrArg HMul.hMul (blkA_val m c t a k)) (blkB_val m c t k l))

/-- The array after the run is the product. -/
theorem final2 : (dats m 0 c).arrAt 2 cfg0.N = fun i : S4096x2048.Idx => pr (x m c) (w m c) (i 0).val (i 1).val := by
  refine (dats m 0 c).arrAt_eq_of_covers 2 _ (by decide +kernel) fun t hf y => ?_
  blk_simp [idx2 t]
  rw [after0_2]
  have e := point_val m c t ((y : S1024x1024.Idx) 0) ((y : S1024x1024.Idx) 1)
  rw [← eq_ix2 (y : S1024x1024.Idx)] at e
  exact e

/-- The reference's array is the same product. -/
theorem ref_prod (X : S4096x2048.Idx → EReal) (W : S2048x2048.Idx → EReal) :
    Cert.Reference8Ideal.Read.val_main_v0 (F := Ideal) X W = fun i => pr X W (i 0).val (i 1).val := by
  funext i
  rw [Cert.Reference8Ideal.Read.val_main_v0_apply]
  exact Finset.sum_congr rfl fun k _ => congr (congrArg HMul.hMul (at2_eq X _ rfl rfl)) (at2_eq W _ rfl rfl)

end Sb.OutProd
-- ==== Proof.GOut.lean ====
/- The gradient of the output weight: the kernel's array, entry by entry, and the reference's. -/
module

public import proofs.«01_k».proof.Proof.AtNat
public import proofs.«01_k».proof.Proof.Gen.Kernel9Ideal.Value
public import proofs.«01_k».proof.Proof.Gen.Reference9Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.GOut

open Idealize.ShloMosaic Idealize.ShloMosaic.TcCoe Cert.Kernel9Ideal Cert.Kernel9Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the gradient that comes in. -/
def dy : S4096x2048.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- What the launch finds in the second operand. -/
theorem V1 : (V m c main_v1 : S4096x2048.Idx → EReal) = dy m c := by
  unfold V
  simp only [hostOps0, List.flatten_cons, List.flatten_nil, List.append_nil, List.cons_append, List.nil_append]
  after_reads_simp
  rfl

theorem idx0 : ∀ t : Fin cfg0.N, win0_0.index t = ![t.val % 2, t.val / 4] :=
  (by decide +kernel : ∀ t : Fin grid0.N, _)
theorem idx1 : ∀ t : Fin cfg0.N, win0_1.index t = ![t.val % 2, t.val / 2 % 2] :=
  (by decide +kernel : ∀ t : Fin grid0.N, _)
theorem idx2 : ∀ t : Fin cfg0.N, win0_2.index t = ![t.val / 4, t.val / 2 % 2] :=
  (by decide +kernel : ∀ t : Fin grid0.N, _)

theorem point_lt (t : Fin cfg0.N) : t.val < 8 := lt_of_lt_of_eq t.isLt (show cfg0.N = 8 from N_0)

/-- The first operand's block at a point. -/
def blkA (u : Fin cfg0.N) : S2048x1024.Idx → EReal := iblk m c 0 u

/-- The second operand's block at a point. -/
def blkB (u : Fin cfg0.N) : S2048x1024.Idx → EReal := iblk m c 1 u

theorem blkA_val (u : Fin cfg0.N) (k : Fin 2048) (a : Fin 1024) :
    blkA m c u (ix2 k a) = at2 (x m c) (u.val % 2 * 2048 + k.val) (u.val / 4 * 1024 + a.val) := by
  have hu := point_lt u
  have e : blkA m c u (ix2 k a) = V m c main_v0 (ix2 ⟨u.val % 2 * 2048 + k.val, by omega⟩ ⟨u.val / 4 * 1024 + a.val, by omega⟩) := by
    unfold blkA
    blk_ext [iblk, idx0 u]
  exact e.trans ((congrFun (V0 m c) _).trans (at2_ix (x m c) _ _ rfl rfl))

theorem blkB_val (u : Fin cfg0.N) (k : Fin 2048) (l : Fin 1024) :
    blkB m c u (ix2 k l) = at2 (dy m c) (u.val % 2 * 2048 + k.val) (u.val / 2 % 2 * 1024 + l.val) := by
  have e : blkB m c u (ix2 k l) = V m c main_v1 (ix2 ⟨u.val % 2 * 2048 + k.val, by omega⟩ ⟨u.val / 2 % 2 * 1024 + l.val, by omega⟩) := by
    unfold blkB
    blk_ext [iblk, idx1 u]
  exact e.trans ((congrFun (V1 m c) _).trans (at2_ix (dy m c) _ _ rfl rfl))

/-- An even point leaves its blocks' product in the scratch. -/
theorem scratch_even (i : grid0.Coords) (a3 : Memref sig .tc .vmem S2048x1024 .bf16) (w3 : a3.IsWhole) (a4 : Memref sig .tc .vmem S2048x1024 .bf16) (w4 : a4.IsWhole)
    (a5 : Memref sig .tc .vmem S1024x1024 .bf16) (w5 : a5.IsWhole) (a6 : Memref sig .tc .vmem S1024x1024 .f32) (w6 : a6.IsWhole)
    (h0 : cond0_0 i) (h1 : ¬cond0_1 i) (h2 : ¬cond0_2 i)
    (A : S2048x1024.Idx → EReal) (B : S2048x1024.Idx → EReal) (a : Fin 1024) (l : Fin 1024) :
    (sout0_A_0 (F := Ideal) c i a3 w3 a4 w4 a5 w5 a6 w6 h0 h1 h2 A B : S1024x1024.Idx → EReal) (ix2 a l)
      = ∑ k : Fin 2048, A (ix2 k a) * B (ix2 k l) := by
  frame_out [sout0_A_0]
  pointwise [k0_pay2, k0_pay1]

/-- An odd point writes back the scratch with its blocks' product added. -/
theorem out_odd (i : grid0.Coords) (a3 : Memref sig .tc .vmem S2048x1024 .bf16) (w3 : a3.IsWhole) (a4 : Memref sig .tc .vmem S2048x1024 .bf16) (w4 : a4.IsWhole)
    (a5 : Memref sig .tc .vmem S1024x1024 .bf16) (w5 : a5.IsWhole) (a6 : Memref sig .tc .vmem S1024x1024 .f32) (w6 : a6.IsWhole)
    (h0 : ¬cond0_0 i) (h1 : cond0_1 i) (h2 : cond0_2 i)
    (A : S2048x1024.Idx → EReal) (B : S2048x1024.Idx → EReal) (C : S1024x1024.Idx → EReal) (a : Fin 1024) (l : Fin 1024) :
    (out0_B_2 (F := Ideal) c i a3 w3 a4 w4 a5 w5 a6 w6 h0 h1 h2 A B C : S1024x1024.Idx → EReal) (ix2 a l)
      = C (ix2 a l) + ∑ k : Fin 2048, A (ix2 k a) * B (ix2 k l) := by
  frame_out [out0_B_2]
  pointwise [k0_pay4, k0_pay3, k0_pay1]

/-- One term of the product's entry at row `r` and column `j` of the incoming gradient. -/
def term (X : S4096x2048.Idx → EReal) (D : S4096x2048.Idx → EReal) (r j k : ℕ) : EReal := at2 X k r * at2 D k j

/-- The product with the first factor turned, at row `r` and column `j`. -/
def pr (X : S4096x2048.Idx → EReal) (D : S4096x2048.Idx → EReal) (r j : ℕ) : EReal := ∑ k : Fin 4096, term X D r j k.val

/-- The product as a sum over both halves of the rows. -/
theorem pr_halves (X : S4096x2048.Idx → EReal) (D : S4096x2048.Idx → EReal) (r j : ℕ) :
    pr X D r j = ∑ k : Fin 2048, term X D r j k.val + ∑ k : Fin 2048, term X D r j (2048 + k.val) := sum_cut 2048 2048 (term X D r j)

/-- A point's product of its blocks. -/
theorem dot_val (t : Fin cfg0.N) (a : Fin 1024) (l : Fin 1024) :
    ∑ k : Fin 2048, blkA m c t (ix2 k a) * blkB m c t (ix2 k l)
      = ∑ k : Fin 2048, term (x m c) (dy m c) (t.val / 4 * 1024 + a.val) (t.val / 2 % 2 * 1024 + l.val) (t.val % 2 * 2048 + k.val) :=
  Finset.sum_congr rfl fun k _ => congr (congrArg HMul.hMul (blkA_val m c t k a)) (blkB_val m c t k l)

/-- What an even point's run leaves in the scratch. -/
theorem even_dot (t : Fin cfg0.N) (ht : t.val % 2 = 0) (n1 : ¬t.val % 2 = 1) (a : Fin 1024) (l : Fin 1024) :
    (sout0_A_0 (F := Ideal) c (grid0.coords t) (ms0_0 t) (hs0_0 t) (ms0_1 t) (hs0_1 t) (ms0_2 t) (hs0_2 t) scM0_0 (Memref.isWhole_whole _)
      ((hcond0_0 t).mpr ht) (fun h => n1 ((hcond0_1 t).mp h)) (fun h => n1 ((hcond0_2 t).mp h)) (blkA m c t) (blkB m c t) : S1024x1024.Idx → EReal) (ix2 a l)
      = ∑ k : Fin 2048, term (x m c) (dy m c) (t.val / 4 * 1024 + a.val) (t.val / 2 % 2 * 1024 + l.val) (t.val % 2 * 2048 + k.val) := by
  rw [scratch_even]
  exact dot_val m c t a l

theorem even_fn (t : Fin cfg0.N) (ht : t.val % 2 = 0) (n1 : ¬t.val % 2 = 1) :
    (outsAt0 m c t.val t.isLt).2 = sout0_A_0 (F := Ideal) c (grid0.coords t) (ms0_0 t) (hs0_0 t) (ms0_1 t) (hs0_1 t) (ms0_2 t) (hs0_2 t) scM0_0
      (Memref.isWhole_whole _) ((hcond0_0 t).mpr ht) (fun h => n1 ((hcond0_1 t).mp h)) (fun h => n1 ((hcond0_2 t).mp h))
      (iblk m c 0 t) (iblk m c 1 t) := by
  rw [outsAt0_A m c t ht n1 n1]

/-- The scratch after an even point. -/
theorem even_val (t : Fin cfg0.N) (ht : t.val % 2 = 0) (a : Fin 1024) (l : Fin 1024) :
    ((outsAt0 m c t.val t.isLt).2 : S1024x1024.Idx → EReal) (ix2 a l)
      = ∑ k : Fin 2048, term (x m c) (dy m c) (t.val / 4 * 1024 + a.val) (t.val / 2 % 2 * 1024 + l.val) (t.val % 2 * 2048 + k.val) := by
  have n1 : ¬t.val % 2 = 1 := by omega
  rw [even_fn m c t ht n1]
  exact even_dot m c t ht n1 a l

/-- What an odd point's run leaves in the output block, over what the scratch held. -/
theorem odd_dot (t : Fin cfg0.N) (n0 : ¬t.val % 2 = 0) (ht : t.val % 2 = 1) (C : S1024x1024.Idx → EReal) (a : Fin 1024) (l : Fin 1024) :
    (out0_B_2 (F := Ideal) c (grid0.coords t) (ms0_0 t) (hs0_0 t) (ms0_1 t) (hs0_1 t) (ms0_2 t) (hs0_2 t) scM0_0 (Memref.isWhole_whole _)
      (fun h => n0 ((hcond0_0 t).mp h)) ((hcond0_1 t).mpr ht) ((hcond0_2 t).mpr ht) (blkA m c t) (blkB m c t) C : S1024x1024.Idx → EReal) (ix2 a l)
      = C (ix2 a l) + ∑ k : Fin 2048, term (x m c) (dy m c) (t.val / 4 * 1024 + a.val) (t.val / 2 % 2 * 1024 + l.val) (t.val % 2 * 2048 + k.val) := by
  rw [out_odd, dot_val]

theorem odd_fn (t : Fin cfg0.N) (n0 : ¬t.val % 2 = 0) (ht : t.val % 2 = 1) :
    (outsAt0 m c t.val t.isLt).1 = out0_B_2 (F := Ideal) c (grid0.coords t) (ms0_0 t) (hs0_0 t) (ms0_1 t) (hs0_1 t) (ms0_2 t) (hs0_2 t) scM0_0
      (Memref.isWhole_whole _) (fun h => n0 ((hcond0_0 t).mp h)) ((hcond0_1 t).mpr ht) ((hcond0_2 t).mpr ht)
      (iblk m c 0 t) (iblk m c 1 t) (outsAt0 m c (t.val - 1) (Nat.lt_of_le_of_lt (Nat.sub_le _ _) t.isLt)).2 := by
  rw [outsAt0_B m c t n0 ht ht]

/-- The output block after an odd point. -/
theorem odd_val (t : Fin cfg0.N) (ht : t.val % 2 = 1) (a : Fin 1024) (l : Fin 1024) :
    ((outsAt0 m c t.val t.isLt).1 : S1024x1024.Idx → EReal) (ix2 a l)
      = ((outsAt0 m c (t.val - 1) (Nat.lt_of_le_of_lt (Nat.sub_le _ _) t.isLt)).2 : S1024x1024.Idx → EReal) (ix2 a l)
        + ∑ k : Fin 2048, term (x m c) (dy m c) (t.val / 4 * 1024 + a.val) (t.val / 2 % 2 * 1024 + l.val) (t.val % 2 * 2048 + k.val) := by
  have n0 : ¬t.val % 2 = 0 := by omega
  rw [odd_fn m c t n0 ht]
  exact odd_dot m c t n0 ht _ a l

/-- A pair of points writes back a block of the product. -/
theorem pair_val (t : Fin cfg0.N) (ht : t.val % 2 = 1) (a : Fin 1024) (l : Fin 1024) :
    ((outsAt0 m c t.val t.isLt).1 : S1024x1024.Idx → EReal) (ix2 a l)
      = pr (x m c) (dy m c) (t.val / 4 * 1024 + a.val) (t.val / 2 % 2 * 1024 + l.val) := by
  have hp : t.val - 1 < cfg0.N := Nat.lt_of_le_of_lt (Nat.sub_le _ _) t.isLt
  have h2 : (t.val - 1) % 2 = 0 := by omega
  have e := even_val m c ⟨t.val - 1, hp⟩ h2 a l
  have d4 : (t.val - 1) / 4 = t.val / 4 := by omega
  have d2 : (t.val - 1) / 2 % 2 = t.val / 2 % 2 := by omega
  simp only [d4, d2, h2, Nat.zero_mul, Nat.zero_add] at e
  rw [odd_val m c t ht, e, pr_halves, ht, Nat.one_mul]

/-- The array after the run is the product. -/
theorem final2 : (dats m 0 c).arrAt 2 cfg0.N = fun i : S2048x2048.Idx => pr (x m c) (dy m c) (i 0).val (i 1).val := by
  refine (dats m 0 c).arrAt_eq_of_covers 2 _ (by decide +kernel) fun t hf y => ?_
  have ht := (flush0_2 t).mp hf
  blk_simp [idx2 t]
  rw [after0_2]
  have e := pair_val m c t ht ((y : S1024x1024.Idx) 0) ((y : S1024x1024.Idx) 1)
  rw [← eq_ix2 (y : S1024x1024.Idx)] at e
  exact e

section
open Cert.Reference9Ideal.Read

/-- The reference's array is the same product. -/
theorem ref_prod (X : S4096x2048.Idx → EReal) (D : S4096x2048.Idx → EReal) :
    val_main_v4 (F := Ideal) X D = fun i => pr X D (i 0).val (i 1).val := by
  funext i
  rw [val_main_v4_apply]
  show val_main_v3 (F := Ideal) X D i = _
  rw [val_main_v3_apply, val_main_v2_apply]
  refine Finset.sum_congr rfl fun k _ => ?_
  rw [mul_comm]
  exact congr (congrArg HMul.hMul (at2_eq X _ rfl rfl)) (at2_eq D _ rfl rfl)

end

end Sb.GOut
-- ==== Proof.DMerged.lean ====
/- The gradient of the merged branches: the kernel's array, entry by entry, and the reference's. -/
module

public import proofs.«01_k».proof.Proof.AtNat
public import proofs.«01_k».proof.Proof.Gen.Kernel10Ideal.Value
public import proofs.«01_k».proof.Proof.Gen.Reference10Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.DMerged

open Idealize.ShloMosaic Idealize.ShloMosaic.TcCoe Cert.Kernel10Ideal Cert.Kernel10Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the weight. -/
def w : S2048x2048.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- What the launch finds in the second operand. -/
theorem V1 : (V m c main_v1 : S2048x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val / 2, 0] :=
  (by decide +kernel : ∀ t : Fin grid0.N, _)
theorem idx1 : ∀ t : Fin cfg0.N, win0_1.index t = ![t.val % 2, 0] :=
  (by decide +kernel : ∀ t : Fin grid0.N, _)
theorem idx2 : ∀ t : Fin cfg0.N, win0_2.index t = ![t.val / 2, t.val % 2] :=
  (by decide +kernel : ∀ t : Fin grid0.N, _)

theorem point_lt (t : Fin cfg0.N) : t.val < 8 := lt_of_lt_of_eq t.isLt (show cfg0.N = 8 from N_0)

/-- The first operand's block at a point. -/
theorem blkA_val (u : Fin cfg0.N) (a : Fin 1024) (k : Fin 2048) :
    (iblk m c 0 u : S1024x2048.Idx → EReal) (ix2 a k) = at2 (x m c) (u.val / 2 * 1024 + a.val) k.val := by
  have hu := point_lt u
  have e : (iblk m c 0 u : S1024x2048.Idx → EReal) (ix2 a k) = V m c main_v0 (ix2 ⟨u.val / 2 * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (l : Fin 1024) (k : Fin 2048) :
    (iblk m c 1 u : S1024x2048.Idx → EReal) (ix2 l k) = at2 (w m c) (u.val % 2 * 1024 + l.val) k.val := by
  have e : (iblk m c 1 u : S1024x2048.Idx → EReal) (ix2 l k) = V m c main_v1 (ix2 ⟨u.val % 2 * 1024 + l.val, by omega⟩ k) := by
    blk_ext [iblk, idx1 u]
  exact e.trans ((congrFun (V1 m c) _).trans (at2_ix (w m c) _ _ rfl rfl))

/-- A point writes back its blocks' product. -/
theorem is_out (A : S1024x2048.Idx → EReal) (B : S1024x2048.Idx → EReal) (a l : Fin 1024) :
    (out0_2 (F := Ideal) A B : S1024x1024.Idx → EReal) (ix2 a l) = ∑ k : Fin 2048, A (ix2 a k) * B (ix2 l k) := by
  frame_out [out0_2]
  pointwise [k0_pay1]

/-- An entry of the product, the second factor turned. -/
def pr (X : S4096x2048.Idx → EReal) (W : S2048x2048.Idx → EReal) (r j : ℕ) : EReal := ∑ k : Fin 2048, at2 X r k.val * at2 W j k.val

/-- A point's block is a block of the product. -/
theorem point_val (t : Fin cfg0.N) (a l : Fin 1024) :
    (out0_2 (F := Ideal) (iblk m c 0 t) (iblk m c 1 t) : S1024x1024.Idx → EReal) (ix2 a l)
      = pr (x m c) (w m c) (t.val / 2 * 1024 + a.val) (t.val % 2 * 1024 + l.val) :=
  (is_out (iblk m c 0 t) (iblk m c 1 t) a l).trans (Finset.sum_congr rfl fun k _ =>
    congr (congrArg HMul.hMul (blkA_val m c t a k)) (blkB_val m c t l k))

/-- The array after the run is the product. -/
theorem final2 : (dats m 0 c).arrAt 2 cfg0.N = fun i : S4096x2048.Idx => pr (x m c) (w m c) (i 0).val (i 1).val := by
  refine (dats m 0 c).arrAt_eq_of_covers 2 _ (by decide +kernel) fun t hf y => ?_
  blk_simp [idx2 t]
  rw [after0_2]
  have e := point_val m c t ((y : S1024x1024.Idx) 0) ((y : S1024x1024.Idx) 1)
  rw [← eq_ix2 (y : S1024x1024.Idx)] at e
  exact e

/-- The reference's array is the same product. -/
theorem ref_prod (X : S4096x2048.Idx → EReal) (W : S2048x2048.Idx → EReal) :
    Cert.Reference10Ideal.Read.val_main_v2 (F := Ideal) X W = fun i => pr X W (i 0).val (i 1).val := by
  funext i
  rw [Cert.Reference10Ideal.Read.val_main_v2_apply]
  exact Finset.sum_congr rfl fun k _ => congr (congrArg HMul.hMul (at2_eq X _ rfl rfl)) (at2_eq W _ rfl rfl)

end Sb.DMerged
-- ==== Proof.Cols.lean ====
/- The order in which the columns of a joined array follow one another, and joined arrays read at an entry. -/
module

public import proofs.«01_k».proof.Proof.AtNat
public import Idealize.ShloMosaic.Lib.Pipeline.Value
public import Idealize.ShloMosaic.Lib.Pipeline.ValueKit
public import Idealize.ShloMosaic.Lib.Pointwise
public import Idealize.ShloMosaic.Lib.IdealHost

@[expose] public section

set_option maxRecDepth 16384

noncomputable section

namespace Sb

open Idealize.ShloMosaic
open scoped BigOperators

/-- The column of the plain array that stands at column `j` of the joined one: gates first, then the second branch, then the
    first, then the columns of zeros, which stand beyond the plain array's last column. -/
def col (j : ℕ) : ℕ := if j < 4096 then j + 4160 else if j < 7168 then j - 3008 else if j < 8256 then j - 7168 else j

theorem at2_out {a b : ℕ} (X : (⟨2, ![a, b]⟩ : Shape).Idx → EReal) (r : ℕ) {j : ℕ} (h : b ≤ j) : at2 X r j = 0 := by
  unfold at2
  exact dif_neg fun q => absurd q.2 (Nat.not_lt.mpr h)

/-- A sum over the columns in the joined order. -/
theorem sum_col (f : ℕ → EReal) (hf : ∀ q, 8256 ≤ q → f q = 0) : ∑ q : Fin 8448, f (col q.val) = ∑ q : Fin 8256, f q.val := by
  have e0 : ∑ q : Fin 8448, f (col q.val) = ∑ q : Fin 8256, f (col q.val) + ∑ q : Fin 192, f (col (8256 + q.val)) :=
    sum_cut 8256 192 fun q => f (col q)
  have e1 : ∑ q : Fin 8256, f (col q.val) = ∑ q : Fin 7168, f (col q.val) + ∑ q : Fin 1088, f (col (7168 + q.val)) :=
    sum_cut 7168 1088 fun q => f (col q)
  have e2 : ∑ q : Fin 7168, f (col q.val) = ∑ q : Fin 4096, f (col q.val) + ∑ q : Fin 3072, f (col (4096 + q.val)) :=
    sum_cut 4096 3072 fun q => f (col q)
  have d0 : ∑ q : Fin 8256, f q.val = ∑ q : Fin 4160, f q.val + ∑ q : Fin 4096, f (4160 + q.val) := sum_cut 4160 4096 f
  have d1 : ∑ q : Fin 4160, f q.val = ∑ q : Fin 1088, f q.val + ∑ q : Fin 3072, f (1088 + q.val) := sum_cut 1088 3072 f
  have z : ∑ q : Fin 192, f (col (8256 + q.val)) = 0 := Finset.sum_eq_zero fun q _ => hf _ (by unfold col; split_ifs <;> omega)
  have c0 : ∑ q : Fin 4096, f (col q.val) = ∑ q : Fin 4096, f (4160 + q.val) :=
    Finset.sum_congr rfl fun q _ => congrArg f (by have := q.isLt; unfold col; split_ifs <;> omega)
  have c1 : ∑ q : Fin 3072, f (col (4096 + q.val)) = ∑ q : Fin 3072, f (1088 + q.val) :=
    Finset.sum_congr rfl fun q _ => congrArg f (by have := q.isLt; unfold col; split_ifs <;> omega)
  have c2 : ∑ q : Fin 1088, f (col (7168 + q.val)) = ∑ q : Fin 1088, f q.val :=
    Finset.sum_congr rfl fun q _ => congrArg f (by have := q.isLt; unfold col; split_ifs <;> omega)
  rw [e0, e1, e2, z, c0, c1, c2, d0, d1, add_zero, add_comm, ← add_assoc, add_right_comm, add_comm (∑ q : Fin 1088, f q.val), add_right_comm]

/-- A run of columns cut out of an array, at an entry. -/
theorem slice_at {R W w o : ℕ} (X : (⟨2, ![R, W]⟩ : Shape).Idx → EReal)
    (h : (⟨2, ![R, W]⟩ : Shape).Slices ![0, o] (⟨2, ![R, w]⟩ : Shape)) (r : Fin R) (l : Fin w) :
    extractStridedSlice (⟨2, ![R, w]⟩ : Shape) ![0, o] X h (ix2 r l) = at2 X r.val (o + l.val) := by
  have q : o + w ≤ W := h.2 1
  have hl := l.isLt
  refine (extractStridedSlice_apply ![0, o] X h (ix2 r l) (ix2 r ⟨o + l.val, by omega⟩) fun a => ?_).trans (at2_ix X _ _ rfl rfl)
  match a with
  | ⟨0, _⟩ => exact (Nat.zero_add r.val).symm
  | ⟨1, _⟩ => rfl

/-- A joined array at an entry: the piece that holds its column. -/
theorem cat_piece {R W w : ℕ} (xs : List ((s : Shape) × (s.Idx → EReal)))
    (h : Shape.Concatenates (xs.map (·.1)) (⟨2, ![R, W]⟩ : Shape) 1) (r : Fin R) (j : Fin W) (k : ℕ) (hk : k < xs.length)
    (x : (⟨2, ![R, w]⟩ : Shape).Idx → EReal) (hx : xs[k] = ⟨(⟨2, ![R, w]⟩ : Shape), x⟩) (pre : ℕ)
    (hpre : (((xs.take k).map (·.1)).map fun s => if h : s.rank = (⟨2, ![R, W]⟩ : Shape).rank then s.size ((1 : Fin 2).cast h.symm) else 0).sum = pre)
    (l : Fin w) (hl : pre + l.val = j.val) :
    concatenate (⟨2, ![R, W]⟩ : Shape) 1 xs h (ix2 r j) = x (ix2 r l) := by
  refine concatenate_apply_piece 1 xs h (ix2 r j) k hk (⟨2, ![R, w]⟩ : Shape) x hx rfl pre hpre (ix2 r l) (fun b hb => ?_) hl
  match b, hb with
  | ⟨0, _⟩, _ => rfl
  | ⟨1, _⟩, hb => exact absurd rfl hb

/-- Nine runs joined, the last one zeros: an entry of the joined array is the plain array's at the column that stands there. -/
theorem cat9_at {R : ℕ} (X : (⟨2, ![R, 8256]⟩ : Shape).Idx → EReal)
    (s0 : (⟨2, ![R, 8256]⟩ : Shape).Slices ![0, 4160] (⟨2, ![R, 2048]⟩ : Shape))
    (s1 : (⟨2, ![R, 8256]⟩ : Shape).Slices ![0, 6208] (⟨2, ![R, 2048]⟩ : Shape))
    (s2 : (⟨2, ![R, 8256]⟩ : Shape).Slices ![0, 1088] (⟨2, ![R, 1024]⟩ : Shape))
    (s3 : (⟨2, ![R, 8256]⟩ : Shape).Slices ![0, 2112] (⟨2, ![R, 1024]⟩ : Shape))
    (s4 : (⟨2, ![R, 8256]⟩ : Shape).Slices ![0, 3136] (⟨2, ![R, 1024]⟩ : Shape))
    (s5 : (⟨2, ![R, 8256]⟩ : Shape).Slices ![0, 0] (⟨2, ![R, 512]⟩ : Shape))
    (s6 : (⟨2, ![R, 8256]⟩ : Shape).Slices ![0, 512] (⟨2, ![R, 512]⟩ : Shape))
    (s7 : (⟨2, ![R, 8256]⟩ : Shape).Slices ![0, 1024] (⟨2, ![R, 64]⟩ : Shape))
    (Z : (⟨2, ![R, 192]⟩ : Shape).Idx → EReal) (hZ : ∀ i, Z i = 0)
    (h : Shape.Concatenates (([⟨(⟨2, ![R, 2048]⟩ : Shape), extractStridedSlice (⟨2, ![R, 2048]⟩ : Shape) ![0, 4160] X s0⟩, ⟨(⟨2, ![R, 2048]⟩ : Shape), extractStridedSlice (⟨2, ![R, 2048]⟩ : Shape) ![0, 6208] X s1⟩, ⟨(⟨2, ![R, 1024]⟩ : Shape), extractStridedSlice (⟨2, ![R, 1024]⟩ : Shape) ![0, 1088] X s2⟩, ⟨(⟨2, ![R, 1024]⟩ : Shape), extractStridedSlice (⟨2, ![R, 1024]⟩ : Shape) ![0, 2112] X s3⟩, ⟨(⟨2, ![R, 1024]⟩ : Shape), extractStridedSlice (⟨2, ![R, 1024]⟩ : Shape) ![0, 3136] X s4⟩, ⟨(⟨2, ![R, 512]⟩ : Shape), extractStridedSlice (⟨2, ![R, 512]⟩ : Shape) ![0, 0] X s5⟩, ⟨(⟨2, ![R, 512]⟩ : Shape), extractStridedSlice (⟨2, ![R, 512]⟩ : Shape) ![0, 512] X s6⟩, ⟨(⟨2, ![R, 64]⟩ : Shape), extractStridedSlice (⟨2, ![R, 64]⟩ : Shape) ![0, 1024] X s7⟩, ⟨(⟨2, ![R, 192]⟩ : Shape), Z⟩] : List ((s : Shape) × (s.Idx → EReal))).map (·.1)) (⟨2, ![R, 8448]⟩ : Shape) 1)
    (r : Fin R) (j : Fin 8448) :
    concatenate (⟨2, ![R, 8448]⟩ : Shape) 1 ([⟨(⟨2, ![R, 2048]⟩ : Shape), extractStridedSlice (⟨2, ![R, 2048]⟩ : Shape) ![0, 4160] X s0⟩, ⟨(⟨2, ![R, 2048]⟩ : Shape), extractStridedSlice (⟨2, ![R, 2048]⟩ : Shape) ![0, 6208] X s1⟩, ⟨(⟨2, ![R, 1024]⟩ : Shape), extractStridedSlice (⟨2, ![R, 1024]⟩ : Shape) ![0, 1088] X s2⟩, ⟨(⟨2, ![R, 1024]⟩ : Shape), extractStridedSlice (⟨2, ![R, 1024]⟩ : Shape) ![0, 2112] X s3⟩, ⟨(⟨2, ![R, 1024]⟩ : Shape), extractStridedSlice (⟨2, ![R, 1024]⟩ : Shape) ![0, 3136] X s4⟩, ⟨(⟨2, ![R, 512]⟩ : Shape), extractStridedSlice (⟨2, ![R, 512]⟩ : Shape) ![0, 0] X s5⟩, ⟨(⟨2, ![R, 512]⟩ : Shape), extractStridedSlice (⟨2, ![R, 512]⟩ : Shape) ![0, 512] X s6⟩, ⟨(⟨2, ![R, 64]⟩ : Shape), extractStridedSlice (⟨2, ![R, 64]⟩ : Shape) ![0, 1024] X s7⟩, ⟨(⟨2, ![R, 192]⟩ : Shape), Z⟩] : List ((s : Shape) × (s.Idx → EReal))) h (ix2 r j) = at2 X r.val (col j.val) := by
  have hj := j.isLt
  by_cases q0 : j.val < 2048
  · refine (cat_piece _ h r j 0 (show 0 < 9 by decide) _ rfl 0 rfl ⟨j.val - 0, by omega⟩ (by show 0 + (j.val - 0) = j.val; omega)).trans ?_
    refine (slice_at X s0 r _).trans (congrArg (at2 X r.val) ?_)
    show 4160 + (j.val - 0) = col j.val
    unfold col
    split_ifs <;> omega
  by_cases q1 : j.val < 4096
  · refine (cat_piece _ h r j 1 (show 1 < 9 by decide) _ rfl 2048 rfl ⟨j.val - 2048, by omega⟩ (by show 2048 + (j.val - 2048) = j.val; omega)).trans ?_
    refine (slice_at X s1 r _).trans (congrArg (at2 X r.val) ?_)
    show 6208 + (j.val - 2048) = col j.val
    unfold col
    split_ifs <;> omega
  by_cases q2 : j.val < 5120
  · refine (cat_piece _ h r j 2 (show 2 < 9 by decide) _ rfl 4096 rfl ⟨j.val - 4096, by omega⟩ (by show 4096 + (j.val - 4096) = j.val; omega)).trans ?_
    refine (slice_at X s2 r _).trans (congrArg (at2 X r.val) ?_)
    show 1088 + (j.val - 4096) = col j.val
    unfold col
    split_ifs <;> omega
  by_cases q3 : j.val < 6144
  · refine (cat_piece _ h r j 3 (show 3 < 9 by decide) _ rfl 5120 rfl ⟨j.val - 5120, by omega⟩ (by show 5120 + (j.val - 5120) = j.val; omega)).trans ?_
    refine (slice_at X s3 r _).trans (congrArg (at2 X r.val) ?_)
    show 2112 + (j.val - 5120) = col j.val
    unfold col
    split_ifs <;> omega
  by_cases q4 : j.val < 7168
  · refine (cat_piece _ h r j 4 (show 4 < 9 by decide) _ rfl 6144 rfl ⟨j.val - 6144, by omega⟩ (by show 6144 + (j.val - 6144) = j.val; omega)).trans ?_
    refine (slice_at X s4 r _).trans (congrArg (at2 X r.val) ?_)
    show 3136 + (j.val - 6144) = col j.val
    unfold col
    split_ifs <;> omega
  by_cases q5 : j.val < 7680
  · refine (cat_piece _ h r j 5 (show 5 < 9 by decide) _ rfl 7168 rfl ⟨j.val - 7168, by omega⟩ (by show 7168 + (j.val - 7168) = j.val; omega)).trans ?_
    refine (slice_at X s5 r _).trans (congrArg (at2 X r.val) ?_)
    show 0 + (j.val - 7168) = col j.val
    unfold col
    split_ifs <;> omega
  by_cases q6 : j.val < 8192
  · refine (cat_piece _ h r j 6 (show 6 < 9 by decide) _ rfl 7680 rfl ⟨j.val - 7680, by omega⟩ (by show 7680 + (j.val - 7680) = j.val; omega)).trans ?_
    refine (slice_at X s6 r _).trans (congrArg (at2 X r.val) ?_)
    show 512 + (j.val - 7680) = col j.val
    unfold col
    split_ifs <;> omega
  by_cases q7 : j.val < 8256
  · refine (cat_piece _ h r j 7 (show 7 < 9 by decide) _ rfl 8192 rfl ⟨j.val - 8192, by omega⟩ (by show 8192 + (j.val - 8192) = j.val; omega)).trans ?_
    refine (slice_at X s7 r _).trans (congrArg (at2 X r.val) ?_)
    show 1024 + (j.val - 8192) = col j.val
    unfold col
    split_ifs <;> omega
  · refine (cat_piece _ h r j 8 (show 8 < 9 by decide) Z rfl 8256 rfl ⟨j.val - 8256, by omega⟩ (by show 8256 + (j.val - 8256) = j.val; omega)).trans ?_
    refine (hZ _).trans (at2_out X r.val ?_).symm
    unfold col
    split_ifs <;> omega

/-- Four arrays joined whose entries are those of a row `g` at the plain columns. -/
theorem cat4_at {R : ℕ} (A : (⟨2, ![R, 4096]⟩ : Shape).Idx → EReal) (B : (⟨2, ![R, 3072]⟩ : Shape).Idx → EReal)
    (C : (⟨2, ![R, 1088]⟩ : Shape).Idx → EReal) (Z : (⟨2, ![R, 192]⟩ : Shape).Idx → EReal)
    (h : Shape.Concatenates (([⟨(⟨2, ![R, 4096]⟩ : Shape), A⟩, ⟨(⟨2, ![R, 3072]⟩ : Shape), B⟩, ⟨(⟨2, ![R, 1088]⟩ : Shape), C⟩,
      ⟨(⟨2, ![R, 192]⟩ : Shape), Z⟩] : List ((s : Shape) × (s.Idx → EReal))).map (·.1)) (⟨2, ![R, 8448]⟩ : Shape) 1)
    (r : Fin R) (j : Fin 8448) (g : ℕ → EReal) (hA : ∀ l : Fin 4096, A (ix2 r l) = g (4160 + l.val))
    (hB : ∀ l : Fin 3072, B (ix2 r l) = g (1088 + l.val)) (hC : ∀ l : Fin 1088, C (ix2 r l) = g l.val)
    (hZ : ∀ l : Fin 192, Z (ix2 r l) = g (8256 + l.val)) :
    concatenate (⟨2, ![R, 8448]⟩ : Shape) 1 ([⟨(⟨2, ![R, 4096]⟩ : Shape), A⟩, ⟨(⟨2, ![R, 3072]⟩ : Shape), B⟩, ⟨(⟨2, ![R, 1088]⟩ : Shape), C⟩,
      ⟨(⟨2, ![R, 192]⟩ : Shape), Z⟩] : List ((s : Shape) × (s.Idx → EReal))) h (ix2 r j) = g (col j.val) := by
  have hj := j.isLt
  by_cases q0 : j.val < 4096
  · refine (cat_piece _ h r j 0 (show 0 < 4 by decide) A rfl 0 rfl ⟨j.val - 0, by omega⟩ (by show 0 + (j.val - 0) = j.val; omega)).trans ?_
    refine (hA _).trans (congrArg g ?_)
    show 4160 + (j.val - 0) = col j.val
    unfold col
    split_ifs <;> omega
  by_cases q1 : j.val < 7168
  · refine (cat_piece _ h r j 1 (show 1 < 4 by decide) B rfl 4096 rfl ⟨j.val - 4096, by omega⟩ (by show 4096 + (j.val - 4096) = j.val; omega)).trans ?_
    refine (hB _).trans (congrArg g ?_)
    show 1088 + (j.val - 4096) = col j.val
    unfold col
    split_ifs <;> omega
  by_cases q2 : j.val < 8256
  · refine (cat_piece _ h r j 2 (show 2 < 4 by decide) C rfl 7168 rfl ⟨j.val - 7168, by omega⟩ (by show 7168 + (j.val - 7168) = j.val; omega)).trans ?_
    refine (hC _).trans (congrArg g ?_)
    show j.val - 7168 = col j.val
    unfold col
    split_ifs <;> omega
  · refine (cat_piece _ h r j 3 (show 3 < 4 by decide) Z rfl 8256 rfl ⟨j.val - 8256, by omega⟩ (by show 8256 + (j.val - 8256) = j.val; omega)).trans ?_
    refine (hZ _).trans (congrArg g ?_)
    show 8256 + (j.val - 8256) = col j.val
    unfold col
    split_ifs <;> omega

end Sb
-- ==== Proof.InProd.lean ====
/- The rows times the input weight, its columns in the joined order: the kernel's array, entry by entry, and the reference's. -/
module

public import proofs.«01_k».proof.Proof.AtNat
public import proofs.«01_k».proof.Proof.Cols
public import proofs.«01_k».proof.Proof.Gen.Kernel11Ideal.Value
public import proofs.«01_k».proof.Proof.Gen.Reference11Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.InProd

open Idealize.ShloMosaic Idealize.ShloMosaic.TcCoe Cert.Kernel11Ideal Cert.Kernel11Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the weight. -/
def w : S2048x8256.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- The columns of zeros. -/
def zeros2048 : S2048x192.Idx → EReal := broadcastInDim S2048x192 ![] bcast_S_S2048x192 (constant (F := Ideal) S_ .bf16 0x0000#16)

theorem zeros2048_at (i : S2048x192.Idx) : zeros2048 i = 0 := by
  unfold zeros2048
  pointwise

/-- What the launch finds in the second operand: the weight with its columns in the joined order. -/
theorem V11 : (V m c main_v11 : S2048x8448.Idx → EReal)
    = concatenate S2048x8448 1 [⟨S2048x2048, extractStridedSlice S2048x2048 ![0, 4160] (w m c) slices_S2048x8256_S2048x2048_0_4160⟩, ⟨S2048x2048, extractStridedSlice S2048x2048 ![0, 6208] (w m c) slices_S2048x8256_S2048x2048_0_6208⟩, ⟨S2048x1024, extractStridedSlice S2048x1024 ![0, 1088] (w m c) slices_S2048x8256_S2048x1024_0_1088⟩, ⟨S2048x1024, extractStridedSlice S2048x1024 ![0, 2112] (w m c) slices_S2048x8256_S2048x1024_0_2112⟩, ⟨S2048x1024, extractStridedSlice S2048x1024 ![0, 3136] (w m c) slices_S2048x8256_S2048x1024_0_3136⟩, ⟨S2048x512, extractStridedSlice S2048x512 ![0, 0] (w m c) slices_S2048x8256_S2048x512_0_0⟩, ⟨S2048x512, extractStridedSlice S2048x512 ![0, 512] (w m c) slices_S2048x8256_S2048x512_0_512⟩, ⟨S2048x64, extractStridedSlice S2048x64 ![0, 1024] (w m c) slices_S2048x8256_S2048x64_0_1024⟩, ⟨S2048x192, zeros2048⟩] concatenates_S2048x2048_S2048x2048_S2048x1024_S2048x1024_S2048x1024_S2048x512_S2048x512_S2048x64_S2048x192_S2048x8448_d1 := by
  unfold V
  simp only [hostOps0, List.flatten_cons, List.flatten_nil, List.append_nil, List.cons_append, List.nil_append]
  after_reads_simp
  rfl

theorem V11_at (r : Fin 2048) (j : Fin 8448) : (V m c main_v11 : S2048x8448.Idx → EReal) (ix2 r j) = at2 (w m c) r.val (col j.val) :=
  (congrFun (V11 m c) _).trans (cat9_at (w m c) _ _ _ _ _ _ _ _ zeros2048 zeros2048_at _ r j)

theorem idx0 : ∀ t : Fin cfg0.N, win0_0.index t = ![t.val / 11, 0] :=
  (by decide +kernel : ∀ t : Fin grid0.N, _)
theorem idx1 : ∀ t : Fin cfg0.N, win0_1.index t = ![0, t.val % 11] :=
  (by decide +kernel : ∀ t : Fin grid0.N, _)
theorem idx2 : ∀ t : Fin cfg0.N, win0_2.index t = ![t.val / 11, t.val % 11] :=
  (by decide +kernel : ∀ t : Fin grid0.N, _)

theorem point_lt (t : Fin cfg0.N) : t.val < 44 := lt_of_lt_of_eq t.isLt (show cfg0.N = 44 from N_0)

/-- The first operand's block at a point. -/
theorem blkA_val (u : Fin cfg0.N) (a : Fin 1024) (k : Fin 2048) :
    (iblk m c 0 u : S1024x2048.Idx → EReal) (ix2 a k) = at2 (x m c) (u.val / 11 * 1024 + a.val) k.val := by
  have hu := point_lt u
  have e : (iblk m c 0 u : S1024x2048.Idx → EReal) (ix2 a k) = V m c main_v0 (ix2 ⟨u.val / 11 * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (k : Fin 2048) (l : Fin 768) :
    (iblk m c 1 u : S2048x768.Idx → EReal) (ix2 k l) = at2 (w m c) k.val (col (u.val % 11 * 768 + l.val)) := by
  have e : (iblk m c 1 u : S2048x768.Idx → EReal) (ix2 k l) = V m c main_v11 (ix2 k ⟨u.val % 11 * 768 + l.val, by omega⟩) := by
    blk_ext [iblk, idx1 u]
  exact e.trans (V11_at m c _ _)

/-- A point writes back its blocks' product. -/
theorem is_out (A : S1024x2048.Idx → EReal) (B : S2048x768.Idx → EReal) (a : Fin 1024) (l : Fin 768) :
    (out0_2 (F := Ideal) A B : S1024x768.Idx → EReal) (ix2 a l) = ∑ k : Fin 2048, A (ix2 a k) * B (ix2 k l) := by
  frame_out [out0_2]
  pointwise [k0_pay1]

/-- An entry of the product. -/
def pr (X : S4096x2048.Idx → EReal) (W : S2048x8256.Idx → EReal) (r j : ℕ) : EReal := ∑ k : Fin 2048, at2 X r k.val * at2 W k.val (col j)

/-- A point's block is a block of the product. -/
theorem point_val (t : Fin cfg0.N) (a : Fin 1024) (l : Fin 768) :
    (out0_2 (F := Ideal) (iblk m c 0 t) (iblk m c 1 t) : S1024x768.Idx → EReal) (ix2 a l)
      = pr (x m c) (w m c) (t.val / 11 * 1024 + a.val) (t.val % 11 * 768 + l.val) :=
  (is_out (iblk m c 0 t) (iblk m c 1 t) a l).trans (Finset.sum_congr rfl fun k _ =>
    congr (congrArg HMul.hMul (blkA_val m c t a k)) (blkB_val m c t k l))

/-- The array after the run is the product. -/
theorem final2 : (dats m 0 c).arrAt 2 cfg0.N = fun i : S4096x8448.Idx => pr (x m c) (w m c) (i 0).val (i 1).val := by
  refine (dats m 0 c).arrAt_eq_of_covers 2 _ (by decide +kernel) fun t hf y => ?_
  blk_simp [idx2 t]
  rw [after0_2]
  have e := point_val m c t ((y : S1024x768.Idx) 0) ((y : S1024x768.Idx) 1)
  rw [← eq_ix2 (y : S1024x768.Idx)] at e
  exact e

section
open Cert.Reference11Ideal.Read

/-- An entry of the product in the plain order of the columns. -/
def row (X : S4096x2048.Idx → EReal) (W : S2048x8256.Idx → EReal) (r q : ℕ) : EReal := ∑ k : Fin 2048, at2 X r k.val * at2 W k.val q

theorem row_at (X : S4096x2048.Idx → EReal) (W : S2048x8256.Idx → EReal) (i : Cert.Reference11Ideal.S4096x8256.Idx) {r q : ℕ}
    (hr : (i 0).val = r) (hq : (i 1).val = q) : val_main_v0 (F := Ideal) X W i = row X W r q := by
  rw [val_main_v0_apply]
  exact Finset.sum_congr rfl fun k _ => congr (congrArg HMul.hMul (at2_eq X _ hr rfl)) (at2_eq W _ rfl hq)

theorem joined (X : S4096x2048.Idx → EReal) (W : S2048x8256.Idx → EReal) (a : Fin 4096) (j : Fin 8448) :
    val_main_v5 (F := Ideal) X W (ix2 a j) = pr X W a.val j.val := by
  refine cat4_at _ _ _ _ _ a j (row X W a.val) (fun l => ?_) (fun l => ?_) (fun l => ?_) (fun l => ?_)
  · rw [val_main_v1_apply]
    exact row_at X W _ rfl rfl
  · rw [val_main_v2_apply]
    exact row_at X W _ rfl rfl
  · rw [val_main_v3_apply]
    exact row_at X W _ rfl rfl
  · rw [val_main_v4_apply, val_main_cst_apply]
    refine Ideal.ofBits_zero_f32.trans (Finset.sum_eq_zero fun k _ => ?_).symm
    rw [at2_out W _ (by omega), mul_zero]

/-- The reference's array is the same product. -/
theorem ref_prod (X : S4096x2048.Idx → EReal) (W : S2048x8256.Idx → EReal) :
    val_main_v5 (F := Ideal) X W = fun i => pr X W (i 0).val (i 1).val := by
  funext i
  have e := joined X W ((i : S4096x8448.Idx) 0) ((i : S4096x8448.Idx) 1)
  rwa [← eq_ix2 (i : S4096x8448.Idx)] at e

end

end Sb.InProd
-- ==== Proof.GIn.lean ====
/- The gradient of the input weight, its columns in the joined order: the kernel's array, entry by entry, and the reference's. -/
module

public import proofs.«01_k».proof.Proof.AtNat
public import proofs.«01_k».proof.Proof.Cols
public import proofs.«01_k».proof.Proof.Gen.Kernel12Ideal.Value
public import proofs.«01_k».proof.Proof.Gen.Reference12Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.GIn

open Idealize.ShloMosaic Idealize.ShloMosaic.TcCoe Cert.Kernel12Ideal Cert.Kernel12Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the gradient that comes in. -/
def dy : S4096x8256.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- The columns of zeros. -/
def zeros4096 : S4096x192.Idx → EReal := broadcastInDim S4096x192 ![] bcast_S_S4096x192 (constant (F := Ideal) S_ .bf16 0x0000#16)

theorem zeros4096_at (i : S4096x192.Idx) : zeros4096 i = 0 := by
  unfold zeros4096
  pointwise

/-- What the launch finds in the second operand: the gradient with its columns in the joined order. -/
theorem V11 : (V m c main_v11 : S4096x8448.Idx → EReal)
    = concatenate S4096x8448 1 [⟨S4096x2048, extractStridedSlice S4096x2048 ![0, 4160] (dy m c) slices_S4096x8256_S4096x2048_0_4160⟩, ⟨S4096x2048, extractStridedSlice S4096x2048 ![0, 6208] (dy m c) slices_S4096x8256_S4096x2048_0_6208⟩, ⟨S4096x1024, extractStridedSlice S4096x1024 ![0, 1088] (dy m c) slices_S4096x8256_S4096x1024_0_1088⟩, ⟨S4096x1024, extractStridedSlice S4096x1024 ![0, 2112] (dy m c) slices_S4096x8256_S4096x1024_0_2112⟩, ⟨S4096x1024, extractStridedSlice S4096x1024 ![0, 3136] (dy m c) slices_S4096x8256_S4096x1024_0_3136⟩, ⟨S4096x512, extractStridedSlice S4096x512 ![0, 0] (dy m c) slices_S4096x8256_S4096x512_0_0⟩, ⟨S4096x512, extractStridedSlice S4096x512 ![0, 512] (dy m c) slices_S4096x8256_S4096x512_0_512⟩, ⟨S4096x64, extractStridedSlice S4096x64 ![0, 1024] (dy m c) slices_S4096x8256_S4096x64_0_1024⟩, ⟨S4096x192, zeros4096⟩] concatenates_S4096x2048_S4096x2048_S4096x1024_S4096x1024_S4096x1024_S4096x512_S4096x512_S4096x64_S4096x192_S4096x8448_d1 := by
  unfold V
  simp only [hostOps0, List.flatten_cons, List.flatten_nil, List.append_nil, List.cons_append, List.nil_append]
  after_reads_simp
  rfl

theorem V11_at (r : Fin 4096) (j : Fin 8448) : (V m c main_v11 : S4096x8448.Idx → EReal) (ix2 r j) = at2 (dy m c) r.val (col j.val) :=
  (congrFun (V11 m c) _).trans (cat9_at (dy m c) _ _ _ _ _ _ _ _ zeros4096 zeros4096_at _ r j)

theorem idx0 : ∀ t : Fin cfg0.N, win0_0.index t = ![t.val % 2, t.val / 22] :=
  (by decide +kernel : ∀ t : Fin grid0.N, _)
theorem idx1 : ∀ t : Fin cfg0.N, win0_1.index t = ![t.val % 2, t.val / 2 % 11] :=
  (by decide +kernel : ∀ t : Fin grid0.N, _)
theorem idx2 : ∀ t : Fin cfg0.N, win0_2.index t = ![t.val / 22, t.val / 2 % 11] :=
  (by decide +kernel : ∀ t : Fin grid0.N, _)

theorem point_lt (t : Fin cfg0.N) : t.val < 44 := lt_of_lt_of_eq t.isLt (show cfg0.N = 44 from N_0)

/-- The first operand's block at a point. -/
def blkA (u : Fin cfg0.N) : S2048x1024.Idx → EReal := iblk m c 0 u

/-- The second operand's block at a point. -/
def blkB (u : Fin cfg0.N) : S2048x768.Idx → EReal := iblk m c 1 u

theorem blkA_val (u : Fin cfg0.N) (k : Fin 2048) (a : Fin 1024) :
    blkA m c u (ix2 k a) = at2 (x m c) (u.val % 2 * 2048 + k.val) (u.val / 22 * 1024 + a.val) := by
  have hu := point_lt u
  have e : blkA m c u (ix2 k a) = V m c main_v0 (ix2 ⟨u.val % 2 * 2048 + k.val, by omega⟩ ⟨u.val / 22 * 1024 + a.val, by omega⟩) := by
    unfold blkA
    blk_ext [iblk, idx0 u]
  exact e.trans ((congrFun (V0 m c) _).trans (at2_ix (x m c) _ _ rfl rfl))

theorem blkB_val (u : Fin cfg0.N) (k : Fin 2048) (l : Fin 768) :
    blkB m c u (ix2 k l) = at2 (dy m c) (u.val % 2 * 2048 + k.val) (col (u.val / 2 % 11 * 768 + l.val)) := by
  have e : blkB m c u (ix2 k l) = V m c main_v11 (ix2 ⟨u.val % 2 * 2048 + k.val, by omega⟩ ⟨u.val / 2 % 11 * 768 + l.val, by omega⟩) := by
    unfold blkB
    blk_ext [iblk, idx1 u]
  exact e.trans (V11_at m c _ _)

/-- An even point leaves its blocks' product in the scratch. -/
theorem scratch_even (i : grid0.Coords) (a3 : Memref sig .tc .vmem S2048x1024 .bf16) (w3 : a3.IsWhole) (a4 : Memref sig .tc .vmem S2048x768 .bf16) (w4 : a4.IsWhole)
    (a5 : Memref sig .tc .vmem S1024x768 .bf16) (w5 : a5.IsWhole) (a6 : Memref sig .tc .vmem S1024x768 .f32) (w6 : a6.IsWhole)
    (h0 : cond0_0 i) (h1 : ¬cond0_1 i) (h2 : ¬cond0_2 i)
    (A : S2048x1024.Idx → EReal) (B : S2048x768.Idx → EReal) (a : Fin 1024) (l : Fin 768) :
    (sout0_A_0 (F := Ideal) c i a3 w3 a4 w4 a5 w5 a6 w6 h0 h1 h2 A B : S1024x768.Idx → EReal) (ix2 a l)
      = ∑ k : Fin 2048, A (ix2 k a) * B (ix2 k l) := by
  frame_out [sout0_A_0]
  pointwise [k0_pay2, k0_pay1]

/-- An odd point writes back the scratch with its blocks' product added. -/
theorem out_odd (i : grid0.Coords) (a3 : Memref sig .tc .vmem S2048x1024 .bf16) (w3 : a3.IsWhole) (a4 : Memref sig .tc .vmem S2048x768 .bf16) (w4 : a4.IsWhole)
    (a5 : Memref sig .tc .vmem S1024x768 .bf16) (w5 : a5.IsWhole) (a6 : Memref sig .tc .vmem S1024x768 .f32) (w6 : a6.IsWhole)
    (h0 : ¬cond0_0 i) (h1 : cond0_1 i) (h2 : cond0_2 i)
    (A : S2048x1024.Idx → EReal) (B : S2048x768.Idx → EReal) (C : S1024x768.Idx → EReal) (a : Fin 1024) (l : Fin 768) :
    (out0_B_2 (F := Ideal) c i a3 w3 a4 w4 a5 w5 a6 w6 h0 h1 h2 A B C : S1024x768.Idx → EReal) (ix2 a l)
      = C (ix2 a l) + ∑ k : Fin 2048, A (ix2 k a) * B (ix2 k l) := by
  frame_out [out0_B_2]
  pointwise [k0_pay4, k0_pay3, k0_pay1]

/-- One term of the product's entry at row `r` and column `j` of the incoming gradient. -/
def term (X : S4096x2048.Idx → EReal) (D : S4096x8256.Idx → EReal) (r j k : ℕ) : EReal := at2 X k r * at2 D k (col j)

/-- The product with the first factor turned, at row `r` and column `j`. -/
def pr (X : S4096x2048.Idx → EReal) (D : S4096x8256.Idx → EReal) (r j : ℕ) : EReal := ∑ k : Fin 4096, term X D r j k.val

/-- The product as a sum over both halves of the rows. -/
theorem pr_halves (X : S4096x2048.Idx → EReal) (D : S4096x8256.Idx → EReal) (r j : ℕ) :
    pr X D r j = ∑ k : Fin 2048, term X D r j k.val + ∑ k : Fin 2048, term X D r j (2048 + k.val) := sum_cut 2048 2048 (term X D r j)

/-- A point's product of its blocks. -/
theorem dot_val (t : Fin cfg0.N) (a : Fin 1024) (l : Fin 768) :
    ∑ k : Fin 2048, blkA m c t (ix2 k a) * blkB m c t (ix2 k l)
      = ∑ k : Fin 2048, term (x m c) (dy m c) (t.val / 22 * 1024 + a.val) (t.val / 2 % 11 * 768 + l.val) (t.val % 2 * 2048 + k.val) :=
  Finset.sum_congr rfl fun k _ => congr (congrArg HMul.hMul (blkA_val m c t k a)) (blkB_val m c t k l)

/-- What an even point's run leaves in the scratch. -/
theorem even_dot (t : Fin cfg0.N) (ht : t.val % 2 = 0) (n1 : ¬t.val % 2 = 1) (a : Fin 1024) (l : Fin 768) :
    (sout0_A_0 (F := Ideal) c (grid0.coords t) (ms0_0 t) (hs0_0 t) (ms0_1 t) (hs0_1 t) (ms0_2 t) (hs0_2 t) scM0_0 (Memref.isWhole_whole _)
      ((hcond0_0 t).mpr ht) (fun h => n1 ((hcond0_1 t).mp h)) (fun h => n1 ((hcond0_2 t).mp h)) (blkA m c t) (blkB m c t) : S1024x768.Idx → EReal) (ix2 a l)
      = ∑ k : Fin 2048, term (x m c) (dy m c) (t.val / 22 * 1024 + a.val) (t.val / 2 % 11 * 768 + l.val) (t.val % 2 * 2048 + k.val) := by
  rw [scratch_even]
  exact dot_val m c t a l

theorem even_fn (t : Fin cfg0.N) (ht : t.val % 2 = 0) (n1 : ¬t.val % 2 = 1) :
    (outsAt0 m c t.val t.isLt).2 = sout0_A_0 (F := Ideal) c (grid0.coords t) (ms0_0 t) (hs0_0 t) (ms0_1 t) (hs0_1 t) (ms0_2 t) (hs0_2 t) scM0_0
      (Memref.isWhole_whole _) ((hcond0_0 t).mpr ht) (fun h => n1 ((hcond0_1 t).mp h)) (fun h => n1 ((hcond0_2 t).mp h))
      (iblk m c 0 t) (iblk m c 1 t) := by
  rw [outsAt0_A m c t ht n1 n1]

/-- The scratch after an even point. -/
theorem even_val (t : Fin cfg0.N) (ht : t.val % 2 = 0) (a : Fin 1024) (l : Fin 768) :
    ((outsAt0 m c t.val t.isLt).2 : S1024x768.Idx → EReal) (ix2 a l)
      = ∑ k : Fin 2048, term (x m c) (dy m c) (t.val / 22 * 1024 + a.val) (t.val / 2 % 11 * 768 + l.val) (t.val % 2 * 2048 + k.val) := by
  have n1 : ¬t.val % 2 = 1 := by omega
  rw [even_fn m c t ht n1]
  exact even_dot m c t ht n1 a l

/-- What an odd point's run leaves in the output block, over what the scratch held. -/
theorem odd_dot (t : Fin cfg0.N) (n0 : ¬t.val % 2 = 0) (ht : t.val % 2 = 1) (C : S1024x768.Idx → EReal) (a : Fin 1024) (l : Fin 768) :
    (out0_B_2 (F := Ideal) c (grid0.coords t) (ms0_0 t) (hs0_0 t) (ms0_1 t) (hs0_1 t) (ms0_2 t) (hs0_2 t) scM0_0 (Memref.isWhole_whole _)
      (fun h => n0 ((hcond0_0 t).mp h)) ((hcond0_1 t).mpr ht) ((hcond0_2 t).mpr ht) (blkA m c t) (blkB m c t) C : S1024x768.Idx → EReal) (ix2 a l)
      = C (ix2 a l) + ∑ k : Fin 2048, term (x m c) (dy m c) (t.val / 22 * 1024 + a.val) (t.val / 2 % 11 * 768 + l.val) (t.val % 2 * 2048 + k.val) := by
  rw [out_odd, dot_val]

theorem odd_fn (t : Fin cfg0.N) (n0 : ¬t.val % 2 = 0) (ht : t.val % 2 = 1) :
    (outsAt0 m c t.val t.isLt).1 = out0_B_2 (F := Ideal) c (grid0.coords t) (ms0_0 t) (hs0_0 t) (ms0_1 t) (hs0_1 t) (ms0_2 t) (hs0_2 t) scM0_0
      (Memref.isWhole_whole _) (fun h => n0 ((hcond0_0 t).mp h)) ((hcond0_1 t).mpr ht) ((hcond0_2 t).mpr ht)
      (iblk m c 0 t) (iblk m c 1 t) (outsAt0 m c (t.val - 1) (Nat.lt_of_le_of_lt (Nat.sub_le _ _) t.isLt)).2 := by
  rw [outsAt0_B m c t n0 ht ht]

/-- The output block after an odd point. -/
theorem odd_val (t : Fin cfg0.N) (ht : t.val % 2 = 1) (a : Fin 1024) (l : Fin 768) :
    ((outsAt0 m c t.val t.isLt).1 : S1024x768.Idx → EReal) (ix2 a l)
      = ((outsAt0 m c (t.val - 1) (Nat.lt_of_le_of_lt (Nat.sub_le _ _) t.isLt)).2 : S1024x768.Idx → EReal) (ix2 a l)
        + ∑ k : Fin 2048, term (x m c) (dy m c) (t.val / 22 * 1024 + a.val) (t.val / 2 % 11 * 768 + l.val) (t.val % 2 * 2048 + k.val) := by
  have n0 : ¬t.val % 2 = 0 := by omega
  rw [odd_fn m c t n0 ht]
  exact odd_dot m c t n0 ht _ a l

/-- A pair of points writes back a block of the product. -/
theorem pair_val (t : Fin cfg0.N) (ht : t.val % 2 = 1) (a : Fin 1024) (l : Fin 768) :
    ((outsAt0 m c t.val t.isLt).1 : S1024x768.Idx → EReal) (ix2 a l)
      = pr (x m c) (dy m c) (t.val / 22 * 1024 + a.val) (t.val / 2 % 11 * 768 + l.val) := by
  have hp : t.val - 1 < cfg0.N := Nat.lt_of_le_of_lt (Nat.sub_le _ _) t.isLt
  have h2 : (t.val - 1) % 2 = 0 := by omega
  have e := even_val m c ⟨t.val - 1, hp⟩ h2 a l
  have d4 : (t.val - 1) / 22 = t.val / 22 := by omega
  have d2 : (t.val - 1) / 2 % 11 = t.val / 2 % 11 := by omega
  simp only [d4, d2, h2, Nat.zero_mul, Nat.zero_add] at e
  rw [odd_val m c t ht, e, pr_halves, ht, Nat.one_mul]

/-- The array after the run is the product. -/
theorem final2 : (dats m 0 c).arrAt 2 cfg0.N = fun i : S2048x8448.Idx => pr (x m c) (dy m c) (i 0).val (i 1).val := by
  refine (dats m 0 c).arrAt_eq_of_covers 2 _ (by decide +kernel) fun t hf y => ?_
  have ht := (flush0_2 t).mp hf
  blk_simp [idx2 t]
  rw [after0_2]
  have e := pair_val m c t ht ((y : S1024x768.Idx) 0) ((y : S1024x768.Idx) 1)
  rw [← eq_ix2 (y : S1024x768.Idx)] at e
  exact e

section
open Cert.Reference12Ideal.Read

/-- An entry of the product in the plain order of the columns. -/
def row (X : S4096x2048.Idx → EReal) (D : S4096x8256.Idx → EReal) (r q : ℕ) : EReal := ∑ k : Fin 4096, at2 X k.val r * at2 D k.val q

theorem row_at (X : S4096x2048.Idx → EReal) (D : S4096x8256.Idx → EReal) (i : Cert.Reference12Ideal.S2048x8256.Idx) {r q : ℕ}
    (hr : (i 0).val = r) (hq : (i 1).val = q) : val_main_v3 (F := Ideal) X D i = row X D r q := by
  rw [val_main_v3_apply, val_main_v2_apply]
  refine Finset.sum_congr rfl fun k _ => ?_
  rw [mul_comm]
  exact congr (congrArg HMul.hMul (at2_eq X _ rfl hr)) (at2_eq D _ rfl hq)

theorem joined (X : S4096x2048.Idx → EReal) (D : S4096x8256.Idx → EReal) (a : Fin 2048) (j : Fin 8448) :
    val_main_v8 (F := Ideal) X D (ix2 a j) = pr X D a.val j.val := by
  refine cat4_at _ _ _ _ _ a j (row X D a.val) (fun l => ?_) (fun l => ?_) (fun l => ?_) (fun l => ?_)
  · rw [val_main_v4_apply]
    exact row_at X D _ rfl rfl
  · rw [val_main_v5_apply]
    exact row_at X D _ rfl rfl
  · rw [val_main_v6_apply]
    exact row_at X D _ rfl rfl
  · rw [val_main_v7_apply, val_main_cst_0_apply]
    refine Ideal.ofBits_zero_f32.trans (Finset.sum_eq_zero fun k _ => ?_).symm
    rw [at2_out D _ (by omega), mul_zero]

/-- The reference's array is the same product. -/
theorem ref_prod (X : S4096x2048.Idx → EReal) (D : S4096x8256.Idx → EReal) :
    val_main_v9 (F := Ideal) X D = fun i => pr X D (i 0).val (i 1).val := by
  funext i
  rw [val_main_v9_apply]
  show val_main_v8 (F := Ideal) X D i = _
  have e := joined X D ((i : S2048x8448.Idx) 0) ((i : S2048x8448.Idx) 1)
  rwa [← eq_ix2 (i : S2048x8448.Idx)] at e

end

end Sb.GIn
-- ==== Proof.DH1.lean ====
/- The gradient of the input rows: the kernel's array, entry by entry, and the reference's. -/
module

public import proofs.«01_k».proof.Proof.AtNat
public import proofs.«01_k».proof.Proof.Cols
public import proofs.«01_k».proof.Proof.Gen.Kernel13Ideal.Value
public import proofs.«01_k».proof.Proof.Gen.Reference13Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.DH1

open Idealize.ShloMosaic Idealize.ShloMosaic.TcCoe Cert.Kernel13Ideal Cert.Kernel13Ideal.Gen
open scoped BigOperators

variable (m : (ℓ : Loc nD τ sig) → Buf (Elt Idealize.ShloMosaic.Ideal) ℓ) (c : Dev nD)

/-- The first argument: the gradient of the projection. -/
def dp : S4096x8256.Idx → EReal := m ((c.tc : Thread nD τ).loc main_arg0)

/-- The second argument: the weight. -/
def w : S2048x8256.Idx → EReal := m ((c.tc : Thread nD τ).loc main_arg1)

/-- The columns of zeros. -/
def zeros4096 : S4096x192.Idx → EReal := broadcastInDim S4096x192 ![] bcast_S_S4096x192 (constant (F := Ideal) S_ .bf16 0x0000#16)

theorem zeros4096_at (i : S4096x192.Idx) : zeros4096 i = 0 := by
  unfold zeros4096
  pointwise

/-- What the launch finds in the first operand: the gradient with its columns in the joined order. -/
theorem V10 : (V m c main_v10 : S4096x8448.Idx → EReal)
    = concatenate S4096x8448 1 [⟨S4096x2048, extractStridedSlice S4096x2048 ![0, 4160] (dp m c) slices_S4096x8256_S4096x2048_0_4160⟩, ⟨S4096x2048, extractStridedSlice S4096x2048 ![0, 6208] (dp m c) slices_S4096x8256_S4096x2048_0_6208⟩, ⟨S4096x1024, extractStridedSlice S4096x1024 ![0, 1088] (dp m c) slices_S4096x8256_S4096x1024_0_1088⟩, ⟨S4096x1024, extractStridedSlice S4096x1024 ![0, 2112] (dp m c) slices_S4096x8256_S4096x1024_0_2112⟩, ⟨S4096x1024, extractStridedSlice S4096x1024 ![0, 3136] (dp m c) slices_S4096x8256_S4096x1024_0_3136⟩, ⟨S4096x512, extractStridedSlice S4096x512 ![0, 0] (dp m c) slices_S4096x8256_S4096x512_0_0⟩, ⟨S4096x512, extractStridedSlice S4096x512 ![0, 512] (dp m c) slices_S4096x8256_S4096x512_0_512⟩, ⟨S4096x64, extractStridedSlice S4096x64 ![0, 1024] (dp m c) slices_S4096x8256_S4096x64_0_1024⟩, ⟨S4096x192, zeros4096⟩] concatenates_S4096x2048_S4096x2048_S4096x1024_S4096x1024_S4096x1024_S4096x512_S4096x512_S4096x64_S4096x192_S4096x8448_d1 := by
  unfold V
  simp only [hostOps0, List.flatten_cons, List.flatten_nil, List.append_nil, List.cons_append, List.nil_append]
  after_reads_simp
  rfl

theorem V10_at (r : Fin 4096) (j : Fin 8448) : (V m c main_v10 : S4096x8448.Idx → EReal) (ix2 r j) = at2 (dp m c) r.val (col j.val) :=
  (congrFun (V10 m c) _).trans (cat9_at (dp m c) _ _ _ _ _ _ _ _ zeros4096 zeros4096_at _ r j)

/-- The columns of zeros beside the weight. -/
def zeros2048 : S2048x192.Idx → EReal := broadcastInDim S2048x192 ![] bcast_S_S2048x192 (constant (F := Ideal) S_ .bf16 0x0000#16)

theorem zeros2048_at (i : S2048x192.Idx) : zeros2048 i = 0 := by
  unfold zeros2048
  pointwise

/-- What the launch finds in the second operand: the weight with its columns in the joined order. -/
theorem V21 : (V m c main_v21 : S2048x8448.Idx → EReal)
    = concatenate S2048x8448 1 [⟨S2048x2048, extractStridedSlice S2048x2048 ![0, 4160] (w m c) slices_S2048x8256_S2048x2048_0_4160⟩, ⟨S2048x2048, extractStridedSlice S2048x2048 ![0, 6208] (w m c) slices_S2048x8256_S2048x2048_0_6208⟩, ⟨S2048x1024, extractStridedSlice S2048x1024 ![0, 1088] (w m c) slices_S2048x8256_S2048x1024_0_1088⟩, ⟨S2048x1024, extractStridedSlice S2048x1024 ![0, 2112] (w m c) slices_S2048x8256_S2048x1024_0_2112⟩, ⟨S2048x1024, extractStridedSlice S2048x1024 ![0, 3136] (w m c) slices_S2048x8256_S2048x1024_0_3136⟩, ⟨S2048x512, extractStridedSlice S2048x512 ![0, 0] (w m c) slices_S2048x8256_S2048x512_0_0⟩, ⟨S2048x512, extractStridedSlice S2048x512 ![0, 512] (w m c) slices_S2048x8256_S2048x512_0_512⟩, ⟨S2048x64, extractStridedSlice S2048x64 ![0, 1024] (w m c) slices_S2048x8256_S2048x64_0_1024⟩, ⟨S2048x192, zeros2048⟩] concatenates_S2048x2048_S2048x2048_S2048x1024_S2048x1024_S2048x1024_S2048x512_S2048x512_S2048x64_S2048x192_S2048x8448_d1 := by
  unfold V
  simp only [hostOps0, List.flatten_cons, List.flatten_nil, List.append_nil, List.cons_append, List.nil_append]
  after_reads_simp
  rfl

theorem V21_at (r : Fin 2048) (j : Fin 8448) : (V m c main_v21 : S2048x8448.Idx → EReal) (ix2 r j) = at2 (w m c) r.val (col j.val) :=
  (congrFun (V21 m c) _).trans (cat9_at (w m c) _ _ _ _ _ _ _ _ zeros2048 zeros2048_at _ r j)

theorem idx0 : ∀ t : Fin cfg0.N, win0_0.index t = ![t.val / 6, t.val % 3] :=
  (by decide +kernel : ∀ t : Fin grid0.N, _)
theorem idx1 : ∀ t : Fin cfg0.N, win0_1.index t = ![t.val / 3 % 2, t.val % 3] :=
  (by decide +kernel : ∀ t : Fin grid0.N, _)
theorem idx2 : ∀ t : Fin cfg0.N, win0_2.index t = ![t.val / 6, t.val / 3 % 2] :=
  (by decide +kernel : ∀ t : Fin grid0.N, _)

theorem point_lt (t : Fin cfg0.N) : t.val < 24 := lt_of_lt_of_eq t.isLt (show cfg0.N = 24 from N_0)

/-- The first operand's block at a point. -/
def blkA (u : Fin cfg0.N) : S1024x2816.Idx → EReal := iblk m c 0 u

/-- The second operand's block at a point. -/
def blkB (u : Fin cfg0.N) : S1024x2816.Idx → EReal := iblk m c 1 u

theorem blkA_val (u : Fin cfg0.N) (a : Fin 1024) (k : Fin 2816) :
    blkA m c u (ix2 a k) = at2 (dp m c) (u.val / 6 * 1024 + a.val) (col (u.val % 3 * 2816 + k.val)) := by
  have hu := point_lt u
  have e : blkA m c u (ix2 a k) = V m c main_v10 (ix2 ⟨u.val / 6 * 1024 + a.val, by omega⟩ ⟨u.val % 3 * 2816 + k.val, by omega⟩) := by
    unfold blkA
    blk_ext [iblk, idx0 u]
  exact e.trans (V10_at m c _ _)

theorem blkB_val (u : Fin cfg0.N) (l : Fin 1024) (k : Fin 2816) :
    blkB m c u (ix2 l k) = at2 (w m c) (u.val / 3 % 2 * 1024 + l.val) (col (u.val % 3 * 2816 + k.val)) := by
  have e : blkB m c u (ix2 l k) = V m c main_v21 (ix2 ⟨u.val / 3 % 2 * 1024 + l.val, by omega⟩ ⟨u.val % 3 * 2816 + k.val, by omega⟩) := by
    unfold blkB
    blk_ext [iblk, idx1 u]
  exact e.trans (V21_at m c _ _)

/-- The first of a block's three points leaves its blocks' product in the scratch. -/
theorem scratch_first (i : grid0.Coords) (a3 : Memref sig .tc .vmem S1024x2816 .bf16) (w3 : a3.IsWhole) (a4 : Memref sig .tc .vmem S1024x2816 .bf16) (w4 : a4.IsWhole)
    (a5 : Memref sig .tc .vmem S1024x1024 .f32) (w5 : a5.IsWhole) (a6 : Memref sig .tc .vmem S1024x1024 .f32) (w6 : a6.IsWhole)
    (h0 : cond0_0 i) (h1 : ¬cond0_1 i) (h2 : ¬cond0_2 i)
    (A : S1024x2816.Idx → EReal) (B : S1024x2816.Idx → EReal) (a l : Fin 1024) :
    (sout0_A_0 (F := Ideal) c i a3 w3 a4 w4 a5 w5 a6 w6 h0 h1 h2 A B : S1024x1024.Idx → EReal) (ix2 a l)
      = ∑ k : Fin 2816, A (ix2 a k) * B (ix2 l k) := by
  frame_out [sout0_A_0]
  pointwise [k0_pay2, k0_pay1]

/-- A middle point adds its blocks' product to the scratch. -/
theorem scratch_mid (i : grid0.Coords) (a3 : Memref sig .tc .vmem S1024x2816 .bf16) (w3 : a3.IsWhole) (a4 : Memref sig .tc .vmem S1024x2816 .bf16) (w4 : a4.IsWhole)
    (a5 : Memref sig .tc .vmem S1024x1024 .f32) (w5 : a5.IsWhole) (a6 : Memref sig .tc .vmem S1024x1024 .f32) (w6 : a6.IsWhole)
    (h0 : ¬cond0_0 i) (h1 : cond0_1 i) (h2 : ¬cond0_2 i)
    (A : S1024x2816.Idx → EReal) (B : S1024x2816.Idx → EReal) (C : S1024x1024.Idx → EReal) (a l : Fin 1024) :
    (sout0_B_0 (F := Ideal) c i a3 w3 a4 w4 a5 w5 a6 w6 h0 h1 h2 A B C : S1024x1024.Idx → EReal) (ix2 a l)
      = C (ix2 a l) + ∑ k : Fin 2816, A (ix2 a k) * B (ix2 l k) := by
  frame_out [sout0_B_0]
  pointwise [k0_pay3, k0_pay1]

/-- The last point writes back the scratch with its blocks' product added. -/
theorem out_last (i : grid0.Coords) (a3 : Memref sig .tc .vmem S1024x2816 .bf16) (w3 : a3.IsWhole) (a4 : Memref sig .tc .vmem S1024x2816 .bf16) (w4 : a4.IsWhole)
    (a5 : Memref sig .tc .vmem S1024x1024 .f32) (w5 : a5.IsWhole) (a6 : Memref sig .tc .vmem S1024x1024 .f32) (w6 : a6.IsWhole)
    (h0 : ¬cond0_0 i) (h1 : cond0_1 i) (h2 : cond0_2 i)
    (A : S1024x2816.Idx → EReal) (B : S1024x2816.Idx → EReal) (C : S1024x1024.Idx → EReal) (a l : Fin 1024) :
    (out0_C_2 (F := Ideal) c i a3 w3 a4 w4 a5 w5 a6 w6 h0 h1 h2 A B C : S1024x1024.Idx → EReal) (ix2 a l)
      = C (ix2 a l) + ∑ k : Fin 2816, A (ix2 a k) * B (ix2 l k) := by
  frame_out [out0_C_2]
  pointwise [k0_pay3, k0_pay1]

/-- One term of the product's entry at row `r` of the gradient and row `j` of the weight. -/
def term (G : S4096x8256.Idx → EReal) (W : S2048x8256.Idx → EReal) (r j q : ℕ) : EReal := at2 G r q * at2 W j q

/-- The piece the `s`-th of a block's points adds. -/
def part (G : S4096x8256.Idx → EReal) (W : S2048x8256.Idx → EReal) (r j s : ℕ) : EReal :=
  ∑ k : Fin 2816, term G W r j (col (s * 2816 + k.val))

/-- The product's entry at row `r` and column `j`. -/
def pr (G : S4096x8256.Idx → EReal) (W : S2048x8256.Idx → EReal) (r j : ℕ) : EReal := ∑ k ∈ Finset.range 3, part G W r j k

/-- A point's product of its blocks. -/
theorem dot_val (t : Fin cfg0.N) (a l : Fin 1024) :
    ∑ k : Fin 2816, blkA m c t (ix2 a k) * blkB m c t (ix2 l k) = part (dp m c) (w m c) (t.val / 6 * 1024 + a.val) (t.val / 3 % 2 * 1024 + l.val) (t.val % 3) := by
  unfold part term
  refine Finset.sum_congr rfl fun k _ => ?_
  rw [blkA_val, blkB_val]

theorem first_dot (t : Fin cfg0.N) (h0 : t.val % 3 = 0) (h1 : ¬1 ≤ t.val % 3) (h2 : ¬t.val % 3 = 2) (a l : Fin 1024) :
    (sout0_A_0 (F := Ideal) c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (fun h => h2 ((hcond0_2 t).mp h)) (blkA m c t) (blkB m c t) : S1024x1024.Idx → EReal) (ix2 a l) = part (dp m c) (w m c) (t.val / 6 * 1024 + a.val) (t.val / 3 % 2 * 1024 + l.val) (t.val % 3) := by
  rw [scratch_first]
  exact dot_val m c t a l

theorem first_fn (t : Fin cfg0.N) (h0 : t.val % 3 = 0) (h1 : ¬1 ≤ t.val % 3) (h2 : ¬t.val % 3 = 2) :
    (outsAt0 m c t.val t.isLt).2 = sout0_A_0 (F := Ideal) c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (fun h => h2 ((hcond0_2 t).mp h)) (iblk m c 0 t) (iblk m c 1 t) := by
  rw [outsAt0_A m c t h0 h1 h2]

/-- The scratch after the first point. -/
theorem first_val (t : Fin cfg0.N) (h0 : t.val % 3 = 0) (a l : Fin 1024) :
    ((outsAt0 m c t.val t.isLt).2 : S1024x1024.Idx → EReal) (ix2 a l) = part (dp m c) (w m c) (t.val / 6 * 1024 + a.val) (t.val / 3 % 2 * 1024 + l.val) (t.val % 3) := by
  have h1 : ¬1 ≤ t.val % 3 := by omega
  have h2 : ¬t.val % 3 = 2 := by omega
  rw [first_fn m c t h0 h1 h2]
  exact first_dot m c t h0 h1 h2 a l

theorem mid_dot (t : Fin cfg0.N) (h0 : ¬t.val % 3 = 0) (h1 : 1 ≤ t.val % 3) (h2 : ¬t.val % 3 = 2) (C : S1024x1024.Idx → EReal) (a l : Fin 1024) :
    (sout0_B_0 (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (fun h => h2 ((hcond0_2 t).mp h)) (blkA m c t) (blkB m c t) C : S1024x1024.Idx → EReal) (ix2 a l) = C (ix2 a l) + part (dp m c) (w m c) (t.val / 6 * 1024 + a.val) (t.val / 3 % 2 * 1024 + l.val) (t.val % 3) := by
  rw [scratch_mid, dot_val]

theorem mid_fn (t : Fin cfg0.N) (h0 : ¬t.val % 3 = 0) (h1 : 1 ≤ t.val % 3) (h2 : ¬t.val % 3 = 2) :
    (outsAt0 m c t.val t.isLt).2 = sout0_B_0 (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (fun h => h2 ((hcond0_2 t).mp h)) (iblk m c 0 t) (iblk m c 1 t) (outsAt0 m c (t.val - 1) (Nat.lt_of_le_of_lt (Nat.sub_le _ _) t.isLt)).2 := by
  rw [outsAt0_B m c t h0 h1 h2]

/-- The scratch after a middle point. -/
theorem mid_val (t : Fin cfg0.N) (h0 : ¬t.val % 3 = 0) (h1 : 1 ≤ t.val % 3) (h2 : ¬t.val % 3 = 2) (a l : Fin 1024) :
    ((outsAt0 m c t.val t.isLt).2 : S1024x1024.Idx → EReal) (ix2 a l)
      = ((outsAt0 m c (t.val - 1) (Nat.lt_of_le_of_lt (Nat.sub_le _ _) t.isLt)).2 : S1024x1024.Idx → EReal) (ix2 a l)
        + part (dp m c) (w m c) (t.val / 6 * 1024 + a.val) (t.val / 3 % 2 * 1024 + l.val) (t.val % 3) := by
  rw [mid_fn m c t h0 h1 h2]
  exact mid_dot m c t h0 h1 h2 _ a l

theorem last_dot (t : Fin cfg0.N) (h0 : ¬t.val % 3 = 0) (h1 : 1 ≤ t.val % 3) (h2 : t.val % 3 = 2) (C : S1024x1024.Idx → EReal) (a l : Fin 1024) :
    (out0_C_2 (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) ((hcond0_2 t).mpr h2) (blkA m c t) (blkB m c t) C : S1024x1024.Idx → EReal) (ix2 a l) = C (ix2 a l) + part (dp m c) (w m c) (t.val / 6 * 1024 + a.val) (t.val / 3 % 2 * 1024 + l.val) (t.val % 3) := by
  rw [out_last, dot_val]

theorem last_fn (t : Fin cfg0.N) (h0 : ¬t.val % 3 = 0) (h1 : 1 ≤ t.val % 3) (h2 : t.val % 3 = 2) :
    (outsAt0 m c t.val t.isLt).1 = out0_C_2 (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) ((hcond0_2 t).mpr h2) (iblk m c 0 t) (iblk m c 1 t) (outsAt0 m c (t.val - 1) (Nat.lt_of_le_of_lt (Nat.sub_le _ _) t.isLt)).2 := by
  rw [outsAt0_C m c t h0 h1 h2]

/-- The output block after the last point. -/
theorem last_val (t : Fin cfg0.N) (h0 : ¬t.val % 3 = 0) (h1 : 1 ≤ t.val % 3) (h2 : t.val % 3 = 2) (a l : Fin 1024) :
    ((outsAt0 m c t.val t.isLt).1 : S1024x1024.Idx → EReal) (ix2 a l)
      = ((outsAt0 m c (t.val - 1) (Nat.lt_of_le_of_lt (Nat.sub_le _ _) t.isLt)).2 : S1024x1024.Idx → EReal) (ix2 a l)
        + part (dp m c) (w m c) (t.val / 6 * 1024 + a.val) (t.val / 3 % 2 * 1024 + l.val) (t.val % 3) := by
  rw [last_fn m c t h0 h1 h2]
  exact last_dot m c t h0 h1 h2 _ a l

/-- The scratch after each point but the last: the pieces so far. -/
theorem acc_val (a l : Fin 1024) : ∀ (n : ℕ) (t : Fin cfg0.N), t.val % 3 = n → n ≤ 1 →
    ((outsAt0 m c t.val t.isLt).2 : S1024x1024.Idx → EReal) (ix2 a l)
      = ∑ k ∈ Finset.range (n + 1), part (dp m c) (w m c) (t.val / 6 * 1024 + a.val) (t.val / 3 % 2 * 1024 + l.val) k
  | 0, t, hn, _ => by
    rw [first_val m c t hn, hn, Finset.sum_range_one]
  | n + 1, t, hn, h6 => by
    have hp : t.val - 1 < cfg0.N := Nat.lt_of_le_of_lt (Nat.sub_le _ _) t.isLt
    have e := acc_val a l n ⟨t.val - 1, hp⟩ (show (t.val - 1) % 3 = n by omega) (by omega)
    have d0 : (t.val - 1) / 6 = t.val / 6 := by omega
    have d1 : (t.val - 1) / 3 % 2 = t.val / 3 % 2 := by omega
    simp only [d0, d1] at e
    rw [mid_val m c t (by omega) (by omega) (by omega), e, hn, Finset.sum_range_succ _ (n + 1)]

/-- Three points write back a block of the product. -/
theorem run_val (t : Fin cfg0.N) (ht : t.val % 3 = 2) (a l : Fin 1024) :
    ((outsAt0 m c t.val t.isLt).1 : S1024x1024.Idx → EReal) (ix2 a l)
      = pr (dp m c) (w m c) (t.val / 6 * 1024 + a.val) (t.val / 3 % 2 * 1024 + l.val) := by
  have hp : t.val - 1 < cfg0.N := Nat.lt_of_le_of_lt (Nat.sub_le _ _) t.isLt
  have e := acc_val m c a l 1 ⟨t.val - 1, hp⟩ (show (t.val - 1) % 3 = 1 by omega) (le_refl 1)
  have d0 : (t.val - 1) / 6 = t.val / 6 := by omega
  have d1 : (t.val - 1) / 3 % 2 = t.val / 3 % 2 := by omega
  simp only [d0, d1] at e
  rw [last_val m c t (by omega) (by omega) ht, e, ht, pr, Finset.sum_range_succ _ 2]

/-- The array after the run is the product. -/
theorem final2 : (dats m 0 c).arrAt 2 cfg0.N = fun i : S4096x2048.Idx => pr (dp m c) (w m c) (i 0).val (i 1).val := by
  refine (dats m 0 c).arrAt_eq_of_covers 2 _ (by decide +kernel) fun t hf y => ?_
  have ht := (flush0_2 t).mp hf
  blk_simp [idx2 t]
  rw [after0_2]
  have e := run_val m c t ht ((y : S1024x1024.Idx) 0) ((y : S1024x1024.Idx) 1)
  rw [← eq_ix2 (y : S1024x1024.Idx)] at e
  exact e

section
open Cert.Reference13Ideal.Read

/-- The product as one sum over the plain columns. -/
theorem pr_sum (G : S4096x8256.Idx → EReal) (W : S2048x8256.Idx → EReal) (r j : ℕ) : pr G W r j = ∑ q : Fin 8256, term G W r j q.val :=
  (sum_runs 3 2816 fun q => term G W r j (col q)).symm.trans
    (sum_col (term G W r j) fun q hq => by unfold term; rw [at2_out G r hq, zero_mul])

/-- The reference's array is the same product. -/
theorem ref_prod (G : S4096x8256.Idx → EReal) (W : S2048x8256.Idx → EReal) :
    val_main_v2 (F := Ideal) G W = fun i : S4096x2048.Idx => pr G W (i 0).val (i 1).val := by
  funext i
  rw [val_main_v2_apply, pr_sum]
  exact Finset.sum_congr rfl fun k _ => congr (congrArg HMul.hMul (at2_eq G _ rfl rfl)) (at2_eq W _ rfl rfl)

end

end Sb.DH1
-- ==== Proof.BranchProd.lean ====
/- A branch's rows times its projection: the kernel's array, entry by entry, and the reference's. -/
module

public import proofs.«01_k».proof.Proof.AtNat
public import proofs.«01_k».proof.Proof.Gen.Kernel14Ideal.Value
public import proofs.«01_k».proof.Proof.Gen.Reference14Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.BranchProd

open Idealize.ShloMosaic Idealize.ShloMosaic.TcCoe Cert.Kernel14Ideal Cert.Kernel14Ideal.Gen
open scoped BigOperators

variable (m : (ℓ : Loc nD τ sig) → Buf (Elt Idealize.ShloMosaic.Ideal) ℓ) (c : Dev nD)

/-- The first argument. -/
def x : S4096x1024.Idx → EReal := m ((c.tc : Thread nD τ).loc main_arg0)

/-- The second argument: the weight. -/
def w : S1024x2048.Idx → EReal := m ((c.tc : Thread nD τ).loc main_arg1)

/-- What the launch finds in the first operand: the cast argument, which is the argument. -/
theorem V0 : (V m c main_v0 : S4096x1024.Idx → EReal) = x m c := by
  unfold V
  simp only [hostOps0, List.flatten_cons, List.flatten_nil, List.append_nil, List.cons_append, List.nil_append]
  after_reads_simp
  rfl

/-- What the launch finds in the second operand. -/
theorem V1 : (V m c main_v1 : S1024x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val / 2, 0] :=
  (by decide +kernel : ∀ t : Fin grid0.N, _)
theorem idx1 : ∀ t : Fin cfg0.N, win0_1.index t = ![0, t.val % 2] :=
  (by decide +kernel : ∀ t : Fin grid0.N, _)
theorem idx2 : ∀ t : Fin cfg0.N, win0_2.index t = ![t.val / 2, t.val % 2] :=
  (by decide +kernel : ∀ t : Fin grid0.N, _)

theorem point_lt (t : Fin cfg0.N) : t.val < 8 := lt_of_lt_of_eq t.isLt (show cfg0.N = 8 from N_0)

/-- The first operand's block at a point. -/
theorem blkA_val (u : Fin cfg0.N) (a : Fin 1024) (k : Fin 1024) :
    (iblk m c 0 u : S1024x1024.Idx → EReal) (ix2 a k) = at2 (x m c) (u.val / 2 * 1024 + a.val) k.val := by
  have hu := point_lt u
  have e : (iblk m c 0 u : S1024x1024.Idx → EReal) (ix2 a k) = V m c main_v0 (ix2 ⟨u.val / 2 * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (k : Fin 1024) (l : Fin 1024) :
    (iblk m c 1 u : S1024x1024.Idx → EReal) (ix2 k l) = at2 (w m c) k.val (u.val % 2 * 1024 + l.val) := by
  have e : (iblk m c 1 u : S1024x1024.Idx → EReal) (ix2 k l) = V m c main_v1 (ix2 k ⟨u.val % 2 * 1024 + l.val, by omega⟩) := by
    blk_ext [iblk, idx1 u]
  exact e.trans ((congrFun (V1 m c) _).trans (at2_ix (w m c) _ _ rfl rfl))

/-- A point writes back its blocks' product. -/
theorem is_out (A : S1024x1024.Idx → EReal) (B : S1024x1024.Idx → EReal) (a l : Fin 1024) :
    (out0_2 (F := Ideal) A B : S1024x1024.Idx → EReal) (ix2 a l) = ∑ k : Fin 1024, A (ix2 a k) * B (ix2 k l) := by
  frame_out [out0_2]
  pointwise [k0_pay1]

/-- An entry of the product. -/
def pr (X : S4096x1024.Idx → EReal) (W : S1024x2048.Idx → EReal) (r j : ℕ) : EReal := ∑ k : Fin 1024, at2 X r k.val * at2 W k.val j

/-- A point's block is a block of the product. -/
theorem point_val (t : Fin cfg0.N) (a l : Fin 1024) :
    (out0_2 (F := Ideal) (iblk m c 0 t) (iblk m c 1 t) : S1024x1024.Idx → EReal) (ix2 a l)
      = pr (x m c) (w m c) (t.val / 2 * 1024 + a.val) (t.val % 2 * 1024 + l.val) :=
  (is_out (iblk m c 0 t) (iblk m c 1 t) a l).trans (Finset.sum_congr rfl fun k _ =>
    congr (congrArg HMul.hMul (blkA_val m c t a k)) (blkB_val m c t k l))

/-- The array after the run is the product. -/
theorem final2 : (dats m 0 c).arrAt 2 cfg0.N = fun i : S4096x2048.Idx => pr (x m c) (w m c) (i 0).val (i 1).val := by
  refine (dats m 0 c).arrAt_eq_of_covers 2 _ (by decide +kernel) fun t hf y => ?_
  blk_simp [idx2 t]
  rw [after0_2]
  have e := point_val m c t ((y : S1024x1024.Idx) 0) ((y : S1024x1024.Idx) 1)
  rw [← eq_ix2 (y : S1024x1024.Idx)] at e
  exact e

/-- The reference's array is the same product. -/
theorem ref_prod (X : S4096x1024.Idx → EReal) (W : S1024x2048.Idx → EReal) :
    Cert.Reference14Ideal.Read.val_main_v0 (F := Ideal) X W = fun i => pr X W (i 0).val (i 1).val := by
  funext i
  rw [Cert.Reference14Ideal.Read.val_main_v0_apply]
  exact Finset.sum_congr rfl fun k _ => congr (congrArg HMul.hMul (at2_eq X _ rfl rfl)) (at2_eq W _ rfl rfl)

end Sb.BranchProd
-- ==== Proof.GBranch.lean ====
/- The gradient of a branch's projection: the kernel's array, entry by entry, and the reference's. -/
module

public import proofs.«01_k».proof.Proof.AtNat
public import proofs.«01_k».proof.Proof.Gen.Kernel15Ideal.Value
public import proofs.«01_k».proof.Proof.Gen.Reference15Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.GBranch

open Idealize.ShloMosaic Idealize.ShloMosaic.TcCoe Cert.Kernel15Ideal Cert.Kernel15Ideal.Gen
open scoped BigOperators

variable (m : (ℓ : Loc nD τ sig) → Buf (Elt Idealize.ShloMosaic.Ideal) ℓ) (c : Dev nD)

/-- The first argument. -/
def x : S4096x1024.Idx → EReal := m ((c.tc : Thread nD τ).loc main_arg0)

/-- The second argument: the gradient that comes in. -/
def dy : S4096x2048.Idx → EReal := m ((c.tc : Thread nD τ).loc main_arg1)

/-- What the launch finds in the first operand: the cast argument, which is the argument. -/
theorem V0 : (V m c main_v0 : S4096x1024.Idx → EReal) = x m c := by
  unfold V
  simp only [hostOps0, List.flatten_cons, List.flatten_nil, List.append_nil, List.cons_append, List.nil_append]
  after_reads_simp
  rfl

/-- What the launch finds in the second operand. -/
theorem V1 : (V m c main_v1 : S4096x2048.Idx → EReal) = dy m c := by
  unfold V
  simp only [hostOps0, List.flatten_cons, List.flatten_nil, List.append_nil, List.cons_append, List.nil_append]
  after_reads_simp
  rfl

theorem idx0 : ∀ t : Fin cfg0.N, win0_0.index t = ![t.val % 2, 0] :=
  (by decide +kernel : ∀ t : Fin grid0.N, _)
theorem idx1 : ∀ t : Fin cfg0.N, win0_1.index t = ![t.val % 2, t.val / 2] :=
  (by decide +kernel : ∀ t : Fin grid0.N, _)
theorem idx2 : ∀ t : Fin cfg0.N, win0_2.index t = ![0, t.val / 2] :=
  (by decide +kernel : ∀ t : Fin grid0.N, _)

theorem point_lt (t : Fin cfg0.N) : t.val < 4 := lt_of_lt_of_eq t.isLt (show cfg0.N = 4 from N_0)

/-- The first operand's block at a point. -/
def blkA (u : Fin cfg0.N) : S2048x1024.Idx → EReal := iblk m c 0 u

/-- The second operand's block at a point. -/
def blkB (u : Fin cfg0.N) : S2048x1024.Idx → EReal := iblk m c 1 u

theorem blkA_val (u : Fin cfg0.N) (k : Fin 2048) (a : Fin 1024) :
    blkA m c u (ix2 k a) = at2 (x m c) (u.val % 2 * 2048 + k.val) a.val := by
  have hu := point_lt u
  have e : blkA m c u (ix2 k a) = V m c main_v0 (ix2 ⟨u.val % 2 * 2048 + k.val, by omega⟩ a) := by
    unfold blkA
    blk_ext [iblk, idx0 u]
  exact e.trans ((congrFun (V0 m c) _).trans (at2_ix (x m c) _ _ rfl rfl))

theorem blkB_val (u : Fin cfg0.N) (k : Fin 2048) (l : Fin 1024) :
    blkB m c u (ix2 k l) = at2 (dy m c) (u.val % 2 * 2048 + k.val) (u.val / 2 * 1024 + l.val) := by
  have hu := point_lt u
  have e : blkB m c u (ix2 k l) = V m c main_v1 (ix2 ⟨u.val % 2 * 2048 + k.val, by omega⟩ ⟨u.val / 2 * 1024 + l.val, by omega⟩) := by
    unfold blkB
    blk_ext [iblk, idx1 u]
  exact e.trans ((congrFun (V1 m c) _).trans (at2_ix (dy m c) _ _ rfl rfl))

/-- An even point leaves its blocks' product in the scratch. -/
theorem scratch_even (i : grid0.Coords) (a3 : Memref sig .tc .vmem S2048x1024 .bf16) (w3 : a3.IsWhole) (a4 : Memref sig .tc .vmem S2048x1024 .bf16) (w4 : a4.IsWhole)
    (a5 : Memref sig .tc .vmem S1024x1024 .bf16) (w5 : a5.IsWhole) (a6 : Memref sig .tc .vmem S1024x1024 .f32) (w6 : a6.IsWhole)
    (h0 : cond0_0 i) (h1 : ¬cond0_1 i) (h2 : ¬cond0_2 i)
    (A : S2048x1024.Idx → EReal) (B : S2048x1024.Idx → EReal) (a : Fin 1024) (l : Fin 1024) :
    (sout0_A_0 (F := Ideal) c i a3 w3 a4 w4 a5 w5 a6 w6 h0 h1 h2 A B : S1024x1024.Idx → EReal) (ix2 a l)
      = ∑ k : Fin 2048, A (ix2 k a) * B (ix2 k l) := by
  frame_out [sout0_A_0]
  pointwise [k0_pay2, k0_pay1]

/-- An odd point writes back the scratch with its blocks' product added. -/
theorem out_odd (i : grid0.Coords) (a3 : Memref sig .tc .vmem S2048x1024 .bf16) (w3 : a3.IsWhole) (a4 : Memref sig .tc .vmem S2048x1024 .bf16) (w4 : a4.IsWhole)
    (a5 : Memref sig .tc .vmem S1024x1024 .bf16) (w5 : a5.IsWhole) (a6 : Memref sig .tc .vmem S1024x1024 .f32) (w6 : a6.IsWhole)
    (h0 : ¬cond0_0 i) (h1 : cond0_1 i) (h2 : cond0_2 i)
    (A : S2048x1024.Idx → EReal) (B : S2048x1024.Idx → EReal) (C : S1024x1024.Idx → EReal) (a : Fin 1024) (l : Fin 1024) :
    (out0_B_2 (F := Ideal) c i a3 w3 a4 w4 a5 w5 a6 w6 h0 h1 h2 A B C : S1024x1024.Idx → EReal) (ix2 a l)
      = C (ix2 a l) + ∑ k : Fin 2048, A (ix2 k a) * B (ix2 k l) := by
  frame_out [out0_B_2]
  pointwise [k0_pay4, k0_pay3, k0_pay1]

/-- One term of the product's entry at row `r` and column `j` of the incoming gradient. -/
def term (X : S4096x1024.Idx → EReal) (D : S4096x2048.Idx → EReal) (r j k : ℕ) : EReal := at2 X k r * at2 D k j

/-- The product with the first factor turned, at row `r` and column `j`. -/
def pr (X : S4096x1024.Idx → EReal) (D : S4096x2048.Idx → EReal) (r j : ℕ) : EReal := ∑ k : Fin 4096, term X D r j k.val

/-- The product as a sum over both halves of the rows. -/
theorem pr_halves (X : S4096x1024.Idx → EReal) (D : S4096x2048.Idx → EReal) (r j : ℕ) :
    pr X D r j = ∑ k : Fin 2048, term X D r j k.val + ∑ k : Fin 2048, term X D r j (2048 + k.val) := sum_cut 2048 2048 (term X D r j)

/-- A point's product of its blocks. -/
theorem dot_val (t : Fin cfg0.N) (a : Fin 1024) (l : Fin 1024) :
    ∑ k : Fin 2048, blkA m c t (ix2 k a) * blkB m c t (ix2 k l)
      = ∑ k : Fin 2048, term (x m c) (dy m c) a.val (t.val / 2 * 1024 + l.val) (t.val % 2 * 2048 + k.val) :=
  Finset.sum_congr rfl fun k _ => congr (congrArg HMul.hMul (blkA_val m c t k a)) (blkB_val m c t k l)

/-- What an even point's run leaves in the scratch. -/
theorem even_dot (t : Fin cfg0.N) (ht : t.val % 2 = 0) (n1 : ¬t.val % 2 = 1) (a : Fin 1024) (l : Fin 1024) :
    (sout0_A_0 (F := Ideal) c (grid0.coords t) (ms0_0 t) (hs0_0 t) (ms0_1 t) (hs0_1 t) (ms0_2 t) (hs0_2 t) scM0_0 (Memref.isWhole_whole _)
      ((hcond0_0 t).mpr ht) (fun h => n1 ((hcond0_1 t).mp h)) (fun h => n1 ((hcond0_2 t).mp h)) (blkA m c t) (blkB m c t) : S1024x1024.Idx → EReal) (ix2 a l)
      = ∑ k : Fin 2048, term (x m c) (dy m c) a.val (t.val / 2 * 1024 + l.val) (t.val % 2 * 2048 + k.val) := by
  rw [scratch_even]
  exact dot_val m c t a l

theorem even_fn (t : Fin cfg0.N) (ht : t.val % 2 = 0) (n1 : ¬t.val % 2 = 1) :
    (outsAt0 m c t.val t.isLt).2 = sout0_A_0 (F := Ideal) c (grid0.coords t) (ms0_0 t) (hs0_0 t) (ms0_1 t) (hs0_1 t) (ms0_2 t) (hs0_2 t) scM0_0
      (Memref.isWhole_whole _) ((hcond0_0 t).mpr ht) (fun h => n1 ((hcond0_1 t).mp h)) (fun h => n1 ((hcond0_2 t).mp h))
      (iblk m c 0 t) (iblk m c 1 t) := by
  rw [outsAt0_A m c t ht n1 n1]

/-- The scratch after an even point. -/
theorem even_val (t : Fin cfg0.N) (ht : t.val % 2 = 0) (a : Fin 1024) (l : Fin 1024) :
    ((outsAt0 m c t.val t.isLt).2 : S1024x1024.Idx → EReal) (ix2 a l)
      = ∑ k : Fin 2048, term (x m c) (dy m c) a.val (t.val / 2 * 1024 + l.val) (t.val % 2 * 2048 + k.val) := by
  have n1 : ¬t.val % 2 = 1 := by omega
  rw [even_fn m c t ht n1]
  exact even_dot m c t ht n1 a l

/-- What an odd point's run leaves in the output block, over what the scratch held. -/
theorem odd_dot (t : Fin cfg0.N) (n0 : ¬t.val % 2 = 0) (ht : t.val % 2 = 1) (C : S1024x1024.Idx → EReal) (a : Fin 1024) (l : Fin 1024) :
    (out0_B_2 (F := Ideal) c (grid0.coords t) (ms0_0 t) (hs0_0 t) (ms0_1 t) (hs0_1 t) (ms0_2 t) (hs0_2 t) scM0_0 (Memref.isWhole_whole _)
      (fun h => n0 ((hcond0_0 t).mp h)) ((hcond0_1 t).mpr ht) ((hcond0_2 t).mpr ht) (blkA m c t) (blkB m c t) C : S1024x1024.Idx → EReal) (ix2 a l)
      = C (ix2 a l) + ∑ k : Fin 2048, term (x m c) (dy m c) a.val (t.val / 2 * 1024 + l.val) (t.val % 2 * 2048 + k.val) := by
  rw [out_odd, dot_val]

theorem odd_fn (t : Fin cfg0.N) (n0 : ¬t.val % 2 = 0) (ht : t.val % 2 = 1) :
    (outsAt0 m c t.val t.isLt).1 = out0_B_2 (F := Ideal) c (grid0.coords t) (ms0_0 t) (hs0_0 t) (ms0_1 t) (hs0_1 t) (ms0_2 t) (hs0_2 t) scM0_0
      (Memref.isWhole_whole _) (fun h => n0 ((hcond0_0 t).mp h)) ((hcond0_1 t).mpr ht) ((hcond0_2 t).mpr ht)
      (iblk m c 0 t) (iblk m c 1 t) (outsAt0 m c (t.val - 1) (Nat.lt_of_le_of_lt (Nat.sub_le _ _) t.isLt)).2 := by
  rw [outsAt0_B m c t n0 ht ht]

/-- The output block after an odd point. -/
theorem odd_val (t : Fin cfg0.N) (ht : t.val % 2 = 1) (a : Fin 1024) (l : Fin 1024) :
    ((outsAt0 m c t.val t.isLt).1 : S1024x1024.Idx → EReal) (ix2 a l)
      = ((outsAt0 m c (t.val - 1) (Nat.lt_of_le_of_lt (Nat.sub_le _ _) t.isLt)).2 : S1024x1024.Idx → EReal) (ix2 a l)
        + ∑ k : Fin 2048, term (x m c) (dy m c) a.val (t.val / 2 * 1024 + l.val) (t.val % 2 * 2048 + k.val) := by
  have n0 : ¬t.val % 2 = 0 := by omega
  rw [odd_fn m c t n0 ht]
  exact odd_dot m c t n0 ht _ a l

/-- A pair of points writes back a block of the product. -/
theorem pair_val (t : Fin cfg0.N) (ht : t.val % 2 = 1) (a : Fin 1024) (l : Fin 1024) :
    ((outsAt0 m c t.val t.isLt).1 : S1024x1024.Idx → EReal) (ix2 a l)
      = pr (x m c) (dy m c) a.val (t.val / 2 * 1024 + l.val) := by
  have hp : t.val - 1 < cfg0.N := Nat.lt_of_le_of_lt (Nat.sub_le _ _) t.isLt
  have h2 : (t.val - 1) % 2 = 0 := by omega
  have e := even_val m c ⟨t.val - 1, hp⟩ h2 a l
  have d2 : (t.val - 1) / 2 = t.val / 2 := by omega
  simp only [d2, h2, Nat.zero_mul, Nat.zero_add] at e
  rw [odd_val m c t ht, e, pr_halves, ht, Nat.one_mul]

/-- The array after the run is the product. -/
theorem final2 : (dats m 0 c).arrAt 2 cfg0.N = fun i : S1024x2048.Idx => pr (x m c) (dy m c) (i 0).val (i 1).val := by
  refine (dats m 0 c).arrAt_eq_of_covers 2 _ (by decide +kernel) fun t hf y => ?_
  have ht := (flush0_2 t).mp hf
  blk_simp [idx2 t]
  rw [after0_2]
  have e := pair_val m c t ht ((y : S1024x1024.Idx) 0) ((y : S1024x1024.Idx) 1)
  rw [← eq_ix2 (y : S1024x1024.Idx)] at e
  exact e

section
open Cert.Reference15Ideal.Read

/-- The reference's array is the same product. -/
theorem ref_prod (X : S4096x1024.Idx → EReal) (D : S4096x2048.Idx → EReal) :
    val_main_v4 (F := Ideal) X D = fun i => pr X D (i 0).val (i 1).val := by
  funext i
  rw [val_main_v4_apply]
  show val_main_v3 (F := Ideal) X D i = _
  rw [val_main_v3_apply, val_main_v2_apply]
  refine Finset.sum_congr rfl fun k _ => ?_
  rw [mul_comm]
  exact congr (congrArg HMul.hMul (at2_eq X _ rfl rfl)) (at2_eq D _ rfl rfl)

end

end Sb.GBranch
-- ==== Proof.DBranch.lean ====
/- The gradient of a branch's rows: the kernel's array, entry by entry, and the reference's. -/
module

public import proofs.«01_k».proof.Proof.AtNat
public import proofs.«01_k».proof.Proof.Gen.Kernel16Ideal.Value
public import proofs.«01_k».proof.Proof.Gen.Reference16Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.DBranch

open Idealize.ShloMosaic Idealize.ShloMosaic.TcCoe Cert.Kernel16Ideal Cert.Kernel16Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the weight. -/
def w : S1024x2048.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- What the launch finds in the second operand. -/
theorem V1 : (V m c main_v1 : S1024x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

theorem point_lt (t : Fin cfg0.N) : t.val < 4 := lt_of_lt_of_eq t.isLt (show cfg0.N = 4 from N_0)

/-- The first operand's block at a point. -/
theorem blkA_val (u : Fin cfg0.N) (a : Fin 1024) (k : Fin 2048) :
    (iblk m c 0 u : S1024x2048.Idx → EReal) (ix2 a k) = at2 (x m c) (u.val * 1024 + a.val) k.val := by
  have hu := point_lt u
  have e : (iblk m c 0 u : S1024x2048.Idx → EReal) (ix2 a k) = V m c main_v0 (ix2 ⟨u.val * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (l : Fin 1024) (k : Fin 2048) :
    (iblk m c 1 u : S1024x2048.Idx → EReal) (ix2 l k) = at2 (w m c) l.val k.val := by
  have e : (iblk m c 1 u : S1024x2048.Idx → EReal) (ix2 l k) = V m c main_v1 (ix2 l k) := by
    blk_ext [iblk, idx1 u]
  exact e.trans ((congrFun (V1 m c) _).trans (at2_ix (w m c) _ _ rfl rfl))

/-- A point writes back its blocks' product. -/
theorem is_out (A : S1024x2048.Idx → EReal) (B : S1024x2048.Idx → EReal) (a l : Fin 1024) :
    (out0_2 (F := Ideal) A B : S1024x1024.Idx → EReal) (ix2 a l) = ∑ k : Fin 2048, A (ix2 a k) * B (ix2 l k) := by
  frame_out [out0_2]
  pointwise [k0_pay1]

/-- An entry of the product, the second factor turned. -/
def pr (X : S4096x2048.Idx → EReal) (W : S1024x2048.Idx → EReal) (r j : ℕ) : EReal := ∑ k : Fin 2048, at2 X r k.val * at2 W j k.val

/-- A point's block is a block of the product. -/
theorem point_val (t : Fin cfg0.N) (a l : Fin 1024) :
    (out0_2 (F := Ideal) (iblk m c 0 t) (iblk m c 1 t) : S1024x1024.Idx → EReal) (ix2 a l)
      = pr (x m c) (w m c) (t.val * 1024 + a.val) l.val :=
  (is_out (iblk m c 0 t) (iblk m c 1 t) a l).trans (Finset.sum_congr rfl fun k _ =>
    congr (congrArg HMul.hMul (blkA_val m c t a k)) (blkB_val m c t l k))

/-- The array after the run is the product. -/
theorem final2 : (dats m 0 c).arrAt 2 cfg0.N = fun i : S4096x1024.Idx => pr (x m c) (w m c) (i 0).val (i 1).val := by
  refine (dats m 0 c).arrAt_eq_of_covers 2 _ (by decide +kernel) fun t hf y => ?_
  blk_simp [idx2 t]
  rw [after0_2]
  have e := point_val m c t ((y : S1024x1024.Idx) 0) ((y : S1024x1024.Idx) 1)
  rw [← eq_ix2 (y : S1024x1024.Idx)] at e
  exact e

/-- The reference's array is the same product. -/
theorem ref_prod (X : S4096x2048.Idx → EReal) (W : S1024x2048.Idx → EReal) :
    Cert.Reference16Ideal.Read.val_main_v2 (F := Ideal) X W = fun i => pr X W (i 0).val (i 1).val := by
  funext i
  rw [Cert.Reference16Ideal.Read.val_main_v2_apply]
  exact Finset.sum_congr rfl fun k _ => congr (congrArg HMul.hMul (at2_eq X _ rfl rfl)) (at2_eq W _ rfl rfl)

end Sb.DBranch
-- ==== Proof.SbProd.lean ====
/- The other branch's rows times its projection: the kernel's array, entry by entry, and the reference's. -/
module

public import proofs.«01_k».proof.Proof.AtNat
public import proofs.«01_k».proof.Proof.Gen.Kernel17Ideal.Value
public import proofs.«01_k».proof.Proof.Gen.Reference17Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.SbProd

open Idealize.ShloMosaic Idealize.ShloMosaic.TcCoe Cert.Kernel17Ideal Cert.Kernel17Ideal.Gen
open scoped BigOperators

variable (m : (ℓ : Loc nD τ sig) → Buf (Elt Idealize.ShloMosaic.Ideal) ℓ) (c : Dev nD)

/-- The first argument. -/
def x : S4096x1024.Idx → EReal := m ((c.tc : Thread nD τ).loc main_arg0)

/-- The second argument: the weight. -/
def w : S1024x2048.Idx → EReal := m ((c.tc : Thread nD τ).loc main_arg1)

/-- What the launch finds in the first operand: the cast argument, which is the argument. -/
theorem V0 : (V m c main_v0 : S4096x1024.Idx → EReal) = x m c := by
  unfold V
  simp only [hostOps0, List.flatten_cons, List.flatten_nil, List.append_nil, List.cons_append, List.nil_append]
  after_reads_simp
  rfl

/-- What the launch finds in the second operand. -/
theorem V1 : (V m c main_v1 : S1024x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val / 2, 0] :=
  (by decide +kernel : ∀ t : Fin grid0.N, _)
theorem idx1 : ∀ t : Fin cfg0.N, win0_1.index t = ![0, t.val % 2] :=
  (by decide +kernel : ∀ t : Fin grid0.N, _)
theorem idx2 : ∀ t : Fin cfg0.N, win0_2.index t = ![t.val / 2, t.val % 2] :=
  (by decide +kernel : ∀ t : Fin grid0.N, _)

theorem point_lt (t : Fin cfg0.N) : t.val < 8 := lt_of_lt_of_eq t.isLt (show cfg0.N = 8 from N_0)

/-- The first operand's block at a point. -/
theorem blkA_val (u : Fin cfg0.N) (a : Fin 1024) (k : Fin 1024) :
    (iblk m c 0 u : S1024x1024.Idx → EReal) (ix2 a k) = at2 (x m c) (u.val / 2 * 1024 + a.val) k.val := by
  have hu := point_lt u
  have e : (iblk m c 0 u : S1024x1024.Idx → EReal) (ix2 a k) = V m c main_v0 (ix2 ⟨u.val / 2 * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (k : Fin 1024) (l : Fin 1024) :
    (iblk m c 1 u : S1024x1024.Idx → EReal) (ix2 k l) = at2 (w m c) k.val (u.val % 2 * 1024 + l.val) := by
  have e : (iblk m c 1 u : S1024x1024.Idx → EReal) (ix2 k l) = V m c main_v1 (ix2 k ⟨u.val % 2 * 1024 + l.val, by omega⟩) := by
    blk_ext [iblk, idx1 u]
  exact e.trans ((congrFun (V1 m c) _).trans (at2_ix (w m c) _ _ rfl rfl))

/-- A point writes back its blocks' product. -/
theorem is_out (A : S1024x1024.Idx → EReal) (B : S1024x1024.Idx → EReal) (a l : Fin 1024) :
    (out0_2 (F := Ideal) A B : S1024x1024.Idx → EReal) (ix2 a l) = ∑ k : Fin 1024, A (ix2 a k) * B (ix2 k l) := by
  frame_out [out0_2]
  pointwise [k0_pay1]

/-- An entry of the product. -/
def pr (X : S4096x1024.Idx → EReal) (W : S1024x2048.Idx → EReal) (r j : ℕ) : EReal := ∑ k : Fin 1024, at2 X r k.val * at2 W k.val j

/-- A point's block is a block of the product. -/
theorem point_val (t : Fin cfg0.N) (a l : Fin 1024) :
    (out0_2 (F := Ideal) (iblk m c 0 t) (iblk m c 1 t) : S1024x1024.Idx → EReal) (ix2 a l)
      = pr (x m c) (w m c) (t.val / 2 * 1024 + a.val) (t.val % 2 * 1024 + l.val) :=
  (is_out (iblk m c 0 t) (iblk m c 1 t) a l).trans (Finset.sum_congr rfl fun k _ =>
    congr (congrArg HMul.hMul (blkA_val m c t a k)) (blkB_val m c t k l))

/-- The array after the run is the product. -/
theorem final2 : (dats m 0 c).arrAt 2 cfg0.N = fun i : S4096x2048.Idx => pr (x m c) (w m c) (i 0).val (i 1).val := by
  refine (dats m 0 c).arrAt_eq_of_covers 2 _ (by decide +kernel) fun t hf y => ?_
  blk_simp [idx2 t]
  rw [after0_2]
  have e := point_val m c t ((y : S1024x1024.Idx) 0) ((y : S1024x1024.Idx) 1)
  rw [← eq_ix2 (y : S1024x1024.Idx)] at e
  exact e

/-- The reference's array is the same product. -/
theorem ref_prod (X : S4096x1024.Idx → EReal) (W : S1024x2048.Idx → EReal) :
    Cert.Reference17Ideal.Read.val_main_v0 (F := Ideal) X W = fun i => pr X W (i 0).val (i 1).val := by
  funext i
  rw [Cert.Reference17Ideal.Read.val_main_v0_apply]
  exact Finset.sum_congr rfl fun k _ => congr (congrArg HMul.hMul (at2_eq X _ rfl rfl)) (at2_eq W _ rfl rfl)

end Sb.SbProd
-- ==== Proof.GSb.lean ====
/- The gradient of the other branch's projection: the kernel's array, entry by entry, and the reference's. -/
module

public import proofs.«01_k».proof.Proof.AtNat
public import proofs.«01_k».proof.Proof.Gen.Kernel18Ideal.Value
public import proofs.«01_k».proof.Proof.Gen.Reference18Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.GSb

open Idealize.ShloMosaic Idealize.ShloMosaic.TcCoe Cert.Kernel18Ideal Cert.Kernel18Ideal.Gen
open scoped BigOperators

variable (m : (ℓ : Loc nD τ sig) → Buf (Elt Idealize.ShloMosaic.Ideal) ℓ) (c : Dev nD)

/-- The first argument. -/
def x : S4096x1024.Idx → EReal := m ((c.tc : Thread nD τ).loc main_arg0)

/-- The second argument: the gradient that comes in. -/
def dy : S4096x2048.Idx → EReal := m ((c.tc : Thread nD τ).loc main_arg1)

/-- What the launch finds in the first operand: the cast argument, which is the argument. -/
theorem V0 : (V m c main_v0 : S4096x1024.Idx → EReal) = x m c := by
  unfold V
  simp only [hostOps0, List.flatten_cons, List.flatten_nil, List.append_nil, List.cons_append, List.nil_append]
  after_reads_simp
  rfl

/-- What the launch finds in the second operand. -/
theorem V1 : (V m c main_v1 : S4096x2048.Idx → EReal) = dy m c := by
  unfold V
  simp only [hostOps0, List.flatten_cons, List.flatten_nil, List.append_nil, List.cons_append, List.nil_append]
  after_reads_simp
  rfl

theorem idx0 : ∀ t : Fin cfg0.N, win0_0.index t = ![t.val % 2, 0] :=
  (by decide +kernel : ∀ t : Fin grid0.N, _)
theorem idx1 : ∀ t : Fin cfg0.N, win0_1.index t = ![t.val % 2, t.val / 2] :=
  (by decide +kernel : ∀ t : Fin grid0.N, _)
theorem idx2 : ∀ t : Fin cfg0.N, win0_2.index t = ![0, t.val / 2] :=
  (by decide +kernel : ∀ t : Fin grid0.N, _)

theorem point_lt (t : Fin cfg0.N) : t.val < 4 := lt_of_lt_of_eq t.isLt (show cfg0.N = 4 from N_0)

/-- The first operand's block at a point. -/
def blkA (u : Fin cfg0.N) : S2048x1024.Idx → EReal := iblk m c 0 u

/-- The second operand's block at a point. -/
def blkB (u : Fin cfg0.N) : S2048x1024.Idx → EReal := iblk m c 1 u

theorem blkA_val (u : Fin cfg0.N) (k : Fin 2048) (a : Fin 1024) :
    blkA m c u (ix2 k a) = at2 (x m c) (u.val % 2 * 2048 + k.val) a.val := by
  have hu := point_lt u
  have e : blkA m c u (ix2 k a) = V m c main_v0 (ix2 ⟨u.val % 2 * 2048 + k.val, by omega⟩ a) := by
    unfold blkA
    blk_ext [iblk, idx0 u]
  exact e.trans ((congrFun (V0 m c) _).trans (at2_ix (x m c) _ _ rfl rfl))

theorem blkB_val (u : Fin cfg0.N) (k : Fin 2048) (l : Fin 1024) :
    blkB m c u (ix2 k l) = at2 (dy m c) (u.val % 2 * 2048 + k.val) (u.val / 2 * 1024 + l.val) := by
  have hu := point_lt u
  have e : blkB m c u (ix2 k l) = V m c main_v1 (ix2 ⟨u.val % 2 * 2048 + k.val, by omega⟩ ⟨u.val / 2 * 1024 + l.val, by omega⟩) := by
    unfold blkB
    blk_ext [iblk, idx1 u]
  exact e.trans ((congrFun (V1 m c) _).trans (at2_ix (dy m c) _ _ rfl rfl))

/-- An even point leaves its blocks' product in the scratch. -/
theorem scratch_even (i : grid0.Coords) (a3 : Memref sig .tc .vmem S2048x1024 .bf16) (w3 : a3.IsWhole) (a4 : Memref sig .tc .vmem S2048x1024 .bf16) (w4 : a4.IsWhole)
    (a5 : Memref sig .tc .vmem S1024x1024 .bf16) (w5 : a5.IsWhole) (a6 : Memref sig .tc .vmem S1024x1024 .f32) (w6 : a6.IsWhole)
    (h0 : cond0_0 i) (h1 : ¬cond0_1 i) (h2 : ¬cond0_2 i)
    (A : S2048x1024.Idx → EReal) (B : S2048x1024.Idx → EReal) (a : Fin 1024) (l : Fin 1024) :
    (sout0_A_0 (F := Ideal) c i a3 w3 a4 w4 a5 w5 a6 w6 h0 h1 h2 A B : S1024x1024.Idx → EReal) (ix2 a l)
      = ∑ k : Fin 2048, A (ix2 k a) * B (ix2 k l) := by
  frame_out [sout0_A_0]
  pointwise [k0_pay2, k0_pay1]

/-- An odd point writes back the scratch with its blocks' product added. -/
theorem out_odd (i : grid0.Coords) (a3 : Memref sig .tc .vmem S2048x1024 .bf16) (w3 : a3.IsWhole) (a4 : Memref sig .tc .vmem S2048x1024 .bf16) (w4 : a4.IsWhole)
    (a5 : Memref sig .tc .vmem S1024x1024 .bf16) (w5 : a5.IsWhole) (a6 : Memref sig .tc .vmem S1024x1024 .f32) (w6 : a6.IsWhole)
    (h0 : ¬cond0_0 i) (h1 : cond0_1 i) (h2 : cond0_2 i)
    (A : S2048x1024.Idx → EReal) (B : S2048x1024.Idx → EReal) (C : S1024x1024.Idx → EReal) (a : Fin 1024) (l : Fin 1024) :
    (out0_B_2 (F := Ideal) c i a3 w3 a4 w4 a5 w5 a6 w6 h0 h1 h2 A B C : S1024x1024.Idx → EReal) (ix2 a l)
      = C (ix2 a l) + ∑ k : Fin 2048, A (ix2 k a) * B (ix2 k l) := by
  frame_out [out0_B_2]
  pointwise [k0_pay4, k0_pay3, k0_pay1]

/-- One term of the product's entry at row `r` and column `j` of the incoming gradient. -/
def term (X : S4096x1024.Idx → EReal) (D : S4096x2048.Idx → EReal) (r j k : ℕ) : EReal := at2 X k r * at2 D k j

/-- The product with the first factor turned, at row `r` and column `j`. -/
def pr (X : S4096x1024.Idx → EReal) (D : S4096x2048.Idx → EReal) (r j : ℕ) : EReal := ∑ k : Fin 4096, term X D r j k.val

/-- The product as a sum over both halves of the rows. -/
theorem pr_halves (X : S4096x1024.Idx → EReal) (D : S4096x2048.Idx → EReal) (r j : ℕ) :
    pr X D r j = ∑ k : Fin 2048, term X D r j k.val + ∑ k : Fin 2048, term X D r j (2048 + k.val) := sum_cut 2048 2048 (term X D r j)

/-- A point's product of its blocks. -/
theorem dot_val (t : Fin cfg0.N) (a : Fin 1024) (l : Fin 1024) :
    ∑ k : Fin 2048, blkA m c t (ix2 k a) * blkB m c t (ix2 k l)
      = ∑ k : Fin 2048, term (x m c) (dy m c) a.val (t.val / 2 * 1024 + l.val) (t.val % 2 * 2048 + k.val) :=
  Finset.sum_congr rfl fun k _ => congr (congrArg HMul.hMul (blkA_val m c t k a)) (blkB_val m c t k l)

/-- What an even point's run leaves in the scratch. -/
theorem even_dot (t : Fin cfg0.N) (ht : t.val % 2 = 0) (n1 : ¬t.val % 2 = 1) (a : Fin 1024) (l : Fin 1024) :
    (sout0_A_0 (F := Ideal) c (grid0.coords t) (ms0_0 t) (hs0_0 t) (ms0_1 t) (hs0_1 t) (ms0_2 t) (hs0_2 t) scM0_0 (Memref.isWhole_whole _)
      ((hcond0_0 t).mpr ht) (fun h => n1 ((hcond0_1 t).mp h)) (fun h => n1 ((hcond0_2 t).mp h)) (blkA m c t) (blkB m c t) : S1024x1024.Idx → EReal) (ix2 a l)
      = ∑ k : Fin 2048, term (x m c) (dy m c) a.val (t.val / 2 * 1024 + l.val) (t.val % 2 * 2048 + k.val) := by
  rw [scratch_even]
  exact dot_val m c t a l

theorem even_fn (t : Fin cfg0.N) (ht : t.val % 2 = 0) (n1 : ¬t.val % 2 = 1) :
    (outsAt0 m c t.val t.isLt).2 = sout0_A_0 (F := Ideal) c (grid0.coords t) (ms0_0 t) (hs0_0 t) (ms0_1 t) (hs0_1 t) (ms0_2 t) (hs0_2 t) scM0_0
      (Memref.isWhole_whole _) ((hcond0_0 t).mpr ht) (fun h => n1 ((hcond0_1 t).mp h)) (fun h => n1 ((hcond0_2 t).mp h))
      (iblk m c 0 t) (iblk m c 1 t) := by
  rw [outsAt0_A m c t ht n1 n1]

/-- The scratch after an even point. -/
theorem even_val (t : Fin cfg0.N) (ht : t.val % 2 = 0) (a : Fin 1024) (l : Fin 1024) :
    ((outsAt0 m c t.val t.isLt).2 : S1024x1024.Idx → EReal) (ix2 a l)
      = ∑ k : Fin 2048, term (x m c) (dy m c) a.val (t.val / 2 * 1024 + l.val) (t.val % 2 * 2048 + k.val) := by
  have n1 : ¬t.val % 2 = 1 := by omega
  rw [even_fn m c t ht n1]
  exact even_dot m c t ht n1 a l

/-- What an odd point's run leaves in the output block, over what the scratch held. -/
theorem odd_dot (t : Fin cfg0.N) (n0 : ¬t.val % 2 = 0) (ht : t.val % 2 = 1) (C : S1024x1024.Idx → EReal) (a : Fin 1024) (l : Fin 1024) :
    (out0_B_2 (F := Ideal) c (grid0.coords t) (ms0_0 t) (hs0_0 t) (ms0_1 t) (hs0_1 t) (ms0_2 t) (hs0_2 t) scM0_0 (Memref.isWhole_whole _)
      (fun h => n0 ((hcond0_0 t).mp h)) ((hcond0_1 t).mpr ht) ((hcond0_2 t).mpr ht) (blkA m c t) (blkB m c t) C : S1024x1024.Idx → EReal) (ix2 a l)
      = C (ix2 a l) + ∑ k : Fin 2048, term (x m c) (dy m c) a.val (t.val / 2 * 1024 + l.val) (t.val % 2 * 2048 + k.val) := by
  rw [out_odd, dot_val]

theorem odd_fn (t : Fin cfg0.N) (n0 : ¬t.val % 2 = 0) (ht : t.val % 2 = 1) :
    (outsAt0 m c t.val t.isLt).1 = out0_B_2 (F := Ideal) c (grid0.coords t) (ms0_0 t) (hs0_0 t) (ms0_1 t) (hs0_1 t) (ms0_2 t) (hs0_2 t) scM0_0
      (Memref.isWhole_whole _) (fun h => n0 ((hcond0_0 t).mp h)) ((hcond0_1 t).mpr ht) ((hcond0_2 t).mpr ht)
      (iblk m c 0 t) (iblk m c 1 t) (outsAt0 m c (t.val - 1) (Nat.lt_of_le_of_lt (Nat.sub_le _ _) t.isLt)).2 := by
  rw [outsAt0_B m c t n0 ht ht]

/-- The output block after an odd point. -/
theorem odd_val (t : Fin cfg0.N) (ht : t.val % 2 = 1) (a : Fin 1024) (l : Fin 1024) :
    ((outsAt0 m c t.val t.isLt).1 : S1024x1024.Idx → EReal) (ix2 a l)
      = ((outsAt0 m c (t.val - 1) (Nat.lt_of_le_of_lt (Nat.sub_le _ _) t.isLt)).2 : S1024x1024.Idx → EReal) (ix2 a l)
        + ∑ k : Fin 2048, term (x m c) (dy m c) a.val (t.val / 2 * 1024 + l.val) (t.val % 2 * 2048 + k.val) := by
  have n0 : ¬t.val % 2 = 0 := by omega
  rw [odd_fn m c t n0 ht]
  exact odd_dot m c t n0 ht _ a l

/-- A pair of points writes back a block of the product. -/
theorem pair_val (t : Fin cfg0.N) (ht : t.val % 2 = 1) (a : Fin 1024) (l : Fin 1024) :
    ((outsAt0 m c t.val t.isLt).1 : S1024x1024.Idx → EReal) (ix2 a l)
      = pr (x m c) (dy m c) a.val (t.val / 2 * 1024 + l.val) := by
  have hp : t.val - 1 < cfg0.N := Nat.lt_of_le_of_lt (Nat.sub_le _ _) t.isLt
  have h2 : (t.val - 1) % 2 = 0 := by omega
  have e := even_val m c ⟨t.val - 1, hp⟩ h2 a l
  have d2 : (t.val - 1) / 2 = t.val / 2 := by omega
  simp only [d2, h2, Nat.zero_mul, Nat.zero_add] at e
  rw [odd_val m c t ht, e, pr_halves, ht, Nat.one_mul]

/-- The array after the run is the product. -/
theorem final2 : (dats m 0 c).arrAt 2 cfg0.N = fun i : S1024x2048.Idx => pr (x m c) (dy m c) (i 0).val (i 1).val := by
  refine (dats m 0 c).arrAt_eq_of_covers 2 _ (by decide +kernel) fun t hf y => ?_
  have ht := (flush0_2 t).mp hf
  blk_simp [idx2 t]
  rw [after0_2]
  have e := pair_val m c t ht ((y : S1024x1024.Idx) 0) ((y : S1024x1024.Idx) 1)
  rw [← eq_ix2 (y : S1024x1024.Idx)] at e
  exact e

section
open Cert.Reference18Ideal.Read

/-- The reference's array is the same product. -/
theorem ref_prod (X : S4096x1024.Idx → EReal) (D : S4096x2048.Idx → EReal) :
    val_main_v4 (F := Ideal) X D = fun i => pr X D (i 0).val (i 1).val := by
  funext i
  rw [val_main_v4_apply]
  show val_main_v3 (F := Ideal) X D i = _
  rw [val_main_v3_apply, val_main_v2_apply]
  refine Finset.sum_congr rfl fun k _ => ?_
  rw [mul_comm]
  exact congr (congrArg HMul.hMul (at2_eq X _ rfl rfl)) (at2_eq D _ rfl rfl)

end

end Sb.GSb
-- ==== Proof.DSb.lean ====
/- The gradient of the other branch's rows: the kernel's array, entry by entry, and the reference's. -/
module

public import proofs.«01_k».proof.Proof.AtNat
public import proofs.«01_k».proof.Proof.Gen.Kernel19Ideal.Value
public import proofs.«01_k».proof.Proof.Gen.Reference19Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.DSb

open Idealize.ShloMosaic Idealize.ShloMosaic.TcCoe Cert.Kernel19Ideal Cert.Kernel19Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the weight. -/
def w : S1024x2048.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- What the launch finds in the second operand. -/
theorem V1 : (V m c main_v1 : S1024x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

theorem point_lt (t : Fin cfg0.N) : t.val < 4 := lt_of_lt_of_eq t.isLt (show cfg0.N = 4 from N_0)

/-- The first operand's block at a point. -/
theorem blkA_val (u : Fin cfg0.N) (a : Fin 1024) (k : Fin 2048) :
    (iblk m c 0 u : S1024x2048.Idx → EReal) (ix2 a k) = at2 (x m c) (u.val * 1024 + a.val) k.val := by
  have hu := point_lt u
  have e : (iblk m c 0 u : S1024x2048.Idx → EReal) (ix2 a k) = V m c main_v0 (ix2 ⟨u.val * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (l : Fin 1024) (k : Fin 2048) :
    (iblk m c 1 u : S1024x2048.Idx → EReal) (ix2 l k) = at2 (w m c) l.val k.val := by
  have e : (iblk m c 1 u : S1024x2048.Idx → EReal) (ix2 l k) = V m c main_v1 (ix2 l k) := by
    blk_ext [iblk, idx1 u]
  exact e.trans ((congrFun (V1 m c) _).trans (at2_ix (w m c) _ _ rfl rfl))

/-- A point writes back its blocks' product. -/
theorem is_out (A : S1024x2048.Idx → EReal) (B : S1024x2048.Idx → EReal) (a l : Fin 1024) :
    (out0_2 (F := Ideal) A B : S1024x1024.Idx → EReal) (ix2 a l) = ∑ k : Fin 2048, A (ix2 a k) * B (ix2 l k) := by
  frame_out [out0_2]
  pointwise [k0_pay1]

/-- An entry of the product, the second factor turned. -/
def pr (X : S4096x2048.Idx → EReal) (W : S1024x2048.Idx → EReal) (r j : ℕ) : EReal := ∑ k : Fin 2048, at2 X r k.val * at2 W j k.val

/-- A point's block is a block of the product. -/
theorem point_val (t : Fin cfg0.N) (a l : Fin 1024) :
    (out0_2 (F := Ideal) (iblk m c 0 t) (iblk m c 1 t) : S1024x1024.Idx → EReal) (ix2 a l)
      = pr (x m c) (w m c) (t.val * 1024 + a.val) l.val :=
  (is_out (iblk m c 0 t) (iblk m c 1 t) a l).trans (Finset.sum_congr rfl fun k _ =>
    congr (congrArg HMul.hMul (blkA_val m c t a k)) (blkB_val m c t l k))

/-- The array after the run is the product. -/
theorem final2 : (dats m 0 c).arrAt 2 cfg0.N = fun i : S4096x1024.Idx => pr (x m c) (w m c) (i 0).val (i 1).val := by
  refine (dats m 0 c).arrAt_eq_of_covers 2 _ (by decide +kernel) fun t hf y => ?_
  blk_simp [idx2 t]
  rw [after0_2]
  have e := point_val m c t ((y : S1024x1024.Idx) 0) ((y : S1024x1024.Idx) 1)
  rw [← eq_ix2 (y : S1024x1024.Idx)] at e
  exact e

/-- The reference's array is the same product. -/
theorem ref_prod (X : S4096x2048.Idx → EReal) (W : S1024x2048.Idx → EReal) :
    Cert.Reference19Ideal.Read.val_main_v2 (F := Ideal) X W = fun i => pr X W (i 0).val (i 1).val := by
  funext i
  rw [Cert.Reference19Ideal.Read.val_main_v2_apply]
  exact Finset.sum_congr rfl fun k _ => congr (congrArg HMul.hMul (at2_eq X _ rfl rfl)) (at2_eq W _ rfl rfl)

end Sb.DSb
-- ==== Proof.LatProd.lean ====
/- The latents times their projection: the kernel's array, entry by entry, and the reference's. -/
module

public import proofs.«01_k».proof.Proof.AtNat
public import proofs.«01_k».proof.Proof.Gen.Kernel20Ideal.Value
public import proofs.«01_k».proof.Proof.Gen.Reference20Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.LatProd

open Idealize.ShloMosaic Idealize.ShloMosaic.TcCoe Cert.Kernel20Ideal Cert.Kernel20Ideal.Gen
open scoped BigOperators

variable (m : (ℓ : Loc nD τ sig) → Buf (Elt Idealize.ShloMosaic.Ideal) ℓ) (c : Dev nD)

/-- The first argument. -/
def x : S4096x512.Idx → EReal := m ((c.tc : Thread nD τ).loc main_arg0)

/-- The second argument: the weight. -/
def w : S512x2048.Idx → EReal := m ((c.tc : Thread nD τ).loc main_arg1)

/-- What the launch finds in the first operand: the cast argument, which is the argument. -/
theorem V0 : (V m c main_v0 : S4096x512.Idx → EReal) = x m c := by
  unfold V
  simp only [hostOps0, List.flatten_cons, List.flatten_nil, List.append_nil, List.cons_append, List.nil_append]
  after_reads_simp
  rfl

/-- What the launch finds in the second operand. -/
theorem V1 : (V m c main_v1 : S512x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val / 2, 0] :=
  (by decide +kernel : ∀ t : Fin grid0.N, _)
theorem idx1 : ∀ t : Fin cfg0.N, win0_1.index t = ![0, t.val % 2] :=
  (by decide +kernel : ∀ t : Fin grid0.N, _)
theorem idx2 : ∀ t : Fin cfg0.N, win0_2.index t = ![t.val / 2, t.val % 2] :=
  (by decide +kernel : ∀ t : Fin grid0.N, _)

theorem point_lt (t : Fin cfg0.N) : t.val < 8 := lt_of_lt_of_eq t.isLt (show cfg0.N = 8 from N_0)

/-- The first operand's block at a point. -/
theorem blkA_val (u : Fin cfg0.N) (a : Fin 1024) (k : Fin 512) :
    (iblk m c 0 u : S1024x512.Idx → EReal) (ix2 a k) = at2 (x m c) (u.val / 2 * 1024 + a.val) k.val := by
  have hu := point_lt u
  have e : (iblk m c 0 u : S1024x512.Idx → EReal) (ix2 a k) = V m c main_v0 (ix2 ⟨u.val / 2 * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (k : Fin 512) (l : Fin 1024) :
    (iblk m c 1 u : S512x1024.Idx → EReal) (ix2 k l) = at2 (w m c) k.val (u.val % 2 * 1024 + l.val) := by
  have e : (iblk m c 1 u : S512x1024.Idx → EReal) (ix2 k l) = V m c main_v1 (ix2 k ⟨u.val % 2 * 1024 + l.val, by omega⟩) := by
    blk_ext [iblk, idx1 u]
  exact e.trans ((congrFun (V1 m c) _).trans (at2_ix (w m c) _ _ rfl rfl))

/-- A point writes back its blocks' product. -/
theorem is_out (A : S1024x512.Idx → EReal) (B : S512x1024.Idx → EReal) (a l : Fin 1024) :
    (out0_2 (F := Ideal) A B : S1024x1024.Idx → EReal) (ix2 a l) = ∑ k : Fin 512, A (ix2 a k) * B (ix2 k l) := by
  frame_out [out0_2]
  pointwise [k0_pay1]

/-- An entry of the product. -/
def pr (X : S4096x512.Idx → EReal) (W : S512x2048.Idx → EReal) (r j : ℕ) : EReal := ∑ k : Fin 512, at2 X r k.val * at2 W k.val j

/-- A point's block is a block of the product. -/
theorem point_val (t : Fin cfg0.N) (a l : Fin 1024) :
    (out0_2 (F := Ideal) (iblk m c 0 t) (iblk m c 1 t) : S1024x1024.Idx → EReal) (ix2 a l)
      = pr (x m c) (w m c) (t.val / 2 * 1024 + a.val) (t.val % 2 * 1024 + l.val) :=
  (is_out (iblk m c 0 t) (iblk m c 1 t) a l).trans (Finset.sum_congr rfl fun k _ =>
    congr (congrArg HMul.hMul (blkA_val m c t a k)) (blkB_val m c t k l))

/-- The array after the run is the product. -/
theorem final2 : (dats m 0 c).arrAt 2 cfg0.N = fun i : S4096x2048.Idx => pr (x m c) (w m c) (i 0).val (i 1).val := by
  refine (dats m 0 c).arrAt_eq_of_covers 2 _ (by decide +kernel) fun t hf y => ?_
  blk_simp [idx2 t]
  rw [after0_2]
  have e := point_val m c t ((y : S1024x1024.Idx) 0) ((y : S1024x1024.Idx) 1)
  rw [← eq_ix2 (y : S1024x1024.Idx)] at e
  exact e

/-- The reference's array is the same product. -/
theorem ref_prod (X : S4096x512.Idx → EReal) (W : S512x2048.Idx → EReal) :
    Cert.Reference20Ideal.Read.val_main_v0 (F := Ideal) X W = fun i => pr X W (i 0).val (i 1).val := by
  funext i
  rw [Cert.Reference20Ideal.Read.val_main_v0_apply]
  exact Finset.sum_congr rfl fun k _ => congr (congrArg HMul.hMul (at2_eq X _ rfl rfl)) (at2_eq W _ rfl rfl)

end Sb.LatProd
-- ==== Proof.GLat.lean ====
/- The gradient of the latents' projection: the kernel's array, entry by entry, and the reference's. -/
module

public import proofs.«01_k».proof.Proof.AtNat
public import proofs.«01_k».proof.Proof.Gen.Kernel21Ideal.Value
public import proofs.«01_k».proof.Proof.Gen.Reference21Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.GLat

open Idealize.ShloMosaic Idealize.ShloMosaic.TcCoe Cert.Kernel21Ideal Cert.Kernel21Ideal.Gen
open scoped BigOperators

variable (m : (ℓ : Loc nD τ sig) → Buf (Elt Idealize.ShloMosaic.Ideal) ℓ) (c : Dev nD)

/-- The first argument. -/
def x : S4096x512.Idx → EReal := m ((c.tc : Thread nD τ).loc main_arg0)

/-- The second argument: the gradient that comes in. -/
def dy : S4096x2048.Idx → EReal := m ((c.tc : Thread nD τ).loc main_arg1)

/-- What the launch finds in the first operand: the cast argument, which is the argument. -/
theorem V0 : (V m c main_v0 : S4096x512.Idx → EReal) = x m c := by
  unfold V
  simp only [hostOps0, List.flatten_cons, List.flatten_nil, List.append_nil, List.cons_append, List.nil_append]
  after_reads_simp
  rfl

/-- What the launch finds in the second operand. -/
theorem V1 : (V m c main_v1 : S4096x2048.Idx → EReal) = dy m c := by
  unfold V
  simp only [hostOps0, List.flatten_cons, List.flatten_nil, List.append_nil, List.cons_append, List.nil_append]
  after_reads_simp
  rfl

theorem idx0 : ∀ t : Fin cfg0.N, win0_0.index t = ![t.val % 2, 0] :=
  (by decide +kernel : ∀ t : Fin grid0.N, _)
theorem idx1 : ∀ t : Fin cfg0.N, win0_1.index t = ![t.val % 2, t.val / 2] :=
  (by decide +kernel : ∀ t : Fin grid0.N, _)
theorem idx2 : ∀ t : Fin cfg0.N, win0_2.index t = ![0, t.val / 2] :=
  (by decide +kernel : ∀ t : Fin grid0.N, _)

theorem point_lt (t : Fin cfg0.N) : t.val < 4 := lt_of_lt_of_eq t.isLt (show cfg0.N = 4 from N_0)

/-- The first operand's block at a point. -/
def blkA (u : Fin cfg0.N) : S2048x512.Idx → EReal := iblk m c 0 u

/-- The second operand's block at a point. -/
def blkB (u : Fin cfg0.N) : S2048x1024.Idx → EReal := iblk m c 1 u

theorem blkA_val (u : Fin cfg0.N) (k : Fin 2048) (a : Fin 512) :
    blkA m c u (ix2 k a) = at2 (x m c) (u.val % 2 * 2048 + k.val) a.val := by
  have hu := point_lt u
  have e : blkA m c u (ix2 k a) = V m c main_v0 (ix2 ⟨u.val % 2 * 2048 + k.val, by omega⟩ a) := by
    unfold blkA
    blk_ext [iblk, idx0 u]
  exact e.trans ((congrFun (V0 m c) _).trans (at2_ix (x m c) _ _ rfl rfl))

theorem blkB_val (u : Fin cfg0.N) (k : Fin 2048) (l : Fin 1024) :
    blkB m c u (ix2 k l) = at2 (dy m c) (u.val % 2 * 2048 + k.val) (u.val / 2 * 1024 + l.val) := by
  have hu := point_lt u
  have e : blkB m c u (ix2 k l) = V m c main_v1 (ix2 ⟨u.val % 2 * 2048 + k.val, by omega⟩ ⟨u.val / 2 * 1024 + l.val, by omega⟩) := by
    unfold blkB
    blk_ext [iblk, idx1 u]
  exact e.trans ((congrFun (V1 m c) _).trans (at2_ix (dy m c) _ _ rfl rfl))

/-- An even point leaves its blocks' product in the scratch. -/
theorem scratch_even (i : grid0.Coords) (a3 : Memref sig .tc .vmem S2048x512 .bf16) (w3 : a3.IsWhole) (a4 : Memref sig .tc .vmem S2048x1024 .bf16) (w4 : a4.IsWhole)
    (a5 : Memref sig .tc .vmem S512x1024 .bf16) (w5 : a5.IsWhole) (a6 : Memref sig .tc .vmem S512x1024 .f32) (w6 : a6.IsWhole)
    (h0 : cond0_0 i) (h1 : ¬cond0_1 i) (h2 : ¬cond0_2 i)
    (A : S2048x512.Idx → EReal) (B : S2048x1024.Idx → EReal) (a : Fin 512) (l : Fin 1024) :
    (sout0_A_0 (F := Ideal) c i a3 w3 a4 w4 a5 w5 a6 w6 h0 h1 h2 A B : S512x1024.Idx → EReal) (ix2 a l)
      = ∑ k : Fin 2048, A (ix2 k a) * B (ix2 k l) := by
  frame_out [sout0_A_0]
  pointwise [k0_pay2, k0_pay1]

/-- An odd point writes back the scratch with its blocks' product added. -/
theorem out_odd (i : grid0.Coords) (a3 : Memref sig .tc .vmem S2048x512 .bf16) (w3 : a3.IsWhole) (a4 : Memref sig .tc .vmem S2048x1024 .bf16) (w4 : a4.IsWhole)
    (a5 : Memref sig .tc .vmem S512x1024 .bf16) (w5 : a5.IsWhole) (a6 : Memref sig .tc .vmem S512x1024 .f32) (w6 : a6.IsWhole)
    (h0 : ¬cond0_0 i) (h1 : cond0_1 i) (h2 : cond0_2 i)
    (A : S2048x512.Idx → EReal) (B : S2048x1024.Idx → EReal) (C : S512x1024.Idx → EReal) (a : Fin 512) (l : Fin 1024) :
    (out0_B_2 (F := Ideal) c i a3 w3 a4 w4 a5 w5 a6 w6 h0 h1 h2 A B C : S512x1024.Idx → EReal) (ix2 a l)
      = C (ix2 a l) + ∑ k : Fin 2048, A (ix2 k a) * B (ix2 k l) := by
  frame_out [out0_B_2]
  pointwise [k0_pay4, k0_pay3, k0_pay1]

/-- One term of the product's entry at row `r` and column `j` of the incoming gradient. -/
def term (X : S4096x512.Idx → EReal) (D : S4096x2048.Idx → EReal) (r j k : ℕ) : EReal := at2 X k r * at2 D k j

/-- The product with the first factor turned, at row `r` and column `j`. -/
def pr (X : S4096x512.Idx → EReal) (D : S4096x2048.Idx → EReal) (r j : ℕ) : EReal := ∑ k : Fin 4096, term X D r j k.val

/-- The product as a sum over both halves of the rows. -/
theorem pr_halves (X : S4096x512.Idx → EReal) (D : S4096x2048.Idx → EReal) (r j : ℕ) :
    pr X D r j = ∑ k : Fin 2048, term X D r j k.val + ∑ k : Fin 2048, term X D r j (2048 + k.val) := sum_cut 2048 2048 (term X D r j)

/-- A point's product of its blocks. -/
theorem dot_val (t : Fin cfg0.N) (a : Fin 512) (l : Fin 1024) :
    ∑ k : Fin 2048, blkA m c t (ix2 k a) * blkB m c t (ix2 k l)
      = ∑ k : Fin 2048, term (x m c) (dy m c) a.val (t.val / 2 * 1024 + l.val) (t.val % 2 * 2048 + k.val) :=
  Finset.sum_congr rfl fun k _ => congr (congrArg HMul.hMul (blkA_val m c t k a)) (blkB_val m c t k l)

/-- What an even point's run leaves in the scratch. -/
theorem even_dot (t : Fin cfg0.N) (ht : t.val % 2 = 0) (n1 : ¬t.val % 2 = 1) (a : Fin 512) (l : Fin 1024) :
    (sout0_A_0 (F := Ideal) c (grid0.coords t) (ms0_0 t) (hs0_0 t) (ms0_1 t) (hs0_1 t) (ms0_2 t) (hs0_2 t) scM0_0 (Memref.isWhole_whole _)
      ((hcond0_0 t).mpr ht) (fun h => n1 ((hcond0_1 t).mp h)) (fun h => n1 ((hcond0_2 t).mp h)) (blkA m c t) (blkB m c t) : S512x1024.Idx → EReal) (ix2 a l)
      = ∑ k : Fin 2048, term (x m c) (dy m c) a.val (t.val / 2 * 1024 + l.val) (t.val % 2 * 2048 + k.val) := by
  rw [scratch_even]
  exact dot_val m c t a l

theorem even_fn (t : Fin cfg0.N) (ht : t.val % 2 = 0) (n1 : ¬t.val % 2 = 1) :
    (outsAt0 m c t.val t.isLt).2 = sout0_A_0 (F := Ideal) c (grid0.coords t) (ms0_0 t) (hs0_0 t) (ms0_1 t) (hs0_1 t) (ms0_2 t) (hs0_2 t) scM0_0
      (Memref.isWhole_whole _) ((hcond0_0 t).mpr ht) (fun h => n1 ((hcond0_1 t).mp h)) (fun h => n1 ((hcond0_2 t).mp h))
      (iblk m c 0 t) (iblk m c 1 t) := by
  rw [outsAt0_A m c t ht n1 n1]

/-- The scratch after an even point. -/
theorem even_val (t : Fin cfg0.N) (ht : t.val % 2 = 0) (a : Fin 512) (l : Fin 1024) :
    ((outsAt0 m c t.val t.isLt).2 : S512x1024.Idx → EReal) (ix2 a l)
      = ∑ k : Fin 2048, term (x m c) (dy m c) a.val (t.val / 2 * 1024 + l.val) (t.val % 2 * 2048 + k.val) := by
  have n1 : ¬t.val % 2 = 1 := by omega
  rw [even_fn m c t ht n1]
  exact even_dot m c t ht n1 a l

/-- What an odd point's run leaves in the output block, over what the scratch held. -/
theorem odd_dot (t : Fin cfg0.N) (n0 : ¬t.val % 2 = 0) (ht : t.val % 2 = 1) (C : S512x1024.Idx → EReal) (a : Fin 512) (l : Fin 1024) :
    (out0_B_2 (F := Ideal) c (grid0.coords t) (ms0_0 t) (hs0_0 t) (ms0_1 t) (hs0_1 t) (ms0_2 t) (hs0_2 t) scM0_0 (Memref.isWhole_whole _)
      (fun h => n0 ((hcond0_0 t).mp h)) ((hcond0_1 t).mpr ht) ((hcond0_2 t).mpr ht) (blkA m c t) (blkB m c t) C : S512x1024.Idx → EReal) (ix2 a l)
      = C (ix2 a l) + ∑ k : Fin 2048, term (x m c) (dy m c) a.val (t.val / 2 * 1024 + l.val) (t.val % 2 * 2048 + k.val) := by
  rw [out_odd, dot_val]

theorem odd_fn (t : Fin cfg0.N) (n0 : ¬t.val % 2 = 0) (ht : t.val % 2 = 1) :
    (outsAt0 m c t.val t.isLt).1 = out0_B_2 (F := Ideal) c (grid0.coords t) (ms0_0 t) (hs0_0 t) (ms0_1 t) (hs0_1 t) (ms0_2 t) (hs0_2 t) scM0_0
      (Memref.isWhole_whole _) (fun h => n0 ((hcond0_0 t).mp h)) ((hcond0_1 t).mpr ht) ((hcond0_2 t).mpr ht)
      (iblk m c 0 t) (iblk m c 1 t) (outsAt0 m c (t.val - 1) (Nat.lt_of_le_of_lt (Nat.sub_le _ _) t.isLt)).2 := by
  rw [outsAt0_B m c t n0 ht ht]

/-- The output block after an odd point. -/
theorem odd_val (t : Fin cfg0.N) (ht : t.val % 2 = 1) (a : Fin 512) (l : Fin 1024) :
    ((outsAt0 m c t.val t.isLt).1 : S512x1024.Idx → EReal) (ix2 a l)
      = ((outsAt0 m c (t.val - 1) (Nat.lt_of_le_of_lt (Nat.sub_le _ _) t.isLt)).2 : S512x1024.Idx → EReal) (ix2 a l)
        + ∑ k : Fin 2048, term (x m c) (dy m c) a.val (t.val / 2 * 1024 + l.val) (t.val % 2 * 2048 + k.val) := by
  have n0 : ¬t.val % 2 = 0 := by omega
  rw [odd_fn m c t n0 ht]
  exact odd_dot m c t n0 ht _ a l

/-- A pair of points writes back a block of the product. -/
theorem pair_val (t : Fin cfg0.N) (ht : t.val % 2 = 1) (a : Fin 512) (l : Fin 1024) :
    ((outsAt0 m c t.val t.isLt).1 : S512x1024.Idx → EReal) (ix2 a l)
      = pr (x m c) (dy m c) a.val (t.val / 2 * 1024 + l.val) := by
  have hp : t.val - 1 < cfg0.N := Nat.lt_of_le_of_lt (Nat.sub_le _ _) t.isLt
  have h2 : (t.val - 1) % 2 = 0 := by omega
  have e := even_val m c ⟨t.val - 1, hp⟩ h2 a l
  have d2 : (t.val - 1) / 2 = t.val / 2 := by omega
  simp only [d2, h2, Nat.zero_mul, Nat.zero_add] at e
  rw [odd_val m c t ht, e, pr_halves, ht, Nat.one_mul]

/-- The array after the run is the product. -/
theorem final2 : (dats m 0 c).arrAt 2 cfg0.N = fun i : S512x2048.Idx => pr (x m c) (dy m c) (i 0).val (i 1).val := by
  refine (dats m 0 c).arrAt_eq_of_covers 2 _ (by decide +kernel) fun t hf y => ?_
  have ht := (flush0_2 t).mp hf
  blk_simp [idx2 t]
  rw [after0_2]
  have e := pair_val m c t ht ((y : S512x1024.Idx) 0) ((y : S512x1024.Idx) 1)
  rw [← eq_ix2 (y : S512x1024.Idx)] at e
  exact e

section
open Cert.Reference21Ideal.Read

/-- The reference's array is the same product. -/
theorem ref_prod (X : S4096x512.Idx → EReal) (D : S4096x2048.Idx → EReal) :
    val_main_v4 (F := Ideal) X D = fun i => pr X D (i 0).val (i 1).val := by
  funext i
  rw [val_main_v4_apply]
  show val_main_v3 (F := Ideal) X D i = _
  rw [val_main_v3_apply, val_main_v2_apply]
  refine Finset.sum_congr rfl fun k _ => ?_
  rw [mul_comm]
  exact congr (congrArg HMul.hMul (at2_eq X _ rfl rfl)) (at2_eq D _ rfl rfl)

end

end Sb.GLat
-- ==== Proof.DLat.lean ====
/- The gradient of the latents: the kernel's array, entry by entry, and the reference's. -/
module

public import proofs.«01_k».proof.Proof.AtNat
public import proofs.«01_k».proof.Proof.Gen.Kernel22Ideal.Value
public import proofs.«01_k».proof.Proof.Gen.Reference22Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.DLat

open Idealize.ShloMosaic Idealize.ShloMosaic.TcCoe Cert.Kernel22Ideal Cert.Kernel22Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the weight. -/
def w : S512x2048.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- What the launch finds in the second operand. -/
theorem V1 : (V m c main_v1 : S512x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

theorem point_lt (t : Fin cfg0.N) : t.val < 4 := lt_of_lt_of_eq t.isLt (show cfg0.N = 4 from N_0)

/-- The first operand's block at a point. -/
theorem blkA_val (u : Fin cfg0.N) (a : Fin 1024) (k : Fin 2048) :
    (iblk m c 0 u : S1024x2048.Idx → EReal) (ix2 a k) = at2 (x m c) (u.val * 1024 + a.val) k.val := by
  have hu := point_lt u
  have e : (iblk m c 0 u : S1024x2048.Idx → EReal) (ix2 a k) = V m c main_v0 (ix2 ⟨u.val * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (l : Fin 512) (k : Fin 2048) :
    (iblk m c 1 u : S512x2048.Idx → EReal) (ix2 l k) = at2 (w m c) l.val k.val := by
  have e : (iblk m c 1 u : S512x2048.Idx → EReal) (ix2 l k) = V m c main_v1 (ix2 l k) := by
    blk_ext [iblk, idx1 u]
  exact e.trans ((congrFun (V1 m c) _).trans (at2_ix (w m c) _ _ rfl rfl))

/-- A point writes back its blocks' product. -/
theorem is_out (A : S1024x2048.Idx → EReal) (B : S512x2048.Idx → EReal) (a : Fin 1024) (l : Fin 512) :
    (out0_2 (F := Ideal) A B : S1024x512.Idx → EReal) (ix2 a l) = ∑ k : Fin 2048, A (ix2 a k) * B (ix2 l k) := by
  frame_out [out0_2]
  pointwise [k0_pay1]

/-- An entry of the product, the second factor turned. -/
def pr (X : S4096x2048.Idx → EReal) (W : S512x2048.Idx → EReal) (r j : ℕ) : EReal := ∑ k : Fin 2048, at2 X r k.val * at2 W j k.val

/-- A point's block is a block of the product. -/
theorem point_val (t : Fin cfg0.N) (a : Fin 1024) (l : Fin 512) :
    (out0_2 (F := Ideal) (iblk m c 0 t) (iblk m c 1 t) : S1024x512.Idx → EReal) (ix2 a l)
      = pr (x m c) (w m c) (t.val * 1024 + a.val) l.val :=
  (is_out (iblk m c 0 t) (iblk m c 1 t) a l).trans (Finset.sum_congr rfl fun k _ =>
    congr (congrArg HMul.hMul (blkA_val m c t a k)) (blkB_val m c t l k))

/-- The array after the run is the product. -/
theorem final2 : (dats m 0 c).arrAt 2 cfg0.N = fun i : S4096x512.Idx => pr (x m c) (w m c) (i 0).val (i 1).val := by
  refine (dats m 0 c).arrAt_eq_of_covers 2 _ (by decide +kernel) fun t hf y => ?_
  blk_simp [idx2 t]
  rw [after0_2]
  have e := point_val m c t ((y : S1024x512.Idx) 0) ((y : S1024x512.Idx) 1)
  rw [← eq_ix2 (y : S1024x512.Idx)] at e
  exact e

/-- The reference's array is the same product. -/
theorem ref_prod (X : S4096x2048.Idx → EReal) (W : S512x2048.Idx → EReal) :
    Cert.Reference22Ideal.Read.val_main_v2 (F := Ideal) X W = fun i => pr X W (i 0).val (i 1).val := by
  funext i
  rw [Cert.Reference22Ideal.Read.val_main_v2_apply]
  exact Finset.sum_congr rfl fun k _ => congr (congrArg HMul.hMul (at2_eq X _ rfl rfl)) (at2_eq W _ rfl rfl)

end Sb.DLat
-- ==== Proof.QProd.lean ====
/- The queries' latents times their projection: the kernel's array, entry by entry, and the reference's. -/
module

public import proofs.«01_k».proof.Proof.AtNat
public import proofs.«01_k».proof.Proof.Gen.Kernel23Ideal.Value
public import proofs.«01_k».proof.Proof.Gen.Reference23Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.QProd

open Idealize.ShloMosaic Idealize.ShloMosaic.TcCoe Cert.Kernel23Ideal Cert.Kernel23Ideal.Gen
open scoped BigOperators

variable (m : (ℓ : Loc nD τ sig) → Buf (Elt Idealize.ShloMosaic.Ideal) ℓ) (c : Dev nD)

/-- The first argument. -/
def x : S4096x512.Idx → EReal := m ((c.tc : Thread nD τ).loc main_arg0)

/-- The second argument: the weight. -/
def w : S512x2048.Idx → EReal := m ((c.tc : Thread nD τ).loc main_arg1)

/-- What the launch finds in the first operand: the cast argument, which is the argument. -/
theorem V0 : (V m c main_v0 : S4096x512.Idx → EReal) = x m c := by
  unfold V
  simp only [hostOps0, List.flatten_cons, List.flatten_nil, List.append_nil, List.cons_append, List.nil_append]
  after_reads_simp
  rfl

/-- What the launch finds in the second operand. -/
theorem V1 : (V m c main_v1 : S512x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val / 2, 0] :=
  (by decide +kernel : ∀ t : Fin grid0.N, _)
theorem idx1 : ∀ t : Fin cfg0.N, win0_1.index t = ![0, t.val % 2] :=
  (by decide +kernel : ∀ t : Fin grid0.N, _)
theorem idx2 : ∀ t : Fin cfg0.N, win0_2.index t = ![t.val / 2, t.val % 2] :=
  (by decide +kernel : ∀ t : Fin grid0.N, _)

theorem point_lt (t : Fin cfg0.N) : t.val < 8 := lt_of_lt_of_eq t.isLt (show cfg0.N = 8 from N_0)

/-- The first operand's block at a point. -/
theorem blkA_val (u : Fin cfg0.N) (a : Fin 1024) (k : Fin 512) :
    (iblk m c 0 u : S1024x512.Idx → EReal) (ix2 a k) = at2 (x m c) (u.val / 2 * 1024 + a.val) k.val := by
  have hu := point_lt u
  have e : (iblk m c 0 u : S1024x512.Idx → EReal) (ix2 a k) = V m c main_v0 (ix2 ⟨u.val / 2 * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (k : Fin 512) (l : Fin 1024) :
    (iblk m c 1 u : S512x1024.Idx → EReal) (ix2 k l) = at2 (w m c) k.val (u.val % 2 * 1024 + l.val) := by
  have e : (iblk m c 1 u : S512x1024.Idx → EReal) (ix2 k l) = V m c main_v1 (ix2 k ⟨u.val % 2 * 1024 + l.val, by omega⟩) := by
    blk_ext [iblk, idx1 u]
  exact e.trans ((congrFun (V1 m c) _).trans (at2_ix (w m c) _ _ rfl rfl))

/-- A point writes back its blocks' product. -/
theorem is_out (A : S1024x512.Idx → EReal) (B : S512x1024.Idx → EReal) (a l : Fin 1024) :
    (out0_2 (F := Ideal) A B : S1024x1024.Idx → EReal) (ix2 a l) = ∑ k : Fin 512, A (ix2 a k) * B (ix2 k l) := by
  frame_out [out0_2]
  pointwise [k0_pay1]

/-- An entry of the product. -/
def pr (X : S4096x512.Idx → EReal) (W : S512x2048.Idx → EReal) (r j : ℕ) : EReal := ∑ k : Fin 512, at2 X r k.val * at2 W k.val j

/-- A point's block is a block of the product. -/
theorem point_val (t : Fin cfg0.N) (a l : Fin 1024) :
    (out0_2 (F := Ideal) (iblk m c 0 t) (iblk m c 1 t) : S1024x1024.Idx → EReal) (ix2 a l)
      = pr (x m c) (w m c) (t.val / 2 * 1024 + a.val) (t.val % 2 * 1024 + l.val) :=
  (is_out (iblk m c 0 t) (iblk m c 1 t) a l).trans (Finset.sum_congr rfl fun k _ =>
    congr (congrArg HMul.hMul (blkA_val m c t a k)) (blkB_val m c t k l))

/-- The array after the run is the product. -/
theorem final2 : (dats m 0 c).arrAt 2 cfg0.N = fun i : S4096x2048.Idx => pr (x m c) (w m c) (i 0).val (i 1).val := by
  refine (dats m 0 c).arrAt_eq_of_covers 2 _ (by decide +kernel) fun t hf y => ?_
  blk_simp [idx2 t]
  rw [after0_2]
  have e := point_val m c t ((y : S1024x1024.Idx) 0) ((y : S1024x1024.Idx) 1)
  rw [← eq_ix2 (y : S1024x1024.Idx)] at e
  exact e

/-- The reference's array is the same product. -/
theorem ref_prod (X : S4096x512.Idx → EReal) (W : S512x2048.Idx → EReal) :
    Cert.Reference23Ideal.Read.val_main_v0 (F := Ideal) X W = fun i => pr X W (i 0).val (i 1).val := by
  funext i
  rw [Cert.Reference23Ideal.Read.val_main_v0_apply]
  exact Finset.sum_congr rfl fun k _ => congr (congrArg HMul.hMul (at2_eq X _ rfl rfl)) (at2_eq W _ rfl rfl)

end Sb.QProd
-- ==== Proof.GQ.lean ====
/- The gradient of the queries' latents' projection: the kernel's array, entry by entry, and the reference's. -/
module

public import proofs.«01_k».proof.Proof.AtNat
public import proofs.«01_k».proof.Proof.Gen.Kernel24Ideal.Value
public import proofs.«01_k».proof.Proof.Gen.Reference24Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.GQ

open Idealize.ShloMosaic Idealize.ShloMosaic.TcCoe Cert.Kernel24Ideal Cert.Kernel24Ideal.Gen
open scoped BigOperators

variable (m : (ℓ : Loc nD τ sig) → Buf (Elt Idealize.ShloMosaic.Ideal) ℓ) (c : Dev nD)

/-- The first argument. -/
def x : S4096x512.Idx → EReal := m ((c.tc : Thread nD τ).loc main_arg0)

/-- The second argument: the gradient that comes in. -/
def dy : S4096x2048.Idx → EReal := m ((c.tc : Thread nD τ).loc main_arg1)

/-- What the launch finds in the first operand: the cast argument, which is the argument. -/
theorem V0 : (V m c main_v0 : S4096x512.Idx → EReal) = x m c := by
  unfold V
  simp only [hostOps0, List.flatten_cons, List.flatten_nil, List.append_nil, List.cons_append, List.nil_append]
  after_reads_simp
  rfl

/-- What the launch finds in the second operand. -/
theorem V1 : (V m c main_v1 : S4096x2048.Idx → EReal) = dy m c := by
  unfold V
  simp only [hostOps0, List.flatten_cons, List.flatten_nil, List.append_nil, List.cons_append, List.nil_append]
  after_reads_simp
  rfl

theorem idx0 : ∀ t : Fin cfg0.N, win0_0.index t = ![t.val % 2, 0] :=
  (by decide +kernel : ∀ t : Fin grid0.N, _)
theorem idx1 : ∀ t : Fin cfg0.N, win0_1.index t = ![t.val % 2, t.val / 2] :=
  (by decide +kernel : ∀ t : Fin grid0.N, _)
theorem idx2 : ∀ t : Fin cfg0.N, win0_2.index t = ![0, t.val / 2] :=
  (by decide +kernel : ∀ t : Fin grid0.N, _)

theorem point_lt (t : Fin cfg0.N) : t.val < 4 := lt_of_lt_of_eq t.isLt (show cfg0.N = 4 from N_0)

/-- The first operand's block at a point. -/
def blkA (u : Fin cfg0.N) : S2048x512.Idx → EReal := iblk m c 0 u

/-- The second operand's block at a point. -/
def blkB (u : Fin cfg0.N) : S2048x1024.Idx → EReal := iblk m c 1 u

theorem blkA_val (u : Fin cfg0.N) (k : Fin 2048) (a : Fin 512) :
    blkA m c u (ix2 k a) = at2 (x m c) (u.val % 2 * 2048 + k.val) a.val := by
  have hu := point_lt u
  have e : blkA m c u (ix2 k a) = V m c main_v0 (ix2 ⟨u.val % 2 * 2048 + k.val, by omega⟩ a) := by
    unfold blkA
    blk_ext [iblk, idx0 u]
  exact e.trans ((congrFun (V0 m c) _).trans (at2_ix (x m c) _ _ rfl rfl))

theorem blkB_val (u : Fin cfg0.N) (k : Fin 2048) (l : Fin 1024) :
    blkB m c u (ix2 k l) = at2 (dy m c) (u.val % 2 * 2048 + k.val) (u.val / 2 * 1024 + l.val) := by
  have hu := point_lt u
  have e : blkB m c u (ix2 k l) = V m c main_v1 (ix2 ⟨u.val % 2 * 2048 + k.val, by omega⟩ ⟨u.val / 2 * 1024 + l.val, by omega⟩) := by
    unfold blkB
    blk_ext [iblk, idx1 u]
  exact e.trans ((congrFun (V1 m c) _).trans (at2_ix (dy m c) _ _ rfl rfl))

/-- An even point leaves its blocks' product in the scratch. -/
theorem scratch_even (i : grid0.Coords) (a3 : Memref sig .tc .vmem S2048x512 .bf16) (w3 : a3.IsWhole) (a4 : Memref sig .tc .vmem S2048x1024 .bf16) (w4 : a4.IsWhole)
    (a5 : Memref sig .tc .vmem S512x1024 .bf16) (w5 : a5.IsWhole) (a6 : Memref sig .tc .vmem S512x1024 .f32) (w6 : a6.IsWhole)
    (h0 : cond0_0 i) (h1 : ¬cond0_1 i) (h2 : ¬cond0_2 i)
    (A : S2048x512.Idx → EReal) (B : S2048x1024.Idx → EReal) (a : Fin 512) (l : Fin 1024) :
    (sout0_A_0 (F := Ideal) c i a3 w3 a4 w4 a5 w5 a6 w6 h0 h1 h2 A B : S512x1024.Idx → EReal) (ix2 a l)
      = ∑ k : Fin 2048, A (ix2 k a) * B (ix2 k l) := by
  frame_out [sout0_A_0]
  pointwise [k0_pay2, k0_pay1]

/-- An odd point writes back the scratch with its blocks' product added. -/
theorem out_odd (i : grid0.Coords) (a3 : Memref sig .tc .vmem S2048x512 .bf16) (w3 : a3.IsWhole) (a4 : Memref sig .tc .vmem S2048x1024 .bf16) (w4 : a4.IsWhole)
    (a5 : Memref sig .tc .vmem S512x1024 .bf16) (w5 : a5.IsWhole) (a6 : Memref sig .tc .vmem S512x1024 .f32) (w6 : a6.IsWhole)
    (h0 : ¬cond0_0 i) (h1 : cond0_1 i) (h2 : cond0_2 i)
    (A : S2048x512.Idx → EReal) (B : S2048x1024.Idx → EReal) (C : S512x1024.Idx → EReal) (a : Fin 512) (l : Fin 1024) :
    (out0_B_2 (F := Ideal) c i a3 w3 a4 w4 a5 w5 a6 w6 h0 h1 h2 A B C : S512x1024.Idx → EReal) (ix2 a l)
      = C (ix2 a l) + ∑ k : Fin 2048, A (ix2 k a) * B (ix2 k l) := by
  frame_out [out0_B_2]
  pointwise [k0_pay4, k0_pay3, k0_pay1]

/-- One term of the product's entry at row `r` and column `j` of the incoming gradient. -/
def term (X : S4096x512.Idx → EReal) (D : S4096x2048.Idx → EReal) (r j k : ℕ) : EReal := at2 X k r * at2 D k j

/-- The product with the first factor turned, at row `r` and column `j`. -/
def pr (X : S4096x512.Idx → EReal) (D : S4096x2048.Idx → EReal) (r j : ℕ) : EReal := ∑ k : Fin 4096, term X D r j k.val

/-- The product as a sum over both halves of the rows. -/
theorem pr_halves (X : S4096x512.Idx → EReal) (D : S4096x2048.Idx → EReal) (r j : ℕ) :
    pr X D r j = ∑ k : Fin 2048, term X D r j k.val + ∑ k : Fin 2048, term X D r j (2048 + k.val) := sum_cut 2048 2048 (term X D r j)

/-- A point's product of its blocks. -/
theorem dot_val (t : Fin cfg0.N) (a : Fin 512) (l : Fin 1024) :
    ∑ k : Fin 2048, blkA m c t (ix2 k a) * blkB m c t (ix2 k l)
      = ∑ k : Fin 2048, term (x m c) (dy m c) a.val (t.val / 2 * 1024 + l.val) (t.val % 2 * 2048 + k.val) :=
  Finset.sum_congr rfl fun k _ => congr (congrArg HMul.hMul (blkA_val m c t k a)) (blkB_val m c t k l)

/-- What an even point's run leaves in the scratch. -/
theorem even_dot (t : Fin cfg0.N) (ht : t.val % 2 = 0) (n1 : ¬t.val % 2 = 1) (a : Fin 512) (l : Fin 1024) :
    (sout0_A_0 (F := Ideal) c (grid0.coords t) (ms0_0 t) (hs0_0 t) (ms0_1 t) (hs0_1 t) (ms0_2 t) (hs0_2 t) scM0_0 (Memref.isWhole_whole _)
      ((hcond0_0 t).mpr ht) (fun h => n1 ((hcond0_1 t).mp h)) (fun h => n1 ((hcond0_2 t).mp h)) (blkA m c t) (blkB m c t) : S512x1024.Idx → EReal) (ix2 a l)
      = ∑ k : Fin 2048, term (x m c) (dy m c) a.val (t.val / 2 * 1024 + l.val) (t.val % 2 * 2048 + k.val) := by
  rw [scratch_even]
  exact dot_val m c t a l

theorem even_fn (t : Fin cfg0.N) (ht : t.val % 2 = 0) (n1 : ¬t.val % 2 = 1) :
    (outsAt0 m c t.val t.isLt).2 = sout0_A_0 (F := Ideal) c (grid0.coords t) (ms0_0 t) (hs0_0 t) (ms0_1 t) (hs0_1 t) (ms0_2 t) (hs0_2 t) scM0_0
      (Memref.isWhole_whole _) ((hcond0_0 t).mpr ht) (fun h => n1 ((hcond0_1 t).mp h)) (fun h => n1 ((hcond0_2 t).mp h))
      (iblk m c 0 t) (iblk m c 1 t) := by
  rw [outsAt0_A m c t ht n1 n1]

/-- The scratch after an even point. -/
theorem even_val (t : Fin cfg0.N) (ht : t.val % 2 = 0) (a : Fin 512) (l : Fin 1024) :
    ((outsAt0 m c t.val t.isLt).2 : S512x1024.Idx → EReal) (ix2 a l)
      = ∑ k : Fin 2048, term (x m c) (dy m c) a.val (t.val / 2 * 1024 + l.val) (t.val % 2 * 2048 + k.val) := by
  have n1 : ¬t.val % 2 = 1 := by omega
  rw [even_fn m c t ht n1]
  exact even_dot m c t ht n1 a l

/-- What an odd point's run leaves in the output block, over what the scratch held. -/
theorem odd_dot (t : Fin cfg0.N) (n0 : ¬t.val % 2 = 0) (ht : t.val % 2 = 1) (C : S512x1024.Idx → EReal) (a : Fin 512) (l : Fin 1024) :
    (out0_B_2 (F := Ideal) c (grid0.coords t) (ms0_0 t) (hs0_0 t) (ms0_1 t) (hs0_1 t) (ms0_2 t) (hs0_2 t) scM0_0 (Memref.isWhole_whole _)
      (fun h => n0 ((hcond0_0 t).mp h)) ((hcond0_1 t).mpr ht) ((hcond0_2 t).mpr ht) (blkA m c t) (blkB m c t) C : S512x1024.Idx → EReal) (ix2 a l)
      = C (ix2 a l) + ∑ k : Fin 2048, term (x m c) (dy m c) a.val (t.val / 2 * 1024 + l.val) (t.val % 2 * 2048 + k.val) := by
  rw [out_odd, dot_val]

theorem odd_fn (t : Fin cfg0.N) (n0 : ¬t.val % 2 = 0) (ht : t.val % 2 = 1) :
    (outsAt0 m c t.val t.isLt).1 = out0_B_2 (F := Ideal) c (grid0.coords t) (ms0_0 t) (hs0_0 t) (ms0_1 t) (hs0_1 t) (ms0_2 t) (hs0_2 t) scM0_0
      (Memref.isWhole_whole _) (fun h => n0 ((hcond0_0 t).mp h)) ((hcond0_1 t).mpr ht) ((hcond0_2 t).mpr ht)
      (iblk m c 0 t) (iblk m c 1 t) (outsAt0 m c (t.val - 1) (Nat.lt_of_le_of_lt (Nat.sub_le _ _) t.isLt)).2 := by
  rw [outsAt0_B m c t n0 ht ht]

/-- The output block after an odd point. -/
theorem odd_val (t : Fin cfg0.N) (ht : t.val % 2 = 1) (a : Fin 512) (l : Fin 1024) :
    ((outsAt0 m c t.val t.isLt).1 : S512x1024.Idx → EReal) (ix2 a l)
      = ((outsAt0 m c (t.val - 1) (Nat.lt_of_le_of_lt (Nat.sub_le _ _) t.isLt)).2 : S512x1024.Idx → EReal) (ix2 a l)
        + ∑ k : Fin 2048, term (x m c) (dy m c) a.val (t.val / 2 * 1024 + l.val) (t.val % 2 * 2048 + k.val) := by
  have n0 : ¬t.val % 2 = 0 := by omega
  rw [odd_fn m c t n0 ht]
  exact odd_dot m c t n0 ht _ a l

/-- A pair of points writes back a block of the product. -/
theorem pair_val (t : Fin cfg0.N) (ht : t.val % 2 = 1) (a : Fin 512) (l : Fin 1024) :
    ((outsAt0 m c t.val t.isLt).1 : S512x1024.Idx → EReal) (ix2 a l)
      = pr (x m c) (dy m c) a.val (t.val / 2 * 1024 + l.val) := by
  have hp : t.val - 1 < cfg0.N := Nat.lt_of_le_of_lt (Nat.sub_le _ _) t.isLt
  have h2 : (t.val - 1) % 2 = 0 := by omega
  have e := even_val m c ⟨t.val - 1, hp⟩ h2 a l
  have d2 : (t.val - 1) / 2 = t.val / 2 := by omega
  simp only [d2, h2, Nat.zero_mul, Nat.zero_add] at e
  rw [odd_val m c t ht, e, pr_halves, ht, Nat.one_mul]

/-- The array after the run is the product. -/
theorem final2 : (dats m 0 c).arrAt 2 cfg0.N = fun i : S512x2048.Idx => pr (x m c) (dy m c) (i 0).val (i 1).val := by
  refine (dats m 0 c).arrAt_eq_of_covers 2 _ (by decide +kernel) fun t hf y => ?_
  have ht := (flush0_2 t).mp hf
  blk_simp [idx2 t]
  rw [after0_2]
  have e := pair_val m c t ht ((y : S512x1024.Idx) 0) ((y : S512x1024.Idx) 1)
  rw [← eq_ix2 (y : S512x1024.Idx)] at e
  exact e

section
open Cert.Reference24Ideal.Read

/-- The reference's array is the same product. -/
theorem ref_prod (X : S4096x512.Idx → EReal) (D : S4096x2048.Idx → EReal) :
    val_main_v4 (F := Ideal) X D = fun i => pr X D (i 0).val (i 1).val := by
  funext i
  rw [val_main_v4_apply]
  show val_main_v3 (F := Ideal) X D i = _
  rw [val_main_v3_apply, val_main_v2_apply]
  refine Finset.sum_congr rfl fun k _ => ?_
  rw [mul_comm]
  exact congr (congrArg HMul.hMul (at2_eq X _ rfl rfl)) (at2_eq D _ rfl rfl)

end

end Sb.GQ
-- ==== Proof.DQ.lean ====
/- The gradient of the queries' latents: the kernel's array, entry by entry, and the reference's. -/
module

public import proofs.«01_k».proof.Proof.AtNat
public import proofs.«01_k».proof.Proof.Gen.Kernel25Ideal.Value
public import proofs.«01_k».proof.Proof.Gen.Reference25Ideal.Read
public import Idealize.ShloMosaic.Lib.Claim
public import Idealize.ShloMosaic.Lib.Pipeline.ValueKit
public import Idealize.ShloMosaic.Lib.Pointwise
public import Idealize.ShloMosaic.Lib.StableHlo.ReadAt
public import Idealize.ShloMosaic.Lib.IdealHost

@[expose] public section

set_option maxRecDepth 16384
set_option maxHeartbeats 400000

noncomputable section

namespace Sb.DQ

open Idealize.ShloMosaic Idealize.ShloMosaic.TcCoe Cert.Kernel25Ideal Cert.Kernel25Ideal.Gen
open scoped BigOperators

variable (m : (ℓ : Loc nD τ sig) → Buf (Elt Idealize.ShloMosaic.Ideal) ℓ) (c : Dev nD)

/-- The first argument. -/
def x : S4096x2048.Idx → EReal := m ((c.tc : Thread nD τ).loc main_arg0)

/-- The second argument: the weight. -/
def w : S512x2048.Idx → EReal := m ((c.tc : Thread nD τ).loc main_arg1)

/-- What the launch finds in the first operand: the cast argument, which is the argument. -/
theorem V0 : (V m c main_v0 : S4096x2048.Idx → EReal) = x m c := by
  unfold V
  simp only [hostOps0, List.flatten_cons, List.flatten_nil, List.append_nil, List.cons_append, List.nil_append]
  after_reads_simp
  rfl

/-- What the launch finds in the second operand. -/
theorem V1 : (V m c main_v1 : S512x2048.Idx → EReal) = w m c := by
  unfold V
  simp only [hostOps0, List.flatten_cons, List.flatten_nil, List.append_nil, List.cons_append, List.nil_append]
  after_reads_simp
  rfl

theorem idx0 : ∀ t : Fin cfg0.N, win0_0.index t = ![t.val, 0] :=
  (by decide +kernel : ∀ t : Fin grid0.N, _)
theorem idx1 : ∀ t : Fin cfg0.N, win0_1.index t = ![0, 0] :=
  (by decide +kernel : ∀ t : Fin grid0.N, _)
theorem idx2 : ∀ t : Fin cfg0.N, win0_2.index t = ![t.val, 0] :=
  (by decide +kernel : ∀ t : Fin grid0.N, _)

theorem point_lt (t : Fin cfg0.N) : t.val < 4 := lt_of_lt_of_eq t.isLt (show cfg0.N = 4 from N_0)

/-- The first operand's block at a point. -/
theorem blkA_val (u : Fin cfg0.N) (a : Fin 1024) (k : Fin 2048) :
    (iblk m c 0 u : S1024x2048.Idx → EReal) (ix2 a k) = at2 (x m c) (u.val * 1024 + a.val) k.val := by
  have hu := point_lt u
  have e : (iblk m c 0 u : S1024x2048.Idx → EReal) (ix2 a k) = V m c main_v0 (ix2 ⟨u.val * 1024 + a.val, by omega⟩ k) := by
    blk_ext [iblk, idx0 u]
  exact e.trans ((congrFun (V0 m c) _).trans (at2_ix (x m c) _ _ rfl rfl))

/-- The second operand's block at a point. -/
theorem blkB_val (u : Fin cfg0.N) (l : Fin 512) (k : Fin 2048) :
    (iblk m c 1 u : S512x2048.Idx → EReal) (ix2 l k) = at2 (w m c) l.val k.val := by
  have e : (iblk m c 1 u : S512x2048.Idx → EReal) (ix2 l k) = V m c main_v1 (ix2 l k) := by
    blk_ext [iblk, idx1 u]
  exact e.trans ((congrFun (V1 m c) _).trans (at2_ix (w m c) _ _ rfl rfl))

/-- A point writes back its blocks' product. -/
theorem is_out (A : S1024x2048.Idx → EReal) (B : S512x2048.Idx → EReal) (a : Fin 1024) (l : Fin 512) :
    (out0_2 (F := Ideal) A B : S1024x512.Idx → EReal) (ix2 a l) = ∑ k : Fin 2048, A (ix2 a k) * B (ix2 l k) := by
  frame_out [out0_2]
  pointwise [k0_pay1]

/-- An entry of the product, the second factor turned. -/
def pr (X : S4096x2048.Idx → EReal) (W : S512x2048.Idx → EReal) (r j : ℕ) : EReal := ∑ k : Fin 2048, at2 X r k.val * at2 W j k.val

/-- A point's block is a block of the product. -/
theorem point_val (t : Fin cfg0.N) (a : Fin 1024) (l : Fin 512) :
    (out0_2 (F := Ideal) (iblk m c 0 t) (iblk m c 1 t) : S1024x512.Idx → EReal) (ix2 a l)
      = pr (x m c) (w m c) (t.val * 1024 + a.val) l.val :=
  (is_out (iblk m c 0 t) (iblk m c 1 t) a l).trans (Finset.sum_congr rfl fun k _ =>
    congr (congrArg HMul.hMul (blkA_val m c t a k)) (blkB_val m c t l k))

/-- The array after the run is the product. -/
theorem final2 : (dats m 0 c).arrAt 2 cfg0.N = fun i : S4096x512.Idx => pr (x m c) (w m c) (i 0).val (i 1).val := by
  refine (dats m 0 c).arrAt_eq_of_covers 2 _ (by decide +kernel) fun t hf y => ?_
  blk_simp [idx2 t]
  rw [after0_2]
  have e := point_val m c t ((y : S1024x512.Idx) 0) ((y : S1024x512.Idx) 1)
  rw [← eq_ix2 (y : S1024x512.Idx)] at e
  exact e

/-- The reference's array is the same product. -/
theorem ref_prod (X : S4096x2048.Idx → EReal) (W : S512x2048.Idx → EReal) :
    Cert.Reference25Ideal.Read.val_main_v2 (F := Ideal) X W = fun i => pr X W (i 0).val (i 1).val := by
  funext i
  rw [Cert.Reference25Ideal.Read.val_main_v2_apply]
  exact Finset.sum_congr rfl fun k _ => congr (congrArg HMul.hMul (at2_eq X _ rfl rfl)) (at2_eq W _ rfl rfl)

end Sb.DQ
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Pre_finite2
public import proofs.«01_k».proof.Proof.Gen.Kernel2
public import proofs.«01_k».proof.Proof.Gen.Kernel2.Frame
public import proofs.«01_k».proof.Proof.Gen.Kernel3
public import proofs.«01_k».proof.Proof.Gen.Kernel3.Frame
public import proofs.«01_k».proof.Proof.Gen.Kernel4
public import proofs.«01_k».proof.Proof.Gen.Kernel4.Frame
public import proofs.«01_k».proof.Proof.Gen.Kernel5
public import proofs.«01_k».proof.Proof.Gen.Kernel5.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.HostTot
public import proofs.«01_k».proof.Proof.Final
public import proofs.«01_k».proof.Proof.Ref
public import proofs.«01_k».proof.Proof.Finite
public import proofs.«01_k».proof.Proof.Finite2
public import proofs.«01_k».proof.Proof.SwigluOut
public import proofs.«01_k».proof.Proof.SwigluRef
public import proofs.«01_k».proof.Proof.GFfnOut
public import proofs.«01_k».proof.Proof.FfnIn
public import proofs.«01_k».proof.Proof.FfnOut
public import proofs.«01_k».proof.Proof.GFfnIn
public import proofs.«01_k».proof.Proof.DH2
public import proofs.«01_k».proof.Proof.OutProd
public import proofs.«01_k».proof.Proof.GOut
public import proofs.«01_k».proof.Proof.DMerged
public import proofs.«01_k».proof.Proof.InProd
public import proofs.«01_k».proof.Proof.GIn
public import proofs.«01_k».proof.Proof.DH1
public import proofs.«01_k».proof.Proof.BranchProd
public import proofs.«01_k».proof.Proof.GBranch
public import proofs.«01_k».proof.Proof.DBranch
public import proofs.«01_k».proof.Proof.SbProd
public import proofs.«01_k».proof.Proof.GSb
public import proofs.«01_k».proof.Proof.DSb
public import proofs.«01_k».proof.Proof.LatProd
public import proofs.«01_k».proof.Proof.GLat
public import proofs.«01_k».proof.Proof.DLat
public import proofs.«01_k».proof.Proof.QProd
public import proofs.«01_k».proof.Proof.GQ
public import proofs.«01_k».proof.Proof.DQ
public import Idealize.ShloMosaic.Adequacy
public import Idealize.ShloMosaic.Init

@[expose] public section

noncomputable section

namespace Cert.Proof

open Idealize.ShloMosaic Idealize.SL.Sem

/-- What the launch is handed, over the reals. -/
theorem ops_at (m : (ℓ : Loc Cert.KernelIdeal.nD Cert.KernelIdeal.τ Cert.KernelIdeal.sig) → Buf (Elt Ideal) ℓ) (c : Dev Cert.KernelIdeal.nD)
    {X Y : ℕ → ℕ → ℝ} (hX : Sb.IsR (a := 4096) (b := 3072) (m (c.tc.loc Cert.KernelIdeal.main_arg0)) X)
    (hY : Sb.IsR (a := 4096) (b := 1024) (m (c.tc.loc Cert.KernelIdeal.main_arg1)) Y) : Sb.OpsAt m c X Y (Sb.tots X) where
  hx := fun i j => (congrFun (Sb.V17 m c) _).trans (hX i j)
  hy := fun i j => (congrFun (Cert.KernelIdeal.Gen.V_main_arg1 m c) _).trans (hY i j)
  ht := fun h t => Sb.V16 m c hX (fun _ _ => 0) (fun _ _ => 0) h t

theorem algebraic : Cert.algebraic_KernelIdeal_ReferenceIdeal := by
  intro m g m' g' hpre hargs
  have hf := fun c => Sb.finite_reals (hpre c)
  let X := fun c : Dev Cert.KernelIdeal.nD => Sb.reals (a := 4096) (b := 3072) (m (c.tc.loc Cert.KernelIdeal.main_arg0))
  let Y := fun c : Dev Cert.KernelIdeal.nD => Sb.reals (a := 4096) (b := 1024) (m (c.tc.loc Cert.KernelIdeal.main_arg1))
  refine ⟨fun c => fun i : Cert.KernelIdeal.S4096x1024.Idx => ((Sb.dqR (X c) (Y c) (Sb.tots (X c)) (i 0).val (i 1).val : ℝ) : EReal),
    fun c => fun i : Cert.KernelIdeal.S4096x1024.Idx => ((Sb.dkR (X c) (Y c) (Sb.tots (X c)) (i 0).val (i 1).val : ℝ) : EReal),
    fun c => fun i : Cert.KernelIdeal.S4096x1024.Idx => ((Sb.dvR (X c) (Y c) (Sb.tots (X c)) (i 0).val (i 1).val : ℝ) : EReal), ?_, ?_⟩
  · refine (θ_run _ _ _).mono (fun r h c => ?_) (Cert.KernelIdeal.Value.run_blocks m g)
    have ho := ops_at m c (hf c).1 (hf c).2
    obtain ⟨h0, h1, h2, h3, h4⟩ := h c
    exact ⟨h0.trans (Sb.final5 m c ho), h1.trans (Sb.final6 m c ho), h2.trans (Sb.final7 m c ho), h3, h4⟩
  · refine (θ_run _ _ _).mono (fun r h c => ?_) (Cert.ReferenceIdeal.Value.run m' g')
    obtain ⟨h0, h1, h2, h3, h4⟩ := h c
    have e := hargs c
    have hX : Sb.IsR (a := 4096) (b := 3072) (m' (c.tc.loc Cert.ReferenceIdeal.main_arg0)) (X c) := e.1 ▸ (hf c).1
    have hY : Sb.IsR (a := 4096) (b := 1024) (m' (c.tc.loc Cert.ReferenceIdeal.main_arg1)) (Y c) := e.2 ▸ (hf c).2
    refine ⟨h0.trans ((Cert.ReferenceIdeal.Read.val_main_v51_eq m' c).trans (funext fun i => (Sb.r51 hX hY).at i)),
      h1.trans ((Cert.ReferenceIdeal.Read.val_main_v49_eq m' c).trans (funext fun i => (Sb.r49 hX hY).at i)),
      h2.trans ((Cert.ReferenceIdeal.Read.val_main_v33_eq m' c).trans (funext fun i => (Sb.r33 hX hY).at i)), h3, h4⟩

/-- The reference runs, and it has no semaphore to leave unequal to zero. -/
theorem frame_reference : Cert.quiescent_ReferenceIdeal := fun m g _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m g)

/-- The gated unit's backward product, and its reference. -/
theorem algebraic2 : Cert.algebraic_Kernel2Ideal_Reference2Ideal := by
  intro m g m' g' hpre hargs
  have hf := fun c => Sb.finite2_reals (hpre c)
  let G := fun c : Dev Cert.Kernel2Ideal.nD => Sb.reals (a := 4096) (b := 11264) (m (c.tc.loc Cert.Kernel2Ideal.main_arg0))
  let W := fun c : Dev Cert.Kernel2Ideal.nD => Sb.reals (a := 5632) (b := 2048) (m (c.tc.loc Cert.Kernel2Ideal.main_arg1))
  let D := fun c : Dev Cert.Kernel2Ideal.nD => Sb.reals (a := 4096) (b := 2048) (m (c.tc.loc Cert.Kernel2Ideal.main_arg2))
  refine ⟨fun c => fun i : Cert.Kernel2Ideal.S4096x11264.Idx => ((Sb.Swiglu.spec (D c) (W c) (G c) (i 0).val (i 1).val : ℝ) : EReal), ?_, ?_⟩
  · refine (θ_run _ _ _).mono (fun r h c => ?_) (Cert.Kernel2Ideal.Value.run_blocks m g)
    obtain ⟨h0, h1, h2, h3⟩ := h c
    exact ⟨h0.trans (Sb.Swiglu.final3 m c (hf c).1 (hf c).2.1 (hf c).2.2), h1, h2, h3⟩
  · refine (θ_run _ _ _).mono (fun r h c => ?_) (Cert.Reference2Ideal.Value.run m' g')
    obtain ⟨h0, h1, h2, h3⟩ := h c
    have e := hargs c
    have hG : Sb.IsR (a := 4096) (b := 11264) (m' (c.tc.loc Cert.Reference2Ideal.main_arg0)) (G c) := e.1 ▸ (hf c).1
    have hW : Sb.IsR (a := 5632) (b := 2048) (m' (c.tc.loc Cert.Reference2Ideal.main_arg1)) (W c) := e.2.1 ▸ (hf c).2.1
    have hD : Sb.IsR (a := 4096) (b := 2048) (m' (c.tc.loc Cert.Reference2Ideal.main_arg2)) (D c) := e.2.2 ▸ (hf c).2.2
    exact ⟨h0.trans ((Cert.Reference2Ideal.Read.val_main_v22_eq m' c).trans (Sb.Swiglu.ref_spec hG hW hD)), h1, h2, h3⟩

theorem frame_reference2 : Cert.quiescent_Reference2Ideal := fun m g _ =>
  (θ_run Cert.Reference2Ideal.defs _ _).mono (fun r h => ⟨fun c => (h c).2, Idealize.ShloMosaic.sem_eq_zero_of_no_sems (by decide) r.2⟩)
    (Cert.Reference2Ideal.Value.run (F := Ideal) m g)

/-- The gradient of the second product's weight, and its reference. -/
theorem algebraic3 : Cert.algebraic_Kernel3Ideal_Reference3Ideal := by
  intro m g m' g' hpre hargs
  refine ⟨fun c => Sb.GFfnOut.prod (m (c.tc.loc Cert.Kernel3Ideal.main_arg0)) (m (c.tc.loc Cert.Kernel3Ideal.main_arg1)), ?_, ?_⟩
  · refine (θ_run _ _ _).mono (fun r h c => ?_) (Cert.Kernel3Ideal.Value.run_blocks m g)
    obtain ⟨h0, h1, h2⟩ := h c
    exact ⟨h0.trans (Sb.GFfnOut.final2 m c), h1, h2⟩
  · refine (θ_run _ _ _).mono (fun r h c => ?_) (Cert.Reference3Ideal.Value.run m' g')
    obtain ⟨h0, h1, h2⟩ := h c
    have e := hargs c
    refine ⟨h0.trans ((Sb.GFfnOut.ref_prod (m' (c.tc.loc Cert.Reference3Ideal.main_arg0)) (m' (c.tc.loc Cert.Reference3Ideal.main_arg1))).trans ?_), h1, h2⟩
    rw [e.1, e.2]

theorem frame_reference3 : Cert.quiescent_Reference3Ideal := fun m g _ =>
  (θ_run Cert.Reference3Ideal.defs _ _).mono (fun r h => ⟨fun c => (h c).2, Idealize.ShloMosaic.sem_eq_zero_of_no_sems (by decide) r.2⟩)
    (Cert.Reference3Ideal.Value.run (F := Ideal) m g)

/-- The first product, and its reference. -/
theorem algebraic4 : Cert.algebraic_Kernel4Ideal_Reference4Ideal := by
  intro m g m' g' hpre hargs
  refine ⟨fun c => Sb.FfnIn.prod (m (c.tc.loc Cert.Kernel4Ideal.main_arg0)) (m (c.tc.loc Cert.Kernel4Ideal.main_arg1)), ?_, ?_⟩
  · refine (θ_run _ _ _).mono (fun r h c => ?_) (Cert.Kernel4Ideal.Value.run_blocks m g)
    obtain ⟨h0, h1, h2⟩ := h c
    exact ⟨h0.trans (Sb.FfnIn.final2 m c), h1, h2⟩
  · refine (θ_run _ _ _).mono (fun r h c => ?_) (Cert.Reference4Ideal.Value.run m' g')
    obtain ⟨h0, h1, h2⟩ := h c
    have e := hargs c
    refine ⟨h0.trans ((Sb.FfnIn.ref_prod (m' (c.tc.loc Cert.Reference4Ideal.main_arg0)) (m' (c.tc.loc Cert.Reference4Ideal.main_arg1))).trans ?_), h1, h2⟩
    rw [e.1, e.2]

theorem frame_reference4 : Cert.quiescent_Reference4Ideal := fun m g _ =>
  (θ_run Cert.Reference4Ideal.defs _ _).mono (fun r h => ⟨fun c => (h c).2, Idealize.ShloMosaic.sem_eq_zero_of_no_sems (by decide) r.2⟩)
    (Cert.Reference4Ideal.Value.run (F := Ideal) m g)

/-- The second product, and its reference. -/
theorem algebraic5 : Cert.algebraic_Kernel5Ideal_Reference5Ideal := by
  intro m g m' g' hpre hargs
  refine ⟨fun c => Sb.FfnOut.prod (m (c.tc.loc Cert.Kernel5Ideal.main_arg0)) (m (c.tc.loc Cert.Kernel5Ideal.main_arg1)), ?_, ?_⟩
  · refine (θ_run _ _ _).mono (fun r h c => ?_) (Cert.Kernel5Ideal.Value.run_blocks m g)
    obtain ⟨h0, h1, h2⟩ := h c
    exact ⟨h0.trans (Sb.FfnOut.final2 m c), h1, h2⟩
  · refine (θ_run _ _ _).mono (fun r h c => ?_) (Cert.Reference5Ideal.Value.run m' g')
    obtain ⟨h0, h1, h2⟩ := h c
    have e := hargs c
    refine ⟨h0.trans ((Sb.FfnOut.ref_prod (m' (c.tc.loc Cert.Reference5Ideal.main_arg0)) (m' (c.tc.loc Cert.Reference5Ideal.main_arg1))).trans ?_), h1, h2⟩
    rw [e.1, e.2]

theorem frame_reference5 : Cert.quiescent_Reference5Ideal := fun m g _ =>
  (θ_run Cert.Reference5Ideal.defs _ _).mono (fun r h => ⟨fun c => (h c).2, Idealize.ShloMosaic.sem_eq_zero_of_no_sems (by decide) r.2⟩)
    (Cert.Reference5Ideal.Value.run (F := Ideal) m g)

/-- The gradient of the first product's weight, and its reference. -/
theorem algebraic6 : Cert.algebraic_Kernel6Ideal_Reference6Ideal := by
  intro m g m' g' hpre hargs
  refine ⟨fun c => fun i : Cert.Kernel6Ideal.S8x2048x1408.Idx => Sb.GFfnIn.pr (m (c.tc.loc Cert.Kernel6Ideal.main_arg0)) (m (c.tc.loc Cert.Kernel6Ideal.main_arg1)) (i 1).val (Sb.GFfnIn.col (i 0).val (i 2).val), ?_, ?_⟩
  · refine (θ_run _ _ _).mono (fun r h c => ?_) (Cert.Kernel6Ideal.Value.run_blocks m g)
    obtain ⟨h0, h1, h2⟩ := h c
    exact ⟨h0.trans (Sb.GFfnIn.final2 m c), h1, h2⟩
  · refine (θ_run _ _ _).mono (fun r h c => ?_) (Cert.Reference6Ideal.Value.run m' g')
    obtain ⟨h0, h1, h2⟩ := h c
    have e := hargs c
    refine ⟨h0.trans ((Sb.GFfnIn.ref_prod (m' (c.tc.loc Cert.Reference6Ideal.main_arg0)) (m' (c.tc.loc Cert.Reference6Ideal.main_arg1))).trans ?_), h1, h2⟩
    rw [e.1, e.2]

theorem frame_reference6 : Cert.quiescent_Reference6Ideal := fun m g _ =>
  (θ_run Cert.Reference6Ideal.defs _ _).mono (fun r h => ⟨fun c => (h c).2, Idealize.ShloMosaic.sem_eq_zero_of_no_sems (by decide) r.2⟩)
    (Cert.Reference6Ideal.Value.run (F := Ideal) m g)

/-- The gradient of the first product's input, and its reference. -/
theorem algebraic7 : Cert.algebraic_Kernel7Ideal_Reference7Ideal := by
  intro m g m' g' hpre hargs
  refine ⟨fun c => fun i : Cert.Kernel7Ideal.S4096x2048.Idx => Sb.DH2.pr (m (c.tc.loc Cert.Kernel7Ideal.main_arg0)) (m (c.tc.loc Cert.Kernel7Ideal.main_arg1)) (i 0).val (i 1).val, ?_, ?_⟩
  · refine (θ_run _ _ _).mono (fun r h c => ?_) (Cert.Kernel7Ideal.Value.run_blocks m g)
    obtain ⟨h0, h1, h2⟩ := h c
    exact ⟨h0.trans (Sb.DH2.final2 m c), h1, h2⟩
  · refine (θ_run _ _ _).mono (fun r h c => ?_) (Cert.Reference7Ideal.Value.run m' g')
    obtain ⟨h0, h1, h2⟩ := h c
    have e := hargs c
    refine ⟨h0.trans ((Sb.DH2.ref_prod (m' (c.tc.loc Cert.Reference7Ideal.main_arg0)) (m' (c.tc.loc Cert.Reference7Ideal.main_arg1))).trans ?_), h1, h2⟩
    rw [e.1, e.2]

theorem frame_reference7 : Cert.quiescent_Reference7Ideal := fun m g _ =>
  (θ_run Cert.Reference7Ideal.defs _ _).mono (fun r h => ⟨fun c => (h c).2, Idealize.ShloMosaic.sem_eq_zero_of_no_sems (by decide) r.2⟩)
    (Cert.Reference7Ideal.Value.run (F := Ideal) m g)

/-- The product after attention, and its reference. -/
theorem algebraic8 : Cert.algebraic_Kernel8Ideal_Reference8Ideal := by
  intro m g m' g' hpre hargs
  refine ⟨fun c => fun i : Cert.Kernel8Ideal.S4096x2048.Idx => Sb.OutProd.pr (m (c.tc.loc Cert.Kernel8Ideal.main_arg0)) (m (c.tc.loc Cert.Kernel8Ideal.main_arg1)) (i 0).val (i 1).val, ?_, ?_⟩
  · refine (θ_run _ _ _).mono (fun r h c => ?_) (Cert.Kernel8Ideal.Value.run_blocks m g)
    obtain ⟨h0, h1, h2⟩ := h c
    exact ⟨h0.trans (Sb.OutProd.final2 m c), h1, h2⟩
  · refine (θ_run _ _ _).mono (fun r h c => ?_) (Cert.Reference8Ideal.Value.run m' g')
    obtain ⟨h0, h1, h2⟩ := h c
    have e := hargs c
    refine ⟨h0.trans ((Sb.OutProd.ref_prod (m' (c.tc.loc Cert.Reference8Ideal.main_arg0)) (m' (c.tc.loc Cert.Reference8Ideal.main_arg1))).trans ?_), h1, h2⟩
    rw [e.1, e.2]

theorem frame_reference8 : Cert.quiescent_Reference8Ideal := fun m g _ =>
  (θ_run Cert.Reference8Ideal.defs _ _).mono (fun r h => ⟨fun c => (h c).2, Idealize.ShloMosaic.sem_eq_zero_of_no_sems (by decide) r.2⟩)
    (Cert.Reference8Ideal.Value.run (F := Ideal) m g)

/-- The gradient of that product's weight, and its reference. -/
theorem algebraic9 : Cert.algebraic_Kernel9Ideal_Reference9Ideal := by
  intro m g m' g' hpre hargs
  refine ⟨fun c => fun i : Cert.Kernel9Ideal.S2048x2048.Idx => Sb.GOut.pr (m (c.tc.loc Cert.Kernel9Ideal.main_arg0)) (m (c.tc.loc Cert.Kernel9Ideal.main_arg1)) (i 0).val (i 1).val, ?_, ?_⟩
  · refine (θ_run _ _ _).mono (fun r h c => ?_) (Cert.Kernel9Ideal.Value.run_blocks m g)
    obtain ⟨h0, h1, h2⟩ := h c
    exact ⟨h0.trans (Sb.GOut.final2 m c), h1, h2⟩
  · refine (θ_run _ _ _).mono (fun r h c => ?_) (Cert.Reference9Ideal.Value.run m' g')
    obtain ⟨h0, h1, h2⟩ := h c
    have e := hargs c
    refine ⟨h0.trans ((Sb.GOut.ref_prod (m' (c.tc.loc Cert.Reference9Ideal.main_arg0)) (m' (c.tc.loc Cert.Reference9Ideal.main_arg1))).trans ?_), h1, h2⟩
    rw [e.1, e.2]

theorem frame_reference9 : Cert.quiescent_Reference9Ideal := fun m g _ =>
  (θ_run Cert.Reference9Ideal.defs _ _).mono (fun r h => ⟨fun c => (h c).2, Idealize.ShloMosaic.sem_eq_zero_of_no_sems (by decide) r.2⟩)
    (Cert.Reference9Ideal.Value.run (F := Ideal) m g)

/-- The gradient of that product's input, and its reference. -/
theorem algebraic10 : Cert.algebraic_Kernel10Ideal_Reference10Ideal := by
  intro m g m' g' hpre hargs
  refine ⟨fun c => fun i : Cert.Kernel10Ideal.S4096x2048.Idx => Sb.DMerged.pr (m (c.tc.loc Cert.Kernel10Ideal.main_arg0)) (m (c.tc.loc Cert.Kernel10Ideal.main_arg1)) (i 0).val (i 1).val, ?_, ?_⟩
  · refine (θ_run _ _ _).mono (fun r h c => ?_) (Cert.Kernel10Ideal.Value.run_blocks m g)
    obtain ⟨h0, h1, h2⟩ := h c
    exact ⟨h0.trans (Sb.DMerged.final2 m c), h1, h2⟩
  · refine (θ_run _ _ _).mono (fun r h c => ?_) (Cert.Reference10Ideal.Value.run m' g')
    obtain ⟨h0, h1, h2⟩ := h c
    have e := hargs c
    refine ⟨h0.trans ((Sb.DMerged.ref_prod (m' (c.tc.loc Cert.Reference10Ideal.main_arg0)) (m' (c.tc.loc Cert.Reference10Ideal.main_arg1))).trans ?_), h1, h2⟩
    rw [e.1, e.2]

theorem frame_reference10 : Cert.quiescent_Reference10Ideal := fun m g _ =>
  (θ_run Cert.Reference10Ideal.defs _ _).mono (fun r h => ⟨fun c => (h c).2, Idealize.ShloMosaic.sem_eq_zero_of_no_sems (by decide) r.2⟩)
    (Cert.Reference10Ideal.Value.run (F := Ideal) m g)

/-- The input product, its columns in the joined order, and its reference. -/
theorem algebraic11 : Cert.algebraic_Kernel11Ideal_Reference11Ideal := by
  intro m g m' g' hpre hargs
  refine ⟨fun c => fun i : Cert.Kernel11Ideal.S4096x8448.Idx => Sb.InProd.pr (m (c.tc.loc Cert.Kernel11Ideal.main_arg0)) (m (c.tc.loc Cert.Kernel11Ideal.main_arg1)) (i 0).val (i 1).val, ?_, ?_⟩
  · refine (θ_run _ _ _).mono (fun r h c => ?_) (Cert.Kernel11Ideal.Value.run_blocks m g)
    obtain ⟨h0, h1, h2⟩ := h c
    exact ⟨h0.trans (Sb.InProd.final2 m c), h1, h2⟩
  · refine (θ_run _ _ _).mono (fun r h c => ?_) (Cert.Reference11Ideal.Value.run m' g')
    obtain ⟨h0, h1, h2⟩ := h c
    have e := hargs c
    refine ⟨h0.trans ((Sb.InProd.ref_prod (m' (c.tc.loc Cert.Reference11Ideal.main_arg0)) (m' (c.tc.loc Cert.Reference11Ideal.main_arg1))).trans ?_), h1, h2⟩
    rw [e.1, e.2]

theorem frame_reference11 : Cert.quiescent_Reference11Ideal := fun m g _ =>
  (θ_run Cert.Reference11Ideal.defs _ _).mono (fun r h => ⟨fun c => (h c).2, Idealize.ShloMosaic.sem_eq_zero_of_no_sems (by decide) r.2⟩)
    (Cert.Reference11Ideal.Value.run (F := Ideal) m g)

/-- The gradient of the input weight, and its reference. -/
theorem algebraic12 : Cert.algebraic_Kernel12Ideal_Reference12Ideal := by
  intro m g m' g' hpre hargs
  refine ⟨fun c => fun i : Cert.Kernel12Ideal.S2048x8448.Idx => Sb.GIn.pr (m (c.tc.loc Cert.Kernel12Ideal.main_arg0)) (m (c.tc.loc Cert.Kernel12Ideal.main_arg1)) (i 0).val (i 1).val, ?_, ?_⟩
  · refine (θ_run _ _ _).mono (fun r h c => ?_) (Cert.Kernel12Ideal.Value.run_blocks m g)
    obtain ⟨h0, h1, h2⟩ := h c
    exact ⟨h0.trans (Sb.GIn.final2 m c), h1, h2⟩
  · refine (θ_run _ _ _).mono (fun r h c => ?_) (Cert.Reference12Ideal.Value.run m' g')
    obtain ⟨h0, h1, h2⟩ := h c
    have e := hargs c
    refine ⟨h0.trans ((Sb.GIn.ref_prod (m' (c.tc.loc Cert.Reference12Ideal.main_arg0)) (m' (c.tc.loc Cert.Reference12Ideal.main_arg1))).trans ?_), h1, h2⟩
    rw [e.1, e.2]

theorem frame_reference12 : Cert.quiescent_Reference12Ideal := fun m g _ =>
  (θ_run Cert.Reference12Ideal.defs _ _).mono (fun r h => ⟨fun c => (h c).2, Idealize.ShloMosaic.sem_eq_zero_of_no_sems (by decide) r.2⟩)
    (Cert.Reference12Ideal.Value.run (F := Ideal) m g)

/-- The gradient of the input product's rows, and its reference. -/
theorem algebraic13 : Cert.algebraic_Kernel13Ideal_Reference13Ideal := by
  intro m g m' g' hpre hargs
  refine ⟨fun c => fun i : Cert.Kernel13Ideal.S4096x2048.Idx => Sb.DH1.pr (m (c.tc.loc Cert.Kernel13Ideal.main_arg0)) (m (c.tc.loc Cert.Kernel13Ideal.main_arg1)) (i 0).val (i 1).val, ?_, ?_⟩
  · refine (θ_run _ _ _).mono (fun r h c => ?_) (Cert.Kernel13Ideal.Value.run_blocks m g)
    obtain ⟨h0, h1, h2⟩ := h c
    exact ⟨h0.trans (Sb.DH1.final2 m c), h1, h2⟩
  · refine (θ_run _ _ _).mono (fun r h c => ?_) (Cert.Reference13Ideal.Value.run m' g')
    obtain ⟨h0, h1, h2⟩ := h c
    have e := hargs c
    refine ⟨h0.trans ((Sb.DH1.ref_prod (m' (c.tc.loc Cert.Reference13Ideal.main_arg0)) (m' (c.tc.loc Cert.Reference13Ideal.main_arg1))).trans ?_), h1, h2⟩
    rw [e.1, e.2]

theorem frame_reference13 : Cert.quiescent_Reference13Ideal := fun m g _ =>
  (θ_run Cert.Reference13Ideal.defs _ _).mono (fun r h => ⟨fun c => (h c).2, Idealize.ShloMosaic.sem_eq_zero_of_no_sems (by decide) r.2⟩)
    (Cert.Reference13Ideal.Value.run (F := Ideal) m g)

/-- A branch's product, and its reference. -/
theorem algebraic14 : Cert.algebraic_Kernel14Ideal_Reference14Ideal := by
  intro m g m' g' hpre hargs
  refine ⟨fun c => fun i : Cert.Kernel14Ideal.S4096x2048.Idx => Sb.BranchProd.pr (m (c.tc.loc Cert.Kernel14Ideal.main_arg0)) (m (c.tc.loc Cert.Kernel14Ideal.main_arg1)) (i 0).val (i 1).val, ?_, ?_⟩
  · refine (θ_run _ _ _).mono (fun r h c => ?_) (Cert.Kernel14Ideal.Value.run_blocks m g)
    obtain ⟨h0, h1, h2⟩ := h c
    exact ⟨h0.trans (Sb.BranchProd.final2 m c), h1, h2⟩
  · refine (θ_run _ _ _).mono (fun r h c => ?_) (Cert.Reference14Ideal.Value.run m' g')
    obtain ⟨h0, h1, h2⟩ := h c
    have e := hargs c
    refine ⟨h0.trans ((Sb.BranchProd.ref_prod (m' (c.tc.loc Cert.Reference14Ideal.main_arg0)) (m' (c.tc.loc Cert.Reference14Ideal.main_arg1))).trans ?_), h1, h2⟩
    rw [e.1, e.2]

theorem frame_reference14 : Cert.quiescent_Reference14Ideal := fun m g _ =>
  (θ_run Cert.Reference14Ideal.defs _ _).mono (fun r h => ⟨fun c => (h c).2, Idealize.ShloMosaic.sem_eq_zero_of_no_sems (by decide) r.2⟩)
    (Cert.Reference14Ideal.Value.run (F := Ideal) m g)

/-- The gradient of that product's weight, and its reference. -/
theorem algebraic15 : Cert.algebraic_Kernel15Ideal_Reference15Ideal := by
  intro m g m' g' hpre hargs
  refine ⟨fun c => fun i : Cert.Kernel15Ideal.S1024x2048.Idx => Sb.GBranch.pr (m (c.tc.loc Cert.Kernel15Ideal.main_arg0)) (m (c.tc.loc Cert.Kernel15Ideal.main_arg1)) (i 0).val (i 1).val, ?_, ?_⟩
  · refine (θ_run _ _ _).mono (fun r h c => ?_) (Cert.Kernel15Ideal.Value.run_blocks m g)
    obtain ⟨h0, h1, h2⟩ := h c
    exact ⟨h0.trans (Sb.GBranch.final2 m c), h1, h2⟩
  · refine (θ_run _ _ _).mono (fun r h c => ?_) (Cert.Reference15Ideal.Value.run m' g')
    obtain ⟨h0, h1, h2⟩ := h c
    have e := hargs c
    refine ⟨h0.trans ((Sb.GBranch.ref_prod (m' (c.tc.loc Cert.Reference15Ideal.main_arg0)) (m' (c.tc.loc Cert.Reference15Ideal.main_arg1))).trans ?_), h1, h2⟩
    rw [e.1, e.2]

theorem frame_reference15 : Cert.quiescent_Reference15Ideal := fun m g _ =>
  (θ_run Cert.Reference15Ideal.defs _ _).mono (fun r h => ⟨fun c => (h c).2, Idealize.ShloMosaic.sem_eq_zero_of_no_sems (by decide) r.2⟩)
    (Cert.Reference15Ideal.Value.run (F := Ideal) m g)

/-- The gradient of that product's input, and its reference. -/
theorem algebraic16 : Cert.algebraic_Kernel16Ideal_Reference16Ideal := by
  intro m g m' g' hpre hargs
  refine ⟨fun c => fun i : Cert.Kernel16Ideal.S4096x1024.Idx => Sb.DBranch.pr (m (c.tc.loc Cert.Kernel16Ideal.main_arg0)) (m (c.tc.loc Cert.Kernel16Ideal.main_arg1)) (i 0).val (i 1).val, ?_, ?_⟩
  · refine (θ_run _ _ _).mono (fun r h c => ?_) (Cert.Kernel16Ideal.Value.run_blocks m g)
    obtain ⟨h0, h1, h2⟩ := h c
    exact ⟨h0.trans (Sb.DBranch.final2 m c), h1, h2⟩
  · refine (θ_run _ _ _).mono (fun r h c => ?_) (Cert.Reference16Ideal.Value.run m' g')
    obtain ⟨h0, h1, h2⟩ := h c
    have e := hargs c
    refine ⟨h0.trans ((Sb.DBranch.ref_prod (m' (c.tc.loc Cert.Reference16Ideal.main_arg0)) (m' (c.tc.loc Cert.Reference16Ideal.main_arg1))).trans ?_), h1, h2⟩
    rw [e.1, e.2]

theorem frame_reference16 : Cert.quiescent_Reference16Ideal := fun m g _ =>
  (θ_run Cert.Reference16Ideal.defs _ _).mono (fun r h => ⟨fun c => (h c).2, Idealize.ShloMosaic.sem_eq_zero_of_no_sems (by decide) r.2⟩)
    (Cert.Reference16Ideal.Value.run (F := Ideal) m g)

/-- The other branch's product, and its reference. -/
theorem algebraic17 : Cert.algebraic_Kernel17Ideal_Reference17Ideal := by
  intro m g m' g' hpre hargs
  refine ⟨fun c => fun i : Cert.Kernel17Ideal.S4096x2048.Idx => Sb.SbProd.pr (m (c.tc.loc Cert.Kernel17Ideal.main_arg0)) (m (c.tc.loc Cert.Kernel17Ideal.main_arg1)) (i 0).val (i 1).val, ?_, ?_⟩
  · refine (θ_run _ _ _).mono (fun r h c => ?_) (Cert.Kernel17Ideal.Value.run_blocks m g)
    obtain ⟨h0, h1, h2⟩ := h c
    exact ⟨h0.trans (Sb.SbProd.final2 m c), h1, h2⟩
  · refine (θ_run _ _ _).mono (fun r h c => ?_) (Cert.Reference17Ideal.Value.run m' g')
    obtain ⟨h0, h1, h2⟩ := h c
    have e := hargs c
    refine ⟨h0.trans ((Sb.SbProd.ref_prod (m' (c.tc.loc Cert.Reference17Ideal.main_arg0)) (m' (c.tc.loc Cert.Reference17Ideal.main_arg1))).trans ?_), h1, h2⟩
    rw [e.1, e.2]

theorem frame_reference17 : Cert.quiescent_Reference17Ideal := fun m g _ =>
  (θ_run Cert.Reference17Ideal.defs _ _).mono (fun r h => ⟨fun c => (h c).2, Idealize.ShloMosaic.sem_eq_zero_of_no_sems (by decide) r.2⟩)
    (Cert.Reference17Ideal.Value.run (F := Ideal) m g)

/-- The gradient of that product's weight, and its reference. -/
theorem algebraic18 : Cert.algebraic_Kernel18Ideal_Reference18Ideal := by
  intro m g m' g' hpre hargs
  refine ⟨fun c => fun i : Cert.Kernel18Ideal.S1024x2048.Idx => Sb.GSb.pr (m (c.tc.loc Cert.Kernel18Ideal.main_arg0)) (m (c.tc.loc Cert.Kernel18Ideal.main_arg1)) (i 0).val (i 1).val, ?_, ?_⟩
  · refine (θ_run _ _ _).mono (fun r h c => ?_) (Cert.Kernel18Ideal.Value.run_blocks m g)
    obtain ⟨h0, h1, h2⟩ := h c
    exact ⟨h0.trans (Sb.GSb.final2 m c), h1, h2⟩
  · refine (θ_run _ _ _).mono (fun r h c => ?_) (Cert.Reference18Ideal.Value.run m' g')
    obtain ⟨h0, h1, h2⟩ := h c
    have e := hargs c
    refine ⟨h0.trans ((Sb.GSb.ref_prod (m' (c.tc.loc Cert.Reference18Ideal.main_arg0)) (m' (c.tc.loc Cert.Reference18Ideal.main_arg1))).trans ?_), h1, h2⟩
    rw [e.1, e.2]

theorem frame_reference18 : Cert.quiescent_Reference18Ideal := fun m g _ =>
  (θ_run Cert.Reference18Ideal.defs _ _).mono (fun r h => ⟨fun c => (h c).2, Idealize.ShloMosaic.sem_eq_zero_of_no_sems (by decide) r.2⟩)
    (Cert.Reference18Ideal.Value.run (F := Ideal) m g)

/-- The gradient of that product's input, and its reference. -/
theorem algebraic19 : Cert.algebraic_Kernel19Ideal_Reference19Ideal := by
  intro m g m' g' hpre hargs
  refine ⟨fun c => fun i : Cert.Kernel19Ideal.S4096x1024.Idx => Sb.DSb.pr (m (c.tc.loc Cert.Kernel19Ideal.main_arg0)) (m (c.tc.loc Cert.Kernel19Ideal.main_arg1)) (i 0).val (i 1).val, ?_, ?_⟩
  · refine (θ_run _ _ _).mono (fun r h c => ?_) (Cert.Kernel19Ideal.Value.run_blocks m g)
    obtain ⟨h0, h1, h2⟩ := h c
    exact ⟨h0.trans (Sb.DSb.final2 m c), h1, h2⟩
  · refine (θ_run _ _ _).mono (fun r h c => ?_) (Cert.Reference19Ideal.Value.run m' g')
    obtain ⟨h0, h1, h2⟩ := h c
    have e := hargs c
    refine ⟨h0.trans ((Sb.DSb.ref_prod (m' (c.tc.loc Cert.Reference19Ideal.main_arg0)) (m' (c.tc.loc Cert.Reference19Ideal.main_arg1))).trans ?_), h1, h2⟩
    rw [e.1, e.2]

theorem frame_reference19 : Cert.quiescent_Reference19Ideal := fun m g _ =>
  (θ_run Cert.Reference19Ideal.defs _ _).mono (fun r h => ⟨fun c => (h c).2, Idealize.ShloMosaic.sem_eq_zero_of_no_sems (by decide) r.2⟩)
    (Cert.Reference19Ideal.Value.run (F := Ideal) m g)

/-- The product of the latents, and its reference. -/
theorem algebraic20 : Cert.algebraic_Kernel20Ideal_Reference20Ideal := by
  intro m g m' g' hpre hargs
  refine ⟨fun c => fun i : Cert.Kernel20Ideal.S4096x2048.Idx => Sb.LatProd.pr (m (c.tc.loc Cert.Kernel20Ideal.main_arg0)) (m (c.tc.loc Cert.Kernel20Ideal.main_arg1)) (i 0).val (i 1).val, ?_, ?_⟩
  · refine (θ_run _ _ _).mono (fun r h c => ?_) (Cert.Kernel20Ideal.Value.run_blocks m g)
    obtain ⟨h0, h1, h2⟩ := h c
    exact ⟨h0.trans (Sb.LatProd.final2 m c), h1, h2⟩
  · refine (θ_run _ _ _).mono (fun r h c => ?_) (Cert.Reference20Ideal.Value.run m' g')
    obtain ⟨h0, h1, h2⟩ := h c
    have e := hargs c
    refine ⟨h0.trans ((Sb.LatProd.ref_prod (m' (c.tc.loc Cert.Reference20Ideal.main_arg0)) (m' (c.tc.loc Cert.Reference20Ideal.main_arg1))).trans ?_), h1, h2⟩
    rw [e.1, e.2]

theorem frame_reference20 : Cert.quiescent_Reference20Ideal := fun m g _ =>
  (θ_run Cert.Reference20Ideal.defs _ _).mono (fun r h => ⟨fun c => (h c).2, Idealize.ShloMosaic.sem_eq_zero_of_no_sems (by decide) r.2⟩)
    (Cert.Reference20Ideal.Value.run (F := Ideal) m g)

/-- The gradient of that product's weight, and its reference. -/
theorem algebraic21 : Cert.algebraic_Kernel21Ideal_Reference21Ideal := by
  intro m g m' g' hpre hargs
  refine ⟨fun c => fun i : Cert.Kernel21Ideal.S512x2048.Idx => Sb.GLat.pr (m (c.tc.loc Cert.Kernel21Ideal.main_arg0)) (m (c.tc.loc Cert.Kernel21Ideal.main_arg1)) (i 0).val (i 1).val, ?_, ?_⟩
  · refine (θ_run _ _ _).mono (fun r h c => ?_) (Cert.Kernel21Ideal.Value.run_blocks m g)
    obtain ⟨h0, h1, h2⟩ := h c
    exact ⟨h0.trans (Sb.GLat.final2 m c), h1, h2⟩
  · refine (θ_run _ _ _).mono (fun r h c => ?_) (Cert.Reference21Ideal.Value.run m' g')
    obtain ⟨h0, h1, h2⟩ := h c
    have e := hargs c
    refine ⟨h0.trans ((Sb.GLat.ref_prod (m' (c.tc.loc Cert.Reference21Ideal.main_arg0)) (m' (c.tc.loc Cert.Reference21Ideal.main_arg1))).trans ?_), h1, h2⟩
    rw [e.1, e.2]

theorem frame_reference21 : Cert.quiescent_Reference21Ideal := fun m g _ =>
  (θ_run Cert.Reference21Ideal.defs _ _).mono (fun r h => ⟨fun c => (h c).2, Idealize.ShloMosaic.sem_eq_zero_of_no_sems (by decide) r.2⟩)
    (Cert.Reference21Ideal.Value.run (F := Ideal) m g)

/-- The gradient of that product's input, and its reference. -/
theorem algebraic22 : Cert.algebraic_Kernel22Ideal_Reference22Ideal := by
  intro m g m' g' hpre hargs
  refine ⟨fun c => fun i : Cert.Kernel22Ideal.S4096x512.Idx => Sb.DLat.pr (m (c.tc.loc Cert.Kernel22Ideal.main_arg0)) (m (c.tc.loc Cert.Kernel22Ideal.main_arg1)) (i 0).val (i 1).val, ?_, ?_⟩
  · refine (θ_run _ _ _).mono (fun r h c => ?_) (Cert.Kernel22Ideal.Value.run_blocks m g)
    obtain ⟨h0, h1, h2⟩ := h c
    exact ⟨h0.trans (Sb.DLat.final2 m c), h1, h2⟩
  · refine (θ_run _ _ _).mono (fun r h c => ?_) (Cert.Reference22Ideal.Value.run m' g')
    obtain ⟨h0, h1, h2⟩ := h c
    have e := hargs c
    refine ⟨h0.trans ((Sb.DLat.ref_prod (m' (c.tc.loc Cert.Reference22Ideal.main_arg0)) (m' (c.tc.loc Cert.Reference22Ideal.main_arg1))).trans ?_), h1, h2⟩
    rw [e.1, e.2]

theorem frame_reference22 : Cert.quiescent_Reference22Ideal := fun m g _ =>
  (θ_run Cert.Reference22Ideal.defs _ _).mono (fun r h => ⟨fun c => (h c).2, Idealize.ShloMosaic.sem_eq_zero_of_no_sems (by decide) r.2⟩)
    (Cert.Reference22Ideal.Value.run (F := Ideal) m g)

/-- The product of the queries' latents, and its reference. -/
theorem algebraic23 : Cert.algebraic_Kernel23Ideal_Reference23Ideal := by
  intro m g m' g' hpre hargs
  refine ⟨fun c => fun i : Cert.Kernel23Ideal.S4096x2048.Idx => Sb.QProd.pr (m (c.tc.loc Cert.Kernel23Ideal.main_arg0)) (m (c.tc.loc Cert.Kernel23Ideal.main_arg1)) (i 0).val (i 1).val, ?_, ?_⟩
  · refine (θ_run _ _ _).mono (fun r h c => ?_) (Cert.Kernel23Ideal.Value.run_blocks m g)
    obtain ⟨h0, h1, h2⟩ := h c
    exact ⟨h0.trans (Sb.QProd.final2 m c), h1, h2⟩
  · refine (θ_run _ _ _).mono (fun r h c => ?_) (Cert.Reference23Ideal.Value.run m' g')
    obtain ⟨h0, h1, h2⟩ := h c
    have e := hargs c
    refine ⟨h0.trans ((Sb.QProd.ref_prod (m' (c.tc.loc Cert.Reference23Ideal.main_arg0)) (m' (c.tc.loc Cert.Reference23Ideal.main_arg1))).trans ?_), h1, h2⟩
    rw [e.1, e.2]

theorem frame_reference23 : Cert.quiescent_Reference23Ideal := fun m g _ =>
  (θ_run Cert.Reference23Ideal.defs _ _).mono (fun r h => ⟨fun c => (h c).2, Idealize.ShloMosaic.sem_eq_zero_of_no_sems (by decide) r.2⟩)
    (Cert.Reference23Ideal.Value.run (F := Ideal) m g)

/-- The gradient of that product's weight, and its reference. -/
theorem algebraic24 : Cert.algebraic_Kernel24Ideal_Reference24Ideal := by
  intro m g m' g' hpre hargs
  refine ⟨fun c => fun i : Cert.Kernel24Ideal.S512x2048.Idx => Sb.GQ.pr (m (c.tc.loc Cert.Kernel24Ideal.main_arg0)) (m (c.tc.loc Cert.Kernel24Ideal.main_arg1)) (i 0).val (i 1).val, ?_, ?_⟩
  · refine (θ_run _ _ _).mono (fun r h c => ?_) (Cert.Kernel24Ideal.Value.run_blocks m g)
    obtain ⟨h0, h1, h2⟩ := h c
    exact ⟨h0.trans (Sb.GQ.final2 m c), h1, h2⟩
  · refine (θ_run _ _ _).mono (fun r h c => ?_) (Cert.Reference24Ideal.Value.run m' g')
    obtain ⟨h0, h1, h2⟩ := h c
    have e := hargs c
    refine ⟨h0.trans ((Sb.GQ.ref_prod (m' (c.tc.loc Cert.Reference24Ideal.main_arg0)) (m' (c.tc.loc Cert.Reference24Ideal.main_arg1))).trans ?_), h1, h2⟩
    rw [e.1, e.2]

theorem frame_reference24 : Cert.quiescent_Reference24Ideal := fun m g _ =>
  (θ_run Cert.Reference24Ideal.defs _ _).mono (fun r h => ⟨fun c => (h c).2, Idealize.ShloMosaic.sem_eq_zero_of_no_sems (by decide) r.2⟩)
    (Cert.Reference24Ideal.Value.run (F := Ideal) m g)

/-- The gradient of that product's input, and its reference. -/
theorem algebraic25 : Cert.algebraic_Kernel25Ideal_Reference25Ideal := by
  intro m g m' g' hpre hargs
  refine ⟨fun c => fun i : Cert.Kernel25Ideal.S4096x512.Idx => Sb.DQ.pr (m (c.tc.loc Cert.Kernel25Ideal.main_arg0)) (m (c.tc.loc Cert.Kernel25Ideal.main_arg1)) (i 0).val (i 1).val, ?_, ?_⟩
  · refine (θ_run _ _ _).mono (fun r h c => ?_) (Cert.Kernel25Ideal.Value.run_blocks m g)
    obtain ⟨h0, h1, h2⟩ := h c
    exact ⟨h0.trans (Sb.DQ.final2 m c), h1, h2⟩
  · refine (θ_run _ _ _).mono (fun r h c => ?_) (Cert.Reference25Ideal.Value.run m' g')
    obtain ⟨h0, h1, h2⟩ := h c
    have e := hargs c
    refine ⟨h0.trans ((Sb.DQ.ref_prod (m' (c.tc.loc Cert.Reference25Ideal.main_arg0)) (m' (c.tc.loc Cert.Reference25Ideal.main_arg1))).trans ?_), h1, h2⟩
    rw [e.1, e.2]

theorem frame_reference25 : Cert.quiescent_Reference25Ideal := fun m g _ =>
  (θ_run Cert.Reference25Ideal.defs _ _).mono (fun r h => ⟨fun c => (h c).2, Idealize.ShloMosaic.sem_eq_zero_of_no_sems (by decide) r.2⟩)
    (Cert.Reference25Ideal.Value.run (F := Ideal) m g)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Pre_finite.Gen.facts, Cert.Pre_finite2.Gen.facts,
    fun m g _ => Cert.Kernel.Gen.frame m g, fun m g _ => Cert.KernelIdeal.Gen.frame m g, fun m g _ => Cert.KernelIdeal.Gen.frame m g,
    frame_reference, fun m g _ => frame_reference m g trivial,
    fun m g _ => Cert.Kernel2.Gen.frame m g, fun m g _ => Cert.Kernel2Ideal.Gen.frame m g, fun m g _ => Cert.Kernel2Ideal.Gen.frame m g,
    frame_reference2, fun m g _ => frame_reference2 m g trivial,
    fun m g _ => Cert.Kernel3.Gen.frame m g, fun m g _ => Cert.Kernel3Ideal.Gen.frame m g, frame_reference3,
    fun m g _ => Cert.Kernel4.Gen.frame m g, fun m g _ => Cert.Kernel4Ideal.Gen.frame m g, frame_reference4,
    fun m g _ => Cert.Kernel5.Gen.frame m g, fun m g _ => Cert.Kernel5Ideal.Gen.frame m g, frame_reference5,
    fun m g _ => Cert.Kernel6.Gen.frame m g, fun m g _ => Cert.Kernel6Ideal.Gen.frame m g, frame_reference6,
    fun m g _ => Cert.Kernel7.Gen.frame m g, fun m g _ => Cert.Kernel7Ideal.Gen.frame m g, frame_reference7,
    fun m g _ => Cert.Kernel8.Gen.frame m g, fun m g _ => Cert.Kernel8Ideal.Gen.frame m g, frame_reference8,
    fun m g _ => Cert.Kernel9.Gen.frame m g, fun m g _ => Cert.Kernel9Ideal.Gen.frame m g, frame_reference9,
    fun m g _ => Cert.Kernel10.Gen.frame m g, fun m g _ => Cert.Kernel10Ideal.Gen.frame m g, frame_reference10,
    fun m g _ => Cert.Kernel11.Gen.frame m g, fun m g _ => Cert.Kernel11Ideal.Gen.frame m g, frame_reference11,
    fun m g _ => Cert.Kernel12.Gen.frame m g, fun m g _ => Cert.Kernel12Ideal.Gen.frame m g, frame_reference12,
    fun m g _ => Cert.Kernel13.Gen.frame m g, fun m g _ => Cert.Kernel13Ideal.Gen.frame m g, frame_reference13,
    fun m g _ => Cert.Kernel14.Gen.frame m g, fun m g _ => Cert.Kernel14Ideal.Gen.frame m g, frame_reference14,
    fun m g _ => Cert.Kernel15.Gen.frame m g, fun m g _ => Cert.Kernel15Ideal.Gen.frame m g, frame_reference15,
    fun m g _ => Cert.Kernel16.Gen.frame m g, fun m g _ => Cert.Kernel16Ideal.Gen.frame m g, frame_reference16,
    fun m g _ => Cert.Kernel17.Gen.frame m g, fun m g _ => Cert.Kernel17Ideal.Gen.frame m g, frame_reference17,
    fun m g _ => Cert.Kernel18.Gen.frame m g, fun m g _ => Cert.Kernel18Ideal.Gen.frame m g, frame_reference18,
    fun m g _ => Cert.Kernel19.Gen.frame m g, fun m g _ => Cert.Kernel19Ideal.Gen.frame m g, frame_reference19,
    fun m g _ => Cert.Kernel20.Gen.frame m g, fun m g _ => Cert.Kernel20Ideal.Gen.frame m g, frame_reference20,
    fun m g _ => Cert.Kernel21.Gen.frame m g, fun m g _ => Cert.Kernel21Ideal.Gen.frame m g, frame_reference21,
    fun m g _ => Cert.Kernel22.Gen.frame m g, fun m g _ => Cert.Kernel22Ideal.Gen.frame m g, frame_reference22,
    fun m g _ => Cert.Kernel23.Gen.frame m g, fun m g _ => Cert.Kernel23Ideal.Gen.frame m g, frame_reference23,
    fun m g _ => Cert.Kernel24.Gen.frame m g, fun m g _ => Cert.Kernel24Ideal.Gen.frame m g, frame_reference24,
    fun m g _ => Cert.Kernel25.Gen.frame m g, fun m g _ => Cert.Kernel25Ideal.Gen.frame m g, frame_reference25,
    trivial, algebraic, trivial, algebraic2, trivial, algebraic3, trivial, algebraic4, trivial, algebraic5,
    trivial, algebraic6, trivial, algebraic7, trivial, algebraic8, trivial, algebraic9, trivial, algebraic10,
    trivial, algebraic11, trivial, algebraic12, trivial, algebraic13, trivial, algebraic14, trivial, algebraic15, trivial, algebraic16,
    trivial, algebraic17, trivial, algebraic18, trivial, algebraic19, trivial, algebraic20, trivial, algebraic21, trivial, algebraic22,
    trivial, algebraic23, trivial, algebraic24, trivial, algebraic25⟩

end Cert.Proof

end
